-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_scores [hPre_finite_scores : Cert.Pre_finite_scores.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_scores.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 = (fun _ => 1#1)
    ∧ (Cert.Pre_finite_scores.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_scores [hPre_finite_scores : Cert.Pre_finite_scores.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_scores.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).1 = (fun _ => 1#1)
    ∧ (Cert.Pre_finite_scores.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_scores [hKernel8Ideal : Cert.Kernel8Ideal.Facts] [hPre_finite_scores : Cert.Pre_finite_scores.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_scores m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_scores [hReference8Ideal : Cert.Reference8Ideal.Facts] [hPre_finite_scores : Cert.Pre_finite_scores.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_scores m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "qscale" .f32 0x3E38AA3B#32 (((Real.log 256)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v74) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v75) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def preserves_Kernel8_Kernel8Ideal : Prop :=
  True

def algebraic_Kernel8Ideal_Reference8Ideal_pre_finite_scores [hKernel8Ideal : Cert.Kernel8Ideal.Facts] [hReference8Ideal : Cert.Reference8Ideal.Facts] [hPre_finite_scores : Cert.Pre_finite_scores.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_scores m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v264) = v0 c
          ∧ r.2.mem ((c.tc : Thread Cert.Reference9Ideal.nD Cert.Reference9Ideal.τ).loc Cert.Reference9Ideal.main_v263) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v7_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_logits : Cert.Pre_finite_logits.Facts) (hPre_finite_scores : Cert.Pre_finite_scores.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_scores (hKernel8Ideal := hKernel8Ideal) (hPre_finite_scores := hPre_finite_scores)
    ∧ quiescent_Reference8Ideal (hReference8Ideal := hReference8Ideal)
    ∧ quiescent_Reference8Ideal_pre_finite_scores (hReference8Ideal := hReference8Ideal) (hPre_finite_scores := hPre_finite_scores)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_scores (hKernel8Ideal := hKernel8Ideal) (hReference8Ideal := hReference8Ideal) (hPre_finite_scores := hPre_finite_scores)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_logits.lean ====
abbrev S8192x1024 : Shape := ⟨2, ![8192, 1024]⟩
abbrev S1x16 : Shape := ⟨2, ![1, 16]⟩
abbrev S_ : Shape := ⟨0, ![]⟩

class Facts : Prop where
  bcast_S_S8192x1024 : S_.BroadcastsInDim S8192x1024 (![] : Fin 0 → Fin S8192x1024.rank)
  bcast_S_S1x16 : S_.BroadcastsInDim S1x16 (![] : Fin 0 → Fin S1x16.rank)

variable [Facts]

def fn {F : FTy → Type} [FloatOps F] (main_arg0 : FVec F S8192x1024 .f32) (main_arg1 : FVec F S8192x1024 .f32) (main_arg2 : FVec F S8192x1024 .f32) (main_arg3 : FVec F S1x16 .f32) : IVec S8192x1024 1 × IVec S8192x1024 1 × IVec S1x16 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x16 .f32 := Host.absf main_arg3
  let main_cst_1 : FVec F S_ .f32 := constant S_ .f32 0x7F800000#32
  let main_v7 : FVec F S1x16 .f32 := broadcastInDim S1x16 ![] bcast_S_S1x16 main_cst_1
  let main_v8 : IVec S1x16 1 := cmpf .olt main_v6 main_v7
  (main_v2, main_v5, main_v8)
-- ==== Pre_finite_scores.lean ====
abbrev S8192x12288 : Shape := ⟨2, ![8192, 12288]⟩
abbrev S256x1024 : Shape := ⟨2, ![256, 1024]⟩
abbrev S8192x1024 : Shape := ⟨2, ![8192, 1024]⟩
abbrev S_ : Shape := ⟨0, ![]⟩

class Facts : Prop where
  slices_S8192x12288_S8192x1024_0_4096 : S8192x12288.Slices ![0, 4096] S8192x1024
  bitsLt_bf16_f32 : FTy.bits .bf16 < FTy.bits .f32
  bcast_S_S8192x1024 : S_.BroadcastsInDim S8192x1024 (![] : Fin 0 → Fin S8192x1024.rank)
  bcast_S_S256x1024 : S_.BroadcastsInDim S256x1024 (![] : Fin 0 → Fin S256x1024.rank)

variable [Facts]

def fn {F : FTy → Type} [FloatOps F] (main_arg0 : FVec F S8192x12288 .bf16) (main_arg1 : FVec F S256x1024 .bf16) (main_arg2 : FVec F S256x1024 .bf16) : IVec S8192x1024 1 × IVec S256x1024 1 :=
  let main_v0 : FVec F S8192x1024 .bf16 := (extractStridedSlice S8192x1024 ![0, 4096] · slices_S8192x12288_S8192x1024_0_4096) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S256x1024 .f32 := (extf .f32 · bitsLt_bf16_f32) main_arg1
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  (main_v4, main_v8)
-- ==== Kernel.lean ====
abbrev S8192x1024 : Shape := ⟨2, ![8192, 1024]⟩
abbrev S1x16 : Shape := ⟨2, ![1, 16]⟩
abbrev S_ : Shape := ⟨0, ![]⟩
abbrev S8192x128 : Shape := ⟨2, ![8192, 128]⟩
abbrev S8192x2048 : Shape := ⟨2, ![8192, 2048]⟩
abbrev S16 : Shape := ⟨1, ![16]⟩
abbrev S256x128 : Shape := ⟨2, ![256, 128]⟩
abbrev S8192x256 : Shape := ⟨2, ![8192, 256]⟩
abbrev S2x256x128 : Shape := ⟨3, ![2, 256, 128]⟩
abbrev S2x256x1 : Shape := ⟨3, ![2, 256, 1]⟩
abbrev S1 : Shape := ⟨1, ![1]⟩
abbrev S256x256 : Shape := ⟨2, ![256, 256]⟩
abbrev S1x256x1 : Shape := ⟨3, ![1, 256, 1]⟩
abbrev S256x1 : Shape := ⟨2, ![256, 1]⟩
abbrev S1x256x128 : Shape := ⟨3, ![1, 256, 128]⟩
abbrev S2048x256 : Shape := ⟨2, ![2048, 256]⟩
abbrev S2048x128 : Shape := ⟨2, ![2048, 128]⟩
abbrev S1024x256 : Shape := ⟨2, ![1024, 256]⟩
abbrev S1024x128 : Shape := ⟨2, ![1024, 128]⟩
abbrev S512x256 : Shape := ⟨2, ![512, 256]⟩
abbrev S512x128 : Shape := ⟨2, ![512, 128]⟩

abbrev nBuf : Space → Nat
  | .hbm => 34
  | .vmem => 10
  | .smem => 1
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8192x1024, .bf16⟩
  | .hbm, ⟨12, _⟩ => ⟨S8192x128, .i32⟩
  | .hbm, ⟨13, _⟩ => ⟨S_, .i32⟩
  | .hbm, ⟨14, _⟩ => ⟨S8192x128, .i32⟩
  | .hbm, ⟨15, _⟩ => ⟨S8192x128, .i1⟩
  | .hbm, ⟨16, _⟩ => ⟨S_, .f32⟩
  | .hbm, ⟨17, _⟩ => ⟨S_, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .bf16⟩
  | .hbm, ⟨22, _⟩ => ⟨S8192x128, .bf16⟩
  | .hbm, ⟨23, _⟩ => ⟨S8192x128, .bf16⟩
  | .hbm, ⟨24, _⟩ => ⟨S8192x128, .bf16⟩
  | .hbm, ⟨25, _⟩ => ⟨S8192x128, .bf16⟩
  | .hbm, ⟨26, _⟩ => ⟨S8192x128, .bf16⟩
  | .hbm, ⟨27, _⟩ => ⟨S8192x128, .bf16⟩
  | .hbm, ⟨28, _⟩ => ⟨S8192x128, .bf16⟩
  | .hbm, ⟨29, _⟩ => ⟨S8192x128, .bf16⟩
  | .hbm, ⟨30, _⟩ => ⟨S8192x2048, .bf16⟩
  | .hbm, ⟨31, _⟩ => ⟨S8192x1024, .bf16⟩
  | .hbm, ⟨32, _⟩ => ⟨S16, .f32⟩
  | .hbm, ⟨33, _⟩ => ⟨S8192x1024, .f32⟩
  | .local _ .vmem, ⟨0, _⟩ => ⟨S256x128, .bf16⟩
  | .local _ .vmem, ⟨1, _⟩ => ⟨S256x128, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | .local _ .vmem, ⟨8, _⟩ => ⟨S2x256x128, .f32⟩
  | .local _ .vmem, ⟨9, _⟩ => ⟨S2x256x1, .f32⟩
  | .local _ .smem, ⟨0, _⟩ => ⟨S16, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def k0_off1 (i : grid0.Coords) (c0_i32 : BitVec 32) : Fin 1 → Nat :=
  let arg0 : BitVec 32 := BitVec.ofNat 32 (i 0).val
  let c2_i32 : BitVec 32 := 2#32
  let v4 : BitVec 32 := Scalar.muli arg0 c2_i32
  let v5 : BitVec 32 := Scalar.addi v4 c0_i32
  let v6 : Index := Scalar.indexCast v5
  ![v6.toNat]
def k0_mult1 (i : grid0.Coords) : BitVec 32 :=
  let arg1 : BitVec 32 := BitVec.ofNat 32 (i 1).val
  let c256_i32 : BitVec 32 := 256#32
  let v114 : BitVec 32 := Scalar.muli arg1 c256_i32
  v114
def k0_off2 (i : grid0.Coords) : Fin 2 → Nat :=
  let arg1 : BitVec 32 := BitVec.ofNat 32 (i 1).val
  let c256_i32 : BitVec 32 := 256#32
  let v114 : BitVec 32 := Scalar.muli arg1 c256_i32
  let v115 : BitVec 32 := v114
  let v116 : Index := Scalar.indexCast v115
  let c0_36 : Index := 0#32
  ![v116.toNat, 0]
def k0_off3 (i : grid0.Coords) : Fin 2 → Nat :=
  let arg1 : BitVec 32 := BitVec.ofNat 32 (i 1).val
  let c256_i32 : BitVec 32 := 256#32
  let v114 : BitVec 32 := Scalar.muli arg1 c256_i32
  let v115 : BitVec 32 := v114
  let v119 : Index := Scalar.indexCast v115
  let c0_37 : Index := 0#32
  ![v119.toNat, 0]
@[reducible] def k0_t1_loop (i : grid0.Coords) : Scf.Loop 32 :=
  let c0_i32_86 : BitVec 32 := 0#32
  let arg1 : BitVec 32 := BitVec.ofNat 32 (i 1).val
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v215 : BitVec 32 := Scalar.subi v214 c0_i32_86
  let c1_i32_87 : BitVec 32 := 1#32
  let v217 : BitVec 32 := Scalar.divsi v215 c1_i32_87
  let v218 : BitVec 32 := Scalar.muli v217 c1_i32_87
  let v219 : BitVec 32 := Scalar.addi c0_i32_86 v218
  let c1_i32_88 : BitVec 32 := 1#32
  ⟨c0_i32_86, v219, c1_i32_88⟩
def k0_mult2 (i : grid0.Coords) (k0_t1 : Fin (k0_t1_loop i).trips) : BitVec 32 :=
  let arg1 : BitVec 32 := BitVec.ofNat 32 (i 1).val
  let c8_i32_145 : BitVec 32 := 8#32
  let c0_i32_86 : BitVec 32 := 0#32
  let c1_i32_88 : BitVec 32 := 1#32
  let arg9 : BitVec 32 := Scf.iv c0_i32_86 c1_i32_88 k0_t1
  let c1_i32_144 : BitVec 32 := 1#32
  let v324 : BitVec 32 := Scalar.addi arg9 c1_i32_144
  let v325 : BitVec 32 := Scalar.muli c8_i32_145 v324
  let v326 : BitVec 32 := Scalar.subi arg1 v325
  let c256_i32_146 : BitVec 32 := 256#32
  let v327 : BitVec 32 := Scalar.muli v326 c256_i32_146
  v327
def k0_off4 (i : grid0.Coords) (k0_t1 : Fin (k0_t1_loop i).trips) : Fin 2 → Nat :=
  let arg1 : BitVec 32 := BitVec.ofNat 32 (i 1).val
  let c8_i32_145 : BitVec 32 := 8#32
  let c0_i32_86 : BitVec 32 := 0#32
  let c1_i32_88 : BitVec 32 := 1#32
  let arg9 : BitVec 32 := Scf.iv c0_i32_86 c1_i32_88 k0_t1
  let c1_i32_144 : BitVec 32 := 1#32
  let v324 : BitVec 32 := Scalar.addi arg9 c1_i32_144
  let v325 : BitVec 32 := Scalar.muli c8_i32_145 v324
  let v326 : BitVec 32 := Scalar.subi arg1 v325
  let c256_i32_146 : BitVec 32 := 256#32
  let v327 : BitVec 32 := Scalar.muli v326 c256_i32_146
  let v328 : BitVec 32 := v327
  let v329 : Index := Scalar.indexCast v328
  let c0_147 : Index := 0#32
  ![v329.toNat, 0]
def k0_off5 (i : grid0.Coords) (k0_t1 : Fin (k0_t1_loop i).trips) : Fin 2 → Nat :=
  let arg1 : BitVec 32 := BitVec.ofNat 32 (i 1).val
  let c8_i32_145 : BitVec 32 := 8#32
  let c0_i32_86 : BitVec 32 := 0#32
  let c1_i32_88 : BitVec 32 := 1#32
  let arg9 : BitVec 32 := Scf.iv c0_i32_86 c1_i32_88 k0_t1
  let c1_i32_144 : BitVec 32 := 1#32
  let v324 : BitVec 32 := Scalar.addi arg9 c1_i32_144
  let v325 : BitVec 32 := Scalar.muli c8_i32_145 v324
  let v326 : BitVec 32 := Scalar.subi arg1 v325
  let c256_i32_146 : BitVec 32 := 256#32
  let v327 : BitVec 32 := Scalar.muli v326 c256_i32_146
  let v328 : BitVec 32 := v327
  let v332 : Index := Scalar.indexCast v328
  let c0_148 : Index := 0#32
  ![v332.toNat, 0]
@[reducible] def k0_t2_loop (i : grid0.Coords) : Scf.Loop 32 :=
  let c0_i32_86 : BitVec 32 := 0#32
  let arg1 : BitVec 32 := BitVec.ofNat 32 (i 1).val
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v215 : BitVec 32 := Scalar.subi v214 c0_i32_86
  let c1_i32_87 : BitVec 32 := 1#32
  let v217 : BitVec 32 := Scalar.divsi v215 c1_i32_87
  let v218 : BitVec 32 := Scalar.muli v217 c1_i32_87
  let v219 : BitVec 32 := Scalar.addi c0_i32_86 v218
  let v216 : BitVec 32 := Scalar.addi c0_i32_86 v215
  let c1_i32_89 : BitVec 32 := 1#32
  ⟨v219, v216, c1_i32_89⟩
def k0_mult3 (i : grid0.Coords) (k0_t2 : Fin (k0_t2_loop i).trips) : BitVec 32 :=
  let arg1 : BitVec 32 := BitVec.ofNat 32 (i 1).val
  let c8_i32_145 : BitVec 32 := 8#32
  let c0_i32_86 : BitVec 32 := 0#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v215 : BitVec 32 := Scalar.subi v214 c0_i32_86
  let c1_i32_87 : BitVec 32 := 1#32
  let v217 : BitVec 32 := Scalar.divsi v215 c1_i32_87
  let v218 : BitVec 32 := Scalar.muli v217 c1_i32_87
  let v219 : BitVec 32 := Scalar.addi c0_i32_86 v218
  let c1_i32_89 : BitVec 32 := 1#32
  let arg9 : BitVec 32 := Scf.iv v219 c1_i32_89 k0_t2
  let c1_i32_144 : BitVec 32 := 1#32
  let v324 : BitVec 32 := Scalar.addi arg9 c1_i32_144
  let v325 : BitVec 32 := Scalar.muli c8_i32_145 v324
  let v326 : BitVec 32 := Scalar.subi arg1 v325
  let c256_i32_146 : BitVec 32 := 256#32
  let v327 : BitVec 32 := Scalar.muli v326 c256_i32_146
  v327
def k0_off6 (i : grid0.Coords) (k0_t2 : Fin (k0_t2_loop i).trips) : Fin 2 → Nat :=
  let arg1 : BitVec 32 := BitVec.ofNat 32 (i 1).val
  let c8_i32_145 : BitVec 32 := 8#32
  let c0_i32_86 : BitVec 32 := 0#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v215 : BitVec 32 := Scalar.subi v214 c0_i32_86
  let c1_i32_87 : BitVec 32 := 1#32
  let v217 : BitVec 32 := Scalar.divsi v215 c1_i32_87
  let v218 : BitVec 32 := Scalar.muli v217 c1_i32_87
  let v219 : BitVec 32 := Scalar.addi c0_i32_86 v218
  let c1_i32_89 : BitVec 32 := 1#32
  let arg9 : BitVec 32 := Scf.iv v219 c1_i32_89 k0_t2
  let c1_i32_144 : BitVec 32 := 1#32
  let v324 : BitVec 32 := Scalar.addi arg9 c1_i32_144
  let v325 : BitVec 32 := Scalar.muli c8_i32_145 v324
  let v326 : BitVec 32 := Scalar.subi arg1 v325
  let c256_i32_146 : BitVec 32 := 256#32
  let v327 : BitVec 32 := Scalar.muli v326 c256_i32_146
  let v328 : BitVec 32 := v327
  let v329 : Index := Scalar.indexCast v328
  let c0_147 : Index := 0#32
  ![v329.toNat, 0]
def k0_off7 (i : grid0.Coords) (k0_t2 : Fin (k0_t2_loop i).trips) : Fin 2 → Nat :=
  let arg1 : BitVec 32 := BitVec.ofNat 32 (i 1).val
  let c8_i32_145 : BitVec 32 := 8#32
  let c0_i32_86 : BitVec 32 := 0#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v215 : BitVec 32 := Scalar.subi v214 c0_i32_86
  let c1_i32_87 : BitVec 32 := 1#32
  let v217 : BitVec 32 := Scalar.divsi v215 c1_i32_87
  let v218 : BitVec 32 := Scalar.muli v217 c1_i32_87
  let v219 : BitVec 32 := Scalar.addi c0_i32_86 v218
  let c1_i32_89 : BitVec 32 := 1#32
  let arg9 : BitVec 32 := Scf.iv v219 c1_i32_89 k0_t2
  let c1_i32_144 : BitVec 32 := 1#32
  let v324 : BitVec 32 := Scalar.addi arg9 c1_i32_144
  let v325 : BitVec 32 := Scalar.muli c8_i32_145 v324
  let v326 : BitVec 32 := Scalar.subi arg1 v325
  let c256_i32_146 : BitVec 32 := 256#32
  let v327 : BitVec 32 := Scalar.muli v326 c256_i32_146
  let v328 : BitVec 32 := v327
  let v332 : Index := Scalar.indexCast v328
  let c0_148 : Index := 0#32
  ![v332.toNat, 0]
@[reducible] def k0_t3_loop (i : grid0.Coords) : Scf.Loop 32 :=
  let c0_i32_98 : BitVec 32 := 0#32
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v239 : BitVec 32 := Scalar.subi v238 c0_i32_98
  let c1_i32_99 : BitVec 32 := 1#32
  let v241 : BitVec 32 := Scalar.divsi v239 c1_i32_99
  let v242 : BitVec 32 := Scalar.muli v241 c1_i32_99
  let v243 : BitVec 32 := Scalar.addi c0_i32_98 v242
  let c1_i32_100 : BitVec 32 := 1#32
  ⟨c0_i32_98, v243, c1_i32_100⟩
def k0_mult4 (i : grid0.Coords) (k0_t3 : Fin (k0_t3_loop i).trips) : BitVec 32 :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_145 : BitVec 32 := 4#32
  let c0_i32_98 : BitVec 32 := 0#32
  let c1_i32_100 : BitVec 32 := 1#32
  let arg9 : BitVec 32 := Scf.iv c0_i32_98 c1_i32_100 k0_t3
  let c1_i32_144 : BitVec 32 := 1#32
  let v324 : BitVec 32 := Scalar.addi arg9 c1_i32_144
  let v325 : BitVec 32 := Scalar.muli c4_i32_145 v324
  let v326 : BitVec 32 := Scalar.subi v221 v325
  let c256_i32_146 : BitVec 32 := 256#32
  let v327 : BitVec 32 := Scalar.muli v326 c256_i32_146
  v327
def k0_off8 (i : grid0.Coords) (k0_t3 : Fin (k0_t3_loop i).trips) : Fin 2 → Nat :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_145 : BitVec 32 := 4#32
  let c0_i32_98 : BitVec 32 := 0#32
  let c1_i32_100 : BitVec 32 := 1#32
  let arg9 : BitVec 32 := Scf.iv c0_i32_98 c1_i32_100 k0_t3
  let c1_i32_144 : BitVec 32 := 1#32
  let v324 : BitVec 32 := Scalar.addi arg9 c1_i32_144
  let v325 : BitVec 32 := Scalar.muli c4_i32_145 v324
  let v326 : BitVec 32 := Scalar.subi v221 v325
  let c256_i32_146 : BitVec 32 := 256#32
  let v327 : BitVec 32 := Scalar.muli v326 c256_i32_146
  let v328 : BitVec 32 := v327
  let v329 : Index := Scalar.indexCast v328
  let c0_147 : Index := 0#32
  ![v329.toNat, 0]
def k0_off9 (i : grid0.Coords) (k0_t3 : Fin (k0_t3_loop i).trips) : Fin 2 → Nat :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_145 : BitVec 32 := 4#32
  let c0_i32_98 : BitVec 32 := 0#32
  let c1_i32_100 : BitVec 32 := 1#32
  let arg9 : BitVec 32 := Scf.iv c0_i32_98 c1_i32_100 k0_t3
  let c1_i32_144 : BitVec 32 := 1#32
  let v324 : BitVec 32 := Scalar.addi arg9 c1_i32_144
  let v325 : BitVec 32 := Scalar.muli c4_i32_145 v324
  let v326 : BitVec 32 := Scalar.subi v221 v325
  let c256_i32_146 : BitVec 32 := 256#32
  let v327 : BitVec 32 := Scalar.muli v326 c256_i32_146
  let v328 : BitVec 32 := v327
  let v332 : Index := Scalar.indexCast v328
  let c0_148 : Index := 0#32
  ![v332.toNat, 0]
@[reducible] def k0_t4_loop (i : grid0.Coords) : Scf.Loop 32 :=
  let c0_i32_98 : BitVec 32 := 0#32
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v239 : BitVec 32 := Scalar.subi v238 c0_i32_98
  let c1_i32_99 : BitVec 32 := 1#32
  let v241 : BitVec 32 := Scalar.divsi v239 c1_i32_99
  let v242 : BitVec 32 := Scalar.muli v241 c1_i32_99
  let v243 : BitVec 32 := Scalar.addi c0_i32_98 v242
  let v240 : BitVec 32 := Scalar.addi c0_i32_98 v239
  let c1_i32_101 : BitVec 32 := 1#32
  ⟨v243, v240, c1_i32_101⟩
def k0_mult5 (i : grid0.Coords) (k0_t4 : Fin (k0_t4_loop i).trips) : BitVec 32 :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_145 : BitVec 32 := 4#32
  let c0_i32_98 : BitVec 32 := 0#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v239 : BitVec 32 := Scalar.subi v238 c0_i32_98
  let c1_i32_99 : BitVec 32 := 1#32
  let v241 : BitVec 32 := Scalar.divsi v239 c1_i32_99
  let v242 : BitVec 32 := Scalar.muli v241 c1_i32_99
  let v243 : BitVec 32 := Scalar.addi c0_i32_98 v242
  let c1_i32_101 : BitVec 32 := 1#32
  let arg9 : BitVec 32 := Scf.iv v243 c1_i32_101 k0_t4
  let c1_i32_144 : BitVec 32 := 1#32
  let v324 : BitVec 32 := Scalar.addi arg9 c1_i32_144
  let v325 : BitVec 32 := Scalar.muli c4_i32_145 v324
  let v326 : BitVec 32 := Scalar.subi v221 v325
  let c256_i32_146 : BitVec 32 := 256#32
  let v327 : BitVec 32 := Scalar.muli v326 c256_i32_146
  v327
def k0_off10 (i : grid0.Coords) (k0_t4 : Fin (k0_t4_loop i).trips) : Fin 2 → Nat :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_145 : BitVec 32 := 4#32
  let c0_i32_98 : BitVec 32 := 0#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v239 : BitVec 32 := Scalar.subi v238 c0_i32_98
  let c1_i32_99 : BitVec 32 := 1#32
  let v241 : BitVec 32 := Scalar.divsi v239 c1_i32_99
  let v242 : BitVec 32 := Scalar.muli v241 c1_i32_99
  let v243 : BitVec 32 := Scalar.addi c0_i32_98 v242
  let c1_i32_101 : BitVec 32 := 1#32
  let arg9 : BitVec 32 := Scf.iv v243 c1_i32_101 k0_t4
  let c1_i32_144 : BitVec 32 := 1#32
  let v324 : BitVec 32 := Scalar.addi arg9 c1_i32_144
  let v325 : BitVec 32 := Scalar.muli c4_i32_145 v324
  let v326 : BitVec 32 := Scalar.subi v221 v325
  let c256_i32_146 : BitVec 32 := 256#32
  let v327 : BitVec 32 := Scalar.muli v326 c256_i32_146
  let v328 : BitVec 32 := v327
  let v329 : Index := Scalar.indexCast v328
  let c0_147 : Index := 0#32
  ![v329.toNat, 0]
def k0_off11 (i : grid0.Coords) (k0_t4 : Fin (k0_t4_loop i).trips) : Fin 2 → Nat :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_145 : BitVec 32 := 4#32
  let c0_i32_98 : BitVec 32 := 0#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v239 : BitVec 32 := Scalar.subi v238 c0_i32_98
  let c1_i32_99 : BitVec 32 := 1#32
  let v241 : BitVec 32 := Scalar.divsi v239 c1_i32_99
  let v242 : BitVec 32 := Scalar.muli v241 c1_i32_99
  let v243 : BitVec 32 := Scalar.addi c0_i32_98 v242
  let c1_i32_101 : BitVec 32 := 1#32
  let arg9 : BitVec 32 := Scf.iv v243 c1_i32_101 k0_t4
  let c1_i32_144 : BitVec 32 := 1#32
  let v324 : BitVec 32 := Scalar.addi arg9 c1_i32_144
  let v325 : BitVec 32 := Scalar.muli c4_i32_145 v324
  let v326 : BitVec 32 := Scalar.subi v221 v325
  let c256_i32_146 : BitVec 32 := 256#32
  let v327 : BitVec 32 := Scalar.muli v326 c256_i32_146
  let v328 : BitVec 32 := v327
  let v332 : Index := Scalar.indexCast v328
  let c0_148 : Index := 0#32
  ![v332.toNat, 0]
@[reducible] def k0_t5_loop (i : grid0.Coords) : Scf.Loop 32 :=
  let c0_i32_111 : BitVec 32 := 0#32
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c0_i32_104 : BitVec 32 := 0#32
  let v247 : BitVec 1 := Scalar.cmpi .sgt v245 c0_i32_104
  let v248 : BitVec 32 := Scalar.extui v247
  let c0_i32_105 : BitVec 32 := 0#32
  let v249 : BitVec 1 := Scalar.cmpi .slt v245 c0_i32_105
  let v250 : BitVec 32 := Scalar.extui v249
  let v251 : BitVec 32 := Scalar.subi v248 v250
  let c2_i32_103 : BitVec 32 := 2#32
  let c0_i32_106 : BitVec 32 := 0#32
  let v252 : BitVec 1 := Scalar.cmpi .sgt c2_i32_103 c0_i32_106
  let v253 : BitVec 32 := Scalar.extui v252
  let c0_i32_107 : BitVec 32 := 0#32
  let v254 : BitVec 1 := Scalar.cmpi .slt c2_i32_103 c0_i32_107
  let v255 : BitVec 32 := Scalar.extui v254
  let v256 : BitVec 32 := Scalar.subi v253 v255
  let v257 : BitVec 1 := Scalar.cmpi .ne v251 v256
  let v258 : BitVec 32 := Scalar.remsi v245 c2_i32_103
  let c0_i32_108 : BitVec 32 := 0#32
  let v259 : BitVec 1 := Scalar.cmpi .ne v258 c0_i32_108
  let v260 : BitVec 1 := Scalar.andi v257 v259
  let v246 : BitVec 32 := Scalar.divsi v245 c2_i32_103
  let c1_i32_109 : BitVec 32 := 1#32
  let v261 : BitVec 32 := Scalar.subi v246 c1_i32_109
  let v262 : BitVec 32 := Scalar.select v260 v261 v246
  let v263 : BitVec 32 := Scalar.subi v262 c0_i32_111
  let c1_i32_112 : BitVec 32 := 1#32
  let v265 : BitVec 32 := Scalar.divsi v263 c1_i32_112
  let v266 : BitVec 32 := Scalar.muli v265 c1_i32_112
  let v267 : BitVec 32 := Scalar.addi c0_i32_111 v266
  let c1_i32_113 : BitVec 32 := 1#32
  ⟨c0_i32_111, v267, c1_i32_113⟩
def k0_mult6 (i : grid0.Coords) (k0_t5 : Fin (k0_t5_loop i).trips) : BitVec 32 :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_145 : BitVec 32 := 2#32
  let c0_i32_111 : BitVec 32 := 0#32
  let c1_i32_113 : BitVec 32 := 1#32
  let arg9 : BitVec 32 := Scf.iv c0_i32_111 c1_i32_113 k0_t5
  let c1_i32_144 : BitVec 32 := 1#32
  let v324 : BitVec 32 := Scalar.addi arg9 c1_i32_144
  let v325 : BitVec 32 := Scalar.muli c2_i32_145 v324
  let v326 : BitVec 32 := Scalar.subi v245 v325
  let c256_i32_146 : BitVec 32 := 256#32
  let v327 : BitVec 32 := Scalar.muli v326 c256_i32_146
  v327
def k0_off12 (i : grid0.Coords) (k0_t5 : Fin (k0_t5_loop i).trips) : Fin 2 → Nat :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_145 : BitVec 32 := 2#32
  let c0_i32_111 : BitVec 32 := 0#32
  let c1_i32_113 : BitVec 32 := 1#32
  let arg9 : BitVec 32 := Scf.iv c0_i32_111 c1_i32_113 k0_t5
  let c1_i32_144 : BitVec 32 := 1#32
  let v324 : BitVec 32 := Scalar.addi arg9 c1_i32_144
  let v325 : BitVec 32 := Scalar.muli c2_i32_145 v324
  let v326 : BitVec 32 := Scalar.subi v245 v325
  let c256_i32_146 : BitVec 32 := 256#32
  let v327 : BitVec 32 := Scalar.muli v326 c256_i32_146
  let v328 : BitVec 32 := v327
  let v329 : Index := Scalar.indexCast v328
  let c0_147 : Index := 0#32
  ![v329.toNat, 0]
def k0_off13 (i : grid0.Coords) (k0_t5 : Fin (k0_t5_loop i).trips) : Fin 2 → Nat :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_145 : BitVec 32 := 2#32
  let c0_i32_111 : BitVec 32 := 0#32
  let c1_i32_113 : BitVec 32 := 1#32
  let arg9 : BitVec 32 := Scf.iv c0_i32_111 c1_i32_113 k0_t5
  let c1_i32_144 : BitVec 32 := 1#32
  let v324 : BitVec 32 := Scalar.addi arg9 c1_i32_144
  let v325 : BitVec 32 := Scalar.muli c2_i32_145 v324
  let v326 : BitVec 32 := Scalar.subi v245 v325
  let c256_i32_146 : BitVec 32 := 256#32
  let v327 : BitVec 32 := Scalar.muli v326 c256_i32_146
  let v328 : BitVec 32 := v327
  let v332 : Index := Scalar.indexCast v328
  let c0_148 : Index := 0#32
  ![v332.toNat, 0]
@[reducible] def k0_t6_loop (i : grid0.Coords) : Scf.Loop 32 :=
  let c0_i32_111 : BitVec 32 := 0#32
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c0_i32_104 : BitVec 32 := 0#32
  let v247 : BitVec 1 := Scalar.cmpi .sgt v245 c0_i32_104
  let v248 : BitVec 32 := Scalar.extui v247
  let c0_i32_105 : BitVec 32 := 0#32
  let v249 : BitVec 1 := Scalar.cmpi .slt v245 c0_i32_105
  let v250 : BitVec 32 := Scalar.extui v249
  let v251 : BitVec 32 := Scalar.subi v248 v250
  let c2_i32_103 : BitVec 32 := 2#32
  let c0_i32_106 : BitVec 32 := 0#32
  let v252 : BitVec 1 := Scalar.cmpi .sgt c2_i32_103 c0_i32_106
  let v253 : BitVec 32 := Scalar.extui v252
  let c0_i32_107 : BitVec 32 := 0#32
  let v254 : BitVec 1 := Scalar.cmpi .slt c2_i32_103 c0_i32_107
  let v255 : BitVec 32 := Scalar.extui v254
  let v256 : BitVec 32 := Scalar.subi v253 v255
  let v257 : BitVec 1 := Scalar.cmpi .ne v251 v256
  let v258 : BitVec 32 := Scalar.remsi v245 c2_i32_103
  let c0_i32_108 : BitVec 32 := 0#32
  let v259 : BitVec 1 := Scalar.cmpi .ne v258 c0_i32_108
  let v260 : BitVec 1 := Scalar.andi v257 v259
  let v246 : BitVec 32 := Scalar.divsi v245 c2_i32_103
  let c1_i32_109 : BitVec 32 := 1#32
  let v261 : BitVec 32 := Scalar.subi v246 c1_i32_109
  let v262 : BitVec 32 := Scalar.select v260 v261 v246
  let v263 : BitVec 32 := Scalar.subi v262 c0_i32_111
  let c1_i32_112 : BitVec 32 := 1#32
  let v265 : BitVec 32 := Scalar.divsi v263 c1_i32_112
  let v266 : BitVec 32 := Scalar.muli v265 c1_i32_112
  let v267 : BitVec 32 := Scalar.addi c0_i32_111 v266
  let v264 : BitVec 32 := Scalar.addi c0_i32_111 v263
  let c1_i32_114 : BitVec 32 := 1#32
  ⟨v267, v264, c1_i32_114⟩
def k0_mult7 (i : grid0.Coords) (k0_t6 : Fin (k0_t6_loop i).trips) : BitVec 32 :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_145 : BitVec 32 := 2#32
  let c0_i32_111 : BitVec 32 := 0#32
  let c0_i32_104 : BitVec 32 := 0#32
  let v247 : BitVec 1 := Scalar.cmpi .sgt v245 c0_i32_104
  let v248 : BitVec 32 := Scalar.extui v247
  let c0_i32_105 : BitVec 32 := 0#32
  let v249 : BitVec 1 := Scalar.cmpi .slt v245 c0_i32_105
  let v250 : BitVec 32 := Scalar.extui v249
  let v251 : BitVec 32 := Scalar.subi v248 v250
  let c2_i32_103 : BitVec 32 := 2#32
  let c0_i32_106 : BitVec 32 := 0#32
  let v252 : BitVec 1 := Scalar.cmpi .sgt c2_i32_103 c0_i32_106
  let v253 : BitVec 32 := Scalar.extui v252
  let c0_i32_107 : BitVec 32 := 0#32
  let v254 : BitVec 1 := Scalar.cmpi .slt c2_i32_103 c0_i32_107
  let v255 : BitVec 32 := Scalar.extui v254
  let v256 : BitVec 32 := Scalar.subi v253 v255
  let v257 : BitVec 1 := Scalar.cmpi .ne v251 v256
  let v258 : BitVec 32 := Scalar.remsi v245 c2_i32_103
  let c0_i32_108 : BitVec 32 := 0#32
  let v259 : BitVec 1 := Scalar.cmpi .ne v258 c0_i32_108
  let v260 : BitVec 1 := Scalar.andi v257 v259
  let v246 : BitVec 32 := Scalar.divsi v245 c2_i32_103
  let c1_i32_109 : BitVec 32 := 1#32
  let v261 : BitVec 32 := Scalar.subi v246 c1_i32_109
  let v262 : BitVec 32 := Scalar.select v260 v261 v246
  let v263 : BitVec 32 := Scalar.subi v262 c0_i32_111
  let c1_i32_112 : BitVec 32 := 1#32
  let v265 : BitVec 32 := Scalar.divsi v263 c1_i32_112
  let v266 : BitVec 32 := Scalar.muli v265 c1_i32_112
  let v267 : BitVec 32 := Scalar.addi c0_i32_111 v266
  let c1_i32_114 : BitVec 32 := 1#32
  let arg9 : BitVec 32 := Scf.iv v267 c1_i32_114 k0_t6
  let c1_i32_144 : BitVec 32 := 1#32
  let v324 : BitVec 32 := Scalar.addi arg9 c1_i32_144
  let v325 : BitVec 32 := Scalar.muli c2_i32_145 v324
  let v326 : BitVec 32 := Scalar.subi v245 v325
  let c256_i32_146 : BitVec 32 := 256#32
  let v327 : BitVec 32 := Scalar.muli v326 c256_i32_146
  v327
def k0_off14 (i : grid0.Coords) (k0_t6 : Fin (k0_t6_loop i).trips) : Fin 2 → Nat :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_145 : BitVec 32 := 2#32
  let c0_i32_111 : BitVec 32 := 0#32
  let c0_i32_104 : BitVec 32 := 0#32
  let v247 : BitVec 1 := Scalar.cmpi .sgt v245 c0_i32_104
  let v248 : BitVec 32 := Scalar.extui v247
  let c0_i32_105 : BitVec 32 := 0#32
  let v249 : BitVec 1 := Scalar.cmpi .slt v245 c0_i32_105
  let v250 : BitVec 32 := Scalar.extui v249
  let v251 : BitVec 32 := Scalar.subi v248 v250
  let c2_i32_103 : BitVec 32 := 2#32
  let c0_i32_106 : BitVec 32 := 0#32
  let v252 : BitVec 1 := Scalar.cmpi .sgt c2_i32_103 c0_i32_106
  let v253 : BitVec 32 := Scalar.extui v252
  let c0_i32_107 : BitVec 32 := 0#32
  let v254 : BitVec 1 := Scalar.cmpi .slt c2_i32_103 c0_i32_107
  let v255 : BitVec 32 := Scalar.extui v254
  let v256 : BitVec 32 := Scalar.subi v253 v255
  let v257 : BitVec 1 := Scalar.cmpi .ne v251 v256
  let v258 : BitVec 32 := Scalar.remsi v245 c2_i32_103
  let c0_i32_108 : BitVec 32 := 0#32
  let v259 : BitVec 1 := Scalar.cmpi .ne v258 c0_i32_108
  let v260 : BitVec 1 := Scalar.andi v257 v259
  let v246 : BitVec 32 := Scalar.divsi v245 c2_i32_103
  let c1_i32_109 : BitVec 32 := 1#32
  let v261 : BitVec 32 := Scalar.subi v246 c1_i32_109
  let v262 : BitVec 32 := Scalar.select v260 v261 v246
  let v263 : BitVec 32 := Scalar.subi v262 c0_i32_111
  let c1_i32_112 : BitVec 32 := 1#32
  let v265 : BitVec 32 := Scalar.divsi v263 c1_i32_112
  let v266 : BitVec 32 := Scalar.muli v265 c1_i32_112
  let v267 : BitVec 32 := Scalar.addi c0_i32_111 v266
  let c1_i32_114 : BitVec 32 := 1#32
  let arg9 : BitVec 32 := Scf.iv v267 c1_i32_114 k0_t6
  let c1_i32_144 : BitVec 32 := 1#32
  let v324 : BitVec 32 := Scalar.addi arg9 c1_i32_144
  let v325 : BitVec 32 := Scalar.muli c2_i32_145 v324
  let v326 : BitVec 32 := Scalar.subi v245 v325
  let c256_i32_146 : BitVec 32 := 256#32
  let v327 : BitVec 32 := Scalar.muli v326 c256_i32_146
  let v328 : BitVec 32 := v327
  let v329 : Index := Scalar.indexCast v328
  let c0_147 : Index := 0#32
  ![v329.toNat, 0]
def k0_off15 (i : grid0.Coords) (k0_t6 : Fin (k0_t6_loop i).trips) : Fin 2 → Nat :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_145 : BitVec 32 := 2#32
  let c0_i32_111 : BitVec 32 := 0#32
  let c0_i32_104 : BitVec 32 := 0#32
  let v247 : BitVec 1 := Scalar.cmpi .sgt v245 c0_i32_104
  let v248 : BitVec 32 := Scalar.extui v247
  let c0_i32_105 : BitVec 32 := 0#32
  let v249 : BitVec 1 := Scalar.cmpi .slt v245 c0_i32_105
  let v250 : BitVec 32 := Scalar.extui v249
  let v251 : BitVec 32 := Scalar.subi v248 v250
  let c2_i32_103 : BitVec 32 := 2#32
  let c0_i32_106 : BitVec 32 := 0#32
  let v252 : BitVec 1 := Scalar.cmpi .sgt c2_i32_103 c0_i32_106
  let v253 : BitVec 32 := Scalar.extui v252
  let c0_i32_107 : BitVec 32 := 0#32
  let v254 : BitVec 1 := Scalar.cmpi .slt c2_i32_103 c0_i32_107
  let v255 : BitVec 32 := Scalar.extui v254
  let v256 : BitVec 32 := Scalar.subi v253 v255
  let v257 : BitVec 1 := Scalar.cmpi .ne v251 v256
  let v258 : BitVec 32 := Scalar.remsi v245 c2_i32_103
  let c0_i32_108 : BitVec 32 := 0#32
  let v259 : BitVec 1 := Scalar.cmpi .ne v258 c0_i32_108
  let v260 : BitVec 1 := Scalar.andi v257 v259
  let v246 : BitVec 32 := Scalar.divsi v245 c2_i32_103
  let c1_i32_109 : BitVec 32 := 1#32
  let v261 : BitVec 32 := Scalar.subi v246 c1_i32_109
  let v262 : BitVec 32 := Scalar.select v260 v261 v246
  let v263 : BitVec 32 := Scalar.subi v262 c0_i32_111
  let c1_i32_112 : BitVec 32 := 1#32
  let v265 : BitVec 32 := Scalar.divsi v263 c1_i32_112
  let v266 : BitVec 32 := Scalar.muli v265 c1_i32_112
  let v267 : BitVec 32 := Scalar.addi c0_i32_111 v266
  let c1_i32_114 : BitVec 32 := 1#32
  let arg9 : BitVec 32 := Scf.iv v267 c1_i32_114 k0_t6
  let c1_i32_144 : BitVec 32 := 1#32
  let v324 : BitVec 32 := Scalar.addi arg9 c1_i32_144
  let v325 : BitVec 32 := Scalar.muli c2_i32_145 v324
  let v326 : BitVec 32 := Scalar.subi v245 v325
  let c256_i32_146 : BitVec 32 := 256#32
  let v327 : BitVec 32 := Scalar.muli v326 c256_i32_146
  let v328 : BitVec 32 := v327
  let v332 : Index := Scalar.indexCast v328
  let c0_148 : Index := 0#32
  ![v332.toNat, 0]
@[reducible] def k0_t7_loop (i : grid0.Coords) : Scf.Loop 32 :=
  let c0_i32_124 : BitVec 32 := 0#32
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_115 : BitVec 32 := 2#32
  let c0_i32_104 : BitVec 32 := 0#32
  let v247 : BitVec 1 := Scalar.cmpi .sgt v245 c0_i32_104
  let v248 : BitVec 32 := Scalar.extui v247
  let c0_i32_105 : BitVec 32 := 0#32
  let v249 : BitVec 1 := Scalar.cmpi .slt v245 c0_i32_105
  let v250 : BitVec 32 := Scalar.extui v249
  let v251 : BitVec 32 := Scalar.subi v248 v250
  let c2_i32_103 : BitVec 32 := 2#32
  let c0_i32_106 : BitVec 32 := 0#32
  let v252 : BitVec 1 := Scalar.cmpi .sgt c2_i32_103 c0_i32_106
  let v253 : BitVec 32 := Scalar.extui v252
  let c0_i32_107 : BitVec 32 := 0#32
  let v254 : BitVec 1 := Scalar.cmpi .slt c2_i32_103 c0_i32_107
  let v255 : BitVec 32 := Scalar.extui v254
  let v256 : BitVec 32 := Scalar.subi v253 v255
  let v257 : BitVec 1 := Scalar.cmpi .ne v251 v256
  let v258 : BitVec 32 := Scalar.remsi v245 c2_i32_103
  let c0_i32_108 : BitVec 32 := 0#32
  let v259 : BitVec 1 := Scalar.cmpi .ne v258 c0_i32_108
  let v260 : BitVec 1 := Scalar.andi v257 v259
  let v246 : BitVec 32 := Scalar.divsi v245 c2_i32_103
  let c1_i32_109 : BitVec 32 := 1#32
  let v261 : BitVec 32 := Scalar.subi v246 c1_i32_109
  let v262 : BitVec 32 := Scalar.select v260 v261 v246
  let v268 : BitVec 32 := Scalar.muli c2_i32_115 v262
  let v269 : BitVec 32 := Scalar.subi v245 v268
  let c0_i32_117 : BitVec 32 := 0#32
  let v271 : BitVec 1 := Scalar.cmpi .sgt v269 c0_i32_117
  let v272 : BitVec 32 := Scalar.extui v271
  let c0_i32_118 : BitVec 32 := 0#32
  let v273 : BitVec 1 := Scalar.cmpi .slt v269 c0_i32_118
  let v274 : BitVec 32 := Scalar.extui v273
  let v275 : BitVec 32 := Scalar.subi v272 v274
  let c1_i32_116 : BitVec 32 := 1#32
  let c0_i32_119 : BitVec 32 := 0#32
  let v276 : BitVec 1 := Scalar.cmpi .sgt c1_i32_116 c0_i32_119
  let v277 : BitVec 32 := Scalar.extui v276
  let c0_i32_120 : BitVec 32 := 0#32
  let v278 : BitVec 1 := Scalar.cmpi .slt c1_i32_116 c0_i32_120
  let v279 : BitVec 32 := Scalar.extui v278
  let v280 : BitVec 32 := Scalar.subi v277 v279
  let v281 : BitVec 1 := Scalar.cmpi .ne v275 v280
  let v282 : BitVec 32 := Scalar.remsi v269 c1_i32_116
  let c0_i32_121 : BitVec 32 := 0#32
  let v283 : BitVec 1 := Scalar.cmpi .ne v282 c0_i32_121
  let v284 : BitVec 1 := Scalar.andi v281 v283
  let v270 : BitVec 32 := Scalar.divsi v269 c1_i32_116
  let c1_i32_122 : BitVec 32 := 1#32
  let v285 : BitVec 32 := Scalar.subi v270 c1_i32_122
  let v286 : BitVec 32 := Scalar.select v284 v285 v270
  let v287 : BitVec 32 := Scalar.subi v286 c0_i32_124
  let c1_i32_125 : BitVec 32 := 1#32
  let v289 : BitVec 32 := Scalar.divsi v287 c1_i32_125
  let v290 : BitVec 32 := Scalar.muli v289 c1_i32_125
  let v291 : BitVec 32 := Scalar.addi c0_i32_124 v290
  let c1_i32_126 : BitVec 32 := 1#32
  ⟨c0_i32_124, v291, c1_i32_126⟩
def k0_mult8 (i : grid0.Coords) (k0_t7 : Fin (k0_t7_loop i).trips) : BitVec 32 :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_115 : BitVec 32 := 2#32
  let c0_i32_104 : BitVec 32 := 0#32
  let v247 : BitVec 1 := Scalar.cmpi .sgt v245 c0_i32_104
  let v248 : BitVec 32 := Scalar.extui v247
  let c0_i32_105 : BitVec 32 := 0#32
  let v249 : BitVec 1 := Scalar.cmpi .slt v245 c0_i32_105
  let v250 : BitVec 32 := Scalar.extui v249
  let v251 : BitVec 32 := Scalar.subi v248 v250
  let c2_i32_103 : BitVec 32 := 2#32
  let c0_i32_106 : BitVec 32 := 0#32
  let v252 : BitVec 1 := Scalar.cmpi .sgt c2_i32_103 c0_i32_106
  let v253 : BitVec 32 := Scalar.extui v252
  let c0_i32_107 : BitVec 32 := 0#32
  let v254 : BitVec 1 := Scalar.cmpi .slt c2_i32_103 c0_i32_107
  let v255 : BitVec 32 := Scalar.extui v254
  let v256 : BitVec 32 := Scalar.subi v253 v255
  let v257 : BitVec 1 := Scalar.cmpi .ne v251 v256
  let v258 : BitVec 32 := Scalar.remsi v245 c2_i32_103
  let c0_i32_108 : BitVec 32 := 0#32
  let v259 : BitVec 1 := Scalar.cmpi .ne v258 c0_i32_108
  let v260 : BitVec 1 := Scalar.andi v257 v259
  let v246 : BitVec 32 := Scalar.divsi v245 c2_i32_103
  let c1_i32_109 : BitVec 32 := 1#32
  let v261 : BitVec 32 := Scalar.subi v246 c1_i32_109
  let v262 : BitVec 32 := Scalar.select v260 v261 v246
  let v268 : BitVec 32 := Scalar.muli c2_i32_115 v262
  let v269 : BitVec 32 := Scalar.subi v245 v268
  let c1_i32_145 : BitVec 32 := 1#32
  let c0_i32_124 : BitVec 32 := 0#32
  let c1_i32_126 : BitVec 32 := 1#32
  let arg9 : BitVec 32 := Scf.iv c0_i32_124 c1_i32_126 k0_t7
  let c1_i32_144 : BitVec 32 := 1#32
  let v324 : BitVec 32 := Scalar.addi arg9 c1_i32_144
  let v325 : BitVec 32 := Scalar.muli c1_i32_145 v324
  let v326 : BitVec 32 := Scalar.subi v269 v325
  let c256_i32_146 : BitVec 32 := 256#32
  let v327 : BitVec 32 := Scalar.muli v326 c256_i32_146
  v327
def k0_off16 (i : grid0.Coords) (k0_t7 : Fin (k0_t7_loop i).trips) : Fin 2 → Nat :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_115 : BitVec 32 := 2#32
  let c0_i32_104 : BitVec 32 := 0#32
  let v247 : BitVec 1 := Scalar.cmpi .sgt v245 c0_i32_104
  let v248 : BitVec 32 := Scalar.extui v247
  let c0_i32_105 : BitVec 32 := 0#32
  let v249 : BitVec 1 := Scalar.cmpi .slt v245 c0_i32_105
  let v250 : BitVec 32 := Scalar.extui v249
  let v251 : BitVec 32 := Scalar.subi v248 v250
  let c2_i32_103 : BitVec 32 := 2#32
  let c0_i32_106 : BitVec 32 := 0#32
  let v252 : BitVec 1 := Scalar.cmpi .sgt c2_i32_103 c0_i32_106
  let v253 : BitVec 32 := Scalar.extui v252
  let c0_i32_107 : BitVec 32 := 0#32
  let v254 : BitVec 1 := Scalar.cmpi .slt c2_i32_103 c0_i32_107
  let v255 : BitVec 32 := Scalar.extui v254
  let v256 : BitVec 32 := Scalar.subi v253 v255
  let v257 : BitVec 1 := Scalar.cmpi .ne v251 v256
  let v258 : BitVec 32 := Scalar.remsi v245 c2_i32_103
  let c0_i32_108 : BitVec 32 := 0#32
  let v259 : BitVec 1 := Scalar.cmpi .ne v258 c0_i32_108
  let v260 : BitVec 1 := Scalar.andi v257 v259
  let v246 : BitVec 32 := Scalar.divsi v245 c2_i32_103
  let c1_i32_109 : BitVec 32 := 1#32
  let v261 : BitVec 32 := Scalar.subi v246 c1_i32_109
  let v262 : BitVec 32 := Scalar.select v260 v261 v246
  let v268 : BitVec 32 := Scalar.muli c2_i32_115 v262
  let v269 : BitVec 32 := Scalar.subi v245 v268
  let c1_i32_145 : BitVec 32 := 1#32
  let c0_i32_124 : BitVec 32 := 0#32
  let c1_i32_126 : BitVec 32 := 1#32
  let arg9 : BitVec 32 := Scf.iv c0_i32_124 c1_i32_126 k0_t7
  let c1_i32_144 : BitVec 32 := 1#32
  let v324 : BitVec 32 := Scalar.addi arg9 c1_i32_144
  let v325 : BitVec 32 := Scalar.muli c1_i32_145 v324
  let v326 : BitVec 32 := Scalar.subi v269 v325
  let c256_i32_146 : BitVec 32 := 256#32
  let v327 : BitVec 32 := Scalar.muli v326 c256_i32_146
  let v328 : BitVec 32 := v327
  let v329 : Index := Scalar.indexCast v328
  let c0_147 : Index := 0#32
  ![v329.toNat, 0]
def k0_off17 (i : grid0.Coords) (k0_t7 : Fin (k0_t7_loop i).trips) : Fin 2 → Nat :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_115 : BitVec 32 := 2#32
  let c0_i32_104 : BitVec 32 := 0#32
  let v247 : BitVec 1 := Scalar.cmpi .sgt v245 c0_i32_104
  let v248 : BitVec 32 := Scalar.extui v247
  let c0_i32_105 : BitVec 32 := 0#32
  let v249 : BitVec 1 := Scalar.cmpi .slt v245 c0_i32_105
  let v250 : BitVec 32 := Scalar.extui v249
  let v251 : BitVec 32 := Scalar.subi v248 v250
  let c2_i32_103 : BitVec 32 := 2#32
  let c0_i32_106 : BitVec 32 := 0#32
  let v252 : BitVec 1 := Scalar.cmpi .sgt c2_i32_103 c0_i32_106
  let v253 : BitVec 32 := Scalar.extui v252
  let c0_i32_107 : BitVec 32 := 0#32
  let v254 : BitVec 1 := Scalar.cmpi .slt c2_i32_103 c0_i32_107
  let v255 : BitVec 32 := Scalar.extui v254
  let v256 : BitVec 32 := Scalar.subi v253 v255
  let v257 : BitVec 1 := Scalar.cmpi .ne v251 v256
  let v258 : BitVec 32 := Scalar.remsi v245 c2_i32_103
  let c0_i32_108 : BitVec 32 := 0#32
  let v259 : BitVec 1 := Scalar.cmpi .ne v258 c0_i32_108
  let v260 : BitVec 1 := Scalar.andi v257 v259
  let v246 : BitVec 32 := Scalar.divsi v245 c2_i32_103
  let c1_i32_109 : BitVec 32 := 1#32
  let v261 : BitVec 32 := Scalar.subi v246 c1_i32_109
  let v262 : BitVec 32 := Scalar.select v260 v261 v246
  let v268 : BitVec 32 := Scalar.muli c2_i32_115 v262
  let v269 : BitVec 32 := Scalar.subi v245 v268
  let c1_i32_145 : BitVec 32 := 1#32
  let c0_i32_124 : BitVec 32 := 0#32
  let c1_i32_126 : BitVec 32 := 1#32
  let arg9 : BitVec 32 := Scf.iv c0_i32_124 c1_i32_126 k0_t7
  let c1_i32_144 : BitVec 32 := 1#32
  let v324 : BitVec 32 := Scalar.addi arg9 c1_i32_144
  let v325 : BitVec 32 := Scalar.muli c1_i32_145 v324
  let v326 : BitVec 32 := Scalar.subi v269 v325
  let c256_i32_146 : BitVec 32 := 256#32
  let v327 : BitVec 32 := Scalar.muli v326 c256_i32_146
  let v328 : BitVec 32 := v327
  let v332 : Index := Scalar.indexCast v328
  let c0_148 : Index := 0#32
  ![v332.toNat, 0]
@[reducible] def k0_t8_loop (i : grid0.Coords) : Scf.Loop 32 :=
  let c0_i32_124 : BitVec 32 := 0#32
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_115 : BitVec 32 := 2#32
  let c0_i32_104 : BitVec 32 := 0#32
  let v247 : BitVec 1 := Scalar.cmpi .sgt v245 c0_i32_104
  let v248 : BitVec 32 := Scalar.extui v247
  let c0_i32_105 : BitVec 32 := 0#32
  let v249 : BitVec 1 := Scalar.cmpi .slt v245 c0_i32_105
  let v250 : BitVec 32 := Scalar.extui v249
  let v251 : BitVec 32 := Scalar.subi v248 v250
  let c2_i32_103 : BitVec 32 := 2#32
  let c0_i32_106 : BitVec 32 := 0#32
  let v252 : BitVec 1 := Scalar.cmpi .sgt c2_i32_103 c0_i32_106
  let v253 : BitVec 32 := Scalar.extui v252
  let c0_i32_107 : BitVec 32 := 0#32
  let v254 : BitVec 1 := Scalar.cmpi .slt c2_i32_103 c0_i32_107
  let v255 : BitVec 32 := Scalar.extui v254
  let v256 : BitVec 32 := Scalar.subi v253 v255
  let v257 : BitVec 1 := Scalar.cmpi .ne v251 v256
  let v258 : BitVec 32 := Scalar.remsi v245 c2_i32_103
  let c0_i32_108 : BitVec 32 := 0#32
  let v259 : BitVec 1 := Scalar.cmpi .ne v258 c0_i32_108
  let v260 : BitVec 1 := Scalar.andi v257 v259
  let v246 : BitVec 32 := Scalar.divsi v245 c2_i32_103
  let c1_i32_109 : BitVec 32 := 1#32
  let v261 : BitVec 32 := Scalar.subi v246 c1_i32_109
  let v262 : BitVec 32 := Scalar.select v260 v261 v246
  let v268 : BitVec 32 := Scalar.muli c2_i32_115 v262
  let v269 : BitVec 32 := Scalar.subi v245 v268
  let c0_i32_117 : BitVec 32 := 0#32
  let v271 : BitVec 1 := Scalar.cmpi .sgt v269 c0_i32_117
  let v272 : BitVec 32 := Scalar.extui v271
  let c0_i32_118 : BitVec 32 := 0#32
  let v273 : BitVec 1 := Scalar.cmpi .slt v269 c0_i32_118
  let v274 : BitVec 32 := Scalar.extui v273
  let v275 : BitVec 32 := Scalar.subi v272 v274
  let c1_i32_116 : BitVec 32 := 1#32
  let c0_i32_119 : BitVec 32 := 0#32
  let v276 : BitVec 1 := Scalar.cmpi .sgt c1_i32_116 c0_i32_119
  let v277 : BitVec 32 := Scalar.extui v276
  let c0_i32_120 : BitVec 32 := 0#32
  let v278 : BitVec 1 := Scalar.cmpi .slt c1_i32_116 c0_i32_120
  let v279 : BitVec 32 := Scalar.extui v278
  let v280 : BitVec 32 := Scalar.subi v277 v279
  let v281 : BitVec 1 := Scalar.cmpi .ne v275 v280
  let v282 : BitVec 32 := Scalar.remsi v269 c1_i32_116
  let c0_i32_121 : BitVec 32 := 0#32
  let v283 : BitVec 1 := Scalar.cmpi .ne v282 c0_i32_121
  let v284 : BitVec 1 := Scalar.andi v281 v283
  let v270 : BitVec 32 := Scalar.divsi v269 c1_i32_116
  let c1_i32_122 : BitVec 32 := 1#32
  let v285 : BitVec 32 := Scalar.subi v270 c1_i32_122
  let v286 : BitVec 32 := Scalar.select v284 v285 v270
  let v287 : BitVec 32 := Scalar.subi v286 c0_i32_124
  let c1_i32_125 : BitVec 32 := 1#32
  let v289 : BitVec 32 := Scalar.divsi v287 c1_i32_125
  let v290 : BitVec 32 := Scalar.muli v289 c1_i32_125
  let v291 : BitVec 32 := Scalar.addi c0_i32_124 v290
  let v288 : BitVec 32 := Scalar.addi c0_i32_124 v287
  let c1_i32_127 : BitVec 32 := 1#32
  ⟨v291, v288, c1_i32_127⟩
def k0_mult9 (i : grid0.Coords) (k0_t8 : Fin (k0_t8_loop i).trips) : BitVec 32 :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_115 : BitVec 32 := 2#32
  let c0_i32_104 : BitVec 32 := 0#32
  let v247 : BitVec 1 := Scalar.cmpi .sgt v245 c0_i32_104
  let v248 : BitVec 32 := Scalar.extui v247
  let c0_i32_105 : BitVec 32 := 0#32
  let v249 : BitVec 1 := Scalar.cmpi .slt v245 c0_i32_105
  let v250 : BitVec 32 := Scalar.extui v249
  let v251 : BitVec 32 := Scalar.subi v248 v250
  let c2_i32_103 : BitVec 32 := 2#32
  let c0_i32_106 : BitVec 32 := 0#32
  let v252 : BitVec 1 := Scalar.cmpi .sgt c2_i32_103 c0_i32_106
  let v253 : BitVec 32 := Scalar.extui v252
  let c0_i32_107 : BitVec 32 := 0#32
  let v254 : BitVec 1 := Scalar.cmpi .slt c2_i32_103 c0_i32_107
  let v255 : BitVec 32 := Scalar.extui v254
  let v256 : BitVec 32 := Scalar.subi v253 v255
  let v257 : BitVec 1 := Scalar.cmpi .ne v251 v256
  let v258 : BitVec 32 := Scalar.remsi v245 c2_i32_103
  let c0_i32_108 : BitVec 32 := 0#32
  let v259 : BitVec 1 := Scalar.cmpi .ne v258 c0_i32_108
  let v260 : BitVec 1 := Scalar.andi v257 v259
  let v246 : BitVec 32 := Scalar.divsi v245 c2_i32_103
  let c1_i32_109 : BitVec 32 := 1#32
  let v261 : BitVec 32 := Scalar.subi v246 c1_i32_109
  let v262 : BitVec 32 := Scalar.select v260 v261 v246
  let v268 : BitVec 32 := Scalar.muli c2_i32_115 v262
  let v269 : BitVec 32 := Scalar.subi v245 v268
  let c1_i32_145 : BitVec 32 := 1#32
  let c0_i32_124 : BitVec 32 := 0#32
  let c0_i32_117 : BitVec 32 := 0#32
  let v271 : BitVec 1 := Scalar.cmpi .sgt v269 c0_i32_117
  let v272 : BitVec 32 := Scalar.extui v271
  let c0_i32_118 : BitVec 32 := 0#32
  let v273 : BitVec 1 := Scalar.cmpi .slt v269 c0_i32_118
  let v274 : BitVec 32 := Scalar.extui v273
  let v275 : BitVec 32 := Scalar.subi v272 v274
  let c1_i32_116 : BitVec 32 := 1#32
  let c0_i32_119 : BitVec 32 := 0#32
  let v276 : BitVec 1 := Scalar.cmpi .sgt c1_i32_116 c0_i32_119
  let v277 : BitVec 32 := Scalar.extui v276
  let c0_i32_120 : BitVec 32 := 0#32
  let v278 : BitVec 1 := Scalar.cmpi .slt c1_i32_116 c0_i32_120
  let v279 : BitVec 32 := Scalar.extui v278
  let v280 : BitVec 32 := Scalar.subi v277 v279
  let v281 : BitVec 1 := Scalar.cmpi .ne v275 v280
  let v282 : BitVec 32 := Scalar.remsi v269 c1_i32_116
  let c0_i32_121 : BitVec 32 := 0#32
  let v283 : BitVec 1 := Scalar.cmpi .ne v282 c0_i32_121
  let v284 : BitVec 1 := Scalar.andi v281 v283
  let v270 : BitVec 32 := Scalar.divsi v269 c1_i32_116
  let c1_i32_122 : BitVec 32 := 1#32
  let v285 : BitVec 32 := Scalar.subi v270 c1_i32_122
  let v286 : BitVec 32 := Scalar.select v284 v285 v270
  let v287 : BitVec 32 := Scalar.subi v286 c0_i32_124
  let c1_i32_125 : BitVec 32 := 1#32
  let v289 : BitVec 32 := Scalar.divsi v287 c1_i32_125
  let v290 : BitVec 32 := Scalar.muli v289 c1_i32_125
  let v291 : BitVec 32 := Scalar.addi c0_i32_124 v290
  let c1_i32_127 : BitVec 32 := 1#32
  let arg9 : BitVec 32 := Scf.iv v291 c1_i32_127 k0_t8
  let c1_i32_144 : BitVec 32 := 1#32
  let v324 : BitVec 32 := Scalar.addi arg9 c1_i32_144
  let v325 : BitVec 32 := Scalar.muli c1_i32_145 v324
  let v326 : BitVec 32 := Scalar.subi v269 v325
  let c256_i32_146 : BitVec 32 := 256#32
  let v327 : BitVec 32 := Scalar.muli v326 c256_i32_146
  v327
def k0_off18 (i : grid0.Coords) (k0_t8 : Fin (k0_t8_loop i).trips) : Fin 2 → Nat :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_115 : BitVec 32 := 2#32
  let c0_i32_104 : BitVec 32 := 0#32
  let v247 : BitVec 1 := Scalar.cmpi .sgt v245 c0_i32_104
  let v248 : BitVec 32 := Scalar.extui v247
  let c0_i32_105 : BitVec 32 := 0#32
  let v249 : BitVec 1 := Scalar.cmpi .slt v245 c0_i32_105
  let v250 : BitVec 32 := Scalar.extui v249
  let v251 : BitVec 32 := Scalar.subi v248 v250
  let c2_i32_103 : BitVec 32 := 2#32
  let c0_i32_106 : BitVec 32 := 0#32
  let v252 : BitVec 1 := Scalar.cmpi .sgt c2_i32_103 c0_i32_106
  let v253 : BitVec 32 := Scalar.extui v252
  let c0_i32_107 : BitVec 32 := 0#32
  let v254 : BitVec 1 := Scalar.cmpi .slt c2_i32_103 c0_i32_107
  let v255 : BitVec 32 := Scalar.extui v254
  let v256 : BitVec 32 := Scalar.subi v253 v255
  let v257 : BitVec 1 := Scalar.cmpi .ne v251 v256
  let v258 : BitVec 32 := Scalar.remsi v245 c2_i32_103
  let c0_i32_108 : BitVec 32 := 0#32
  let v259 : BitVec 1 := Scalar.cmpi .ne v258 c0_i32_108
  let v260 : BitVec 1 := Scalar.andi v257 v259
  let v246 : BitVec 32 := Scalar.divsi v245 c2_i32_103
  let c1_i32_109 : BitVec 32 := 1#32
  let v261 : BitVec 32 := Scalar.subi v246 c1_i32_109
  let v262 : BitVec 32 := Scalar.select v260 v261 v246
  let v268 : BitVec 32 := Scalar.muli c2_i32_115 v262
  let v269 : BitVec 32 := Scalar.subi v245 v268
  let c1_i32_145 : BitVec 32 := 1#32
  let c0_i32_124 : BitVec 32 := 0#32
  let c0_i32_117 : BitVec 32 := 0#32
  let v271 : BitVec 1 := Scalar.cmpi .sgt v269 c0_i32_117
  let v272 : BitVec 32 := Scalar.extui v271
  let c0_i32_118 : BitVec 32 := 0#32
  let v273 : BitVec 1 := Scalar.cmpi .slt v269 c0_i32_118
  let v274 : BitVec 32 := Scalar.extui v273
  let v275 : BitVec 32 := Scalar.subi v272 v274
  let c1_i32_116 : BitVec 32 := 1#32
  let c0_i32_119 : BitVec 32 := 0#32
  let v276 : BitVec 1 := Scalar.cmpi .sgt c1_i32_116 c0_i32_119
  let v277 : BitVec 32 := Scalar.extui v276
  let c0_i32_120 : BitVec 32 := 0#32
  let v278 : BitVec 1 := Scalar.cmpi .slt c1_i32_116 c0_i32_120
  let v279 : BitVec 32 := Scalar.extui v278
  let v280 : BitVec 32 := Scalar.subi v277 v279
  let v281 : BitVec 1 := Scalar.cmpi .ne v275 v280
  let v282 : BitVec 32 := Scalar.remsi v269 c1_i32_116
  let c0_i32_121 : BitVec 32 := 0#32
  let v283 : BitVec 1 := Scalar.cmpi .ne v282 c0_i32_121
  let v284 : BitVec 1 := Scalar.andi v281 v283
  let v270 : BitVec 32 := Scalar.divsi v269 c1_i32_116
  let c1_i32_122 : BitVec 32 := 1#32
  let v285 : BitVec 32 := Scalar.subi v270 c1_i32_122
  let v286 : BitVec 32 := Scalar.select v284 v285 v270
  let v287 : BitVec 32 := Scalar.subi v286 c0_i32_124
  let c1_i32_125 : BitVec 32 := 1#32
  let v289 : BitVec 32 := Scalar.divsi v287 c1_i32_125
  let v290 : BitVec 32 := Scalar.muli v289 c1_i32_125
  let v291 : BitVec 32 := Scalar.addi c0_i32_124 v290
  let c1_i32_127 : BitVec 32 := 1#32
  let arg9 : BitVec 32 := Scf.iv v291 c1_i32_127 k0_t8
  let c1_i32_144 : BitVec 32 := 1#32
  let v324 : BitVec 32 := Scalar.addi arg9 c1_i32_144
  let v325 : BitVec 32 := Scalar.muli c1_i32_145 v324
  let v326 : BitVec 32 := Scalar.subi v269 v325
  let c256_i32_146 : BitVec 32 := 256#32
  let v327 : BitVec 32 := Scalar.muli v326 c256_i32_146
  let v328 : BitVec 32 := v327
  let v329 : Index := Scalar.indexCast v328
  let c0_147 : Index := 0#32
  ![v329.toNat, 0]
def k0_off19 (i : grid0.Coords) (k0_t8 : Fin (k0_t8_loop i).trips) : Fin 2 → Nat :=
  let arg1 : BitVec 32 := BitVec.ofNat 32 (i 1).val
  let c8_i32_90 : BitVec 32 := 8#32
  let c0_i32_79 : BitVec 32 := 0#32
  let v199 : BitVec 1 := Scalar.cmpi .sgt arg1 c0_i32_79
  let v200 : BitVec 32 := Scalar.extui v199
  let c0_i32_80 : BitVec 32 := 0#32
  let v201 : BitVec 1 := Scalar.cmpi .slt arg1 c0_i32_80
  let v202 : BitVec 32 := Scalar.extui v201
  let v203 : BitVec 32 := Scalar.subi v200 v202
  let c8_i32 : BitVec 32 := 8#32
  let c0_i32_81 : BitVec 32 := 0#32
  let v204 : BitVec 1 := Scalar.cmpi .sgt c8_i32 c0_i32_81
  let v205 : BitVec 32 := Scalar.extui v204
  let c0_i32_82 : BitVec 32 := 0#32
  let v206 : BitVec 1 := Scalar.cmpi .slt c8_i32 c0_i32_82
  let v207 : BitVec 32 := Scalar.extui v206
  let v208 : BitVec 32 := Scalar.subi v205 v207
  let v209 : BitVec 1 := Scalar.cmpi .ne v203 v208
  let v210 : BitVec 32 := Scalar.remsi arg1 c8_i32
  let c0_i32_83 : BitVec 32 := 0#32
  let v211 : BitVec 1 := Scalar.cmpi .ne v210 c0_i32_83
  let v212 : BitVec 1 := Scalar.andi v209 v211
  let v198 : BitVec 32 := Scalar.divsi arg1 c8_i32
  let c1_i32_84 : BitVec 32 := 1#32
  let v213 : BitVec 32 := Scalar.subi v198 c1_i32_84
  let v214 : BitVec 32 := Scalar.select v212 v213 v198
  let v220 : BitVec 32 := Scalar.muli c8_i32_90 v214
  let v221 : BitVec 32 := Scalar.subi arg1 v220
  let c4_i32_102 : BitVec 32 := 4#32
  let c0_i32_91 : BitVec 32 := 0#32
  let v223 : BitVec 1 := Scalar.cmpi .sgt v221 c0_i32_91
  let v224 : BitVec 32 := Scalar.extui v223
  let c0_i32_92 : BitVec 32 := 0#32
  let v225 : BitVec 1 := Scalar.cmpi .slt v221 c0_i32_92
  let v226 : BitVec 32 := Scalar.extui v225
  let v227 : BitVec 32 := Scalar.subi v224 v226
  let c4_i32 : BitVec 32 := 4#32
  let c0_i32_93 : BitVec 32 := 0#32
  let v228 : BitVec 1 := Scalar.cmpi .sgt c4_i32 c0_i32_93
  let v229 : BitVec 32 := Scalar.extui v228
  let c0_i32_94 : BitVec 32 := 0#32
  let v230 : BitVec 1 := Scalar.cmpi .slt c4_i32 c0_i32_94
  let v231 : BitVec 32 := Scalar.extui v230
  let v232 : BitVec 32 := Scalar.subi v229 v231
  let v233 : BitVec 1 := Scalar.cmpi .ne v227 v232
  let v234 : BitVec 32 := Scalar.remsi v221 c4_i32
  let c0_i32_95 : BitVec 32 := 0#32
  let v235 : BitVec 1 := Scalar.cmpi .ne v234 c0_i32_95
  let v236 : BitVec 1 := Scalar.andi v233 v235
  let v222 : BitVec 32 := Scalar.divsi v221 c4_i32
  let c1_i32_96 : BitVec 32 := 1#32
  let v237 : BitVec 32 := Scalar.subi v222 c1_i32_96
  let v238 : BitVec 32 := Scalar.select v236 v237 v222
  let v244 : BitVec 32 := Scalar.muli c4_i32_102 v238
  let v245 : BitVec 32 := Scalar.subi v221 v244
  let c2_i32_115 : BitVec 32 := 2#32
  let c0_i32_104 : BitVec 32 := 0#32
  let v247 : BitVec 1 := Scalar.cmpi .sgt v245 c0_i32_104
  let v248 : BitVec 32 := Scalar.extui v247
  let c0_i32_105 : BitVec 32 := 0#32
  let v249 : BitVec 1 := Scalar.cmpi .slt v245 c0_i32_105
  let v250 : BitVec 32 := Scalar.extui v249
  let v251 : BitVec 32 := Scalar.subi v248 v250
  let c2_i32_103 : BitVec 32 := 2#32
  let c0_i32_106 : BitVec 32 := 0#32
  let v252 : BitVec 1 := Scalar.cmpi .sgt c2_i32_103 c0_i32_106
  let v253 : BitVec 32 := Scalar.extui v252
  let c0_i32_107 : BitVec 32 := 0#32
  let v254 : BitVec 1 := Scalar.cmpi .slt c2_i32_103 c0_i32_107
  let v255 : BitVec 32 := Scalar.extui v254
  let v256 : BitVec 32 := Scalar.subi v253 v255
  let v257 : BitVec 1 := Scalar.cmpi .ne v251 v256
  let v258 : BitVec 32 := Scalar.remsi v245 c2_i32_103
  let c0_i32_108 : BitVec 32 := 0#32
  let v259 : BitVec 1 := Scalar.cmpi .ne v258 c0_i32_108
  let v260 : BitVec 1 := Scalar.andi v257 v259
  let v246 : BitVec 32 := Scalar.divsi v245 c2_i32_103
  let c1_i32_109 : BitVec 32 := 1#32
  let v261 : BitVec 32 := Scalar.subi v246 c1_i32_109
  let v262 : BitVec 32 := Scalar.select v260 v261 v246
  let v268 : BitVec 32 := Scalar.muli c2_i32_115 v262
  let v269 : BitVec 32 := Scalar.subi v245 v268
  let c1_i32_145 : BitVec 32 := 1#32
  let c0_i32_124 : BitVec 32 := 0#32
  let c0_i32_117 : BitVec 32 := 0#32
  let v271 : BitVec 1 := Scalar.cmpi .sgt v269 c0_i32_117
  let v272 : BitVec 32 := Scalar.extui v271
  let c0_i32_118 : BitVec 32 := 0#32
  let v273 : BitVec 1 := Scalar.cmpi .slt v269 c0_i32_118
  let v274 : BitVec 32 := Scalar.extui v273
  let v275 : BitVec 32 := Scalar.subi v272 v274
  let c1_i32_116 : BitVec 32 := 1#32
  let c0_i32_119 : BitVec 32 := 0#32
  let v276 : BitVec 1 := Scalar.cmpi .sgt c1_i32_116 c0_i32_119
  let v277 : BitVec 32 := Scalar.extui v276
  let c0_i32_120 : BitVec 32 := 0#32
  let v278 : BitVec 1 := Scalar.cmpi .slt c1_i32_116 c0_i32_120
  let v279 : BitVec 32 := Scalar.extui v278
  let v280 : BitVec 32 := Scalar.subi v277 v279
  let v281 : BitVec 1 := Scalar.cmpi .ne v275 v280
  let v282 : BitVec 32 := Scalar.remsi v269 c1_i32_116
  let c0_i32_121 : BitVec 32 := 0#32
  let v283 : BitVec 1 := Scalar.cmpi .ne v282 c0_i32_121
  let v284 : BitVec 1 := Scalar.andi v281 v283
  let v270 : BitVec 32 := Scalar.divsi v269 c1_i32_116
  let c1_i32_122 : BitVec 32 := 1#32
  let v285 : BitVec 32 := Scalar.subi v270 c1_i32_122
  let v286 : BitVec 32 := Scalar.select v284 v285 v270
  let v287 : BitVec 32 := Scalar.subi v286 c0_i32_124
  let c1_i32_125 : BitVec 32 := 1#32
  let v289 : BitVec 32 := Scalar.divsi v287 c1_i32_125
  let v290 : BitVec 32 := Scalar.muli v289 c1_i32_125
  let v291 : BitVec 32 := Scalar.addi c0_i32_124 v290
  let c1_i32_127 : BitVec 32 := 1#32
  let arg9 : BitVec 32 := Scf.iv v291 c1_i32_127 k0_t8
  let c1_i32_144 : BitVec 32 := 1#32
  let v324 : BitVec 32 := Scalar.addi arg9 c1_i32_144
  let v325 : BitVec 32 := Scalar.muli c1_i32_145 v324
  let v326 : BitVec 32 := Scalar.subi v269 v325
  let c256_i32_146 : BitVec 32 := 256#32
  let v327 : BitVec 32 := Scalar.muli v326 c256_i32_146
  let v328 : BitVec 32 := v327
  let v332 : Index := Scalar.indexCast v328
  let c0_148 : Index := 0#32
  ![v332.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8192x1024 : Shape := ⟨2, ![8192, 1024]⟩
abbrev S1x16 : Shape := ⟨2, ![1, 16]⟩
abbrev S8192x16x64 : Shape := ⟨3, ![8192, 16, 64]⟩
abbrev S16x8192x8192 : Shape := ⟨3, ![16, 8192, 8192]⟩
abbrev S_ : Shape := ⟨0, ![]⟩
abbrev S16 : Shape := ⟨1, ![16]⟩
abbrev S16x1x1 : Shape := ⟨3, ![16, 1, 1]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x16, .f32⟩
  | .hbm, ⟨4, _⟩ => ⟨S8192x16x64, .f32⟩
  | .hbm, ⟨5, _⟩ => ⟨S8192x16x64, .f32⟩
  | .hbm, ⟨6, _⟩ => ⟨S8192x16x64, .f32⟩
  | .hbm, ⟨7, _⟩ => ⟨S16x8192x8192, .f32⟩
  | .hbm, ⟨8, _⟩ => ⟨S_, .f32⟩
  | .hbm, ⟨9, _⟩ => ⟨S16x8192x8192, .f32⟩
  | .hbm, ⟨10, _⟩ => ⟨S16x8192x8192, .f32⟩
  | .hbm, ⟨11, _⟩ => ⟨S16, .f32⟩
  | .hbm, ⟨12, _⟩ => ⟨S16x1x1, .f32⟩
  | .hbm, ⟨13, _⟩ => ⟨S16x8192x8192, .f32⟩
  | .hbm, ⟨14, _⟩ => ⟨S16x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S16x8192x8192, .f32⟩
  | .hbm, ⟨22, _⟩ => ⟨S16x8192x8192, .f32⟩
  | .hbm, ⟨23, _⟩ => ⟨S_, .f32⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S16x8192x8192, .f32⟩
  | .hbm, ⟨28, _⟩ => ⟨S16x8192x8192, .i1⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S_, .f32⟩
  | .hbm, ⟨39, _⟩ => ⟨S_, .f32⟩
  | .hbm, ⟨40, _⟩ => ⟨S16x8192x8192, .i1⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S_, .f32⟩
  | .hbm, ⟨45, _⟩ => ⟨S16x8192x8192, .f32⟩
  | .hbm, ⟨46, _⟩ => ⟨S16x8192x8192, .f32⟩
  | .hbm, ⟨47, _⟩ => ⟨S16x8192x8192, .f32⟩
  | .hbm, ⟨48, _⟩ => ⟨S_, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S16x8192x8192, .f32⟩
  | .hbm, ⟨53, _⟩ => ⟨S16x8192x8192, .i1⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S16x8192x8192, .f32⟩
  | .hbm, ⟨65, _⟩ => ⟨S_, .f32⟩
  | .hbm, ⟨66, _⟩ => ⟨S_, .f32⟩
  | .hbm, ⟨67, _⟩ => ⟨S16x8192x8192, .i1⟩
  | .hbm, ⟨68, _⟩ => ⟨S16x8192x8192, .f32⟩
  | .hbm, ⟨69, _⟩ => ⟨S16x8192x8192, .f32⟩
  | .hbm, ⟨70, _⟩ => ⟨S16x64x8192, .f32⟩
  | .hbm, ⟨71, _⟩ => ⟨S8192x16x64, .f32⟩
  | .hbm, ⟨72, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩

abbrev nD : Nat := 1
abbrev τ : Topo := Topo.v7x

variable {F : FTy → Type} [FloatOps F]
-- ==== Kernel2.lean ====
abbrev S1x8192x2048 : Shape := ⟨3, ![1, 8192, 2048]⟩
abbrev S1x2048 : Shape := ⟨2, ![1, 2048]⟩
abbrev S1x2048x15360 : Shape := ⟨3, ![1, 2048, 15360]⟩
abbrev S8192x2048 : Shape := ⟨2, ![8192, 2048]⟩
abbrev S2048 : Shape := ⟨1, ![2048]⟩
abbrev S2048x15360 : Shape := ⟨2, ![2048, 15360]⟩
abbrev S8192x12288 : Shape := ⟨2, ![8192, 12288]⟩
abbrev S2048x2048 : Shape := ⟨2, ![2048, 2048]⟩
abbrev S2048x512 : Shape := ⟨2, ![2048, 512]⟩
abbrev S2048x1 : Shape := ⟨2, ![2048, 1]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x15360, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S2048x15360, .f32⟩
  | .hbm, ⟨7, _⟩ => ⟨S2048x15360, .bf16⟩
  | .hbm, ⟨8, _⟩ => ⟨S8192x12288, .bf16⟩
  | .local _ .vmem, ⟨0, _⟩ => ⟨S2048x2048, .f32⟩
  | .local _ .vmem, ⟨1, _⟩ => ⟨S2048x512, .bf16⟩
  | .local _ .vmem, ⟨2, _⟩ => ⟨S2048x512, .bf16⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S1x8192x2048 : Shape := ⟨3, ![1, 8192, 2048]⟩
abbrev S1x2048 : Shape := ⟨2, ![1, 2048]⟩
abbrev S1x2048x15360 : Shape := ⟨3, ![1, 2048, 15360]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S2048x15360 : Shape := ⟨2, ![2048, 15360]⟩
abbrev S1x8192x15360 : Shape := ⟨3, ![1, 8192, 15360]⟩
abbrev S1x8192x12288 : Shape := ⟨3, ![1, 8192, 12288]⟩
abbrev S8192x12288 : Shape := ⟨2, ![8192, 12288]⟩

abbrev nBuf : Space → Nat
  | .hbm => 25
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x15360, .f32⟩
  | .hbm, ⟨3, _⟩ => ⟨S2048, .f32⟩
  | .hbm, ⟨4, _⟩ => ⟨S1x8192x2048, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x2048, .f32⟩
  | .hbm, ⟨16, _⟩ => ⟨S1x8192x2048, .f32⟩
  | .hbm, ⟨17, _⟩ => ⟨S1x1x2048, .f32⟩
  | .hbm, ⟨18, _⟩ => ⟨S1x8192x2048, .f32⟩
  | .hbm, ⟨19, _⟩ => ⟨S1x8192x2048, .f32⟩
  | .hbm, ⟨20, _⟩ => ⟨S2048x15360, .f32⟩
  | .hbm, ⟨21, _⟩ => ⟨S1x8192x15360, .f32⟩
  | .hbm, ⟨22, _⟩ => ⟨S1x8192x12288, .f32⟩
  | .hbm, ⟨23, _⟩ => ⟨S8192x12288, .f32⟩
  | .hbm, ⟨24, _⟩ => ⟨S8192x12288, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S1x8192x2048 : Shape := ⟨3, ![1, 8192, 2048]⟩
abbrev S1x2048 : Shape := ⟨2, ![1, 2048]⟩
abbrev S1x2048x15360 : Shape := ⟨3, ![1, 2048, 15360]⟩
abbrev S8192x2048 : Shape := ⟨2, ![8192, 2048]⟩
abbrev S2048 : Shape := ⟨1, ![2048]⟩
abbrev S2048x15360 : Shape := ⟨2, ![2048, 15360]⟩
abbrev S8192x1024 : Shape := ⟨2, ![8192, 1024]⟩
abbrev S256x2048 : Shape := ⟨2, ![256, 2048]⟩
abbrev S2048x3072 : Shape := ⟨2, ![2048, 3072]⟩
abbrev S256x1024 : Shape := ⟨2, ![256, 1024]⟩
abbrev S256 : Shape := ⟨1, ![256]⟩
abbrev S256x1 : Shape := ⟨2, ![256, 1]⟩
abbrev S2048x1024 : Shape := ⟨2, ![2048, 1024]⟩
abbrev S256x128 : Shape := ⟨2, ![256, 128]⟩

abbrev nBuf : Space → Nat
  | .hbm => 13
  | .vmem => 14
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x15360, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S2048x15360, .f32⟩
  | .hbm, ⟨7, _⟩ => ⟨S2048x15360, .bf16⟩
  | .hbm, ⟨8, _⟩ => ⟨S8192x1024, .bf16⟩
  | .hbm, ⟨9, _⟩ => ⟨S8192x1024, .f32⟩
  | .hbm, ⟨10, _⟩ => ⟨S8192x1024, .f32⟩
  | .hbm, ⟨11, _⟩ => ⟨S8192x2048, .bf16⟩
  | .hbm, ⟨12, _⟩ => ⟨S8192x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x3072, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .bf16⟩
  | .local _ .vmem, ⟨11, _⟩ => ⟨S256x2048, .bf16⟩
  | .local _ .vmem, ⟨12, _⟩ => ⟨S256x1024, .bf16⟩
  | .local _ .vmem, ⟨13, _⟩ => ⟨S256x1024, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
variable {F : FTy → Type} [FloatOps F] [Named F]
def κ : String → Option EReal := fun
  | "qscale" => some (((Real.log 256)⁻¹ : ℝ) : EReal)
  | _ => none
-- ==== Reference3Ideal.lean ====
abbrev S1x8192x2048 : Shape := ⟨3, ![1, 8192, 2048]⟩
abbrev S1x2048 : Shape := ⟨2, ![1, 2048]⟩
abbrev S1x2048x15360 : Shape := ⟨3, ![1, 2048, 15360]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S2048x15360 : Shape := ⟨2, ![2048, 15360]⟩
abbrev S1x8192x15360 : Shape := ⟨3, ![1, 8192, 15360]⟩
abbrev S1x8192x1024 : Shape := ⟨3, ![1, 8192, 1024]⟩
abbrev S8192x1024 : Shape := ⟨2, ![8192, 1024]⟩

abbrev nBuf : Space → Nat
  | .hbm => 36
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x15360, .f32⟩
  | .hbm, ⟨3, _⟩ => ⟨S2048, .f32⟩
  | .hbm, ⟨4, _⟩ => ⟨S1x8192x2048, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x2048, .f32⟩
  | .hbm, ⟨16, _⟩ => ⟨S1x8192x2048, .f32⟩
  | .hbm, ⟨17, _⟩ => ⟨S1x1x2048, .f32⟩
  | .hbm, ⟨18, _⟩ => ⟨S1x8192x2048, .f32⟩
  | .hbm, ⟨19, _⟩ => ⟨S1x8192x2048, .f32⟩
  | .hbm, ⟨20, _⟩ => ⟨S2048x15360, .f32⟩
  | .hbm, ⟨21, _⟩ => ⟨S1x8192x15360, .f32⟩
  | .hbm, ⟨22, _⟩ => ⟨S1x8192x1024, .f32⟩
  | .hbm, ⟨23, _⟩ => ⟨S8192x1024, .f32⟩
  | .hbm, ⟨24, _⟩ => ⟨S1x8192x1024, .f32⟩
  | .hbm, ⟨25, _⟩ => ⟨S8192x1024, .f32⟩
  | .hbm, ⟨26, _⟩ => ⟨S1x8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel4.lean ====
abbrev S128x8x2048 : Shape := ⟨3, ![128, 8, 2048]⟩
abbrev S1x2048 : Shape := ⟨2, ![1, 2048]⟩
abbrev S1x2048x15360 : Shape := ⟨3, ![1, 2048, 15360]⟩
abbrev S1024x2048 : Shape := ⟨2, ![1024, 2048]⟩
abbrev S2048 : Shape := ⟨1, ![2048]⟩
abbrev S2048x15360 : Shape := ⟨2, ![2048, 15360]⟩
abbrev S1024x1024 : Shape := ⟨2, ![1024, 1024]⟩
abbrev S256x2048 : Shape := ⟨2, ![256, 2048]⟩
abbrev S2048x3072 : Shape := ⟨2, ![2048, 3072]⟩
abbrev S256x1024 : Shape := ⟨2, ![256, 1024]⟩
abbrev S256 : Shape := ⟨1, ![256]⟩
abbrev S256x1 : Shape := ⟨2, ![256, 1]⟩
abbrev S2048x1024 : Shape := ⟨2, ![2048, 1024]⟩

abbrev nBuf : Space → Nat
  | .hbm => 11
  | .vmem => 10
  | .smem => 0
  | _ => 0

abbrev bufTy : (tb : Table) → Fin (tcTables nBuf tb) → BufTy
  | .hbm, ⟨0, _⟩ => ⟨S128x8x2048, .f32⟩
  | .hbm, ⟨1, _⟩ => ⟨S1x2048, .f32⟩
  | .hbm, ⟨2, _⟩ => ⟨S1x2048x15360, .f32⟩
  | .hbm, ⟨3, _⟩ => ⟨S1024x2048, .f32⟩
  | .hbm, ⟨4, _⟩ => ⟨S2048, .f32⟩
  | .hbm, ⟨5, _⟩ => ⟨S1x2048, .f32⟩
  | .hbm, ⟨6, _⟩ => ⟨S2048x15360, .f32⟩
  | .hbm, ⟨7, _⟩ => ⟨S2048x15360, .bf16⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x3072, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S128x8x2048 : Shape := ⟨3, ![128, 8, 2048]⟩
abbrev S1x2048 : Shape := ⟨2, ![1, 2048]⟩
abbrev S1x2048x15360 : Shape := ⟨3, ![1, 2048, 15360]⟩
abbrev S2048 : Shape := ⟨1, ![2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩
abbrev S2048x15360 : Shape := ⟨2, ![2048, 15360]⟩
abbrev S128x8x15360 : Shape := ⟨3, ![128, 8, 15360]⟩
abbrev S128x8x1024 : Shape := ⟨3, ![128, 8, 1024]⟩
abbrev S1024x1024 : Shape := ⟨2, ![1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048, .f32⟩
  | .hbm, ⟨2, _⟩ => ⟨S1x2048x15360, .f32⟩
  | .hbm, ⟨3, _⟩ => ⟨S2048, .f32⟩
  | .hbm, ⟨4, _⟩ => ⟨S128x8x2048, .f32⟩
  | .hbm, ⟨5, _⟩ => ⟨S_, .f32⟩
  | .hbm, ⟨6, _⟩ => ⟨S128x8, .f32⟩
  | .hbm, ⟨7, _⟩ => ⟨S128x8x1, .f32⟩
  | .hbm, ⟨8, _⟩ => ⟨S_, .f32⟩
  | .hbm, ⟨9, _⟩ => ⟨S128x8x1, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S128x8x1, .f32⟩
  | .hbm, ⟨15, _⟩ => ⟨S128x8x2048, .f32⟩
  | .hbm, ⟨16, _⟩ => ⟨S128x8x2048, .f32⟩
  | .hbm, ⟨17, _⟩ => ⟨S1x1x2048, .f32⟩
  | .hbm, ⟨18, _⟩ => ⟨S128x8x2048, .f32⟩
  | .hbm, ⟨19, _⟩ => ⟨S128x8x2048, .f32⟩
  | .hbm, ⟨20, _⟩ => ⟨S2048x15360, .f32⟩
  | .hbm, ⟨21, _⟩ => ⟨S128x8x15360, .f32⟩
  | .hbm, ⟨22, _⟩ => ⟨S128x8x1024, .f32⟩
  | .hbm, ⟨23, _⟩ => ⟨S128x8x1024, .f32⟩
  | .hbm, ⟨24, _⟩ => ⟨S128x8x1024, .f32⟩
  | .hbm, ⟨25, _⟩ => ⟨S1024x1024, .f32⟩
  | .hbm, ⟨26, _⟩ => ⟨S1024x1024, .f32⟩
  | .hbm, ⟨27, _⟩ => ⟨S1024x1024, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel5.lean ====
abbrev S1x256x2048 : Shape := ⟨3, ![1, 256, 2048]⟩
abbrev S1x2048 : Shape := ⟨2, ![1, 2048]⟩
abbrev S1x2048x2048 : Shape := ⟨3, ![1, 2048, 2048]⟩
abbrev S256x2048 : Shape := ⟨2, ![256, 2048]⟩
abbrev S2048 : Shape := ⟨1, ![2048]⟩
abbrev S2048x2048 : Shape := ⟨2, ![2048, 2048]⟩
abbrev S256x1024 : Shape := ⟨2, ![256, 1024]⟩
abbrev S256 : Shape := ⟨1, ![256]⟩
abbrev S256x1 : Shape := ⟨2, ![256, 1]⟩
abbrev S2048x1024 : Shape := ⟨2, ![2048, 1024]⟩

abbrev nBuf : Space → Nat
  | .hbm => 12
  | .vmem => 7
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x2048, .f32⟩
  | .hbm, ⟨3, _⟩ => ⟨S256x2048, .f32⟩
  | .hbm, ⟨4, _⟩ => ⟨S2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S256x1024, .f32⟩
  | .hbm, ⟨9, _⟩ => ⟨S256x1024, .f32⟩
  | .hbm, ⟨10, _⟩ => ⟨S256x1024, .bf16⟩
  | .hbm, ⟨11, _⟩ => ⟨S256x1024, .bf16⟩
  | .local _ .vmem, ⟨0, _⟩ => ⟨S256x2048, .f32⟩
  | .local _ .vmem, ⟨1, _⟩ => ⟨S1x2048, .f32⟩
  | .local _ .vmem, ⟨2, _⟩ => ⟨S2048x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S1x256x2048 : Shape := ⟨3, ![1, 256, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S1x256 : Shape := ⟨2, ![1, 256]⟩
abbrev S1x256x1 : Shape := ⟨3, ![1, 256, 1]⟩
abbrev S1x1x2048 : Shape := ⟨3, ![1, 1, 2048]⟩
abbrev S2048x2048 : Shape := ⟨2, ![2048, 2048]⟩
abbrev S1x256x1024 : Shape := ⟨3, ![1, 256, 1024]⟩
abbrev S256x1024 : Shape := ⟨2, ![256, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S1x256x2048, .f32⟩
  | .hbm, ⟨5, _⟩ => ⟨S_, .f32⟩
  | .hbm, ⟨6, _⟩ => ⟨S1x256, .f32⟩
  | .hbm, ⟨7, _⟩ => ⟨S1x256x1, .f32⟩
  | .hbm, ⟨8, _⟩ => ⟨S_, .f32⟩
  | .hbm, ⟨9, _⟩ => ⟨S1x256x1, .f32⟩
  | .hbm, ⟨10, _⟩ => ⟨S1x256x1, .f32⟩
  | .hbm, ⟨11, _⟩ => ⟨S_, .f32⟩
  | .hbm, ⟨12, _⟩ => ⟨S1x256x1, .f32⟩
  | .hbm, ⟨13, _⟩ => ⟨S1x256x1, .f32⟩
  | .hbm, ⟨14, _⟩ => ⟨S1x256x1, .f32⟩
  | .hbm, ⟨15, _⟩ => ⟨S1x256x2048, .f32⟩
  | .hbm, ⟨16, _⟩ => ⟨S1x256x2048, .f32⟩
  | .hbm, ⟨17, _⟩ => ⟨S1x1x2048, .f32⟩
  | .hbm, ⟨18, _⟩ => ⟨S1x256x2048, .f32⟩
  | .hbm, ⟨19, _⟩ => ⟨S1x256x2048, .f32⟩
  | .hbm, ⟨20, _⟩ => ⟨S2048x2048, .f32⟩
  | .hbm, ⟨21, _⟩ => ⟨S1x256x2048, .f32⟩
  | .hbm, ⟨22, _⟩ => ⟨S1x256x1024, .f32⟩
  | .hbm, ⟨23, _⟩ => ⟨S256x1024, .f32⟩
  | .hbm, ⟨24, _⟩ => ⟨S1x256x1024, .f32⟩
  | .hbm, ⟨25, _⟩ => ⟨S256x1024, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel6.lean ====
abbrev S1x8192x2048 : Shape := ⟨3, ![1, 8192, 2048]⟩
abbrev S8192x1024 : Shape := ⟨2, ![8192, 1024]⟩
abbrev S8192x12288 : Shape := ⟨2, ![8192, 12288]⟩
abbrev S1x3x2048 : Shape := ⟨3, ![1, 3, 2048]⟩
abbrev S1x1024x2048 : Shape := ⟨3, ![1, 1024, 2048]⟩
abbrev S1x2048x2048 : Shape := ⟨3, ![1, 2048, 2048]⟩
abbrev S2048 : Shape := ⟨1, ![2048]⟩
abbrev S1024x2048 : Shape := ⟨2, ![1024, 2048]⟩
abbrev S8192x2048 : Shape := ⟨2, ![8192, 2048]⟩
abbrev S3x2048 : Shape := ⟨2, ![3, 2048]⟩
abbrev S2048x2048 : Shape := ⟨2, ![2048, 2048]⟩
abbrev S1x2048 : Shape := ⟨2, ![1, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 23
  | .vmem => 28
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x12288, .bf16⟩
  | .hbm, ⟨5, _⟩ => ⟨S1x3x2048, .f32⟩
  | .hbm, ⟨6, _⟩ => ⟨S1x1024x2048, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S1024x2048, .f32⟩
  | .hbm, ⟨16, _⟩ => ⟨S1024x2048, .bf16⟩
  | .hbm, ⟨17, _⟩ => ⟨S8192x2048, .f32⟩
  | .hbm, ⟨18, _⟩ => ⟨S3x2048, .f32⟩
  | .hbm, ⟨19, _⟩ => ⟨S2048x2048, .f32⟩
  | .hbm, ⟨20, _⟩ => ⟨S2048x2048, .bf16⟩
  | .hbm, ⟨21, _⟩ => ⟨S1x2048, .f32⟩
  | .hbm, ⟨22, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S3x2048, .f32⟩
  | .local _ .vmem, ⟨21, _⟩ => ⟨S1024x2048, .bf16⟩
  | .local _ .vmem, ⟨22, _⟩ => ⟨S1024x2048, .bf16⟩
  | .local _ .vmem, ⟨23, _⟩ => ⟨S1024x2048, .bf16⟩
  | .local _ .vmem, ⟨24, _⟩ => ⟨S2048x2048, .bf16⟩
  | .local _ .vmem, ⟨25, _⟩ => ⟨S1x2048, .f32⟩
  | .local _ .vmem, ⟨26, _⟩ => ⟨S256x2048, .f32⟩
  | .local _ .vmem, ⟨27, _⟩ => ⟨S256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference6Ideal.lean ====
abbrev S1x8192x2048 : Shape := ⟨3, ![1, 8192, 2048]⟩
abbrev S8192x1024 : Shape := ⟨2, ![8192, 1024]⟩
abbrev S8192x12288 : Shape := ⟨2, ![8192, 12288]⟩
abbrev S1x3x2048 : Shape := ⟨3, ![1, 3, 2048]⟩
abbrev S1x1024x2048 : Shape := ⟨3, ![1, 1024, 2048]⟩
abbrev S1x2048x2048 : Shape := ⟨3, ![1, 2048, 2048]⟩
abbrev S2048 : Shape := ⟨1, ![2048]⟩
abbrev S8192x2048 : Shape := ⟨2, ![8192, 2048]⟩
abbrev S_ : Shape := ⟨0, ![]⟩
abbrev S1024x2048 : Shape := ⟨2, ![1024, 2048]⟩
abbrev S3x2048 : Shape := ⟨2, ![3, 2048]⟩
abbrev S1x2048 : Shape := ⟨2, ![1, 2048]⟩
abbrev S2048x2048 : Shape := ⟨2, ![2048, 2048]⟩
abbrev S8192 : Shape := ⟨1, ![8192]⟩
abbrev S8192x1 : Shape := ⟨2, ![8192, 1]⟩

abbrev nBuf : Space → Nat
  | .hbm => 119
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x12288, .bf16⟩
  | .hbm, ⟨5, _⟩ => ⟨S1x3x2048, .f32⟩
  | .hbm, ⟨6, _⟩ => ⟨S1x1024x2048, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S2048, .f32⟩
  | .hbm, ⟨11, _⟩ => ⟨S8192x12288, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x2048, .f32⟩
  | .hbm, ⟨29, _⟩ => ⟨S8192x2048, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1024x2048, .f32⟩
  | .hbm, ⟨41, _⟩ => ⟨S8192x2048, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1024x2048, .f32⟩
  | .hbm, ⟨53, _⟩ => ⟨S8192x2048, .f32⟩
  | .hbm, ⟨54, _⟩ => ⟨S3x2048, .f32⟩
  | .hbm, ⟨55, _⟩ => ⟨S1x2048, .f32⟩
  | .hbm, ⟨56, _⟩ => ⟨S2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S1x2048, .f32⟩
  | .hbm, ⟨70, _⟩ => ⟨S2048, .f32⟩
  | .hbm, ⟨71, _⟩ => ⟨S1x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192x2048, .f32⟩
  | .hbm, ⟨78, _⟩ => ⟨S8192x2048, .f32⟩
  | .hbm, ⟨79, _⟩ => ⟨S_, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S1x2048, .f32⟩
  | .hbm, ⟨85, _⟩ => ⟨S2048, .f32⟩
  | .hbm, ⟨86, _⟩ => ⟨S1x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S_, .f32⟩
  | .hbm, ⟨92, _⟩ => ⟨S8192x2048, .f32⟩
  | .hbm, ⟨93, _⟩ => ⟨S8192x2048, .f32⟩
  | .hbm, ⟨94, _⟩ => ⟨S_, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S8192x2048, .f32⟩
  | .hbm, ⟨100, _⟩ => ⟨S2048x2048, .f32⟩
  | .hbm, ⟨101, _⟩ => ⟨S8192x2048, .f32⟩
  | .hbm, ⟨102, _⟩ => ⟨S8192x2048, .f32⟩
  | .hbm, ⟨103, _⟩ => ⟨S8192x2048, .f32⟩
  | .hbm, ⟨104, _⟩ => ⟨S_, .f32⟩
  | .hbm, ⟨105, _⟩ => ⟨S8192, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S_, .f32⟩
  | .hbm, ⟨111, _⟩ => ⟨S8192x1, .f32⟩
  | .hbm, ⟨112, _⟩ => ⟨S8192x1, .f32⟩
  | .hbm, ⟨113, _⟩ => ⟨S8192x1, .f32⟩
  | .hbm, ⟨114, _⟩ => ⟨S8192x2048, .f32⟩
  | .hbm, ⟨115, _⟩ => ⟨S8192x2048, .f32⟩
  | .hbm, ⟨116, _⟩ => ⟨S1x2048, .f32⟩
  | .hbm, ⟨117, _⟩ => ⟨S8192x2048, .f32⟩
  | .hbm, ⟨118, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst : Ref sig .tc := ⟨.hbm, 62, rfl⟩
abbrev main_v27 : Ref sig .tc := ⟨.hbm, 63, rfl⟩
abbrev main_v28 : Ref sig .tc := ⟨.hbm, 64, rfl⟩
abbrev main_cst_0 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_1 : Ref sig .tc := ⟨.hbm, 76, rfl⟩
abbrev main_v39 : Ref sig .tc := ⟨.hbm, 77, rfl⟩
abbrev main_v40 : Ref sig .tc := ⟨.hbm, 78, rfl⟩
abbrev main_cst_2 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_3 : Ref sig .tc := ⟨.hbm, 91, rfl⟩
abbrev main_v52 : Ref sig .tc := ⟨.hbm, 92, rfl⟩
abbrev main_v53 : Ref sig .tc := ⟨.hbm, 93, rfl⟩
abbrev main_cst_4 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_5 : Ref sig .tc := ⟨.hbm, 104, rfl⟩
abbrev main_v63 : Ref sig .tc := ⟨.hbm, 105, rfl⟩
abbrev main_v64 : Ref sig .tc := ⟨.hbm, 106, rfl⟩
abbrev main_cst_6 : Ref sig .tc := ⟨.hbm, 107, rfl⟩
abbrev main_v65 : Ref sig .tc := ⟨.hbm, 108, rfl⟩
abbrev main_v66 : Ref sig .tc := ⟨.hbm, 109, rfl⟩
abbrev main_cst_7 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩

abbrev nD : Nat := 1
abbrev τ : Topo := Topo.v7x

variable {F : FTy → Type} [FloatOps F]
-- ==== Kernel7.lean ====
abbrev S128x8x2048 : Shape := ⟨3, ![128, 8, 2048]⟩
abbrev S1024x1024 : Shape := ⟨2, ![1024, 1024]⟩
abbrev S1024x12288 : Shape := ⟨2, ![1024, 12288]⟩
abbrev S1x3x2048 : Shape := ⟨3, ![1, 3, 2048]⟩
abbrev S1x1024x2048 : Shape := ⟨3, ![1, 1024, 2048]⟩
abbrev S1x2048x2048 : Shape := ⟨3, ![1, 2048, 2048]⟩
abbrev S2048 : Shape := ⟨1, ![2048]⟩
abbrev S1024x2048 : Shape := ⟨2, ![1024, 2048]⟩
abbrev S3x2048 : Shape := ⟨2, ![3, 2048]⟩
abbrev S2048x2048 : Shape := ⟨2, ![2048, 2048]⟩
abbrev S1x2048 : Shape := ⟨2, ![1, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 23
  | .vmem => 28
  | .smem => 0
  | _ => 0

abbrev bufTy : (tb : Table) → Fin (tcTables nBuf tb) → BufTy
  | .hbm, ⟨0, _⟩ => ⟨S128x8x2048, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x12288, .bf16⟩
  | .hbm, ⟨5, _⟩ => ⟨S1x3x2048, .f32⟩
  | .hbm, ⟨6, _⟩ => ⟨S1x1024x2048, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S1024x2048, .f32⟩
  | .hbm, ⟨16, _⟩ => ⟨S1024x2048, .bf16⟩
  | .hbm, ⟨17, _⟩ => ⟨S1024x2048, .f32⟩
  | .hbm, ⟨18, _⟩ => ⟨S3x2048, .f32⟩
  | .hbm, ⟨19, _⟩ => ⟨S2048x2048, .f32⟩
  | .hbm, ⟨20, _⟩ => ⟨S2048x2048, .bf16⟩
  | .hbm, ⟨21, _⟩ => ⟨S1x2048, .f32⟩
  | .hbm, ⟨22, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S3x2048, .f32⟩
  | .local _ .vmem, ⟨21, _⟩ => ⟨S1024x2048, .bf16⟩
  | .local _ .vmem, ⟨22, _⟩ => ⟨S1024x2048, .bf16⟩
  | .local _ .vmem, ⟨23, _⟩ => ⟨S1024x2048, .bf16⟩
  | .local _ .vmem, ⟨24, _⟩ => ⟨S2048x2048, .bf16⟩
  | .local _ .vmem, ⟨25, _⟩ => ⟨S1x2048, .f32⟩
  | .local _ .vmem, ⟨26, _⟩ => ⟨S256x2048, .f32⟩
  | .local _ .vmem, ⟨27, _⟩ => ⟨S256x2048, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S128x8x2048 : Shape := ⟨3, ![128, 8, 2048]⟩
abbrev S1024x1024 : Shape := ⟨2, ![1024, 1024]⟩
abbrev S1024x12288 : Shape := ⟨2, ![1024, 12288]⟩
abbrev S1x3x2048 : Shape := ⟨3, ![1, 3, 2048]⟩
abbrev S1x1024x2048 : Shape := ⟨3, ![1, 1024, 2048]⟩
abbrev S1x2048x2048 : Shape := ⟨3, ![1, 2048, 2048]⟩
abbrev S2048 : Shape := ⟨1, ![2048]⟩
abbrev S1024x2048 : Shape := ⟨2, ![1024, 2048]⟩
abbrev S_ : Shape := ⟨0, ![]⟩
abbrev S3x2048 : Shape := ⟨2, ![3, 2048]⟩
abbrev S1x2048 : Shape := ⟨2, ![1, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 120
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x12288, .bf16⟩
  | .hbm, ⟨5, _⟩ => ⟨S1x3x2048, .f32⟩
  | .hbm, ⟨6, _⟩ => ⟨S1x1024x2048, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S2048, .f32⟩
  | .hbm, ⟨11, _⟩ => ⟨S1x1024x2048, .f32⟩
  | .hbm, ⟨12, _⟩ => ⟨S1024x12288, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x2048, .f32⟩
  | .hbm, ⟨30, _⟩ => ⟨S1024x2048, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S1024x2048, .f32⟩
  | .hbm, ⟨42, _⟩ => ⟨S1024x2048, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S1024x2048, .f32⟩
  | .hbm, ⟨54, _⟩ => ⟨S1024x2048, .f32⟩
  | .hbm, ⟨55, _⟩ => ⟨S3x2048, .f32⟩
  | .hbm, ⟨56, _⟩ => ⟨S1x2048, .f32⟩
  | .hbm, ⟨57, _⟩ => ⟨S2048, .f32⟩
  | .hbm, ⟨58, _⟩ => ⟨S1x2048, .f32⟩
  | .hbm, ⟨59, _⟩ => ⟨S1024x2048, .f32⟩
  | .hbm, ⟨60, _⟩ => ⟨S1024x2048, .f32⟩
  | .hbm, ⟨61, _⟩ => ⟨S1024x2048, .f32⟩
  | .hbm, ⟨62, _⟩ => ⟨S1024x2048, .f32⟩
  | .hbm, ⟨63, _⟩ => ⟨S_, .f32⟩
  | .hbm, ⟨64, _⟩ => ⟨S1024x2048, .f32⟩
  | .hbm, ⟨65, _⟩ => ⟨S1024x2048, .f32⟩
  | .hbm, ⟨66, _⟩ => ⟨S_, .f32⟩
  | .hbm, ⟨67, _⟩ => ⟨S1024x2048, .f32⟩
  | .hbm, ⟨68, _⟩ => ⟨S1024x2048, .f32⟩
  | .hbm, ⟨69, _⟩ => ⟨S1024x2048, .f32⟩
  | .hbm, ⟨70, _⟩ => ⟨S1x2048, .f32⟩
  | .hbm, ⟨71, _⟩ => ⟨S2048, .f32⟩
  | .hbm, ⟨72, _⟩ => ⟨S1x2048, .f32⟩
  | .hbm, ⟨73, _⟩ => ⟨S1024x2048, .f32⟩
  | .hbm, ⟨74, _⟩ => ⟨S1024x2048, .f32⟩
  | .hbm, ⟨75, _⟩ => ⟨S1024x2048, .f32⟩
  | .hbm, ⟨76, _⟩ => ⟨S1024x2048, .f32⟩
  | .hbm, ⟨77, _⟩ => ⟨S_, .f32⟩
  | .hbm, ⟨78, _⟩ => ⟨S1024x2048, .f32⟩
  | .hbm, ⟨79, _⟩ => ⟨S1024x2048, .f32⟩
  | .hbm, ⟨80, _⟩ => ⟨S_, .f32⟩
  | .hbm, ⟨81, _⟩ => ⟨S1024x2048, .f32⟩
  | .hbm, ⟨82, _⟩ => ⟨S1024x2048, .f32⟩
  | .hbm, ⟨83, _⟩ => ⟨S1024x2048, .f32⟩
  | .hbm, ⟨84, _⟩ => ⟨S1024x2048, .f32⟩
  | .hbm, ⟨85, _⟩ => ⟨S1x2048, .f32⟩
  | .hbm, ⟨86, _⟩ => ⟨S2048, .f32⟩
  | .hbm, ⟨87, _⟩ => ⟨S1x2048, .f32⟩
  | .hbm, ⟨88, _⟩ => ⟨S1024x2048, .f32⟩
  | .hbm, ⟨89, _⟩ => ⟨S1024x2048, .f32⟩
  | .hbm, ⟨90, _⟩ => ⟨S1024x2048, .f32⟩
  | .hbm, ⟨91, _⟩ => ⟨S1024x2048, .f32⟩
  | .hbm, ⟨92, _⟩ => ⟨S_, .f32⟩
  | .hbm, ⟨93, _⟩ => ⟨S1024x2048, .f32⟩
  | .hbm, ⟨94, _⟩ => ⟨S1024x2048, .f32⟩
  | .hbm, ⟨95, _⟩ => ⟨S_, .f32⟩
  | .hbm, ⟨96, _⟩ => ⟨S1024x2048, .f32⟩
  | .hbm, ⟨97, _⟩ => ⟨S1024x2048, .f32⟩
  | .hbm, ⟨98, _⟩ => ⟨S1024x2048, .f32⟩
  | .hbm, ⟨99, _⟩ => ⟨S1024x2048, .f32⟩
  | .hbm, ⟨100, _⟩ => ⟨S1024x2048, .f32⟩
  | .hbm, ⟨101, _⟩ => ⟨S2048x2048, .f32⟩
  | .hbm, ⟨102, _⟩ => ⟨S1024x2048, .f32⟩
  | .hbm, ⟨103, _⟩ => ⟨S1024x2048, .f32⟩
  | .hbm, ⟨104, _⟩ => ⟨S1024x2048, .f32⟩
  | .hbm, ⟨105, _⟩ => ⟨S_, .f32⟩
  | .hbm, ⟨106, _⟩ => ⟨S1024, .f32⟩
  | .hbm, ⟨107, _⟩ => ⟨S1024x1, .f32⟩
  | .hbm, ⟨108, _⟩ => ⟨S_, .f32⟩
  | .hbm, ⟨109, _⟩ => ⟨S1024x1, .f32⟩
  | .hbm, ⟨110, _⟩ => ⟨S1024x1, .f32⟩
  | .hbm, ⟨111, _⟩ => ⟨S_, .f32⟩
  | .hbm, ⟨112, _⟩ => ⟨S1024x1, .f32⟩
  | .hbm, ⟨113, _⟩ => ⟨S1024x1, .f32⟩
  | .hbm, ⟨114, _⟩ => ⟨S1024x1, .f32⟩
  | .hbm, ⟨115, _⟩ => ⟨S1024x2048, .f32⟩
  | .hbm, ⟨116, _⟩ => ⟨S1024x2048, .f32⟩
  | .hbm, ⟨117, _⟩ => ⟨S1x2048, .f32⟩
  | .hbm, ⟨118, _⟩ => ⟨S1024x2048, .f32⟩
  | .hbm, ⟨119, _⟩ => ⟨S1024x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst : Ref sig .tc := ⟨.hbm, 63, rfl⟩
abbrev main_v28 : Ref sig .tc := ⟨.hbm, 64, rfl⟩
abbrev main_v29 : Ref sig .tc := ⟨.hbm, 65, rfl⟩
abbrev main_cst_0 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_1 : Ref sig .tc := ⟨.hbm, 77, rfl⟩
abbrev main_v40 : Ref sig .tc := ⟨.hbm, 78, rfl⟩
abbrev main_v41 : Ref sig .tc := ⟨.hbm, 79, rfl⟩
abbrev main_cst_2 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_3 : Ref sig .tc := ⟨.hbm, 92, rfl⟩
abbrev main_v53 : Ref sig .tc := ⟨.hbm, 93, rfl⟩
abbrev main_v54 : Ref sig .tc := ⟨.hbm, 94, rfl⟩
abbrev main_cst_4 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_5 : Ref sig .tc := ⟨.hbm, 105, rfl⟩
abbrev main_v64 : Ref sig .tc := ⟨.hbm, 106, rfl⟩
abbrev main_v65 : Ref sig .tc := ⟨.hbm, 107, rfl⟩
abbrev main_cst_6 : Ref sig .tc := ⟨.hbm, 108, rfl⟩
abbrev main_v66 : Ref sig .tc := ⟨.hbm, 109, rfl⟩
abbrev main_v67 : Ref sig .tc := ⟨.hbm, 110, rfl⟩
abbrev main_cst_7 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩

abbrev nD : Nat := 1
abbrev τ : Topo := Topo.v7x

variable {F : FTy → Type} [FloatOps F]
-- ==== Kernel8.lean ====
abbrev S8192x12288 : Shape := ⟨2, ![8192, 12288]⟩
abbrev S256x1024 : Shape := ⟨2, ![256, 1024]⟩
abbrev S8192x1024 : Shape := ⟨2, ![8192, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x12288, .bf16⟩
  | .hbm, ⟨1, _⟩ => ⟨S256x1024, .bf16⟩
  | .hbm, ⟨2, _⟩ => ⟨S256x1024, .bf16⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .f32⟩
  | .local _ .vmem, ⟨5, _⟩ => ⟨S512x1024, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8192x12288 : Shape := ⟨2, ![8192, 12288]⟩
abbrev S256x1024 : Shape := ⟨2, ![256, 1024]⟩
abbrev S8192x1024 : Shape := ⟨2, ![8192, 1024]⟩
abbrev S1x8192x4x256 : Shape := ⟨4, ![1, 8192, 4, 256]⟩
abbrev S1x256x4x256 : Shape := ⟨4, ![1, 256, 4, 256]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .f32⟩
  | .hbm, ⟨5, _⟩ => ⟨S1x8192x4x256, .f32⟩
  | .hbm, ⟨6, _⟩ => ⟨S256x1024, .f32⟩
  | .hbm, ⟨7, _⟩ => ⟨S1x256x4x256, .f32⟩
  | .hbm, ⟨8, _⟩ => ⟨S256x1024, .f32⟩
  | .hbm, ⟨9, _⟩ => ⟨S1x256x4x256, .f32⟩
  | .hbm, ⟨10, _⟩ => ⟨S1x4x8192x256, .f32⟩
  | .hbm, ⟨11, _⟩ => ⟨S_, .f32⟩
  | .hbm, ⟨12, _⟩ => ⟨S1x4x8192x256, .f32⟩
  | .hbm, ⟨13, _⟩ => ⟨S1x4x8192x256, .f32⟩
  | .hbm, ⟨14, _⟩ => ⟨S_, .f32⟩
  | .hbm, ⟨15, _⟩ => ⟨S1x4x8192, .f32⟩
  | .hbm, ⟨16, _⟩ => ⟨S_, .f32⟩
  | .hbm, ⟨17, _⟩ => ⟨S1x4x8192, .f32⟩
  | .hbm, ⟨18, _⟩ => ⟨S1x4x8192, .f32⟩
  | .hbm, ⟨19, _⟩ => ⟨S1x4x8192x1, .f32⟩
  | .hbm, ⟨20, _⟩ => ⟨S1x4x8192x256, .f32⟩
  | .hbm, ⟨21, _⟩ => ⟨S1x4x8192x256, .f32⟩
  | .hbm, ⟨22, _⟩ => ⟨S1x4x8192x256, .f32⟩
  | .hbm, ⟨23, _⟩ => ⟨S_, .f32⟩
  | .hbm, ⟨24, _⟩ => ⟨S1x4x8192, .f32⟩
  | .hbm, ⟨25, _⟩ => ⟨S1x4x8192x1, .f32⟩
  | .hbm, ⟨26, _⟩ => ⟨S1x4x8192x256, .f32⟩
  | .hbm, ⟨27, _⟩ => ⟨S1x4x8192x256, .f32⟩
  | .hbm, ⟨28, _⟩ => ⟨S1x4x256x8192, .f32⟩
  | .hbm, ⟨29, _⟩ => ⟨S1x8192x4x256, .f32⟩
  | .hbm, ⟨30, _⟩ => ⟨S8192x1024, .f32⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel9.lean ====
abbrev S1024x12288 : Shape := ⟨2, ![1024, 12288]⟩
abbrev S1x128x30x1024 : Shape := ⟨4, ![1, 128, 30, 1024]⟩
abbrev S1x31x1024 : Shape := ⟨3, ![1, 31, 1024]⟩
abbrev S1x1024 : Shape := ⟨2, ![1, 1024]⟩
abbrev S128x30x1024 : Shape := ⟨3, ![128, 30, 1024]⟩
abbrev S31x1024 : Shape := ⟨2, ![31, 1024]⟩
abbrev S1024 : Shape := ⟨1, ![1024]⟩
abbrev S1024x1024 : Shape := ⟨2, ![1024, 1024]⟩
abbrev S64x1024 : Shape := ⟨2, ![64, 1024]⟩
abbrev S8x30x1024 : Shape := ⟨3, ![8, 30, 1024]⟩
abbrev S8x1024 : Shape := ⟨2, ![8, 1024]⟩
abbrev S1x8x1024 : Shape := ⟨3, ![1, 8, 1024]⟩
abbrev S1x16x1024 : Shape := ⟨3, ![1, 16, 1024]⟩
abbrev S16x1024 : Shape := ⟨2, ![16, 1024]⟩
abbrev S6x1024 : Shape := ⟨2, ![6, 1024]⟩
abbrev S1x6x1024 : Shape := ⟨3, ![1, 6, 1024]⟩
abbrev S64 : Shape := ⟨1, ![64]⟩
abbrev S64x1 : Shape := ⟨2, ![64, 1]⟩

abbrev nBuf : Space → Nat
  | .hbm => 16
  | .vmem => 15
  | .smem => 0
  | _ => 0

abbrev bufTy : (tb : Table) → Fin (tcTables nBuf tb) → BufTy
  | .hbm, ⟨0, _⟩ => ⟨S1024x12288, .bf16⟩
  | .hbm, ⟨1, _⟩ => ⟨S1x128x30x1024, .f32⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S128x30x1024, .f32⟩
  | .hbm, ⟨7, _⟩ => ⟨S31x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024x1024, .f32⟩
  | .hbm, ⟨15, _⟩ => ⟨S128x30x1024, .f32⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S8x30x1024, .f32⟩
  | .local _ .vmem, ⟨5, _⟩ => ⟨S8x30x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S64x1024, .f32⟩
  | .local _ .vmem, ⟨11, _⟩ => ⟨S64x1024, .f32⟩
  | .local _ .vmem, ⟨12, _⟩ => ⟨S8x30x1024, .f32⟩
  | .local _ .vmem, ⟨13, _⟩ => ⟨S8x30x1024, .f32⟩
  | .local _ .vmem, ⟨14, _⟩ => ⟨S64x1024, .f32⟩
  | _, _ => ⟨S1024x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x30x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x30x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S1024x12288 : Shape := ⟨2, ![1024, 12288]⟩
abbrev S1x128x30x1024 : Shape := ⟨4, ![1, 128, 30, 1024]⟩
abbrev S1x31x1024 : Shape := ⟨3, ![1, 31, 1024]⟩
abbrev S1x1024 : Shape := ⟨2, ![1, 1024]⟩
abbrev S128x8x12288 : Shape := ⟨3, ![128, 8, 12288]⟩
abbrev S128x30x1024 : Shape := ⟨3, ![128, 30, 1024]⟩
abbrev S31x1024 : Shape := ⟨2, ![31, 1024]⟩
abbrev S1024 : Shape := ⟨1, ![1024]⟩
abbrev S128x8x1024 : Shape := ⟨3, ![128, 8, 1024]⟩
abbrev S_ : Shape := ⟨0, ![]⟩
abbrev S128x38x1024 : Shape := ⟨3, ![128, 38, 1024]⟩
abbrev S1x1x1024 : Shape := ⟨3, ![1, 1, 1024]⟩
abbrev S128x8 : Shape := ⟨2, ![128, 8]⟩
abbrev S128x8x1 : Shape := ⟨3, ![128, 8, 1]⟩
abbrev S1024x1024 : Shape := ⟨2, ![1024, 1024]⟩

abbrev nBuf : Space → Nat
  | .hbm => 287
  | .vmem => 0
  | .smem => 0
  | _ => 0

abbrev hbmTy0_0 (i : Nat) : BufTy := match i % 128 with
  | 0 => ⟨S1024x12288, .bf16⟩
  | 1 => ⟨S1x128x30x1024, .f32⟩
  | 2 => ⟨S1x31x1024, .f32⟩
  | 3 => ⟨S1x1024, .f32⟩
  | 4 => ⟨S1x1024, .f32⟩
  | 5 => ⟨S1x1024, .f32⟩
  | 6 => ⟨S128x8x12288, .bf16⟩
  | 7 => ⟨S128x30x1024, .f32⟩
  | 8 => ⟨S31x1024, .f32⟩
  | 9 => ⟨S1024, .f32⟩
  | 10 => ⟨S1024, .f32⟩
  | 11 => ⟨S1024, .f32⟩
  | 12 => ⟨S128x8x12288, .f32⟩
  | 13 => ⟨S128x8x1024, .f32⟩
  | 14 => ⟨S128x8x1024, .f32⟩
  | 15 => ⟨S128x8x1024, .f32⟩
  | 16 => ⟨S128x8x1024, .f32⟩
  | 17 => ⟨S_, .f32⟩
  | 18 => ⟨S128x8x1024, .f32⟩
  | 19 => ⟨S128x8x1024, .f32⟩
  | 20 => ⟨S_, .f32⟩
  | 21 => ⟨S128x8x1024, .f32⟩
  | 22 => ⟨S128x8x1024, .f32⟩
  | 23 => ⟨S128x8x1024, .f32⟩
  | 24 => ⟨S128x38x1024, .f32⟩
  | 25 => ⟨S_, .f32⟩
  | 26 => ⟨S128x8x1024, .f32⟩
  | 27 => ⟨S1x1024, .f32⟩
  | 28 => ⟨S1024, .f32⟩
  | 29 => ⟨S128x8x1024, .f32⟩
  | 30 => ⟨S1x1x1024, .f32⟩
  | 31 => ⟨S128x8x1024, .f32⟩
  | 32 => ⟨S128x8x1024, .f32⟩
  | 33 => ⟨S128x8x1024, .f32⟩
  | 34 => ⟨S1x1024, .f32⟩
  | 35 => ⟨S1024, .f32⟩
  | 36 => ⟨S128x8x1024, .f32⟩
  | 37 => ⟨S1x1x1024, .f32⟩
  | 38 => ⟨S128x8x1024, .f32⟩
  | 39 => ⟨S128x8x1024, .f32⟩
  | 40 => ⟨S128x8x1024, .f32⟩
  | 41 => ⟨S1x1024, .f32⟩
  | 42 => ⟨S1024, .f32⟩
  | 43 => ⟨S128x8x1024, .f32⟩
  | 44 => ⟨S1x1x1024, .f32⟩
  | 45 => ⟨S128x8x1024, .f32⟩
  | 46 => ⟨S128x8x1024, .f32⟩
  | 47 => ⟨S128x8x1024, .f32⟩
  | 48 => ⟨S1x1024, .f32⟩
  | 49 => ⟨S1024, .f32⟩
  | 50 => ⟨S128x8x1024, .f32⟩
  | 51 => ⟨S1x1x1024, .f32⟩
  | 52 => ⟨S128x8x1024, .f32⟩
  | 53 => ⟨S128x8x1024, .f32⟩
  | 54 => ⟨S128x8x1024, .f32⟩
  | 55 => ⟨S1x1024, .f32⟩
  | 56 => ⟨S1024, .f32⟩
  | 57 => ⟨S128x8x1024, .f32⟩
  | 58 => ⟨S1x1x1024, .f32⟩
  | 59 => ⟨S128x8x1024, .f32⟩
  | 60 => ⟨S128x8x1024, .f32⟩
  | 61 => ⟨S128x8x1024, .f32⟩
  | 62 => ⟨S1x1024, .f32⟩
  | 63 => ⟨S1024, .f32⟩
  | 64 => ⟨S128x8x1024, .f32⟩
  | 65 => ⟨S1x1x1024, .f32⟩
  | 66 => ⟨S128x8x1024, .f32⟩
  | 67 => ⟨S128x8x1024, .f32⟩
  | 68 => ⟨S128x8x1024, .f32⟩
  | 69 => ⟨S1x1024, .f32⟩
  | 70 => ⟨S1024, .f32⟩
  | 71 => ⟨S128x8x1024, .f32⟩
  | 72 => ⟨S1x1x1024, .f32⟩
  | 73 => ⟨S128x8x1024, .f32⟩
  | 74 => ⟨S128x8x1024, .f32⟩
  | 75 => ⟨S128x8x1024, .f32⟩
  | 76 => ⟨S1x1024, .f32⟩
  | 77 => ⟨S1024, .f32⟩
  | 78 => ⟨S128x8x1024, .f32⟩
  | 79 => ⟨S1x1x1024, .f32⟩
  | 80 => ⟨S128x8x1024, .f32⟩
  | 81 => ⟨S128x8x1024, .f32⟩
  | 82 => ⟨S128x8x1024, .f32⟩
  | 83 => ⟨S1x1024, .f32⟩
  | 84 => ⟨S1024, .f32⟩
  | 85 => ⟨S128x8x1024, .f32⟩
  | 86 => ⟨S1x1x1024, .f32⟩
  | 87 => ⟨S128x8x1024, .f32⟩
  | 88 => ⟨S128x8x1024, .f32⟩
  | 89 => ⟨S128x8x1024, .f32⟩
  | 90 => ⟨S1x1024, .f32⟩
  | 91 => ⟨S1024, .f32⟩
  | 92 => ⟨S128x8x1024, .f32⟩
  | 93 => ⟨S1x1x1024, .f32⟩
  | 94 => ⟨S128x8x1024, .f32⟩
  | 95 => ⟨S128x8x1024, .f32⟩
  | 96 => ⟨S128x8x1024, .f32⟩
  | 97 => ⟨S1x1024, .f32⟩
  | 98 => ⟨S1024, .f32⟩
  | 99 => ⟨S128x8x1024, .f32⟩
  | 100 => ⟨S1x1x1024, .f32⟩
  | 101 => ⟨S128x8x1024, .f32⟩
  | 102 => ⟨S128x8x1024, .f32⟩
  | 103 => ⟨S128x8x1024, .f32⟩
  | 104 => ⟨S1x1024, .f32⟩
  | 105 => ⟨S1024, .f32⟩
  | 106 => ⟨S128x8x1024, .f32⟩
  | 107 => ⟨S1x1x1024, .f32⟩
  | 108 => ⟨S128x8x1024, .f32⟩
  | 109 => ⟨S128x8x1024, .f32⟩
  | 110 => ⟨S128x8x1024, .f32⟩
  | 111 => ⟨S1x1024, .f32⟩
  | 112 => ⟨S1024, .f32⟩
  | 113 => ⟨S128x8x1024, .f32⟩
  | 114 => ⟨S1x1x1024, .f32⟩
  | 115 => ⟨S128x8x1024, .f32⟩
  | 116 => ⟨S128x8x1024, .f32⟩
  | 117 => ⟨S128x8x1024, .f32⟩
  | 118 => ⟨S1x1024, .f32⟩
  | 119 => ⟨S1024, .f32⟩
  | 120 => ⟨S128x8x1024, .f32⟩
  | 121 => ⟨S1x1x1024, .f32⟩
  | 122 => ⟨S128x8x1024, .f32⟩
  | 123 => ⟨S128x8x1024, .f32⟩
  | 124 => ⟨S128x8x1024, .f32⟩
  | 125 => ⟨S1x1024, .f32⟩
  | 126 => ⟨S1024, .f32⟩
  | 127 => ⟨S128x8x1024, .f32⟩
  | _ => ⟨S1024x12288, .bf16⟩

abbrev hbmTy0_1 (i : Nat) : BufTy := match i % 128 with
  | 0 => ⟨S1x1x1024, .f32⟩
  | 1 => ⟨S128x8x1024, .f32⟩
  | 2 => ⟨S128x8x1024, .f32⟩
  | 3 => ⟨S128x8x1024, .f32⟩
  | 4 => ⟨S1x1024, .f32⟩
  | 5 => ⟨S1024, .f32⟩
  | 6 => ⟨S128x8x1024, .f32⟩
  | 7 => ⟨S1x1x1024, .f32⟩
  | 8 => ⟨S128x8x1024, .f32⟩
  | 9 => ⟨S128x8x1024, .f32⟩
  | 10 => ⟨S128x8x1024, .f32⟩
  | 11 => ⟨S1x1024, .f32⟩
  | 12 => ⟨S1024, .f32⟩
  | 13 => ⟨S128x8x1024, .f32⟩
  | 14 => ⟨S1x1x1024, .f32⟩
  | 15 => ⟨S128x8x1024, .f32⟩
  | 16 => ⟨S128x8x1024, .f32⟩
  | 17 => ⟨S128x8x1024, .f32⟩
  | 18 => ⟨S1x1024, .f32⟩
  | 19 => ⟨S1024, .f32⟩
  | 20 => ⟨S128x8x1024, .f32⟩
  | 21 => ⟨S1x1x1024, .f32⟩
  | 22 => ⟨S128x8x1024, .f32⟩
  | 23 => ⟨S128x8x1024, .f32⟩
  | 24 => ⟨S128x8x1024, .f32⟩
  | 25 => ⟨S1x1024, .f32⟩
  | 26 => ⟨S1024, .f32⟩
  | 27 => ⟨S128x8x1024, .f32⟩
  | 28 => ⟨S1x1x1024, .f32⟩
  | 29 => ⟨S128x8x1024, .f32⟩
  | 30 => ⟨S128x8x1024, .f32⟩
  | 31 => ⟨S128x8x1024, .f32⟩
  | 32 => ⟨S1x1024, .f32⟩
  | 33 => ⟨S1024, .f32⟩
  | 34 => ⟨S128x8x1024, .f32⟩
  | 35 => ⟨S1x1x1024, .f32⟩
  | 36 => ⟨S128x8x1024, .f32⟩
  | 37 => ⟨S128x8x1024, .f32⟩
  | 38 => ⟨S128x8x1024, .f32⟩
  | 39 => ⟨S1x1024, .f32⟩
  | 40 => ⟨S1024, .f32⟩
  | 41 => ⟨S128x8x1024, .f32⟩
  | 42 => ⟨S1x1x1024, .f32⟩
  | 43 => ⟨S128x8x1024, .f32⟩
  | 44 => ⟨S128x8x1024, .f32⟩
  | 45 => ⟨S128x8x1024, .f32⟩
  | 46 => ⟨S1x1024, .f32⟩
  | 47 => ⟨S1024, .f32⟩
  | 48 => ⟨S128x8x1024, .f32⟩
  | 49 => ⟨S1x1x1024, .f32⟩
  | 50 => ⟨S128x8x1024, .f32⟩
  | 51 => ⟨S128x8x1024, .f32⟩
  | 52 => ⟨S128x8x1024, .f32⟩
  | 53 => ⟨S1x1024, .f32⟩
  | 54 => ⟨S1024, .f32⟩
  | 55 => ⟨S128x8x1024, .f32⟩
  | 56 => ⟨S1x1x1024, .f32⟩
  | 57 => ⟨S128x8x1024, .f32⟩
  | 58 => ⟨S128x8x1024, .f32⟩
  | 59 => ⟨S128x8x1024, .f32⟩
  | 60 => ⟨S1x1024, .f32⟩
  | 61 => ⟨S1024, .f32⟩
  | 62 => ⟨S128x8x1024, .f32⟩
  | 63 => ⟨S1x1x1024, .f32⟩
  | 64 => ⟨S128x8x1024, .f32⟩
  | 65 => ⟨S128x8x1024, .f32⟩
  | 66 => ⟨S128x8x1024, .f32⟩
  | 67 => ⟨S1x1024, .f32⟩
  | 68 => ⟨S1024, .f32⟩
  | 69 => ⟨S128x8x1024, .f32⟩
  | 70 => ⟨S1x1x1024, .f32⟩
  | 71 => ⟨S128x8x1024, .f32⟩
  | 72 => ⟨S128x8x1024, .f32⟩
  | 73 => ⟨S128x8x1024, .f32⟩
  | 74 => ⟨S1x1024, .f32⟩
  | 75 => ⟨S1024, .f32⟩
  | 76 => ⟨S128x8x1024, .f32⟩
  | 77 => ⟨S1x1x1024, .f32⟩
  | 78 => ⟨S128x8x1024, .f32⟩
  | 79 => ⟨S128x8x1024, .f32⟩
  | 80 => ⟨S128x8x1024, .f32⟩
  | 81 => ⟨S1x1024, .f32⟩
  | 82 => ⟨S1024, .f32⟩
  | 83 => ⟨S128x8x1024, .f32⟩
  | 84 => ⟨S1x1x1024, .f32⟩
  | 85 => ⟨S128x8x1024, .f32⟩
  | 86 => ⟨S128x8x1024, .f32⟩
  | 87 => ⟨S128x8x1024, .f32⟩
  | 88 => ⟨S1x1024, .f32⟩
  | 89 => ⟨S1024, .f32⟩
  | 90 => ⟨S128x8x1024, .f32⟩
  | 91 => ⟨S1x1x1024, .f32⟩
  | 92 => ⟨S128x8x1024, .f32⟩
  | 93 => ⟨S128x8x1024, .f32⟩
  | 94 => ⟨S128x8x1024, .f32⟩
  | 95 => ⟨S1x1024, .f32⟩
  | 96 => ⟨S1024, .f32⟩
  | 97 => ⟨S128x8x1024, .f32⟩
  | 98 => ⟨S1x1x1024, .f32⟩
  | 99 => ⟨S128x8x1024, .f32⟩
  | 100 => ⟨S128x8x1024, .f32⟩
  | 101 => ⟨S128x8x1024, .f32⟩
  | 102 => ⟨S1x1024, .f32⟩
  | 103 => ⟨S1024, .f32⟩
  | 104 => ⟨S128x8x1024, .f32⟩
  | 105 => ⟨S1x1x1024, .f32⟩
  | 106 => ⟨S128x8x1024, .f32⟩
  | 107 => ⟨S128x8x1024, .f32⟩
  | 108 => ⟨S128x8x1024, .f32⟩
  | 109 => ⟨S1x1024, .f32⟩
  | 110 => ⟨S1024, .f32⟩
  | 111 => ⟨S128x8x1024, .f32⟩
  | 112 => ⟨S1x1x1024, .f32⟩
  | 113 => ⟨S128x8x1024, .f32⟩
  | 114 => ⟨S128x8x1024, .f32⟩
  | 115 => ⟨S128x8x1024, .f32⟩
  | 116 => ⟨S1x1x1024, .f32⟩
  | 117 => ⟨S128x8x1024, .f32⟩
  | 118 => ⟨S128x8x1024, .f32⟩
  | 119 => ⟨S_, .f32⟩
  | 120 => ⟨S128x8, .f32⟩
  | 121 => ⟨S128x8x1, .f32⟩
  | 122 => ⟨S_, .f32⟩
  | 123 => ⟨S128x8x1, .f32⟩
  | 124 => ⟨S128x8x1, .f32⟩
  | 125 => ⟨S128x8x1024, .f32⟩
  | 126 => ⟨S128x8x1024, .f32⟩
  | 127 => ⟨S128x8x1024, .f32⟩
  | _ => ⟨S1024x12288, .bf16⟩

abbrev hbmTy0_2 (i : Nat) : BufTy := match i % 128 with
  | 0 => ⟨S_, .f32⟩
  | 1 => ⟨S128x8, .f32⟩
  | 2 => ⟨S128x8x1, .f32⟩
  | 3 => ⟨S_, .f32⟩
  | 4 => ⟨S128x8x1, .f32⟩
  | 5 => ⟨S128x8x1, .f32⟩
  | 6 => ⟨S128x8x1024, .f32⟩
  | 7 => ⟨S128x8x1024, .f32⟩
  | 8 => ⟨S_, .f32⟩
  | 9 => ⟨S128x8x1, .f32⟩
  | 10 => ⟨S128x8x1, .f32⟩
  | 11 => ⟨S128x8x1, .f32⟩
  | 12 => ⟨S128x8x1024, .f32⟩
  | 13 => ⟨S128x8x1024, .f32⟩
  | 14 => ⟨S1x1x1024, .f32⟩
  | 15 => ⟨S128x8x1024, .f32⟩
  | 16 => ⟨S128x8x1024, .f32⟩
  | 17 => ⟨S1x1x1024, .f32⟩
  | 18 => ⟨S128x8x1024, .f32⟩
  | 19 => ⟨S128x8x1024, .f32⟩
  | 20 => ⟨S128x8x1024, .f32⟩
  | 21 => ⟨S128x8x1024, .f32⟩
  | 22 => ⟨S_, .f32⟩
  | 23 => ⟨S128x8x1024, .f32⟩
  | 24 => ⟨S128x8x1024, .f32⟩
  | 25 => ⟨S_, .f32⟩
  | 26 => ⟨S128x8x1024, .f32⟩
  | 27 => ⟨S128x8x1024, .f32⟩
  | 28 => ⟨S128x8x1024, .f32⟩
  | 29 => ⟨S128x30x1024, .f32⟩
  | 30 => ⟨S1024x1024, .f32⟩
  | _ => ⟨S1024x12288, .bf16⟩

abbrev hbmTy (i : Nat) : BufTy := match i / 128 with
  | 0 => hbmTy0_0 i
  | 1 => hbmTy0_1 i
  | 2 => hbmTy0_2 i
  | _ => ⟨S1024x12288, .bf16⟩

abbrev bufTy : (tb : Table) → Fin (tcTables nBuf tb) → BufTy
  | .hbm, ⟨i, _⟩ => hbmTy i
  | _, _ => ⟨S1024x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_cst_2 : Ref sig .tc := ⟨.hbm, 247, rfl⟩
abbrev main_v238 : Ref sig .tc := ⟨.hbm, 248, rfl⟩
abbrev main_v239 : Ref sig .tc := ⟨.hbm, 249, rfl⟩
abbrev main_cst_3 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_cst_4 : Ref sig .tc := ⟨.hbm, 256, rfl⟩
abbrev main_v245 : Ref sig .tc := ⟨.hbm, 257, rfl⟩
abbrev main_v246 : Ref sig .tc := ⟨.hbm, 258, rfl⟩
abbrev main_cst_5 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_cst_6 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_call0_v0 : Ref sig .tc := ⟨.hbm, 276, rfl⟩
abbrev main_call0_v1 : Ref sig .tc := ⟨.hbm, 277, rfl⟩
abbrev main_call0_cst : Ref sig .tc := ⟨.hbm, 278, rfl⟩
abbrev main_call0_v2 : Ref sig .tc := ⟨.hbm, 279, rfl⟩
abbrev main_call0_v3 : Ref sig .tc := ⟨.hbm, 280, rfl⟩
abbrev main_call0_cst_0 : Ref sig .tc := ⟨.hbm, 281, rfl⟩
abbrev main_call0_v4 : Ref sig .tc := ⟨.hbm, 282, rfl⟩
abbrev main_call0_v5 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩

abbrev nD : Nat := 1
abbrev τ : Topo := Topo.v7x

variable {F : FTy → Type} [FloatOps F]
-- ==== Kernel10.lean ====
abbrev S8192x12288 : Shape := ⟨2, ![8192, 12288]⟩
abbrev S1x31x1024 : Shape := ⟨3, ![1, 31, 1024]⟩
abbrev S1x1024 : Shape := ⟨2, ![1, 1024]⟩
abbrev S31x1024 : Shape := ⟨2, ![31, 1024]⟩
abbrev S1024 : Shape := ⟨1, ![1024]⟩
abbrev S8192x1024 : Shape := ⟨2, ![8192, 1024]⟩
abbrev S30x1024 : Shape := ⟨2, ![30, 1024]⟩
abbrev S256x1024 : Shape := ⟨2, ![256, 1024]⟩
abbrev S8x288x1024 : Shape := ⟨3, ![8, 288, 1024]⟩
abbrev S32x1024 : Shape := ⟨2, ![32, 1024]⟩
abbrev S1x32x1024 : Shape := ⟨3, ![1, 32, 1024]⟩
abbrev S1x256x1024 : Shape := ⟨3, ![1, 256, 1024]⟩
abbrev S1x288x512 : Shape := ⟨3, ![1, 288, 512]⟩
abbrev S288x512 : Shape := ⟨2, ![288, 512]⟩
abbrev S1x512 : Shape := ⟨2, ![1, 512]⟩
abbrev S32x512 : Shape := ⟨2, ![32, 512]⟩
abbrev S1x32x512 : Shape := ⟨3, ![1, 32, 512]⟩
abbrev S256 : Shape := ⟨1, ![256]⟩
abbrev S256x1 : Shape := ⟨2, ![256, 1]⟩
abbrev S1x30x1024 : Shape := ⟨3, ![1, 30, 1024]⟩

abbrev nBuf : Space → Nat
  | .hbm => 14
  | .vmem => 13
  | .smem => 0
  | _ => 0

abbrev bufTy : (tb : Table) → Fin (tcTables nBuf tb) → BufTy
  | .hbm, ⟨0, _⟩ => ⟨S8192x12288, .bf16⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S31x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S30x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S30x1024, .f32⟩
  | .local _ .vmem, ⟨11, _⟩ => ⟨S8x288x1024, .f32⟩
  | .local _ .vmem, ⟨12, _⟩ => ⟨S256x1024, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S30x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S8192x12288 : Shape := ⟨2, ![8192, 12288]⟩
abbrev S1x31x1024 : Shape := ⟨3, ![1, 31, 1024]⟩
abbrev S1x1024 : Shape := ⟨2, ![1, 1024]⟩
abbrev S1x8192x12288 : Shape := ⟨3, ![1, 8192, 12288]⟩
abbrev S_ : Shape := ⟨0, ![]⟩
abbrev S1x30x1024 : Shape := ⟨3, ![1, 30, 1024]⟩
abbrev S1x8192x1024 : Shape := ⟨3, ![1, 8192, 1024]⟩
abbrev S1x8222x1024 : Shape := ⟨3, ![1, 8222, 1024]⟩
abbrev S30x1024 : Shape := ⟨2, ![30, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x8192x12288, .bf16⟩
  | .hbm, ⟨6, _⟩ => ⟨S_, .f32⟩
  | .hbm, ⟨7, _⟩ => ⟨S1x30x1024, .f32⟩
  | .hbm, ⟨8, _⟩ => ⟨S1x8192x12288, .f32⟩
  | .hbm, ⟨9, _⟩ => ⟨S1x8192x1024, .f32⟩
  | .hbm, ⟨10, _⟩ => ⟨S1x8192x1024, .f32⟩
  | .hbm, ⟨11, _⟩ => ⟨S1x8192x1024, .f32⟩
  | .hbm, ⟨12, _⟩ => ⟨S1x8192x1024, .f32⟩
  | .hbm, ⟨13, _⟩ => ⟨S_, .f32⟩
  | .hbm, ⟨14, _⟩ => ⟨S1x8192x1024, .f32⟩
  | .hbm, ⟨15, _⟩ => ⟨S1x8192x1024, .f32⟩
  | .hbm, ⟨16, _⟩ => ⟨S_, .f32⟩
  | .hbm, ⟨17, _⟩ => ⟨S1x8192x1024, .f32⟩
  | .hbm, ⟨18, _⟩ => ⟨S1x8192x1024, .f32⟩
  | .hbm, ⟨19, _⟩ => ⟨S1x8192x1024, .f32⟩
  | .hbm, ⟨20, _⟩ => ⟨S1x8222x1024, .f32⟩
  | .hbm, ⟨21, _⟩ => ⟨S1x30x1024, .f32⟩
  | .hbm, ⟨22, _⟩ => ⟨S30x1024, .f32⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.SbTile.lean ====
module

public import proofs.«01_k».proof.Proof.Gen.KernelIdeal.Loops

/-! One tile of the attention kernel, written once: what a chunk of keys does to a head's carry and to
its partial output, and the pieces a loop trip stores, as functions of the chunks it reads. -/

@[expose] public section

open Idealize.ShloMosaic Idealize.ShloMosaic.TcCoe Idealize.SL.Sem

namespace Cert.KernelIdeal.Tile

open Cert.KernelIdeal Cert.KernelIdeal.Gen

variable {F : FTy → Type} [FloatOps F] [Named F]

/-- The logits of the augmented queries against a chunk of augmented keys. -/
noncomputable def logits (q kc : FVec F S256x256 .bf16) : FVec F S256x256 .f32 :=
  matmul dot_S256x256_S256x256_S256x256_1_1_0_0_n_n none q kc (constant S256x256 .f32 0x00000000#32)

/-- Softplus in base two. -/
noncomputable def softplus (x : FVec F S256x256 .f32) : FVec F S256x256 .f32 :=
  addf (maximumf x (broadcast S256x256 (Scalar.ofBits .f32 0x00000000#32)))
    (mulf (broadcast S256x256 (Named.named κ "log2e" 0x3FB8AA3B#32))
      (log (addf (broadcast S256x256 (Scalar.ofBits .f32 0x3F800000#32))
        (exp2 (subf (broadcast S256x256 (Scalar.ofBits .f32 0x00000000#32)) (absf x))))))

/-- The suffix sums of a chunk's terms. -/
noncomputable def sums (m : FVec F S256x256 .bf16) (p : FVec F S256x256 .f32) : FVec F S256x256 .f32 :=
  matmul dot_S256x256_S256x256_S256x256_1_0_0_1_n_n none (truncf .bf16 p bitsLt_bf16_f32) m
    (constant S256x256 .f32 0x00000000#32)

/-- The carry after a chunk. -/
noncomputable def carry (c : FVec F S256x1 .f32) (s : FVec F S256x256 .f32) : FVec F S256x1 .f32 :=
  addf c (extractStridedSlice S256x1 ![0, 0] s slices_S256x256_o0_0_S256x1)

/-- The weights of a chunk. -/
noncomputable def weights (x s : FVec F S256x256 .f32) (c : FVec F S256x1 .f32) : FVec F S256x256 .f32 :=
  exp2 (subf (subf x s) (broadcastTo S256x256 c broadcasts_S256x1_S256x256))

/-- The weighted values of a chunk. -/
noncomputable def weighted (a : FVec F S256x256 .f32) (vc : FVec F S256x128 .bf16) : FVec F S256x128 .f32 :=
  matmul dot_S256x256_S256x128_S256x128_1_0_0_1_n_n none (truncf .bf16 a bitsLt_bf16_f32) vc
    (constant S256x128 .f32 0x00000000#32)

/-- A chunk: its augmented keys and its values. -/
abbrev Chunk (F : FTy → Type) : Type := FVec F S256x256 .bf16 × FVec F S256x128 .bf16

/-- The carry after one more chunk. -/
noncomputable def carryOf (m q : FVec F S256x256 .bf16) (p : Chunk F) (c : FVec F S256x1 .f32) : FVec F S256x1 .f32 :=
  carry c (sums m (softplus (logits q p.1)))

/-- What one chunk adds to the output. -/
noncomputable def partOf (m q : FVec F S256x256 .bf16) (p : Chunk F) (c : FVec F S256x1 .f32) : FVec F S256x128 .f32 :=
  weighted (weights (logits q p.1) (sums m (softplus (logits q p.1))) c) p.2

/-- The carry after a list of chunks. -/
noncomputable def carries (m q : FVec F S256x256 .bf16) : List (Chunk F) → FVec F S256x1 .f32 → FVec F S256x1 .f32
  | [], c => c
  | p :: L, c => carries m q L (carryOf m q p c)

/-- What a list of chunks adds to the output, over the part `s` of the chunks before. -/
noncomputable def parts (m q : FVec F S256x256 .bf16) :
    List (Chunk F) → FVec F S256x1 .f32 → FVec F S256x128 .f32 → FVec F S256x128 .f32
  | [], _, s => s
  | p :: L, c, s => parts m q L (carryOf m q p c) (addf s (partOf m q p c))

/-- The accumulator stored after the chunks `p :: L`. -/
noncomputable def accNext (m q : FVec F S256x256 .bf16) (p : Chunk F) (L : List (Chunk F)) (c : FVec F S1x256x1 .f32)
    (a : FVec F S1x256x128 .f32) : FVec F S1x256x128 .f32 :=
  have c0 := shapeCast S256x1 c shapeCasts_S1x256x1_S256x1
  shapeCast S1x256x128 (addf (shapeCast S256x128 a shapeCasts_S1x256x128_S256x128)
    (parts m q L (carryOf m q p c0) (partOf m q p c0))) shapeCasts_S256x128_S1x256x128

/-- The carry stored after the chunks `L`. -/
noncomputable def carryNext (m q : FVec F S256x256 .bf16) (L : List (Chunk F)) (c : FVec F S1x256x1 .f32) :
    FVec F S1x256x1 .f32 :=
  shapeCast S1x256x1 (carries m q L (shapeCast S256x1 c shapeCasts_S1x256x1_S256x1)) shapeCasts_S256x1_S1x256x1

section
variable (v7 : View sig .tc .vmem S2x256x128 .f32) (v8 : View sig .tc .vmem S2x256x1 .f32)

/-- Head `0`'s part of the accumulator as a trip finds it. -/
abbrev acc0 (f : v7.ty.Contents (Elt F)) : FVec F S1x256x128 .f32 :=
  v7.readAt (Elt F) (Rect.unit (s := S2x256x128) ![0, 0, 0] S1x256x128.size inb_S2x256x128_S1x256x128_0_0_0).toLoadRect f
/-- Head `1`'s part of the accumulator as a trip finds it. -/
abbrev acc1 (f : v7.ty.Contents (Elt F)) : FVec F S1x256x128 .f32 :=
  v7.readAt (Elt F) (Rect.unit (s := S2x256x128) ![1, 0, 0] S1x256x128.size inb_S2x256x128_S1x256x128_1_0_0).toLoadRect f
/-- Head `0`'s carry as a trip finds it. -/
abbrev car0 (f : v8.ty.Contents (Elt F)) : FVec F S1x256x1 .f32 :=
  v8.readAt (Elt F) (Rect.unit (s := S2x256x1) ![0, 0, 0] S1x256x1.size inb_S2x256x1_S1x256x1_0_0_0).toLoadRect f
/-- Head `1`'s carry as a trip finds it. -/
abbrev car1 (f : v8.ty.Contents (Elt F)) : FVec F S1x256x1 .f32 :=
  v8.readAt (Elt F) (Rect.unit (s := S2x256x1) ![1, 0, 0] S1x256x1.size inb_S2x256x1_S1x256x1_1_0_0).toLoadRect f

/-- The two pieces of the accumulator that a trip over the chunks `p :: L` stores, the last first. -/
noncomputable def accPieces (q0 q1 m : FVec F S256x256 .bf16) (p : Chunk F) (L : List (Chunk F))
    (f : v7.ty.Contents (Elt F)) (g : v8.ty.Contents (Elt F)) : List (View.Piece (Elt F) S2x256x128 .f32) :=
  [⟨Rect.unit (s := S2x256x128) ![1, 0, 0] S1x256x128.size inb_S2x256x128_S1x256x128_1_0_0, accNext m q1 p L (car1 v8 g) (acc1 v7 f)⟩,
    ⟨Rect.unit (s := S2x256x128) ![0, 0, 0] S1x256x128.size inb_S2x256x128_S1x256x128_0_0_0, accNext m q0 p L (car0 v8 g) (acc0 v7 f)⟩]

/-- The two pieces of the carry that a trip over the chunks `L` stores, the last first. -/
noncomputable def carPieces (q0 q1 m : FVec F S256x256 .bf16) (L : List (Chunk F)) (g : v8.ty.Contents (Elt F)) :
    List (View.Piece (Elt F) S2x256x1 .f32) :=
  [⟨Rect.unit (s := S2x256x1) ![1, 0, 0] S1x256x1.size inb_S2x256x1_S1x256x1_1_0_0, carryNext m q1 L (car1 v8 g)⟩,
    ⟨Rect.unit (s := S2x256x1) ![0, 0, 0] S1x256x1.size inb_S2x256x1_S1x256x1_0_0_0, carryNext m q0 L (car0 v8 g)⟩]
end

/-- The first (highest) chunk of a load of 2048 keys. -/
noncomputable def first2048 (kl : FVec F S2048x256 .bf16) (vl : FVec F S2048x128 .bf16) : Chunk F :=
  (extractStridedSlice S256x256 ![1792, 0] kl slices_S2048x256_o1792_0_S256x256, extractStridedSlice S256x128 ![1792, 0] vl slices_S2048x128_o1792_0_S256x128)

/-- The remaining chunks of a load of 2048 keys, from high to low. -/
noncomputable def rest2048 (kl : FVec F S2048x256 .bf16) (vl : FVec F S2048x128 .bf16) : List (Chunk F) :=
  [(extractStridedSlice S256x256 ![1536, 0] kl slices_S2048x256_o1536_0_S256x256, extractStridedSlice S256x128 ![1536, 0] vl slices_S2048x128_o1536_0_S256x128),
    (extractStridedSlice S256x256 ![1280, 0] kl slices_S2048x256_o1280_0_S256x256, extractStridedSlice S256x128 ![1280, 0] vl slices_S2048x128_o1280_0_S256x128),
    (extractStridedSlice S256x256 ![1024, 0] kl slices_S2048x256_o1024_0_S256x256, extractStridedSlice S256x128 ![1024, 0] vl slices_S2048x128_o1024_0_S256x128),
    (extractStridedSlice S256x256 ![768, 0] kl slices_S2048x256_o768_0_S256x256, extractStridedSlice S256x128 ![768, 0] vl slices_S2048x128_o768_0_S256x128),
    (extractStridedSlice S256x256 ![512, 0] kl slices_S2048x256_o512_0_S256x256, extractStridedSlice S256x128 ![512, 0] vl slices_S2048x128_o512_0_S256x128),
    (extractStridedSlice S256x256 ![256, 0] kl slices_S2048x256_o256_0_S256x256, extractStridedSlice S256x128 ![256, 0] vl slices_S2048x128_o256_0_S256x128),
    (extractStridedSlice S256x256 ![0, 0] kl slices_S2048x256_o0_0_S256x256, extractStridedSlice S256x128 ![0, 0] vl slices_S2048x128_o0_0_S256x128)]

/-- The first (highest) chunk of a load of 1024 keys. -/
noncomputable def first1024 (kl : FVec F S1024x256 .bf16) (vl : FVec F S1024x128 .bf16) : Chunk F :=
  (extractStridedSlice S256x256 ![768, 0] kl slices_S1024x256_o768_0_S256x256, extractStridedSlice S256x128 ![768, 0] vl slices_S1024x128_o768_0_S256x128)

/-- The remaining chunks of a load of 1024 keys, from high to low. -/
noncomputable def rest1024 (kl : FVec F S1024x256 .bf16) (vl : FVec F S1024x128 .bf16) : List (Chunk F) :=
  [(extractStridedSlice S256x256 ![512, 0] kl slices_S1024x256_o512_0_S256x256, extractStridedSlice S256x128 ![512, 0] vl slices_S1024x128_o512_0_S256x128),
    (extractStridedSlice S256x256 ![256, 0] kl slices_S1024x256_o256_0_S256x256, extractStridedSlice S256x128 ![256, 0] vl slices_S1024x128_o256_0_S256x128),
    (extractStridedSlice S256x256 ![0, 0] kl slices_S1024x256_o0_0_S256x256, extractStridedSlice S256x128 ![0, 0] vl slices_S1024x128_o0_0_S256x128)]

/-- The first (highest) chunk of a load of 512 keys. -/
noncomputable def first512 (kl : FVec F S512x256 .bf16) (vl : FVec F S512x128 .bf16) : Chunk F :=
  (extractStridedSlice S256x256 ![256, 0] kl slices_S512x256_o256_0_S256x256, extractStridedSlice S256x128 ![256, 0] vl slices_S512x128_o256_0_S256x128)

/-- The remaining chunks of a load of 512 keys, from high to low. -/
noncomputable def rest512 (kl : FVec F S512x256 .bf16) (vl : FVec F S512x128 .bf16) : List (Chunk F) :=
  [(extractStridedSlice S256x256 ![0, 0] kl slices_S512x256_o0_0_S256x256, extractStridedSlice S256x128 ![0, 0] vl slices_S512x128_o0_0_S256x128)]

end Cert.KernelIdeal.Tile
-- ==== Proof.SbMath.lean ====
module

public import Idealize.ShloMosaic.Lib.Pointwise
public import Mathlib.Analysis.SpecialFunctions.Pow.Real
public import Mathlib.Tactic.FieldSimp

/-! The arithmetic of stick-breaking attention over the reals, with the logits in base two.

For one query row the logits are `X : ℕ → ℝ` (one per key, already divided by `log 2`), the values of
one output lane are `V : ℕ → EReal`.  `sp x` is the softplus in base two, `fail X lo row` the sum of
the softplus terms of the keys from `lo` up to `row` (excluded), `wt X row s` the weight the query at
position `row` gives to the key `s`, and `out X V lo row` the part of the output that the keys from
`lo` on contribute. -/

@[expose] public section

namespace Sb

open Finset

/-- Softplus in base two. -/
noncomputable def sp (x : ℝ) : ℝ := max x 0 + (Real.log 2)⁻¹ * Real.log (1 + (2 : ℝ) ^ (-|x|))

/-- The total softplus of the keys `lo ≤ j < row`. -/
noncomputable def fail (X : ℕ → ℝ) (lo row : ℕ) : ℝ := ∑ j ∈ Ico lo row, sp (X j)

/-- The weight of key `s` for the query at position `row`. -/
noncomputable def wt (X : ℕ → ℝ) (row s : ℕ) : ℝ := (2 : ℝ) ^ (X s - fail X s row)

/-- What the keys `lo ≤ s < row` contribute to the output. -/
noncomputable def out (X : ℕ → ℝ) (V : ℕ → EReal) (lo row : ℕ) : EReal :=
  ∑ s ∈ Ico lo row, (wt X row s : EReal) * V s

theorem fail_self (X : ℕ → ℝ) (row : ℕ) : fail X row row = 0 := by simp [fail]

theorem fail_split (X : ℕ → ℝ) {a b c : ℕ} (h : a ≤ b) (h' : b ≤ c) :
    fail X a c = fail X a b + fail X b c := (sum_Ico_consecutive _ h h').symm

theorem out_self (X : ℕ → ℝ) (V : ℕ → EReal) (row : ℕ) : out X V row row = 0 := by simp [out]

theorem out_split (X : ℕ → ℝ) (V : ℕ → EReal) {a b row : ℕ} (h : a ≤ b) (h' : b ≤ row) :
    out X V a row = (∑ s ∈ Ico a b, (wt X row s : EReal) * V s) + out X V b row :=
  (sum_Ico_consecutive _ h h').symm

/-- A real finite sum, as an extended real. -/
theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- A sum over the positions of a chunk, cut at `e` from above and at `s` from below. -/
theorem sum_chunk {M : Type} [AddCommMonoid M] (f : ℕ → M) (n b s e : ℕ) (he : e ≤ n) :
    (∑ k : Fin n, if s ≤ k.val ∧ k.val < e then f (b + k.val) else 0) = ∑ j ∈ Ico (b + s) (b + e), f j := by
  rw [Fin.sum_univ_eq_sum_range (fun k => if s ≤ k ∧ k < e then f (b + k) else 0) n, ← sum_filter,
    Nat.add_comm b s, Nat.add_comm b e, ← sum_Ico_add f s e b]
  refine sum_congr ?_ fun _ _ => rfl
  ext j; simp only [mem_filter, mem_range, mem_Ico]; omega

/-- The suffix sums of a chunk's softplus terms: the product with the 0/1 matrix. -/
theorem chunk_sums (X : ℕ → ℝ) (n b s e : ℕ) (he : e ≤ n) :
    (∑ k : Fin n, ((if k.val < e then ((sp (X (b + k.val)) : ℝ) : EReal) else 0)) * (if s ≤ k.val then 1 else 0))
      = ((fail X (b + s) (b + e) : ℝ) : EReal) := by
  rw [fail, coe_sum, ← sum_chunk (fun j => ((sp (X j) : ℝ) : EReal)) n b s e he]
  refine sum_congr rfl fun k _ => ?_
  by_cases h1 : k.val < e <;> by_cases h2 : s ≤ k.val <;> simp [h1, h2]

/-- The weighted values of a chunk. -/
theorem chunk_out (X : ℕ → ℝ) (V : ℕ → EReal) (n b e row : ℕ) (he : e ≤ n) :
    (∑ k : Fin n, (if k.val < e then ((wt X row (b + k.val) : ℝ) : EReal) else 0) * V (b + k.val))
      = ∑ s ∈ Ico b (b + e), (wt X row s : EReal) * V s := by
  have := sum_chunk (fun j => (wt X row j : EReal) * V j) n b 0 e he
  simp only [Nat.add_zero] at this
  rw [← this]
  refine sum_congr rfl fun k _ => ?_
  by_cases h1 : k.val < e <;> simp [h1]

/-- The softplus of base `e`. -/
noncomputable def spe (z : ℝ) : ℝ := max z 0 + Real.log (1 + Real.exp (-|z|))

theorem log_two_pos : 0 < Real.log 2 := Real.log_pos (by norm_num)

/-- Base two against base `e`. -/
theorem sp_mul (x : ℝ) : sp x * Real.log 2 = spe (x * Real.log 2) := by
  have h := log_two_pos
  have hm : max x 0 * Real.log 2 = max (x * Real.log 2) 0 := by
    rw [max_mul_of_nonneg _ _ h.le, zero_mul]
  have he : (2 : ℝ) ^ (-|x|) = Real.exp (-|x * Real.log 2|) := by
    rw [Real.rpow_def_of_pos (by norm_num), abs_mul, abs_of_pos h]; congr 1; ring
  rw [sp, spe, add_mul, hm, he]
  field_simp

theorem spe_neg (z : ℝ) : spe (-z) = spe z - z := by
  unfold spe
  rw [abs_neg]
  have : max (-z) 0 = max z 0 - z := by
    rcases le_total z 0 with h | h
    · rw [max_eq_left (by linarith), max_eq_right h]; ring
    · rw [max_eq_right (by linarith), max_eq_left h]; ring
  rw [this]; ring

/-- The weight, written with the natural exponential and the log-sigmoids of the definition. -/
theorem wt_eq_exp (X : ℕ → ℝ) (row s : ℕ) (h : s < row) :
    Real.exp (-spe (-(X s * Real.log 2))
      + ((∑ j ∈ Ico s row, -spe (X j * Real.log 2)) - -spe (X s * Real.log 2))) = wt X row s := by
  rw [wt, Real.rpow_def_of_pos (by norm_num), fail, mul_sub, mul_sum, spe_neg]
  congr 1
  rw [sum_congr rfl fun j _ => show Real.log 2 * sp (X j) = spe (X j * Real.log 2) by rw [mul_comm, sp_mul],
    sum_neg_distrib]
  ring

end Sb
-- ==== Proof.SbIdeal.lean ====
module

public import proofs.«01_k».proof.Proof.SbTile
public import proofs.«01_k».proof.Proof.SbMath
public import Idealize.ShloMosaic.Lib.Pointwise

/-! The tile of the attention kernel over the extended reals: a chunk of keys turns the carry and the
partial output of the keys above it into those of the keys from its first one on. -/

@[expose] public section

open Idealize.ShloMosaic Idealize.ShloMosaic.TcCoe Idealize.SL.Sem

namespace Cert.KernelIdeal.Tile

open Cert.KernelIdeal Cert.KernelIdeal.Gen Sb

set_option maxRecDepth 16384

/-- The logits at an index. -/
theorem logits_apply (q kc : FVec Ideal S256x256 .bf16) (r k : Fin 256) :
    logits q kc (ix2 r k) = ∑ d : Fin 256, q (ix2 r d) * kc (ix2 k d) := by
  unfold logits
  pointwise

/-- The suffix sums at an index. -/
theorem sums_apply (m : FVec Ideal S256x256 .bf16) (p : FVec Ideal S256x256 .f32) (r s : Fin 256) :
    sums m p (ix2 r s) = ∑ k : Fin 256, p (ix2 r k) * m (ix2 k s) := by
  unfold sums
  pointwise

/-- The weighted values at an index. -/
theorem weighted_apply (a : FVec Ideal S256x256 .f32) (vc : FVec Ideal S256x128 .bf16) (r : Fin 256) (l : Fin 128) :
    weighted a vc (ix2 r l) = ∑ k : Fin 256, a (ix2 r k) * vc (ix2 k l) := by
  unfold weighted
  pointwise

/-- The carry at an index. -/
theorem carry_apply (c : FVec Ideal S256x1 .f32) (s : FVec Ideal S256x256 .f32) (r : Fin 256) :
    carry c s (ix2 r 0) = c (ix2 r 0) + s (ix2 r 0) := by
  unfold carry
  pointwise

/-- The weights at an index. -/
theorem weights_apply (x s : FVec Ideal S256x256 .f32) (c : FVec Ideal S256x1 .f32) (r k : Fin 256) :
    weights x s c (ix2 r k) = Ideal.exp2 (x (ix2 r k) - s (ix2 r k) - c (ix2 r 0)) := by
  unfold weights
  pointwise
  rfl

/-- The softplus of a real logit. -/
theorem softplus_apply (x : FVec Ideal S256x256 .f32) (j : S256x256.Idx) (X : ℝ) (h : x j = (X : EReal)) :
    softplus x j = ((sp X : ℝ) : EReal) := by
  unfold softplus
  pointwise
  have hc := IdealRules.named_const.ideal_named_scalar (φ := .f32) κ "log2e" 0x3FB8AA3B#32 (((Real.log 2)⁻¹ : ℝ) : EReal) rfl
  have ha : max (X : EReal) (-(X : EReal)) = ((|X| : ℝ) : EReal) := by
    rw [← EReal.coe_neg, abs_eq_max_neg]; exact (EReal.coe_strictMono.monotone.map_max).symm
  have hp : (0 : ℝ) < (2 : ℝ) ^ (-|X|) := Real.rpow_pos_of_pos (by norm_num) _
  have he : FloatOps.exp2 (F := Ideal) (φ := .f32) ((0 : EReal) - ((|X| : ℝ) : EReal)) = (((2 : ℝ) ^ (-|X|) : ℝ) : EReal) := by
    rw [zero_sub, ← EReal.coe_neg]; rfl
  have hl : Ideal.log (1 + (((2 : ℝ) ^ (-|X|) : ℝ) : EReal)) = ((Real.log (1 + (2 : ℝ) ^ (-|X|)) : ℝ) : EReal) := by
    rw [← EReal.coe_one, ← EReal.coe_add, Ideal.log_coe, if_neg (by linarith)]
  rw [h, Ideal.absf_def, ha, he, hl, hc, ← EReal.coe_zero, ← EReal.coe_mul]
  rw [show max (X : EReal) ((0 : ℝ) : EReal) = ((max X 0 : ℝ) : EReal) from (EReal.coe_strictMono.monotone.map_max).symm, ← EReal.coe_add]
  rfl

/-! ### The carry and the parts of a list of chunks -/

section
variable (X : Fin 256 → ℕ → ℝ) (V : Fin 128 → ℕ → EReal) (row : Fin 256 → ℕ)

/-- A chunk holds the keys and values from position `b` on. -/
def IsChunk (q : FVec Ideal S256x256 .bf16) (p : Chunk Ideal) (b : ℕ) : Prop :=
  (∀ r k : Fin 256, logits q p.1 (ix2 r k) = ((X r (b + k.val) : ℝ) : EReal))
    ∧ ∀ (k : Fin 256) (l : Fin 128), p.2 (ix2 k l) = V l (b + k.val)

/-- A list of chunks covers the positions from `hi` (excluded) down to `lo`. -/
def Chunks (q : FVec Ideal S256x256 .bf16) : List (Chunk Ideal) → ℕ → ℕ → Prop
  | [], hi, lo => hi = lo
  | p :: L, hi, lo => ∃ b, hi = b + 256 ∧ IsChunk X V q p b ∧ Chunks q L b lo

/-- The 0/1 matrix of the suffix sums. -/
def IsSuffix (m : FVec Ideal S256x256 .bf16) : Prop :=
  ∀ k s : Fin 256, m (ix2 k s) = if s.val ≤ k.val then 1 else 0

/-- The carry of the keys from `lo` on. -/
def IsCarry (c : FVec Ideal S256x1 .f32) (lo : ℕ) : Prop :=
  ∀ r : Fin 256, c (ix2 r 0) = ((fail (X r) lo (row r) : ℝ) : EReal)

variable {X V row}

/-- The suffix sums of a whole chunk. -/
theorem sums_chunk {m q : FVec Ideal S256x256 .bf16} (hm : IsSuffix m) {p : Chunk Ideal} {b : ℕ} (hp : IsChunk X V q p b)
    (r s : Fin 256) :
    sums m (softplus (logits q p.1)) (ix2 r s) = ((fail (X r) (b + s.val) (b + 256) : ℝ) : EReal) := by
  rw [sums_apply, ← chunk_sums (X r) 256 b s.val 256 le_rfl]
  refine Finset.sum_congr rfl fun k _ => ?_
  rw [softplus_apply _ _ _ (hp.1 r k), hm, if_pos k.isLt]

/-- The carry after a chunk. -/
theorem carryOf_chunk {m q : FVec Ideal S256x256 .bf16} (hm : IsSuffix m) {p : Chunk Ideal} {b : ℕ} (hp : IsChunk X V q p b)
    {c : FVec Ideal S256x1 .f32} (hc : IsCarry X row c (b + 256)) (hb : ∀ r, b + 256 ≤ row r) :
    IsCarry X row (carryOf m q p c) b := fun r => by
  rw [carryOf, carry_apply, hc r, sums_chunk hm hp, ← EReal.coe_add, add_comm]
  rw [show b + (0 : Fin 256).val = b from rfl, ← fail_split (X r) (by omega) (hb r)]

/-- The weights times the values of a chunk. -/
theorem partOf_chunk {m q : FVec Ideal S256x256 .bf16} (hm : IsSuffix m) {p : Chunk Ideal} {b : ℕ} (hp : IsChunk X V q p b)
    {c : FVec Ideal S256x1 .f32} (hc : IsCarry X row c (b + 256)) (hb : ∀ r, b + 256 ≤ row r) (r : Fin 256) (l : Fin 128) :
    partOf m q p c (ix2 r l) = ∑ s ∈ Finset.Ico b (b + 256), (wt (X r) (row r) s : EReal) * V l s := by
  rw [partOf, weighted_apply, ← chunk_out (X r) (V l) 256 b 256 (row r) le_rfl]
  refine Finset.sum_congr rfl fun k _ => ?_
  rw [weights_apply, hp.1 r k, sums_chunk hm hp, hc r, hp.2 k l, if_pos k.isLt, ← EReal.coe_sub, ← EReal.coe_sub, Ideal.exp2_coe,
    wt, fail_split (X r) (show b + k.val ≤ b + 256 by omega) (hb r), sub_sub]
  rfl

/-- The carry after a list of chunks. -/
theorem carries_chunks {m q : FVec Ideal S256x256 .bf16} (hm : IsSuffix m) :
    ∀ (L : List (Chunk Ideal)) (hi lo : ℕ), Chunks X V q L hi lo → ∀ c : FVec Ideal S256x1 .f32, IsCarry X row c hi →
      (∀ r, hi ≤ row r) → IsCarry X row (carries m q L c) lo
  | [], hi, lo, h, c, hc, _ => by
    obtain rfl : hi = lo := h
    exact hc
  | p :: L, hi, lo, ⟨b, hb, hp, hL⟩, c, hc, hr => by
    subst hb
    exact carries_chunks hm L b lo hL _ (carryOf_chunk hm hp hc hr) fun r => by have := hr r; omega

/-- What a list of chunks adds. -/
theorem parts_chunks {m q : FVec Ideal S256x256 .bf16} (hm : IsSuffix m) (r : Fin 256) (l : Fin 128) (top : ℕ) :
    ∀ (L : List (Chunk Ideal)) (hi lo : ℕ), Chunks X V q L hi lo → hi ≤ top → ∀ (c : FVec Ideal S256x1 .f32) (s : FVec Ideal S256x128 .f32),
      IsCarry X row c hi → (∀ r, hi ≤ row r) → s (ix2 r l) = ∑ j ∈ Finset.Ico hi top, (wt (X r) (row r) j : EReal) * V l j →
      parts m q L c s (ix2 r l) = ∑ j ∈ Finset.Ico lo top, (wt (X r) (row r) j : EReal) * V l j
  | [], hi, lo, h, _, c, s, _, _, hs => by
    obtain rfl : hi = lo := h
    exact hs
  | p :: L, hi, lo, ⟨b, hb, hp, hL⟩, ht, c, s, hc, hr, hs => by
    subst hb
    refine parts_chunks hm r l top L b lo hL (by omega) _ _ (carryOf_chunk hm hp hc hr) (fun r => by have := hr r; omega) ?_
    show s (ix2 r l) + partOf m q p c (ix2 r l) = _
    rw [hs, partOf_chunk hm hp hc hr, add_comm]
    exact Finset.sum_Ico_consecutive _ (by omega) ht

theorem Chunks.le {q : FVec Ideal S256x256 .bf16} : ∀ (L : List (Chunk Ideal)) (hi lo : ℕ), Chunks X V q L hi lo → lo ≤ hi
  | [], _, _, h => le_of_eq (Eq.symm h)
  | _ :: L, hi, lo, ⟨b, hb, _, hL⟩ => by have := Chunks.le L b lo hL; omega

/-- The accumulator stored after a trip. -/
theorem accNext_chunks {m q : FVec Ideal S256x256 .bf16} (hm : IsSuffix m) {p : Chunk Ideal} {L : List (Chunk Ideal)} {hi lo : ℕ}
    (hL : Chunks X V q (p :: L) hi lo) {c : FVec Ideal S1x256x1 .f32} {a : FVec Ideal S1x256x128 .f32}
    (hc : ∀ r : Fin 256, c (ix3 0 r 0) = ((fail (X r) hi (row r) : ℝ) : EReal)) (hr : ∀ r, hi ≤ row r) (r : Fin 256) (l : Fin 128)
    (ha : a (ix3 0 r l) = out (X r) (V l) hi (row r)) :
    accNext m q p L c a (ix3 0 r l) = out (X r) (V l) lo (row r) := by
  obtain ⟨b, hb, hp, hL⟩ := hL
  subst hb
  have hc' : IsCarry X row (shapeCast S256x1 c shapeCasts_S1x256x1_S256x1) (b + 256) := fun r => by
    pointwise
    exact hc r
  have h := parts_chunks hm r l (b + 256) L b lo hL (by omega) _ (partOf m q p (shapeCast S256x1 c shapeCasts_S1x256x1_S256x1))
    (carryOf_chunk hm hp hc' hr) (fun r => by have := hr r; omega) (partOf_chunk hm hp hc' hr r l)
  unfold accNext
  pointwise
  rw [h, ha, add_comm]
  have := Chunks.le L b lo hL
  exact (out_split (X r) (V l) (by omega) (hr r)).symm

/-- The carry stored after a trip. -/
theorem carryNext_chunks {m q : FVec Ideal S256x256 .bf16} (hm : IsSuffix m) {L : List (Chunk Ideal)} {hi lo : ℕ}
    (hL : Chunks X V q L hi lo) {c : FVec Ideal S1x256x1 .f32}
    (hc : ∀ r : Fin 256, c (ix3 0 r 0) = ((fail (X r) hi (row r) : ℝ) : EReal)) (hr : ∀ r, hi ≤ row r) (r : Fin 256) :
    carryNext m q L c (ix3 0 r 0) = ((fail (X r) lo (row r) : ℝ) : EReal) := by
  have hc' : IsCarry X row (shapeCast S256x1 c shapeCasts_S1x256x1_S256x1) hi := fun r => by
    pointwise
    exact hc r
  unfold carryNext
  pointwise
  exact carries_chunks hm L hi lo hL _ hc' hr r

end

end Cert.KernelIdeal.Tile
-- ==== Proof.SbState.lean ====
module

public import proofs.«01_k».proof.Proof.SbIdeal
public import Idealize.ShloMosaic.Lib.Writes

/-! The accumulator and the carry between two trips: they hold the partial output and the total
softplus of the keys from a position on, and a trip moves that position down over its chunks. -/

@[expose] public section

open Idealize.ShloMosaic Idealize.ShloMosaic.TcCoe Idealize.SL.Sem

namespace Cert.KernelIdeal.Tile

open Cert.KernelIdeal Cert.KernelIdeal.Gen Sb

set_option maxRecDepth 16384

section Read
variable {F : FTy → Type}
variable (v7 : View sig .tc .vmem S2x256x128 .f32) (v8 : View sig .tc .vmem S2x256x1 .f32)

/-- The two halves of the accumulator after they were stored, the last first. -/
theorem acc1_writes (f : v7.ty.Contents (Elt F)) (w1 w0) (L : List (View.Piece (Elt F) S2x256x128 .f32)) :
    acc1 v7 (v7.writes (Elt F) f (⟨Rect.unit (s := S2x256x128) ![1, 0, 0] S1x256x128.size inb_S2x256x128_S1x256x128_1_0_0, w1⟩
      :: ⟨Rect.unit (s := S2x256x128) ![0, 0, 0] S1x256x128.size inb_S2x256x128_S1x256x128_0_0_0, w0⟩ :: L)) = w1 :=
  funext fun j => View.read_writes_cons_emb v7 f _ w1 _ j

theorem acc0_writes (f : v7.ty.Contents (Elt F)) (w1 w0) (L : List (View.Piece (Elt F) S2x256x128 .f32)) :
    acc0 v7 (v7.writes (Elt F) f (⟨Rect.unit (s := S2x256x128) ![1, 0, 0] S1x256x128.size inb_S2x256x128_S1x256x128_1_0_0, w1⟩
      :: ⟨Rect.unit (s := S2x256x128) ![0, 0, 0] S1x256x128.size inb_S2x256x128_S1x256x128_0_0_0, w0⟩ :: L)) = w0 :=
  funext fun j => by
    refine (View.read_writes_cons_miss_of_axis v7 f _ _ _ 0 1 1 rfl rfl rfl (Or.inl ?_)).trans
      (View.read_writes_cons_emb v7 f (Rect.unit (s := S2x256x128) ![0, 0, 0] S1x256x128.size inb_S2x256x128_S1x256x128_0_0_0) w0 _ j)
    have h : (j 0).val < 1 := (j 0).isLt
    show 0 + 1 * (j 0).val < 1
    omega

/-- The two halves of the carry after they were stored, the last first. -/
theorem car1_writes (f : v8.ty.Contents (Elt F)) (w1 w0) (L : List (View.Piece (Elt F) S2x256x1 .f32)) :
    car1 v8 (v8.writes (Elt F) f (⟨Rect.unit (s := S2x256x1) ![1, 0, 0] S1x256x1.size inb_S2x256x1_S1x256x1_1_0_0, w1⟩
      :: ⟨Rect.unit (s := S2x256x1) ![0, 0, 0] S1x256x1.size inb_S2x256x1_S1x256x1_0_0_0, w0⟩ :: L)) = w1 :=
  funext fun j => View.read_writes_cons_emb v8 f _ w1 _ j

theorem car0_writes (f : v8.ty.Contents (Elt F)) (w1 w0) (L : List (View.Piece (Elt F) S2x256x1 .f32)) :
    car0 v8 (v8.writes (Elt F) f (⟨Rect.unit (s := S2x256x1) ![1, 0, 0] S1x256x1.size inb_S2x256x1_S1x256x1_1_0_0, w1⟩
      :: ⟨Rect.unit (s := S2x256x1) ![0, 0, 0] S1x256x1.size inb_S2x256x1_S1x256x1_0_0_0, w0⟩ :: L)) = w0 :=
  funext fun j => by
    refine (View.read_writes_cons_miss_of_axis v8 f _ _ _ 0 1 1 rfl rfl rfl (Or.inl ?_)).trans
      (View.read_writes_cons_emb v8 f (Rect.unit (s := S2x256x1) ![0, 0, 0] S1x256x1.size inb_S2x256x1_S1x256x1_0_0_0) w0 _ j)
    have h : (j 0).val < 1 := (j 0).isLt
    show 0 + 1 * (j 0).val < 1
    omega

end Read

section
variable (X0 X1 : Fin 256 → ℕ → ℝ) (V : Fin 128 → ℕ → EReal) (row : Fin 256 → ℕ)
variable (v7 : View sig .tc .vmem S2x256x128 .f32) (v8 : View sig .tc .vmem S2x256x1 .f32)

/-- The scratch buffers hold what the keys from `lo` on make. -/
structure Inv (f : v7.ty.Contents (Elt Ideal)) (g : v8.ty.Contents (Elt Ideal)) (lo : ℕ) : Prop where
  c0 : ∀ r : Fin 256, car0 v8 g (ix3 0 r 0) = ((fail (X0 r) lo (row r) : ℝ) : EReal)
  c1 : ∀ r : Fin 256, car1 v8 g (ix3 0 r 0) = ((fail (X1 r) lo (row r) : ℝ) : EReal)
  a0 : ∀ (r : Fin 256) (l : Fin 128), acc0 v7 f (ix3 0 r l) = out (X0 r) (V l) lo (row r)
  a1 : ∀ (r : Fin 256) (l : Fin 128), acc1 v7 f (ix3 0 r l) = out (X1 r) (V l) lo (row r)

variable {X0 X1 V row v7 v8}

/-- A trip over the chunks `p :: L`. -/
theorem Inv.trip {q0 q1 m : FVec Ideal S256x256 .bf16} (hm : IsSuffix m) {p : Chunk Ideal} {L : List (Chunk Ideal)} {hi lo : ℕ}
    (h0 : Chunks X0 V q0 (p :: L) hi lo) (h1 : Chunks X1 V q1 (p :: L) hi lo) (hr : ∀ r, hi ≤ row r)
    {f : v7.ty.Contents (Elt Ideal)} {g : v8.ty.Contents (Elt Ideal)} (h : Inv X0 X1 V row v7 v8 f g hi) :
    Inv X0 X1 V row v7 v8 (v7.writes (Elt Ideal) f (accPieces v7 v8 q0 q1 m p L f g))
      (v8.writes (Elt Ideal) g (carPieces v8 q0 q1 m (p :: L) g)) lo where
  c0 r := (congrFun (car0_writes v8 g _ _ []) _).trans (carryNext_chunks hm h0 h.c0 hr r)
  c1 r := (congrFun (car1_writes v8 g _ _ []) _).trans (carryNext_chunks hm h1 h.c1 hr r)
  a0 r l := (congrFun (acc0_writes v7 f _ _ []) _).trans (accNext_chunks hm h0 h.c0 hr r l (h.a0 r l))
  a1 r l := (congrFun (acc1_writes v7 f _ _ []) _).trans (accNext_chunks hm h1 h.c1 hr r l (h.a1 r l))

end

end Cert.KernelIdeal.Tile
-- ==== Proof.SbChunks.lean ====
module

public import proofs.«01_k».proof.Proof.SbIdeal

/-! The chunks of a load: the keys and values of a run of positions, cut into 256 at a time. -/

@[expose] public section

open Idealize.ShloMosaic Idealize.ShloMosaic.TcCoe Idealize.SL.Sem

namespace Cert.KernelIdeal.Tile

open Cert.KernelIdeal Cert.KernelIdeal.Gen Sb

set_option maxRecDepth 16384

variable {X : Fin 256 → ℕ → ℝ} {V : Fin 128 → ℕ → EReal} {K : ℕ → Fin 256 → EReal}

variable (X K) in
/-- The queries' logits against the augmented keys. -/
def IsLogits (q : FVec Ideal S256x256 .bf16) : Prop :=
  ∀ (r : Fin 256) (s : ℕ), s < 8192 → ∑ d : Fin 256, q (ix2 r d) * K s d = ((X r s : ℝ) : EReal)

/-- A slice of rows, read. -/
theorem slice_row {n w : ℕ} {φ : FTy} (c : ℕ) (x : FVec Ideal ⟨2, ![n, w]⟩ φ) (h : (⟨2, ![n, w]⟩ : Shape).Slices ![c, 0] ⟨2, ![256, w]⟩)
    (k : Fin 256) (d : Fin w) (hc : c + k.val < n) :
    extractStridedSlice ⟨2, ![256, w]⟩ ![c, 0] x h (ix2 k d) = x (ix2 ⟨c + k.val, hc⟩ d) := by
  unfold extractStridedSlice
  refine congrArg x (funext fun a => Fin.ext ?_)
  match a with
  | ⟨0, _⟩ => rfl
  | ⟨1, _⟩ => exact Nat.zero_add _

/-- A chunk given by its keys and values. -/
theorem isChunk_of {q : FVec Ideal S256x256 .bf16} (hq : IsLogits X K q) {p : Chunk Ideal} {b : ℕ} (hb : b + 256 ≤ 8192)
    (hk : ∀ k d : Fin 256, p.1 (ix2 k d) = K (b + k.val) d)
    (hv : ∀ (k : Fin 256) (l : Fin 128), p.2 (ix2 k l) = V l (b + k.val)) : IsChunk X V q p b :=
  ⟨fun r k => by
    rw [logits_apply, ← hq r (b + k.val) (by omega)]
    exact Finset.sum_congr rfl fun d _ => by rw [hk], hv⟩

/-- A chunk cut out of a load. -/
theorem isChunk_slice {n : ℕ} {q : FVec Ideal S256x256 .bf16} (hq : IsLogits X K q) {b : ℕ} (hb : b + n ≤ 8192)
    {kl : FVec Ideal ⟨2, ![n, 256]⟩ .bf16} {vl : FVec Ideal ⟨2, ![n, 128]⟩ .bf16}
    (hk : ∀ (k : Fin n) (d : Fin 256), kl (ix2 k d) = K (b + k.val) d)
    (hv : ∀ (k : Fin n) (l : Fin 128), vl (ix2 k l) = V l (b + k.val)) (c : ℕ) (hc : c + 256 ≤ n)
    (h : (⟨2, ![n, 256]⟩ : Shape).Slices ![c, 0] S256x256) (h' : (⟨2, ![n, 128]⟩ : Shape).Slices ![c, 0] S256x128) :
    IsChunk X V q (extractStridedSlice S256x256 ![c, 0] kl h, extractStridedSlice S256x128 ![c, 0] vl h') (b + c) :=
  isChunk_of hq (by omega)
    (fun k d => (slice_row c kl h k d (by omega)).trans ((hk _ d).trans (by rw [Nat.add_assoc])))
    (fun k l => (slice_row c vl h' k l (by omega)).trans ((hv _ l).trans (by rw [Nat.add_assoc])))

/-- The chunk of a load of 256 keys. -/
theorem chunks256 {q : FVec Ideal S256x256 .bf16} (hq : IsLogits X K q) {b : ℕ} (hb : b + 256 ≤ 8192)
    {kl : FVec Ideal S256x256 .bf16} {vl : FVec Ideal S256x128 .bf16}
    (hk : ∀ k d : Fin 256, kl (ix2 k d) = K (b + k.val) d)
    (hv : ∀ (k : Fin 256) (l : Fin 128), vl (ix2 k l) = V l (b + k.val)) :
    Chunks X V q [(kl, vl)] (b + 256) b :=
  ⟨b, rfl, isChunk_of hq hb hk hv, rfl⟩

/-- The chunks of a load of 512 keys. -/
theorem chunks512 {q : FVec Ideal S256x256 .bf16} (hq : IsLogits X K q) {b : ℕ} (hb : b + 512 ≤ 8192)
    {kl : FVec Ideal S512x256 .bf16} {vl : FVec Ideal S512x128 .bf16}
    (hk : ∀ (k : Fin 512) (d : Fin 256), kl (ix2 k d) = K (b + k.val) d)
    (hv : ∀ (k : Fin 512) (l : Fin 128), vl (ix2 k l) = V l (b + k.val)) :
    Chunks X V q (first512 kl vl :: rest512 kl vl) (b + 512) b :=
  ⟨b + 256, rfl, isChunk_slice hq hb hk hv 256 (by decide) _ _,
    ⟨b + 0, rfl, isChunk_slice hq hb hk hv 0 (by decide) _ _,
    rfl⟩⟩

/-- The chunks of a load of 1024 keys. -/
theorem chunks1024 {q : FVec Ideal S256x256 .bf16} (hq : IsLogits X K q) {b : ℕ} (hb : b + 1024 ≤ 8192)
    {kl : FVec Ideal S1024x256 .bf16} {vl : FVec Ideal S1024x128 .bf16}
    (hk : ∀ (k : Fin 1024) (d : Fin 256), kl (ix2 k d) = K (b + k.val) d)
    (hv : ∀ (k : Fin 1024) (l : Fin 128), vl (ix2 k l) = V l (b + k.val)) :
    Chunks X V q (first1024 kl vl :: rest1024 kl vl) (b + 1024) b :=
  ⟨b + 768, rfl, isChunk_slice hq hb hk hv 768 (by decide) _ _,
    ⟨b + 512, rfl, isChunk_slice hq hb hk hv 512 (by decide) _ _,
    ⟨b + 256, rfl, isChunk_slice hq hb hk hv 256 (by decide) _ _,
    ⟨b + 0, rfl, isChunk_slice hq hb hk hv 0 (by decide) _ _,
    rfl⟩⟩⟩⟩

/-- The chunks of a load of 2048 keys. -/
theorem chunks2048 {q : FVec Ideal S256x256 .bf16} (hq : IsLogits X K q) {b : ℕ} (hb : b + 2048 ≤ 8192)
    {kl : FVec Ideal S2048x256 .bf16} {vl : FVec Ideal S2048x128 .bf16}
    (hk : ∀ (k : Fin 2048) (d : Fin 256), kl (ix2 k d) = K (b + k.val) d)
    (hv : ∀ (k : Fin 2048) (l : Fin 128), vl (ix2 k l) = V l (b + k.val)) :
    Chunks X V q (first2048 kl vl :: rest2048 kl vl) (b + 2048) b :=
  ⟨b + 1792, rfl, isChunk_slice hq hb hk hv 1792 (by decide) _ _,
    ⟨b + 1536, rfl, isChunk_slice hq hb hk hv 1536 (by decide) _ _,
    ⟨b + 1280, rfl, isChunk_slice hq hb hk hv 1280 (by decide) _ _,
    ⟨b + 1024, rfl, isChunk_slice hq hb hk hv 1024 (by decide) _ _,
    ⟨b + 768, rfl, isChunk_slice hq hb hk hv 768 (by decide) _ _,
    ⟨b + 512, rfl, isChunk_slice hq hb hk hv 512 (by decide) _ _,
    ⟨b + 256, rfl, isChunk_slice hq hb hk hv 256 (by decide) _ _,
    ⟨b + 0, rfl, isChunk_slice hq hb hk hv 0 (by decide) _ _,
    rfl⟩⟩⟩⟩⟩⟩⟩⟩

end Cert.KernelIdeal.Tile
-- ==== Proof.SbDiag.lean ====
module

public import proofs.«01_k».proof.Proof.SbState
public import proofs.«01_k».proof.Proof.SbChunks

/-! The masked tile on the diagonal: the keys of the query block itself, of which a query sees those
before it.  It starts the carry and the accumulator. -/

@[expose] public section

open Idealize.ShloMosaic Idealize.ShloMosaic.TcCoe Idealize.SL.Sem

namespace Cert.KernelIdeal.Tile

open Cert.KernelIdeal Cert.KernelIdeal.Gen Sb

set_option maxRecDepth 16384

section
variable {F : FTy → Type} [FloatOps F] [Named F]

/-- The suffix sums of the masked tile. -/
noncomputable def diagSums (q kc : FVec F S256x256 .bf16) : FVec F S256x256 .f32 :=
  sums k0_pay339 (select k0_pay342 (softplus (logits q kc)) (broadcast S256x256 (Scalar.ofBits .f32 0x00000000#32)))

/-- The weights of the masked tile. -/
noncomputable def diagWeights (q kc : FVec F S256x256 .bf16) (c : FVec F S256x1 .f32) : FVec F S256x256 .f32 :=
  select k0_pay342 (weights (logits q kc) (diagSums q kc) c) (broadcast S256x256 (Scalar.ofBits .f32 0x00000000#32))

/-- The accumulator stored after the masked tile. -/
noncomputable def diagAcc (q kc : FVec F S256x256 .bf16) (vc : FVec F S256x128 .bf16) (c : FVec F S1x256x1 .f32)
    (a : FVec F S1x256x128 .f32) : FVec F S1x256x128 .f32 :=
  shapeCast S1x256x128 (addf (shapeCast S256x128 a shapeCasts_S1x256x128_S256x128)
    (weighted (diagWeights q kc (shapeCast S256x1 c shapeCasts_S1x256x1_S256x1)) vc)) shapeCasts_S256x128_S1x256x128

/-- The carry stored after the masked tile. -/
noncomputable def diagCar (q kc : FVec F S256x256 .bf16) (c : FVec F S1x256x1 .f32) : FVec F S1x256x1 .f32 :=
  shapeCast S1x256x1 (carry (shapeCast S256x1 c shapeCasts_S1x256x1_S256x1) (diagSums q kc)) shapeCasts_S256x1_S1x256x1

/-- Head `0`'s stored accumulator. -/
theorem pay353_eq (q kc : FVec F S256x256 .bf16) (vc : FVec F S256x128 .bf16) (c : FVec F S1x256x1 .f32) (a : FVec F S1x256x128 .f32) :
    k0_pay353 vc (k0_pay352 q k0_pay339 k0_pay342 kc (k0_pay345 c)) (constant S256x128 .f32 0x00000000#32) a = diagAcc q kc vc c a := rfl

/-- Head `1`'s stored accumulator. -/
theorem pay355_eq (q kc : FVec F S256x256 .bf16) (vc : FVec F S256x128 .bf16) (c : FVec F S1x256x1 .f32) (a : FVec F S1x256x128 .f32) :
    k0_pay355 k0_pay342 vc (k0_pay346 c) (k0_pay348 q kc) (k0_pay350 q k0_pay339 k0_pay342 kc) a = diagAcc q kc vc c a := rfl

/-- Head `0`'s stored carry. -/
theorem pay354_eq (q kc : FVec F S256x256 .bf16) (c : FVec F S1x256x1 .f32) :
    k0_pay354 (k0_pay351 q k0_pay339 k0_pay342 kc (k0_pay345 c)) = diagCar q kc c := rfl

/-- Head `1`'s stored carry. -/
theorem pay356_eq (q kc : FVec F S256x256 .bf16) (c : FVec F S1x256x1 .f32) :
    k0_pay356 (k0_pay346 c) (k0_pay350 q k0_pay339 k0_pay342 kc) = diagCar q kc c := rfl

end

/-- A comparison of two coordinates below 256, signed, is that of the numbers. -/
theorem slt_ix {a b : ℕ} (ha : a < 256) (hb : b < 256) : ((BitVec.ofNat 32 a).slt (BitVec.ofNat 32 b)) = decide (a < b) := by
  have h : ∀ c, c < 256 → (BitVec.ofNat 32 c).toInt = (c : ℤ) := fun c hc => by
    rw [BitVec.toInt_eq_toNat_of_lt (by rw [BitVec.toNat_ofNat]; omega), BitVec.toNat_ofNat]; omega
  rw [BitVec.slt, h a ha, h b hb]
  simp

/-- The mask: a query sees the keys before it. -/
theorem mask_apply (r k : Fin 256) : k0_pay342 (ix2 r k) = if k.val < r.val then 1#1 else 0#1 := by
  unfold k0_pay342
  pointwise
  show BitVec.ofBool ((BitVec.ofNat 32 k.val).slt (BitVec.ofNat 32 r.val)) = _
  rw [slt_ix k.isLt r.isLt]
  by_cases h : k.val < r.val <;> simp [h]

/-- A choice by the mask. -/
theorem select_mask {M : Type} (r k : Fin 256) (a b : M) : Scalar.select (k0_pay342 (ix2 r k)) a b = if k.val < r.val then a else b := by
  rw [mask_apply, Scalar.select]
  by_cases h : k.val < r.val <;> simp [h]

/-- The matrix of the suffix sums. -/
theorem isSuffix : IsSuffix (k0_pay339 (F := Ideal)) := fun k s => by
  unfold k0_pay339
  pointwise
  show Scalar.select (BitVec.ofBool ((BitVec.ofNat 32 s.val).sle (BitVec.ofNat 32 k.val))) (1 : EReal) 0 = _
  rw [BitVec.sle_eq_not_slt, slt_ix k.isLt s.isLt, Scalar.select]
  by_cases h : k.val < s.val
  · simp [Fin.lt_def, Fin.le_def, h, Nat.not_le.mpr h]
  · simp [Fin.lt_def, Fin.le_def, h, Nat.le_of_not_lt h]

section
variable {X : Fin 256 → ℕ → ℝ} {V : Fin 128 → ℕ → EReal} {q kc : FVec Ideal S256x256 .bf16} {vc : FVec Ideal S256x128 .bf16} {b : ℕ}

/-- The suffix sums of the masked tile. -/
theorem diagSums_apply (hp : IsChunk X V q (kc, vc) b) (r s : Fin 256) :
    diagSums q kc (ix2 r s) = ((fail (X r) (b + s.val) (b + r.val) : ℝ) : EReal) := by
  rw [diagSums, sums_apply, ← chunk_sums (X r) 256 b s.val r.val r.isLt.le]
  refine Finset.sum_congr rfl fun k _ => ?_
  rw [isSuffix]
  congr 1
  show Scalar.select (k0_pay342 (ix2 r k)) (softplus (logits q kc) (ix2 r k)) (Scalar.ofBits (F := Ideal) .f32 0x00000000#32) = _
  rw [select_mask, softplus_apply _ _ _ (hp.1 r k)]
  congr 1
  pointwise

/-- The weighted values of the masked tile. -/
theorem diagWeighted_apply (hp : IsChunk X V q (kc, vc) b) (c : FVec Ideal S256x1 .f32) (hc : ∀ r : Fin 256, c (ix2 r 0) = 0)
    (r : Fin 256) (l : Fin 128) :
    weighted (diagWeights q kc c) vc (ix2 r l) = out (X r) (V l) b (b + r.val) := by
  rw [out, weighted_apply, ← chunk_out (X r) (V l) 256 b r.val (b + r.val) r.isLt.le]
  refine Finset.sum_congr rfl fun k _ => ?_
  rw [show vc (ix2 k l) = V l (b + k.val) from hp.2 k l]
  congr 1
  show Scalar.select (k0_pay342 (ix2 r k)) (weights (logits q kc) (diagSums q kc) c (ix2 r k)) (Scalar.ofBits (F := Ideal) .f32 0x00000000#32) = _
  rw [select_mask]
  congr 1
  · rw [weights_apply, hp.1 r k, diagSums_apply hp, hc r, sub_zero, ← EReal.coe_sub, Ideal.exp2_coe]
    rfl
  · pointwise

/-- The accumulator after the masked tile. -/
theorem diagAcc_apply (hp : IsChunk X V q (kc, vc) b) {c : FVec Ideal S1x256x1 .f32} {a : FVec Ideal S1x256x128 .f32}
    (hc : ∀ r : Fin 256, c (ix3 0 r 0) = 0) (ha : ∀ (r : Fin 256) (l : Fin 128), a (ix3 0 r l) = 0) (r : Fin 256) (l : Fin 128) :
    diagAcc q kc vc c a (ix3 0 r l) = out (X r) (V l) b (b + r.val) := by
  have hc' : ∀ r : Fin 256, shapeCast S256x1 c shapeCasts_S1x256x1_S256x1 (ix2 r 0) = 0 := fun r => by
    pointwise
    exact hc r
  have h := diagWeighted_apply hp _ hc' r l
  unfold diagAcc
  pointwise
  rw [h, ha, zero_add]

/-- The carry after the masked tile. -/
theorem diagCar_apply (hp : IsChunk X V q (kc, vc) b) {c : FVec Ideal S1x256x1 .f32} (hc : ∀ r : Fin 256, c (ix3 0 r 0) = 0) (r : Fin 256) :
    diagCar q kc c (ix3 0 r 0) = ((fail (X r) b (b + r.val) : ℝ) : EReal) := by
  have hc' : ∀ r : Fin 256, shapeCast S256x1 c shapeCasts_S1x256x1_S256x1 (ix2 r 0) = 0 := fun r => by
    pointwise
    exact hc r
  have h := diagSums_apply hp r 0
  unfold diagCar
  pointwise
  rw [carry_apply, hc', zero_add, h]
  rfl

end

/-! ### The cleared scratch buffers -/

theorem zeros_acc (j : S2x256x128.Idx) : k0_pay340 (F := Ideal) j = 0 := by
  unfold k0_pay340
  pointwise

theorem zeros_car (j : S2x256x1.Idx) : k0_pay341 (F := Ideal) j = 0 := by
  unfold k0_pay341
  pointwise

section
variable (v7 : View sig .tc .vmem S2x256x128 .f32) (v8 : View sig .tc .vmem S2x256x1 .f32)

theorem car0_zero (r : Fin 256) (g : v8.ty.Contents (Elt Ideal)) :
    car0 v8 (v8.writes (Elt Ideal) g [⟨Rect.unit (s := S2x256x1) ![0, 0, 0] S2x256x1.size inb_S2x256x1_S2x256x1_0_0_0, k0_pay341 (F := Ideal)⟩]) (ix3 0 r 0) = 0 := by
  refine Eq.trans ?_ (zeros_car (ix3 0 r 0))
  refine Eq.trans ?_ (View.read_writes_cons_emb v8 g (Rect.unit (s := S2x256x1) ![0, 0, 0] S2x256x1.size inb_S2x256x1_S2x256x1_0_0_0) (k0_pay341 (F := Ideal)) [] (ix3 0 r 0))
  refine congrArg (v8.read (Elt Ideal) _) (funext fun a => Fin.ext ?_)
  match a with
  | ⟨0, _⟩ => rfl
  | ⟨1, _⟩ => rfl
  | ⟨2, _⟩ => rfl

theorem car1_zero (r : Fin 256) (g : v8.ty.Contents (Elt Ideal)) :
    car1 v8 (v8.writes (Elt Ideal) g [⟨Rect.unit (s := S2x256x1) ![0, 0, 0] S2x256x1.size inb_S2x256x1_S2x256x1_0_0_0, k0_pay341 (F := Ideal)⟩]) (ix3 0 r 0) = 0 := by
  refine Eq.trans ?_ (zeros_car (ix3 1 r 0))
  refine Eq.trans ?_ (View.read_writes_cons_emb v8 g (Rect.unit (s := S2x256x1) ![0, 0, 0] S2x256x1.size inb_S2x256x1_S2x256x1_0_0_0) (k0_pay341 (F := Ideal)) [] (ix3 1 r 0))
  refine congrArg (v8.read (Elt Ideal) _) (funext fun a => Fin.ext ?_)
  match a with
  | ⟨0, _⟩ => rfl
  | ⟨1, _⟩ => rfl
  | ⟨2, _⟩ => rfl

theorem acc0_zero (r : Fin 256) (l : Fin 128) (f : v7.ty.Contents (Elt Ideal)) :
    acc0 v7 (v7.writes (Elt Ideal) f [⟨Rect.unit (s := S2x256x128) ![0, 0, 0] S2x256x128.size inb_S2x256x128_S2x256x128_0_0_0, k0_pay340 (F := Ideal)⟩]) (ix3 0 r l) = 0 := by
  refine Eq.trans ?_ (zeros_acc (ix3 0 r l))
  refine Eq.trans ?_ (View.read_writes_cons_emb v7 f (Rect.unit (s := S2x256x128) ![0, 0, 0] S2x256x128.size inb_S2x256x128_S2x256x128_0_0_0) (k0_pay340 (F := Ideal)) [] (ix3 0 r l))
  refine congrArg (v7.read (Elt Ideal) _) (funext fun a => Fin.ext ?_)
  match a with
  | ⟨0, _⟩ => rfl
  | ⟨1, _⟩ => rfl
  | ⟨2, _⟩ => rfl

theorem acc1_zero (r : Fin 256) (l : Fin 128) (f : v7.ty.Contents (Elt Ideal)) (w0) :
    acc1 v7 (v7.writes (Elt Ideal) f [⟨Rect.unit (s := S2x256x128) ![0, 0, 0] S1x256x128.size inb_S2x256x128_S1x256x128_0_0_0, w0⟩,
      ⟨Rect.unit (s := S2x256x128) ![0, 0, 0] S2x256x128.size inb_S2x256x128_S2x256x128_0_0_0, k0_pay340 (F := Ideal)⟩]) (ix3 0 r l) = 0 := by
  refine Eq.trans ?_ (zeros_acc (ix3 1 r l))
  refine Eq.trans ?_ (View.read_writes_cons_emb v7 f (Rect.unit (s := S2x256x128) ![0, 0, 0] S2x256x128.size inb_S2x256x128_S2x256x128_0_0_0) (k0_pay340 (F := Ideal)) [] (ix3 1 r l))
  refine (View.read_writes_cons_miss_of_axis v7 f _ _ _ 0 0 1 rfl rfl rfl (Or.inr ?_)).trans ?_
  · show 0 + 1 ≤ 1 + 1 * 0
    omega
  · refine congrArg (v7.read (Elt Ideal) _) (funext fun a => Fin.ext ?_)
    match a with
    | ⟨0, _⟩ => rfl
    | ⟨1, _⟩ => rfl
    | ⟨2, _⟩ => rfl

end

end Cert.KernelIdeal.Tile
-- ==== Proof.SbTrips.lean ====
module

public import proofs.«01_k».proof.Proof.SbTile

/-! What one trip of each of the four loops stores: the canonical pieces of the chunks it loads. -/

@[expose] public section

open Idealize.ShloMosaic Idealize.ShloMosaic.TcCoe Idealize.SL.Sem

namespace Cert.KernelIdeal.Tile

open Cert.KernelIdeal Cert.KernelIdeal.Gen

set_option maxRecDepth 65536

variable {F : FTy → Type} [FloatOps F] [Named F]
variable (𝒱 : Variants) (c : Dev nD) (bd : Option 𝒱.V) (i : grid0.Coords) (arg2 : Memref sig .tc .smem S16 .f32) (harg2 : arg2.IsWhole)
  (arg3 : Memref sig .tc .vmem S256x128 .bf16) (harg3 : arg3.IsWhole) (arg4 : Memref sig .tc .vmem S8192x256 .bf16) (harg4 : arg4.IsWhole)
  (arg5 : Memref sig .tc .vmem S8192x128 .bf16) (harg5 : arg5.IsWhole) (arg6 : Memref sig .tc .vmem S256x128 .f32) (harg6 : arg6.IsWhole)
  (arg7 : Memref sig .tc .vmem S2x256x128 .f32) (harg7 : arg7.IsWhole) (arg8 : Memref sig .tc .vmem S2x256x1 .f32) (harg8 : arg8.IsWhole)
  (v0 : IVec S256x128 32) (v49 v95 v102 : FVec F S256x256 .bf16)
  (X4 : BufTy.Contents (Elt F) arg4.view.ty) (X5 : BufTy.Contents (Elt F) arg5.view.ty)

/-- The keys a trip of the loop over 256 keys loads. -/
noncomputable abbrev kload7 (k : Fin (k0_t7_loop i).trips) : FVec F S256x256 .bf16 :=
  shapeCast S256x256 (arg4.view.readAt (Elt F) (Rect.unit (s := S8192x256) (k0_off16 i k) S256x256.size (k0_off16_inb i k)).toLoadRect X4)
    shapeCasts_S256x256_S256x256
/-- The values a trip of the loop over 256 keys loads. -/
noncomputable abbrev vload7 (k : Fin (k0_t7_loop i).trips) : FVec F S256x128 .bf16 :=
  shapeCast S256x128 (arg5.view.readAt (Elt F) (Rect.unit (s := S8192x128) (k0_off17 i k) S256x128.size (k0_off17_inb i k)).toLoadRect X5)
    shapeCasts_S256x128_S256x128

/-- A trip of the loop over 256 keys. -/
theorem trip7 (a1 a2 a3 a4 a5) (k : Fin (k0_t7_loop i).trips) (f7 f8) :
    tripL_k0_t7 (F := F) 𝒱 c bd i arg2 harg2 arg3 harg3 arg4 harg4 arg5 harg5 arg6 harg6 arg7 harg7 arg8 harg8 v0 v49 v95 v102 a1 a2 a3 a4 a5 X4 X5 k f7 f8 =
      (fun kl vl => (accPieces arg7.view arg8.view v49 v95 v102 (kl, vl) [] f7 f8, carPieces arg8.view v49 v95 v102 [(kl, vl)] f8))
        (kload7 i arg4 X4 k) (vload7 i arg5 X5 k) := by
  unfold tripL_k0_t7 trip_k0_t7
  dsimp only
  rfl

/-- The keys a trip of the loop over 512 keys loads. -/
noncomputable abbrev kload5 (k : Fin (k0_t5_loop i).trips) : FVec F S512x256 .bf16 :=
  shapeCast S512x256 (arg4.view.readAt (Elt F) (Rect.unit (s := S8192x256) (k0_off12 i k) S512x256.size (k0_off12_inb i k)).toLoadRect X4)
    shapeCasts_S512x256_S512x256
/-- The values a trip of the loop over 512 keys loads. -/
noncomputable abbrev vload5 (k : Fin (k0_t5_loop i).trips) : FVec F S512x128 .bf16 :=
  shapeCast S512x128 (arg5.view.readAt (Elt F) (Rect.unit (s := S8192x128) (k0_off13 i k) S512x128.size (k0_off13_inb i k)).toLoadRect X5)
    shapeCasts_S512x128_S512x128

/-- A trip of the loop over 512 keys. -/
theorem trip5 (a1 a2 a3 a4 a5) (k : Fin (k0_t5_loop i).trips) (f7 f8) :
    tripL_k0_t5 (F := F) 𝒱 c bd i arg2 harg2 arg3 harg3 arg4 harg4 arg5 harg5 arg6 harg6 arg7 harg7 arg8 harg8 v49 v95 v102 a1 a2 a3 a4 a5 X4 X5 k f7 f8 =
      (fun kl vl => (accPieces arg7.view arg8.view v49 v95 v102 (first512 kl vl) (rest512 kl vl) f7 f8, carPieces arg8.view v49 v95 v102 (first512 kl vl :: rest512 kl vl) f8))
        (kload5 i arg4 X4 k) (vload5 i arg5 X5 k) := by
  unfold tripL_k0_t5 trip_k0_t5
  dsimp only
  rfl

/-- The keys a trip of the loop over 1024 keys loads. -/
noncomputable abbrev kload3 (k : Fin (k0_t3_loop i).trips) : FVec F S1024x256 .bf16 :=
  shapeCast S1024x256 (arg4.view.readAt (Elt F) (Rect.unit (s := S8192x256) (k0_off8 i k) S1024x256.size (k0_off8_inb i k)).toLoadRect X4)
    shapeCasts_S1024x256_S1024x256
/-- The values a trip of the loop over 1024 keys loads. -/
noncomputable abbrev vload3 (k : Fin (k0_t3_loop i).trips) : FVec F S1024x128 .bf16 :=
  shapeCast S1024x128 (arg5.view.readAt (Elt F) (Rect.unit (s := S8192x128) (k0_off9 i k) S1024x128.size (k0_off9_inb i k)).toLoadRect X5)
    shapeCasts_S1024x128_S1024x128

/-- A trip of the loop over 1024 keys. -/
theorem trip3 (a1 a2 a3 a4) (k : Fin (k0_t3_loop i).trips) (f7 f8) :
    tripL_k0_t3 (F := F) 𝒱 c bd i arg2 harg2 arg3 harg3 arg4 harg4 arg5 harg5 arg6 harg6 arg7 harg7 arg8 harg8 v49 v95 v102 a1 a2 a3 a4 X4 X5 k f7 f8 =
      (fun kl vl => (accPieces arg7.view arg8.view v49 v95 v102 (first1024 kl vl) (rest1024 kl vl) f7 f8, carPieces arg8.view v49 v95 v102 (first1024 kl vl :: rest1024 kl vl) f8))
        (kload3 i arg4 X4 k) (vload3 i arg5 X5 k) := by
  unfold tripL_k0_t3 trip_k0_t3
  dsimp only
  rfl

/-- The keys a trip of the loop over 2048 keys loads. -/
noncomputable abbrev kload1 (k : Fin (k0_t1_loop i).trips) : FVec F S2048x256 .bf16 :=
  shapeCast S2048x256 (arg4.view.readAt (Elt F) (Rect.unit (s := S8192x256) (k0_off4 i k) S2048x256.size (k0_off4_inb i k)).toLoadRect X4)
    shapeCasts_S2048x256_S2048x256
/-- The values a trip of the loop over 2048 keys loads. -/
noncomputable abbrev vload1 (k : Fin (k0_t1_loop i).trips) : FVec F S2048x128 .bf16 :=
  shapeCast S2048x128 (arg5.view.readAt (Elt F) (Rect.unit (s := S8192x128) (k0_off5 i k) S2048x128.size (k0_off5_inb i k)).toLoadRect X5)
    shapeCasts_S2048x128_S2048x128

set_option maxHeartbeats 4000000 in
/-- A trip of the loop over 2048 keys. -/
theorem trip1 (a0 a1 a2 a3 a4) (k : Fin (k0_t1_loop i).trips) (f7 f8) :
    tripL_k0_t1 (F := F) 𝒱 c bd i arg2 harg2 arg3 harg3 arg4 harg4 arg5 harg5 arg6 harg6 arg7 harg7 arg8 harg8 a0 v49 v95 v102 a1 a2 a3 a4 X4 X5 k f7 f8 =
      (fun kl vl => (accPieces arg7.view arg8.view v49 v95 v102 (first2048 kl vl) (rest2048 kl vl) f7 f8, carPieces arg8.view v49 v95 v102 (first2048 kl vl :: rest2048 kl vl) f8))
        (kload1 i arg4 X4 k) (vload1 i arg5 X5 k) := by
  unfold tripL_k0_t1 trip_k0_t1
  dsimp only
  rfl

end Cert.KernelIdeal.Tile
-- ==== Proof.SbIndex.lean ====
module

public import proofs.«01_k».proof.Proof.Gen.KernelIdeal.Loops

/-! The trip counts of the eight loops of the attention kernel and the positions their trips load
from, by evaluation over the 32 query tiles. -/

@[expose] public section

open Idealize.ShloMosaic Idealize.ShloMosaic.TcCoe Idealize.SL.Sem

namespace Cert.KernelIdeal.Tile

open Cert.KernelIdeal Cert.KernelIdeal.Gen

/-- The grid point of head pair `0` at query tile `n`. -/
def pt (n : Fin 32) : grid0.Coords := fun a => match a with
  | ⟨0, _⟩ => (⟨0, by decide⟩ : Fin 8)
  | ⟨1, _⟩ => n

theorem trips1 (i : grid0.Coords) : (k0_t1_loop i).trips = (i 1).val % 32 / 8 := by
  have h : ∀ n : Fin 32, (k0_t1_loop (pt n)).trips = n.val % 32 / 8 := by decide +kernel
  exact h (i 1)

theorem trips2 (i : grid0.Coords) : (k0_t2_loop i).trips = 0 := by
  have h : ∀ n : Fin 32, (k0_t2_loop (pt n)).trips = 0 := by decide +kernel
  exact h (i 1)

theorem koff1 (i : grid0.Coords) (k : Fin (k0_t1_loop i).trips) :
    k0_off4 i k = ![256 * ((i 1).val % 32 - 8 * (k.val + 1)), 0] := by
  have h : ∀ (n : Fin 32) (k : Fin (k0_t1_loop (pt n)).trips), k0_off4 (pt n) k = ![256 * (n.val % 32 - 8 * (k.val + 1)), 0] := by
    decide +kernel
  exact h (i 1) k

theorem voff1 (i : grid0.Coords) (k : Fin (k0_t1_loop i).trips) :
    k0_off5 i k = ![256 * ((i 1).val % 32 - 8 * (k.val + 1)), 0] := koff1 i k

theorem trips3 (i : grid0.Coords) : (k0_t3_loop i).trips = (i 1).val % 8 / 4 := by
  have h : ∀ n : Fin 32, (k0_t3_loop (pt n)).trips = n.val % 8 / 4 := by decide +kernel
  exact h (i 1)

theorem trips4 (i : grid0.Coords) : (k0_t4_loop i).trips = 0 := by
  have h : ∀ n : Fin 32, (k0_t4_loop (pt n)).trips = 0 := by decide +kernel
  exact h (i 1)

theorem koff3 (i : grid0.Coords) (k : Fin (k0_t3_loop i).trips) :
    k0_off8 i k = ![256 * ((i 1).val % 8 - 4 * (k.val + 1)), 0] := by
  have h : ∀ (n : Fin 32) (k : Fin (k0_t3_loop (pt n)).trips), k0_off8 (pt n) k = ![256 * (n.val % 8 - 4 * (k.val + 1)), 0] := by
    decide +kernel
  exact h (i 1) k

theorem voff3 (i : grid0.Coords) (k : Fin (k0_t3_loop i).trips) :
    k0_off9 i k = ![256 * ((i 1).val % 8 - 4 * (k.val + 1)), 0] := koff3 i k

theorem trips5 (i : grid0.Coords) : (k0_t5_loop i).trips = (i 1).val % 4 / 2 := by
  have h : ∀ n : Fin 32, (k0_t5_loop (pt n)).trips = n.val % 4 / 2 := by decide +kernel
  exact h (i 1)

theorem trips6 (i : grid0.Coords) : (k0_t6_loop i).trips = 0 := by
  have h : ∀ n : Fin 32, (k0_t6_loop (pt n)).trips = 0 := by decide +kernel
  exact h (i 1)

theorem koff5 (i : grid0.Coords) (k : Fin (k0_t5_loop i).trips) :
    k0_off12 i k = ![256 * ((i 1).val % 4 - 2 * (k.val + 1)), 0] := by
  have h : ∀ (n : Fin 32) (k : Fin (k0_t5_loop (pt n)).trips), k0_off12 (pt n) k = ![256 * (n.val % 4 - 2 * (k.val + 1)), 0] := by
    decide +kernel
  exact h (i 1) k

theorem voff5 (i : grid0.Coords) (k : Fin (k0_t5_loop i).trips) :
    k0_off13 i k = ![256 * ((i 1).val % 4 - 2 * (k.val + 1)), 0] := koff5 i k

theorem trips7 (i : grid0.Coords) : (k0_t7_loop i).trips = (i 1).val % 2 / 1 := by
  have h : ∀ n : Fin 32, (k0_t7_loop (pt n)).trips = n.val % 2 / 1 := by decide +kernel
  exact h (i 1)

theorem trips8 (i : grid0.Coords) : (k0_t8_loop i).trips = 0 := by
  have h : ∀ n : Fin 32, (k0_t8_loop (pt n)).trips = 0 := by decide +kernel
  exact h (i 1)

theorem koff7 (i : grid0.Coords) (k : Fin (k0_t7_loop i).trips) :
    k0_off16 i k = ![256 * ((i 1).val % 2 - 1 * (k.val + 1)), 0] := by
  have h : ∀ (n : Fin 32) (k : Fin (k0_t7_loop (pt n)).trips), k0_off16 (pt n) k = ![256 * (n.val % 2 - 1 * (k.val + 1)), 0] := by
    decide +kernel
  exact h (i 1) k

theorem voff7 (i : grid0.Coords) (k : Fin (k0_t7_loop i).trips) :
    k0_off17 i k = ![256 * ((i 1).val % 2 - 1 * (k.val + 1)), 0] := koff7 i k

end Cert.KernelIdeal.Tile
-- ==== Proof.SbLoops.lean ====
module

public import proofs.«01_k».proof.Proof.SbTrips
public import proofs.«01_k».proof.Proof.SbState
public import proofs.«01_k».proof.Proof.SbChunks
public import proofs.«01_k».proof.Proof.SbIndex
public import Idealize.ShloMosaic.Lib.Pipeline.Value

/-! The eight loops: each takes the scratch buffers from the keys above a position to the keys above
the position where the loop ends. -/

@[expose] public section

open Idealize.ShloMosaic Idealize.ShloMosaic.TcCoe Idealize.SL.Sem

namespace Cert.KernelIdeal.Tile

open Cert.KernelIdeal Cert.KernelIdeal.Gen Sb

set_option maxRecDepth 16384

/-- The augmented keys, by position. -/
noncomputable def keysAt (x2 : FVec Ideal S8192x256 .bf16) (s : ℕ) (d : Fin 256) : EReal :=
  if h : s < 8192 then x2 (ix2 ⟨s, h⟩ d) else 0

/-- The values, by position. -/
noncomputable def valsAt (x3 : FVec Ideal S8192x128 .bf16) (l : Fin 128) (s : ℕ) : EReal :=
  if h : s < 8192 then x3 (ix2 ⟨s, h⟩ l) else 0

/-- A load of rows of a whole buffer. -/
theorem load_row {sig : RefSig} {w n : ℕ} (arg : Memref sig .tc .vmem ⟨2, ![8192, w]⟩ .bf16) (harg : arg.IsWhole)
    (x : FVec Ideal ⟨2, ![8192, w]⟩ .bf16) (off : Fin 2 → ℕ) (o : ℕ) (ho : off = ![o, 0])
    (inb : ∀ a, off a + (![n, w] : Fin 2 → ℕ) a ≤ (⟨2, ![8192, w]⟩ : Shape).size a)
    (h : (⟨2, ![n, w]⟩ : Shape).ShapeCasts ⟨2, ![n, w]⟩) (k : Fin n) (d : Fin w) (hk : o + k.val < 8192) :
    shapeCast (⟨2, ![n, w]⟩ : Shape)
      (arg.view.readAt (Elt Ideal) (Rect.unit (s := ⟨2, ![8192, w]⟩) off ![n, w] inb).toLoadRect (harg.unread x)) h (ix2 k d)
      = x (ix2 ⟨o + k.val, hk⟩ d) := by
  subst ho
  refine (congrFun (shapeCast_self (s := ⟨2, ![n, w]⟩) _ h) (ix2 k d)).trans ?_
  show arg.view.read (Elt Ideal) (harg.unread x) _ = _
  rw [harg.read_unread]
  refine congrArg x (funext fun a => Fin.ext ?_)
  match a with
  | ⟨0, _⟩ => show o + 1 * k.val = o + k.val; omega
  | ⟨1, _⟩ => show 0 + 1 * d.val = d.val; omega

section
variable (𝒱 : Variants) (c : Dev nD) (bd : Option 𝒱.V) (i : grid0.Coords) (arg2 : Memref sig .tc .smem S16 .f32) (harg2 : arg2.IsWhole)
  (arg3 : Memref sig .tc .vmem S256x128 .bf16) (harg3 : arg3.IsWhole) (arg4 : Memref sig .tc .vmem S8192x256 .bf16) (harg4 : arg4.IsWhole)
  (arg5 : Memref sig .tc .vmem S8192x128 .bf16) (harg5 : arg5.IsWhole) (arg6 : Memref sig .tc .vmem S256x128 .f32) (harg6 : arg6.IsWhole)
  (arg7 : Memref sig .tc .vmem S2x256x128 .f32) (harg7 : arg7.IsWhole) (arg8 : Memref sig .tc .vmem S2x256x1 .f32) (harg8 : arg8.IsWhole)
  (v0 : IVec S256x128 32) (v49 v95 v102 : FVec Ideal S256x256 .bf16)
  (x2 : FVec Ideal S8192x256 .bf16) (x3 : FVec Ideal S8192x128 .bf16)
  {X0 X1 : Fin 256 → ℕ → ℝ} {row : Fin 256 → ℕ}

/-- The chunks of a trip of the loop over 2048 keys. -/
theorem tripChunks1 {X : Fin 256 → ℕ → ℝ} {q : FVec Ideal S256x256 .bf16} (hq : IsLogits X (keysAt x2) q) (k : Fin (k0_t1_loop i).trips) :
    Chunks X (valsAt x3) q (first2048 (kload1 i arg4 (harg4.unread x2) k) (vload1 i arg5 (harg5.unread x3) k) :: rest2048 (kload1 i arg4 (harg4.unread x2) k) (vload1 i arg5 (harg5.unread x3) k))
      (256 * ((i 1).val % 32 - 8 * k.val)) (256 * ((i 1).val % 32 - 8 * (k.val + 1))) := by
  have hk : k.val < (i 1).val % 32 / 8 := lt_of_lt_of_eq k.isLt (trips1 i)
  have hi : (i 1).val < 32 := (i 1).isLt
  rw [show 256 * ((i 1).val % 32 - 8 * k.val) = 256 * ((i 1).val % 32 - 8 * (k.val + 1)) + 2048 by omega]
  refine chunks2048 hq (by omega) (fun j d => ?_) (fun j l => ?_)
  · have hj : 256 * ((i 1).val % 32 - 8 * (k.val + 1)) + j.val < 8192 := by omega
    rw [keysAt, dif_pos hj]
    exact load_row arg4 harg4 x2 _ _ (koff1 i k) _ _ j d hj
  · have hj : 256 * ((i 1).val % 32 - 8 * (k.val + 1)) + j.val < 8192 := by omega
    rw [valsAt, dif_pos hj]
    exact load_row arg5 harg5 x3 _ _ (voff1 i k) _ _ j l hj

/-- The loop over 2048 keys a trip. -/
theorem loop1 (a0 a1 a2 a3 a4) (hm : IsSuffix v102) (hq0 : IsLogits X0 (keysAt x2) v49) (hq1 : IsLogits X1 (keysAt x2) v95)
    (hr : ∀ r, 256 * ((i 1).val % 32) ≤ row r) (F7 : arg7.view.ty.Contents (Elt Ideal)) (F8 : arg8.view.ty.Contents (Elt Ideal)) (L7 L8)
    (h : Inv X0 X1 (valsAt x3) row arg7.view arg8.view (arg7.view.writes (Elt Ideal) F7 L7) (arg8.view.writes (Elt Ideal) F8 L8)
      (256 * ((i 1).val % 32))) :
    Inv X0 X1 (valsAt x3) row arg7.view arg8.view
      (arg7.view.writes (Elt Ideal) F7 ((pb_k0_t1 (F := Ideal) 𝒱 c bd i arg2 harg2 arg3 harg3 arg4 harg4 arg5 harg5 arg6 harg6 arg7 harg7 arg8 harg8 a0 v49 v95 v102 a1 a2 a3 a4 (harg4.unread x2) (harg5.unread x3)
        (arg7.view.writes (Elt Ideal) F7 L7) (arg8.view.writes (Elt Ideal) F8 L8) (k0_t1_loop i).trips).1 ++ L7))
      (arg8.view.writes (Elt Ideal) F8 ((pb_k0_t1 (F := Ideal) 𝒱 c bd i arg2 harg2 arg3 harg3 arg4 harg4 arg5 harg5 arg6 harg6 arg7 harg7 arg8 harg8 a0 v49 v95 v102 a1 a2 a3 a4 (harg4.unread x2) (harg5.unread x3)
        (arg7.view.writes (Elt Ideal) F7 L7) (arg8.view.writes (Elt Ideal) F8 L8) (k0_t1_loop i).trips).2 ++ L8))
      (256 * ((i 1).val % 8)) := by
  rw [View.writes_append, View.writes_append]
  generalize arg7.view.writes (Elt Ideal) F7 L7 = G7 at h ⊢
  generalize arg8.view.writes (Elt Ideal) F8 L8 = G8 at h ⊢
  have key : ∀ n, n ≤ (k0_t1_loop i).trips →
      Inv X0 X1 (valsAt x3) row arg7.view arg8.view
        (arg7.view.writes (Elt Ideal) G7 (pb_k0_t1 (F := Ideal) 𝒱 c bd i arg2 harg2 arg3 harg3 arg4 harg4 arg5 harg5 arg6 harg6 arg7 harg7 arg8 harg8 a0 v49 v95 v102 a1 a2 a3 a4 (harg4.unread x2) (harg5.unread x3) G7 G8 n).1)
        (arg8.view.writes (Elt Ideal) G8 (pb_k0_t1 (F := Ideal) 𝒱 c bd i arg2 harg2 arg3 harg3 arg4 harg4 arg5 harg5 arg6 harg6 arg7 harg7 arg8 harg8 a0 v49 v95 v102 a1 a2 a3 a4 (harg4.unread x2) (harg5.unread x3) G7 G8 n).2)
        (256 * ((i 1).val % 32 - 8 * n)) := by
    intro n
    induction n with
    | zero => exact fun _ => h
    | succ n ih =>
      intro hn
      have hlt : n < (k0_t1_loop i).trips := hn
      have ih := ih (Nat.le_of_lt hlt)
      rw [pb_k0_t1_succ (F := Ideal) 𝒱 c bd i arg2 harg2 arg3 harg3 arg4 harg4 arg5 harg5 arg6 harg6 arg7 harg7 arg8 harg8 a0 v49 v95 v102 a1 a2 a3 a4 (harg4.unread x2) (harg5.unread x3) G7 G8 ⟨n, hlt⟩, trip1]
      dsimp only
      rw [View.writes_append, View.writes_append]
      exact ih.trip hm (tripChunks1 i arg4 harg4 arg5 harg5 x2 x3 hq0 ⟨n, hlt⟩) (tripChunks1 i arg4 harg4 arg5 harg5 x2 x3 hq1 ⟨n, hlt⟩)
        fun r => le_trans (Nat.mul_le_mul_left _ (Nat.sub_le _ _)) (hr r)
  have := key _ le_rfl
  have e : (i 1).val % 32 - 8 * (k0_t1_loop i).trips = (i 1).val % 8 := by rw [trips1]; omega
  rwa [e] at this

/-- The loop after it makes no trip. -/
theorem loop2 (a0 a1 a2 a3 a4 a5) (lo : ℕ) (F7 : arg7.view.ty.Contents (Elt Ideal)) (F8 : arg8.view.ty.Contents (Elt Ideal)) (L7 L8)
    (h : Inv X0 X1 (valsAt x3) row arg7.view arg8.view (arg7.view.writes (Elt Ideal) F7 L7) (arg8.view.writes (Elt Ideal) F8 L8) lo) :
    Inv X0 X1 (valsAt x3) row arg7.view arg8.view
      (arg7.view.writes (Elt Ideal) F7 ((pb_k0_t2 (F := Ideal) 𝒱 c bd i arg2 harg2 arg3 harg3 arg4 harg4 arg5 harg5 arg6 harg6 arg7 harg7 arg8 harg8 a0 v49 v95 v102 a1 a2 a3 a4 a5 (harg4.unread x2) (harg5.unread x3)
        (arg7.view.writes (Elt Ideal) F7 L7) (arg8.view.writes (Elt Ideal) F8 L8) (k0_t2_loop i).trips).1 ++ L7))
      (arg8.view.writes (Elt Ideal) F8 ((pb_k0_t2 (F := Ideal) 𝒱 c bd i arg2 harg2 arg3 harg3 arg4 harg4 arg5 harg5 arg6 harg6 arg7 harg7 arg8 harg8 a0 v49 v95 v102 a1 a2 a3 a4 a5 (harg4.unread x2) (harg5.unread x3)
        (arg7.view.writes (Elt Ideal) F7 L7) (arg8.view.writes (Elt Ideal) F8 L8) (k0_t2_loop i).trips).2 ++ L8)) lo := by
  rw [trips2]
  exact h

/-- The chunks of a trip of the loop over 1024 keys. -/
theorem tripChunks3 {X : Fin 256 → ℕ → ℝ} {q : FVec Ideal S256x256 .bf16} (hq : IsLogits X (keysAt x2) q) (k : Fin (k0_t3_loop i).trips) :
    Chunks X (valsAt x3) q (first1024 (kload3 i arg4 (harg4.unread x2) k) (vload3 i arg5 (harg5.unread x3) k) :: rest1024 (kload3 i arg4 (harg4.unread x2) k) (vload3 i arg5 (harg5.unread x3) k))
      (256 * ((i 1).val % 8 - 4 * k.val)) (256 * ((i 1).val % 8 - 4 * (k.val + 1))) := by
  have hk : k.val < (i 1).val % 8 / 4 := lt_of_lt_of_eq k.isLt (trips3 i)
  have hi : (i 1).val < 32 := (i 1).isLt
  rw [show 256 * ((i 1).val % 8 - 4 * k.val) = 256 * ((i 1).val % 8 - 4 * (k.val + 1)) + 1024 by omega]
  refine chunks1024 hq (by omega) (fun j d => ?_) (fun j l => ?_)
  · have hj : 256 * ((i 1).val % 8 - 4 * (k.val + 1)) + j.val < 8192 := by omega
    rw [keysAt, dif_pos hj]
    exact load_row arg4 harg4 x2 _ _ (koff3 i k) _ _ j d hj
  · have hj : 256 * ((i 1).val % 8 - 4 * (k.val + 1)) + j.val < 8192 := by omega
    rw [valsAt, dif_pos hj]
    exact load_row arg5 harg5 x3 _ _ (voff3 i k) _ _ j l hj

/-- The loop over 1024 keys a trip. -/
theorem loop3 (a1 a2 a3 a4) (hm : IsSuffix v102) (hq0 : IsLogits X0 (keysAt x2) v49) (hq1 : IsLogits X1 (keysAt x2) v95)
    (hr : ∀ r, 256 * ((i 1).val % 8) ≤ row r) (F7 : arg7.view.ty.Contents (Elt Ideal)) (F8 : arg8.view.ty.Contents (Elt Ideal)) (L7 L8)
    (h : Inv X0 X1 (valsAt x3) row arg7.view arg8.view (arg7.view.writes (Elt Ideal) F7 L7) (arg8.view.writes (Elt Ideal) F8 L8)
      (256 * ((i 1).val % 8))) :
    Inv X0 X1 (valsAt x3) row arg7.view arg8.view
      (arg7.view.writes (Elt Ideal) F7 ((pb_k0_t3 (F := Ideal) 𝒱 c bd i arg2 harg2 arg3 harg3 arg4 harg4 arg5 harg5 arg6 harg6 arg7 harg7 arg8 harg8 v49 v95 v102 a1 a2 a3 a4 (harg4.unread x2) (harg5.unread x3)
        (arg7.view.writes (Elt Ideal) F7 L7) (arg8.view.writes (Elt Ideal) F8 L8) (k0_t3_loop i).trips).1 ++ L7))
      (arg8.view.writes (Elt Ideal) F8 ((pb_k0_t3 (F := Ideal) 𝒱 c bd i arg2 harg2 arg3 harg3 arg4 harg4 arg5 harg5 arg6 harg6 arg7 harg7 arg8 harg8 v49 v95 v102 a1 a2 a3 a4 (harg4.unread x2) (harg5.unread x3)
        (arg7.view.writes (Elt Ideal) F7 L7) (arg8.view.writes (Elt Ideal) F8 L8) (k0_t3_loop i).trips).2 ++ L8))
      (256 * ((i 1).val % 4)) := by
  rw [View.writes_append, View.writes_append]
  generalize arg7.view.writes (Elt Ideal) F7 L7 = G7 at h ⊢
  generalize arg8.view.writes (Elt Ideal) F8 L8 = G8 at h ⊢
  have key : ∀ n, n ≤ (k0_t3_loop i).trips →
      Inv X0 X1 (valsAt x3) row arg7.view arg8.view
        (arg7.view.writes (Elt Ideal) G7 (pb_k0_t3 (F := Ideal) 𝒱 c bd i arg2 harg2 arg3 harg3 arg4 harg4 arg5 harg5 arg6 harg6 arg7 harg7 arg8 harg8 v49 v95 v102 a1 a2 a3 a4 (harg4.unread x2) (harg5.unread x3) G7 G8 n).1)
        (arg8.view.writes (Elt Ideal) G8 (pb_k0_t3 (F := Ideal) 𝒱 c bd i arg2 harg2 arg3 harg3 arg4 harg4 arg5 harg5 arg6 harg6 arg7 harg7 arg8 harg8 v49 v95 v102 a1 a2 a3 a4 (harg4.unread x2) (harg5.unread x3) G7 G8 n).2)
        (256 * ((i 1).val % 8 - 4 * n)) := by
    intro n
    induction n with
    | zero => exact fun _ => h
    | succ n ih =>
      intro hn
      have hlt : n < (k0_t3_loop i).trips := hn
      have ih := ih (Nat.le_of_lt hlt)
      rw [pb_k0_t3_succ (F := Ideal) 𝒱 c bd i arg2 harg2 arg3 harg3 arg4 harg4 arg5 harg5 arg6 harg6 arg7 harg7 arg8 harg8 v49 v95 v102 a1 a2 a3 a4 (harg4.unread x2) (harg5.unread x3) G7 G8 ⟨n, hlt⟩, trip3]
      dsimp only
      rw [View.writes_append, View.writes_append]
      exact ih.trip hm (tripChunks3 i arg4 harg4 arg5 harg5 x2 x3 hq0 ⟨n, hlt⟩) (tripChunks3 i arg4 harg4 arg5 harg5 x2 x3 hq1 ⟨n, hlt⟩)
        fun r => le_trans (Nat.mul_le_mul_left _ (Nat.sub_le _ _)) (hr r)
  have := key _ le_rfl
  have e : (i 1).val % 8 - 4 * (k0_t3_loop i).trips = (i 1).val % 4 := by rw [trips3]; omega
  rwa [e] at this

/-- The loop after it makes no trip. -/
theorem loop4 (a1 a2 a3 a4 a5) (lo : ℕ) (F7 : arg7.view.ty.Contents (Elt Ideal)) (F8 : arg8.view.ty.Contents (Elt Ideal)) (L7 L8)
    (h : Inv X0 X1 (valsAt x3) row arg7.view arg8.view (arg7.view.writes (Elt Ideal) F7 L7) (arg8.view.writes (Elt Ideal) F8 L8) lo) :
    Inv X0 X1 (valsAt x3) row arg7.view arg8.view
      (arg7.view.writes (Elt Ideal) F7 ((pb_k0_t4 (F := Ideal) 𝒱 c bd i arg2 harg2 arg3 harg3 arg4 harg4 arg5 harg5 arg6 harg6 arg7 harg7 arg8 harg8 v49 v95 v102 a1 a2 a3 a4 a5 (harg4.unread x2) (harg5.unread x3)
        (arg7.view.writes (Elt Ideal) F7 L7) (arg8.view.writes (Elt Ideal) F8 L8) (k0_t4_loop i).trips).1 ++ L7))
      (arg8.view.writes (Elt Ideal) F8 ((pb_k0_t4 (F := Ideal) 𝒱 c bd i arg2 harg2 arg3 harg3 arg4 harg4 arg5 harg5 arg6 harg6 arg7 harg7 arg8 harg8 v49 v95 v102 a1 a2 a3 a4 a5 (harg4.unread x2) (harg5.unread x3)
        (arg7.view.writes (Elt Ideal) F7 L7) (arg8.view.writes (Elt Ideal) F8 L8) (k0_t4_loop i).trips).2 ++ L8)) lo := by
  rw [trips4]
  exact h

/-- The chunks of a trip of the loop over 512 keys. -/
theorem tripChunks5 {X : Fin 256 → ℕ → ℝ} {q : FVec Ideal S256x256 .bf16} (hq : IsLogits X (keysAt x2) q) (k : Fin (k0_t5_loop i).trips) :
    Chunks X (valsAt x3) q (first512 (kload5 i arg4 (harg4.unread x2) k) (vload5 i arg5 (harg5.unread x3) k) :: rest512 (kload5 i arg4 (harg4.unread x2) k) (vload5 i arg5 (harg5.unread x3) k))
      (256 * ((i 1).val % 4 - 2 * k.val)) (256 * ((i 1).val % 4 - 2 * (k.val + 1))) := by
  have hk : k.val < (i 1).val % 4 / 2 := lt_of_lt_of_eq k.isLt (trips5 i)
  have hi : (i 1).val < 32 := (i 1).isLt
  rw [show 256 * ((i 1).val % 4 - 2 * k.val) = 256 * ((i 1).val % 4 - 2 * (k.val + 1)) + 512 by omega]
  refine chunks512 hq (by omega) (fun j d => ?_) (fun j l => ?_)
  · have hj : 256 * ((i 1).val % 4 - 2 * (k.val + 1)) + j.val < 8192 := by omega
    rw [keysAt, dif_pos hj]
    exact load_row arg4 harg4 x2 _ _ (koff5 i k) _ _ j d hj
  · have hj : 256 * ((i 1).val % 4 - 2 * (k.val + 1)) + j.val < 8192 := by omega
    rw [valsAt, dif_pos hj]
    exact load_row arg5 harg5 x3 _ _ (voff5 i k) _ _ j l hj

/-- The loop over 512 keys a trip. -/
theorem loop5 (a1 a2 a3 a4 a5) (hm : IsSuffix v102) (hq0 : IsLogits X0 (keysAt x2) v49) (hq1 : IsLogits X1 (keysAt x2) v95)
    (hr : ∀ r, 256 * ((i 1).val % 4) ≤ row r) (F7 : arg7.view.ty.Contents (Elt Ideal)) (F8 : arg8.view.ty.Contents (Elt Ideal)) (L7 L8)
    (h : Inv X0 X1 (valsAt x3) row arg7.view arg8.view (arg7.view.writes (Elt Ideal) F7 L7) (arg8.view.writes (Elt Ideal) F8 L8)
      (256 * ((i 1).val % 4))) :
    Inv X0 X1 (valsAt x3) row arg7.view arg8.view
      (arg7.view.writes (Elt Ideal) F7 ((pb_k0_t5 (F := Ideal) 𝒱 c bd i arg2 harg2 arg3 harg3 arg4 harg4 arg5 harg5 arg6 harg6 arg7 harg7 arg8 harg8 v49 v95 v102 a1 a2 a3 a4 a5 (harg4.unread x2) (harg5.unread x3)
        (arg7.view.writes (Elt Ideal) F7 L7) (arg8.view.writes (Elt Ideal) F8 L8) (k0_t5_loop i).trips).1 ++ L7))
      (arg8.view.writes (Elt Ideal) F8 ((pb_k0_t5 (F := Ideal) 𝒱 c bd i arg2 harg2 arg3 harg3 arg4 harg4 arg5 harg5 arg6 harg6 arg7 harg7 arg8 harg8 v49 v95 v102 a1 a2 a3 a4 a5 (harg4.unread x2) (harg5.unread x3)
        (arg7.view.writes (Elt Ideal) F7 L7) (arg8.view.writes (Elt Ideal) F8 L8) (k0_t5_loop i).trips).2 ++ L8))
      (256 * ((i 1).val % 2)) := by
  rw [View.writes_append, View.writes_append]
  generalize arg7.view.writes (Elt Ideal) F7 L7 = G7 at h ⊢
  generalize arg8.view.writes (Elt Ideal) F8 L8 = G8 at h ⊢
  have key : ∀ n, n ≤ (k0_t5_loop i).trips →
      Inv X0 X1 (valsAt x3) row arg7.view arg8.view
        (arg7.view.writes (Elt Ideal) G7 (pb_k0_t5 (F := Ideal) 𝒱 c bd i arg2 harg2 arg3 harg3 arg4 harg4 arg5 harg5 arg6 harg6 arg7 harg7 arg8 harg8 v49 v95 v102 a1 a2 a3 a4 a5 (harg4.unread x2) (harg5.unread x3) G7 G8 n).1)
        (arg8.view.writes (Elt Ideal) G8 (pb_k0_t5 (F := Ideal) 𝒱 c bd i arg2 harg2 arg3 harg3 arg4 harg4 arg5 harg5 arg6 harg6 arg7 harg7 arg8 harg8 v49 v95 v102 a1 a2 a3 a4 a5 (harg4.unread x2) (harg5.unread x3) G7 G8 n).2)
        (256 * ((i 1).val % 4 - 2 * n)) := by
    intro n
    induction n with
    | zero => exact fun _ => h
    | succ n ih =>
      intro hn
      have hlt : n < (k0_t5_loop i).trips := hn
      have ih := ih (Nat.le_of_lt hlt)
      rw [pb_k0_t5_succ (F := Ideal) 𝒱 c bd i arg2 harg2 arg3 harg3 arg4 harg4 arg5 harg5 arg6 harg6 arg7 harg7 arg8 harg8 v49 v95 v102 a1 a2 a3 a4 a5 (harg4.unread x2) (harg5.unread x3) G7 G8 ⟨n, hlt⟩, trip5]
      dsimp only
      rw [View.writes_append, View.writes_append]
      exact ih.trip hm (tripChunks5 i arg4 harg4 arg5 harg5 x2 x3 hq0 ⟨n, hlt⟩) (tripChunks5 i arg4 harg4 arg5 harg5 x2 x3 hq1 ⟨n, hlt⟩)
        fun r => le_trans (Nat.mul_le_mul_left _ (Nat.sub_le _ _)) (hr r)
  have := key _ le_rfl
  have e : (i 1).val % 4 - 2 * (k0_t5_loop i).trips = (i 1).val % 2 := by rw [trips5]; omega
  rwa [e] at this

/-- The loop after it makes no trip. -/
theorem loop6 (a1 a2 a3 a4 a5 a6) (lo : ℕ) (F7 : arg7.view.ty.Contents (Elt Ideal)) (F8 : arg8.view.ty.Contents (Elt Ideal)) (L7 L8)
    (h : Inv X0 X1 (valsAt x3) row arg7.view arg8.view (arg7.view.writes (Elt Ideal) F7 L7) (arg8.view.writes (Elt Ideal) F8 L8) lo) :
    Inv X0 X1 (valsAt x3) row arg7.view arg8.view
      (arg7.view.writes (Elt Ideal) F7 ((pb_k0_t6 (F := Ideal) 𝒱 c bd i arg2 harg2 arg3 harg3 arg4 harg4 arg5 harg5 arg6 harg6 arg7 harg7 arg8 harg8 v49 v95 v102 a1 a2 a3 a4 a5 a6 (harg4.unread x2) (harg5.unread x3)
        (arg7.view.writes (Elt Ideal) F7 L7) (arg8.view.writes (Elt Ideal) F8 L8) (k0_t6_loop i).trips).1 ++ L7))
      (arg8.view.writes (Elt Ideal) F8 ((pb_k0_t6 (F := Ideal) 𝒱 c bd i arg2 harg2 arg3 harg3 arg4 harg4 arg5 harg5 arg6 harg6 arg7 harg7 arg8 harg8 v49 v95 v102 a1 a2 a3 a4 a5 a6 (harg4.unread x2) (harg5.unread x3)
        (arg7.view.writes (Elt Ideal) F7 L7) (arg8.view.writes (Elt Ideal) F8 L8) (k0_t6_loop i).trips).2 ++ L8)) lo := by
  rw [trips6]
  exact h

/-- The chunks of a trip of the loop over 256 keys. -/
theorem tripChunks7 {X : Fin 256 → ℕ → ℝ} {q : FVec Ideal S256x256 .bf16} (hq : IsLogits X (keysAt x2) q) (k : Fin (k0_t7_loop i).trips) :
    Chunks X (valsAt x3) q [(kload7 i arg4 (harg4.unread x2) k, vload7 i arg5 (harg5.unread x3) k)]
      (256 * ((i 1).val % 2 - 1 * k.val)) (256 * ((i 1).val % 2 - 1 * (k.val + 1))) := by
  have hk : k.val < (i 1).val % 2 / 1 := lt_of_lt_of_eq k.isLt (trips7 i)
  have hi : (i 1).val < 32 := (i 1).isLt
  rw [show 256 * ((i 1).val % 2 - 1 * k.val) = 256 * ((i 1).val % 2 - 1 * (k.val + 1)) + 256 by omega]
  refine chunks256 hq (by omega) (fun j d => ?_) (fun j l => ?_)
  · have hj : 256 * ((i 1).val % 2 - 1 * (k.val + 1)) + j.val < 8192 := by omega
    rw [keysAt, dif_pos hj]
    exact load_row arg4 harg4 x2 _ _ (koff7 i k) _ _ j d hj
  · have hj : 256 * ((i 1).val % 2 - 1 * (k.val + 1)) + j.val < 8192 := by omega
    rw [valsAt, dif_pos hj]
    exact load_row arg5 harg5 x3 _ _ (voff7 i k) _ _ j l hj

/-- The loop over 256 keys a trip. -/
theorem loop7 (a1 a2 a3 a4 a5) (hm : IsSuffix v102) (hq0 : IsLogits X0 (keysAt x2) v49) (hq1 : IsLogits X1 (keysAt x2) v95)
    (hr : ∀ r, 256 * ((i 1).val % 2) ≤ row r) (F7 : arg7.view.ty.Contents (Elt Ideal)) (F8 : arg8.view.ty.Contents (Elt Ideal)) (L7 L8)
    (h : Inv X0 X1 (valsAt x3) row arg7.view arg8.view (arg7.view.writes (Elt Ideal) F7 L7) (arg8.view.writes (Elt Ideal) F8 L8)
      (256 * ((i 1).val % 2))) :
    Inv X0 X1 (valsAt x3) row arg7.view arg8.view
      (arg7.view.writes (Elt Ideal) F7 ((pb_k0_t7 (F := Ideal) 𝒱 c bd i arg2 harg2 arg3 harg3 arg4 harg4 arg5 harg5 arg6 harg6 arg7 harg7 arg8 harg8 v0 v49 v95 v102 a1 a2 a3 a4 a5 (harg4.unread x2) (harg5.unread x3)
        (arg7.view.writes (Elt Ideal) F7 L7) (arg8.view.writes (Elt Ideal) F8 L8) (k0_t7_loop i).trips).1 ++ L7))
      (arg8.view.writes (Elt Ideal) F8 ((pb_k0_t7 (F := Ideal) 𝒱 c bd i arg2 harg2 arg3 harg3 arg4 harg4 arg5 harg5 arg6 harg6 arg7 harg7 arg8 harg8 v0 v49 v95 v102 a1 a2 a3 a4 a5 (harg4.unread x2) (harg5.unread x3)
        (arg7.view.writes (Elt Ideal) F7 L7) (arg8.view.writes (Elt Ideal) F8 L8) (k0_t7_loop i).trips).2 ++ L8))
      (256 * ((i 1).val % 1)) := by
  rw [View.writes_append, View.writes_append]
  generalize arg7.view.writes (Elt Ideal) F7 L7 = G7 at h ⊢
  generalize arg8.view.writes (Elt Ideal) F8 L8 = G8 at h ⊢
  have key : ∀ n, n ≤ (k0_t7_loop i).trips →
      Inv X0 X1 (valsAt x3) row arg7.view arg8.view
        (arg7.view.writes (Elt Ideal) G7 (pb_k0_t7 (F := Ideal) 𝒱 c bd i arg2 harg2 arg3 harg3 arg4 harg4 arg5 harg5 arg6 harg6 arg7 harg7 arg8 harg8 v0 v49 v95 v102 a1 a2 a3 a4 a5 (harg4.unread x2) (harg5.unread x3) G7 G8 n).1)
        (arg8.view.writes (Elt Ideal) G8 (pb_k0_t7 (F := Ideal) 𝒱 c bd i arg2 harg2 arg3 harg3 arg4 harg4 arg5 harg5 arg6 harg6 arg7 harg7 arg8 harg8 v0 v49 v95 v102 a1 a2 a3 a4 a5 (harg4.unread x2) (harg5.unread x3) G7 G8 n).2)
        (256 * ((i 1).val % 2 - 1 * n)) := by
    intro n
    induction n with
    | zero => exact fun _ => h
    | succ n ih =>
      intro hn
      have hlt : n < (k0_t7_loop i).trips := hn
      have ih := ih (Nat.le_of_lt hlt)
      rw [pb_k0_t7_succ (F := Ideal) 𝒱 c bd i arg2 harg2 arg3 harg3 arg4 harg4 arg5 harg5 arg6 harg6 arg7 harg7 arg8 harg8 v0 v49 v95 v102 a1 a2 a3 a4 a5 (harg4.unread x2) (harg5.unread x3) G7 G8 ⟨n, hlt⟩, trip7]
      dsimp only
      rw [View.writes_append, View.writes_append]
      exact ih.trip hm (tripChunks7 i arg4 harg4 arg5 harg5 x2 x3 hq0 ⟨n, hlt⟩) (tripChunks7 i arg4 harg4 arg5 harg5 x2 x3 hq1 ⟨n, hlt⟩)
        fun r => le_trans (Nat.mul_le_mul_left _ (Nat.sub_le _ _)) (hr r)
  have := key _ le_rfl
  have e : (i 1).val % 2 - 1 * (k0_t7_loop i).trips = (i 1).val % 1 := by rw [trips7]; omega
  rwa [e] at this

/-- The loop after it makes no trip. -/
theorem loop8 (a1 a2 a3 a4 a5 a6) (lo : ℕ) (F7 : arg7.view.ty.Contents (Elt Ideal)) (F8 : arg8.view.ty.Contents (Elt Ideal)) (L7 L8)
    (h : Inv X0 X1 (valsAt x3) row arg7.view arg8.view (arg7.view.writes (Elt Ideal) F7 L7) (arg8.view.writes (Elt Ideal) F8 L8) lo) :
    Inv X0 X1 (valsAt x3) row arg7.view arg8.view
      (arg7.view.writes (Elt Ideal) F7 ((pb_k0_t8 (F := Ideal) 𝒱 c bd i arg2 harg2 arg3 harg3 arg4 harg4 arg5 harg5 arg6 harg6 arg7 harg7 arg8 harg8 v0 v49 v95 v102 a1 a2 a3 a4 a5 a6 (harg4.unread x2) (harg5.unread x3)
        (arg7.view.writes (Elt Ideal) F7 L7) (arg8.view.writes (Elt Ideal) F8 L8) (k0_t8_loop i).trips).1 ++ L7))
      (arg8.view.writes (Elt Ideal) F8 ((pb_k0_t8 (F := Ideal) 𝒱 c bd i arg2 harg2 arg3 harg3 arg4 harg4 arg5 harg5 arg6 harg6 arg7 harg7 arg8 harg8 v0 v49 v95 v102 a1 a2 a3 a4 a5 a6 (harg4.unread x2) (harg5.unread x3)
        (arg7.view.writes (Elt Ideal) F7 L7) (arg8.view.writes (Elt Ideal) F8 L8) (k0_t8_loop i).trips).2 ++ L8)) lo := by
  rw [trips8]
  exact h

end

end Cert.KernelIdeal.Tile
-- ==== Proof.SbHeads.lean ====
module

public import proofs.«01_k».proof.Proof.SbDiag
public import proofs.«01_k».proof.Proof.SbLoops

/-! The augmented queries: a head's lanes of the query block, then the head's bias in lane 128 and what
the bias loses by rounding (nothing, over the reals) in lane 129.  Against the augmented keys they make
the head's logits. -/

@[expose] public section

open Idealize.ShloMosaic Idealize.ShloMosaic.TcCoe Idealize.SL.Sem

namespace Cert.KernelIdeal.Tile

open Cert.KernelIdeal Cert.KernelIdeal.Gen Sb

set_option maxRecDepth 16384

/-- Lane `e` of head `h` of a pair. -/
def lane (h : Fin 2) (e : Fin 64) : Fin 128 := ⟨64 * h.val + e.val, by omega⟩

/-- The logits of head `h` of a pair, in base two: queries against keys, and the bias. -/
noncomputable def logit (Q : Fin 256 → Fin 128 → ℝ) (K : ℕ → Fin 128 → ℝ) (b : ℝ) (h : Fin 2) (r : Fin 256) (s : ℕ) : ℝ :=
  (∑ e : Fin 64, Q r (lane h e) * K s (lane h e)) + b * (Real.log 2)⁻¹

/-- The head of a lane, as the kernel computes it (a floor division by 64). -/
def headIs (n : BitVec 32) (d : ℕ) : BitVec 1 :=
  IntOp.cmpi CmpIPredicate.eq
    (Scalar.select
      (IntOp.andi
        (IntOp.cmpi CmpIPredicate.ne
          (IntOp.subi (BitVec.setWidth 32 (IntOp.cmpi CmpIPredicate.sgt (BitVec.ofNat 32 d) 0#32))
            (BitVec.setWidth 32 (IntOp.cmpi CmpIPredicate.slt (BitVec.ofNat 32 d) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 d) 64#32) 0#32))
      (IntOp.subi (IntOp.divsi ArithUnit.vector (BitVec.ofNat 32 d) 64#32) 1#32)
      (IntOp.divsi ArithUnit.vector (BitVec.ofNat 32 d) 64#32))
    n

theorem headIs_zero : ∀ d : Fin 128, headIs 0#32 d.val = if d.val < 64 then 1#1 else 0#1 := by decide +kernel
theorem headIs_one : ∀ d : Fin 128, headIs 1#32 d.val = if d.val < 64 then 0#1 else 1#1 := by decide +kernel

section
variable {Q : Fin 256 → Fin 128 → ℝ} {K : ℕ → Fin 128 → ℝ} {b : ℝ} {x2 : FVec Ideal S8192x256 .bf16}

/-- Augmented queries against augmented keys. -/
theorem isLogits_of (h : Fin 2) {q : FVec Ideal S256x256 .bf16}
    (hlo : ∀ (r : Fin 256) (d : Fin 128), q (ix2 r ⟨d.val, by omega⟩) = if d.val / 64 = h.val then ((Q r d : ℝ) : EReal) else 0)
    (hhi : ∀ (r : Fin 256) (d : Fin 128), q (ix2 r ⟨128 + d.val, by omega⟩) = if d.val = 0 then ((b * (Real.log 2)⁻¹ : ℝ) : EReal) else 0)
    (hk : ∀ s, s < 8192 → ∀ d : Fin 128, keysAt x2 s ⟨d.val, by omega⟩ = ((K s d : ℝ) : EReal))
    (ha : ∀ s, s < 8192 → ∀ d : Fin 128, keysAt x2 s ⟨128 + d.val, by omega⟩ = if d.val < 2 then 1 else 0) :
    IsLogits (logit Q K b h) (keysAt x2) q := fun r s hs => by
  have hsum := Fin.sum_univ_add (a := 128) (b := 128) (fun d : Fin 256 => q (ix2 r d) * keysAt x2 s d)
  refine (show _ = _ from hsum).trans ?_
  have h2 : (∑ j : Fin 128, q (ix2 r (Fin.natAdd 128 j)) * keysAt x2 s (Fin.natAdd 128 j)) = ((b * (Real.log 2)⁻¹ : ℝ) : EReal) := by
    rw [Finset.sum_eq_single (0 : Fin 128)]
    · refine (congrArg₂ (· * ·) (hhi r 0) (ha s hs 0)).trans ?_
      simp
    · intro j _ hj
      refine (congrArg (· * _) (hhi r j)).trans ?_
      rw [if_neg (show ¬ j.val = 0 from fun h => hj (Fin.ext h))]
      exact zero_mul _
    · simp
  have h1 : (∑ j : Fin 128, q (ix2 r (Fin.castAdd 128 j)) * keysAt x2 s (Fin.castAdd 128 j))
      = ((∑ e : Fin 64, Q r (lane h e) * K s (lane h e) : ℝ) : EReal) := by
    have e1 : ∀ j : Fin 128, q (ix2 r (Fin.castAdd 128 j)) * keysAt x2 s (Fin.castAdd 128 j)
        = if j.val / 64 = h.val then ((Q r j * K s j : ℝ) : EReal) else 0 := fun j => by
      refine (congrArg₂ (· * ·) (hlo r j) (hk s hs j)).trans ?_
      by_cases hj : j.val / 64 = h.val
      · rw [if_pos hj, if_pos hj, EReal.coe_mul]
      · rw [if_neg hj, if_neg hj]; exact zero_mul _
    rw [Finset.sum_congr rfl fun j _ => e1 j, coe_sum]
    have e2 := Fin.sum_univ_add (a := 64) (b := 64) (fun j : Fin 128 => if j.val / 64 = h.val then ((Q r j * K s j : ℝ) : EReal) else 0)
    refine (show _ = _ from e2).trans ?_
    match h with
    | ⟨0, _⟩ =>
      have z : (∑ e : Fin 64, if (Fin.natAdd 64 e).val / 64 = 0 then ((Q r (Fin.natAdd 64 e) * K s (Fin.natAdd 64 e) : ℝ) : EReal) else 0) = 0 :=
        Finset.sum_eq_zero fun e _ => if_neg (by rw [Fin.natAdd]; show ¬ (64 + e.val) / 64 = 0; omega)
      refine (congrArg₂ (· + ·) (Finset.sum_congr rfl fun e _ => if_pos (show e.val / 64 = 0 by omega)) z).trans ((add_zero _).trans ?_)
      refine Finset.sum_congr rfl fun e _ => ?_
      have : (Fin.castAdd 64 e : Fin 128) = lane 0 e := Fin.ext (show e.val = 64 * 0 + e.val by omega)
      rw [this]; rfl
    | ⟨1, _⟩ =>
      have z : (∑ e : Fin 64, if (Fin.castAdd 64 e).val / 64 = 1 then ((Q r (Fin.castAdd 64 e) * K s (Fin.castAdd 64 e) : ℝ) : EReal) else 0) = 0 :=
        Finset.sum_eq_zero fun e _ => if_neg (show ¬ e.val / 64 = 1 by omega)
      refine (congrArg₂ (· + ·) z (Finset.sum_congr rfl fun e _ => if_pos (show (64 + e.val) / 64 = 1 by omega))).trans ((zero_add _).trans ?_)
      refine Finset.sum_congr rfl fun e _ => ?_
      have : (Fin.natAdd 64 e : Fin 128) = lane 1 e := Fin.ext (show 64 + e.val = 64 * 1 + e.val by omega)
      rw [this]; rfl
  refine (congrArg₂ (· + ·) h1 h2).trans ?_
  rw [← EReal.coe_add]
  rfl

/-- The bias lanes. -/
theorem bias_lanes (x : Ideal .f32) (hx : x = (b : EReal)) (d : ℕ) (hd : d < 128) :
    Scalar.select (IntOp.cmpi CmpIPredicate.eq (BitVec.ofNat 32 d) 0#32) (x * Named.named (F := Ideal) κ "log2e" 0x3FB8AA3B#32)
      (Scalar.select (IntOp.cmpi CmpIPredicate.eq (BitVec.ofNat 32 d) 1#32)
        (x * Named.named (F := Ideal) κ "log2e" 0x3FB8AA3B#32 - x * Named.named (F := Ideal) κ "log2e" 0x3FB8AA3B#32) (0 : EReal))
      = if d = 0 then ((b * (Real.log 2)⁻¹ : ℝ) : EReal) else 0 := by
  have hc := IdealRules.named_const.ideal_named_scalar (φ := .f32) κ "log2e" 0x3FB8AA3B#32 (((Real.log 2)⁻¹ : ℝ) : EReal) rfl
  have e : x * Named.named (F := Ideal) κ "log2e" 0x3FB8AA3B#32 = ((b * (Real.log 2)⁻¹ : ℝ) : EReal) := by
    rw [hc, hx, EReal.coe_mul]
  rw [e, ← EReal.coe_sub, sub_self, EReal.coe_zero]
  have hd0 : (BitVec.ofNat 32 d = 0#32) ↔ d = 0 := by
    rw [← BitVec.toNat_inj]; simp only [BitVec.toNat_ofNat]; omega
  show Scalar.select (BitVec.ofBool (BitVec.ofNat 32 d == 0#32)) _ _ = _
  by_cases h : d = 0
  · rw [if_pos h, h]; rfl
  · rw [if_neg h]
    have : (BitVec.ofNat 32 d == 0#32) = false := beq_eq_false_iff_ne.mpr fun h' => h (hd0.mp h')
    rw [this]
    simp [Scalar.select]

section
variable (hk : ∀ s, s < 8192 → ∀ d : Fin 128, keysAt x2 s ⟨d.val, by omega⟩ = ((K s d : ℝ) : EReal))
  (ha : ∀ s, s < 8192 → ∀ d : Fin 128, keysAt x2 s ⟨128 + d.val, by omega⟩ = if d.val < 2 then 1 else 0)
  {v3 : FVec Ideal S256x128 .f32} (hv3 : ∀ (r : Fin 256) (d : Fin 128), v3 (ix2 r d) = ((Q r d : ℝ) : EReal))
  {x : Ideal .f32} (hx : x = (b : EReal))

include hk ha hv3 hx

/-- Head `0`'s augmented queries. -/
theorem isLogits0 : IsLogits (logit Q K b 0) (keysAt x2) (k0_pay333 v3 (k0_pay329 x) k0_pay330 k0_pay331 k0_pay332) := by
  refine isLogits_of 0 (fun r d => ?_) (fun r d => ?_) hk ha
  · unfold k0_pay333 k0_pay332 k0_pay331 k0_pay330
    pointwise
    refine (show _ = Scalar.select (headIs 0#32 d.val) (v3 (ix2 r d)) (0 : EReal) from rfl).trans ?_
    rw [headIs_zero, hv3]
    by_cases h : d.val < 64
    · rw [if_pos h, if_pos (show d.val / 64 = 0 by omega)]; rfl
    · rw [if_neg h, if_neg (show ¬ d.val / 64 = 0 by omega)]; rfl
  · rw [← bias_lanes x hx d.val d.isLt]
    unfold k0_pay333 k0_pay332 k0_pay331 k0_pay330 k0_pay329
    pointwise

/-- Head `1`'s augmented queries. -/
theorem isLogits1 : IsLogits (logit Q K b 1) (keysAt x2)
    (k0_pay338 v3 (k0_pay334 (iota .tc S256x128 32 [1] iota_S256x128_d1_w32) x) (k0_pay335 (iota .tc S256x128 32 [1] iota_S256x128_d1_w32))
      (k0_pay336 (iota .tc S256x128 32 [1] iota_S256x128_d1_w32)) k0_pay337) := by
  refine isLogits_of 1 (fun r d => ?_) (fun r d => ?_) hk ha
  · unfold k0_pay338 k0_pay337 k0_pay336 k0_pay335
    pointwise
    refine (show _ = Scalar.select (headIs 1#32 d.val) (v3 (ix2 r d)) (0 : EReal) from rfl).trans ?_
    rw [headIs_one, hv3]
    by_cases h : d.val < 64
    · rw [if_pos h, if_neg (show ¬ d.val / 64 = 1 by omega)]; rfl
    · rw [if_neg h, if_pos (show d.val / 64 = 1 by omega)]; rfl
  · rw [← bias_lanes x hx d.val d.isLt]
    unfold k0_pay338 k0_pay337 k0_pay336 k0_pay335 k0_pay334
    pointwise

end

end

/-- The output block: each head's lanes of its accumulator. -/
theorem pay1_apply (a1 : FVec Ideal S1x256x128 .f32) (a0 : FVec Ideal S1x256x128 .f32) (r : Fin 256) (l : Fin 128) :
    k0_pay1 (k0_pay373 a1) (k0_pay374 (iota .tc S256x128 32 [1] iota_S256x128_d1_w32)) (k0_pay375 (iota .tc S256x128 32 [1] iota_S256x128_d1_w32))
      k0_pay376 a0 (ix2 r l) = if l.val < 64 then a0 (ix3 0 r l) else a1 (ix3 0 r l) := by
  unfold k0_pay1 k0_pay373 k0_pay374 k0_pay375 k0_pay376
  pointwise
  refine (show _ = Scalar.select (headIs 0#32 l.val) (a0 (ix3 0 r l)) (a1 (ix3 0 r l)) from rfl).trans ?_
  rw [headIs_zero]
  by_cases h : l.val < 64
  · rw [if_pos h, if_pos h]; rfl
  · rw [if_neg h, if_neg h]; rfl

end Cert.KernelIdeal.Tile
-- ==== Proof.SbBlock.lean ====
module

public import proofs.«01_k».proof.Proof.SbHeads
public import proofs.«01_k».proof.Proof.Gen.KernelIdeal.Value

/-! One grid point of the attention kernel: the output block it stores. -/

@[expose] public section

open Idealize.ShloMosaic Idealize.ShloMosaic.TcCoe Idealize.SL.Sem

namespace Cert.KernelIdeal.Tile

open Cert.KernelIdeal Cert.KernelIdeal.Gen Sb

set_option maxRecDepth 16384

theorem off2 : ∀ i : grid0.Coords, k0_off2 i = ![256 * (i 1).val, 0] := by decide +kernel
theorem off3 : ∀ i : grid0.Coords, k0_off3 i = ![256 * (i 1).val, 0] := by decide +kernel
theorem off1_0 : ∀ i : grid0.Coords, k0_off1 i 0#32 = ![2 * (i 0).val] := by decide +kernel
theorem off1_1 : ∀ i : grid0.Coords, k0_off1 i 1#32 = ![2 * (i 0).val + 1] := by decide +kernel

section
variable (c : Dev nD) (i : grid0.Coords) (arg2 : Memref sig .tc .smem S16 .f32) (harg2 : arg2.IsWhole)
  (arg3 : Memref sig .tc .vmem S256x128 .bf16) (harg3 : arg3.IsWhole) (arg4 : Memref sig .tc .vmem S8192x256 .bf16) (harg4 : arg4.IsWhole)
  (arg5 : Memref sig .tc .vmem S8192x128 .bf16) (harg5 : arg5.IsWhole) (arg6 : Memref sig .tc .vmem S256x128 .f32) (harg6 : arg6.IsWhole)
  (arg7 : Memref sig .tc .vmem S2x256x128 .f32) (harg7 : arg7.IsWhole) (arg8 : Memref sig .tc .vmem S2x256x1 .f32) (harg8 : arg8.IsWhole)
  (x0 : Vec Ideal S16 .f32) (x1 : Vec Ideal S256x128 .bf16) (x2 : Vec Ideal S8192x256 .bf16) (x3 : Vec Ideal S8192x128 .bf16)
  {X0 X1 : Fin 256 → ℕ → ℝ}

/-- The scratch buffers after the masked tile. -/
theorem base (hq0 : IsLogits X0 (keysAt x2) (kernelRun0_A.sl.r_4 c i arg2 harg2 arg3 harg3 x0 x1))
    (hq1 : IsLogits X1 (keysAt x2) (kernelRun0_A.sl.r_6 c i arg2 harg2 arg3 harg3 x0 x1)) :
    Inv X0 X1 (valsAt x3) (fun r => 256 * (i 1).val + r.val) arg7.view arg8.view
      (arg7.view.writes (Elt Ideal) arg7.view.junk (kernelRun0_A.sl.HS0_3 c i arg2 harg2 arg3 harg3 arg4 harg4 arg5 harg5 arg7 arg8 x0 x1 x2 x3))
      (arg8.view.writes (Elt Ideal) arg8.view.junk (kernelRun0_A.sl.HS1_3 c i arg2 harg2 arg3 harg3 arg4 harg4 arg8 x0 x1 x2))
      (256 * (i 1).val) := by
  have hi : (i 1).val < 32 := (i 1).isLt
  have hk : ∀ k d : Fin 256, kernelRun0_A.sl.r_7 c i arg4 harg4 x2 (ix2 k d) = keysAt x2 (256 * (i 1).val + k.val) d := fun k d => by
    have hj : 256 * (i 1).val + k.val < 8192 := by omega
    rw [keysAt, dif_pos hj]
    exact load_row arg4 harg4 x2 _ _ (off2 i) _ _ k d hj
  have hv : ∀ (k : Fin 256) (l : Fin 128), kernelRun0_A.sl.r_8 c i arg5 harg5 x3 (ix2 k l) = valsAt x3 l (256 * (i 1).val + k.val) := fun k l => by
    have hj : 256 * (i 1).val + k.val < 8192 := by omega
    rw [valsAt, dif_pos hj]
    exact load_row arg5 harg5 x3 _ _ (off3 i) _ _ k l hj
  have h0 : IsChunk X0 (valsAt x3) _ (kernelRun0_A.sl.r_7 c i arg4 harg4 x2, kernelRun0_A.sl.r_8 c i arg5 harg5 x3) (256 * (i 1).val) :=
    isChunk_of hq0 (by omega) hk hv
  have h1 : IsChunk X1 (valsAt x3) _ (kernelRun0_A.sl.r_7 c i arg4 harg4 x2, kernelRun0_A.sl.r_8 c i arg5 harg5 x3) (256 * (i 1).val) :=
    isChunk_of hq1 (by omega) hk hv
  have z0 : ∀ r : Fin 256, kernelRun0_A.sl.v122 (F := Ideal) c arg8 (ix3 0 r 0) = 0 := fun r => car0_zero arg8.view r _
  have z1 : ∀ r : Fin 256, kernelRun0_A.sl.v124 (F := Ideal) c arg8 (ix3 0 r 0) = 0 := fun r => car1_zero arg8.view r _
  have y0 : ∀ (r : Fin 256) (l : Fin 128), kernelRun0_A.sl.v180 (F := Ideal) c arg7 (ix3 0 r l) = 0 := fun r l => acc0_zero arg7.view r l _
  have y1 : ∀ (r : Fin 256) (l : Fin 128),
      kernelRun0_A.sl.v189 c i arg2 harg2 arg3 harg3 arg4 harg4 arg5 harg5 arg7 arg8 x0 x1 x2 x3 (ix3 0 r l) = 0 := fun r l =>
    acc1_zero arg7.view r l _ _
  exact
    { c0 := fun r => (congrFun (car0_writes arg8.view _ _ _ _) _).trans (diagCar_apply h0 z0 r)
      c1 := fun r => (congrFun (car1_writes arg8.view _ _ _ _) _).trans (diagCar_apply h1 z1 r)
      a0 := fun r l => (congrFun (acc0_writes arg7.view _ _ _ _) _).trans (diagAcc_apply h0 z0 y0 r l)
      a1 := fun r l => (congrFun (acc1_writes arg7.view _ _ _ _) _).trans (diagAcc_apply h1 z1 y1 r l) }

/-- Head `0`'s accumulator at the end. -/
theorem final0 (hq0 : IsLogits X0 (keysAt x2) (kernelRun0_A.sl.r_4 c i arg2 harg2 arg3 harg3 x0 x1))
    (hq1 : IsLogits X1 (keysAt x2) (kernelRun0_A.sl.r_6 c i arg2 harg2 arg3 harg3 x0 x1)) (r : Fin 256) (l : Fin 128) :
    kernelRun0_A.sl.v320 c i arg2 harg2 arg3 harg3 arg4 harg4 arg5 harg5 arg6 harg6 arg7 harg7 arg8 harg8 x0 x1 x2 x3 (ix3 0 r l)
      = out (X0 r) (valsAt x3 l) 0 (256 * (i 1).val + r.val) := by
  have hi : (i 1).val < 32 := (i 1).isLt
  have hm := isSuffix
  have hb := base c i arg2 harg2 arg3 harg3 arg4 harg4 arg5 harg5 arg7 arg8 x0 x1 x2 x3 hq0 hq1
  have hr : ∀ m (r : Fin 256), 256 * ((i 1).val % m) ≤ 256 * (i 1).val + r.val := fun m r => by
    have := Nat.mod_le (i 1).val m
    omega
  unfold kernelRun0_A.sl.v320
  unfold View.readCov
  refine Eq.trans ((loop8 (X0 := X0) (X1 := X1) (row := fun r => 256 * (i 1).val + r.val) .none c none i arg2 harg2 arg3 harg3 arg4 harg4 arg5 harg5 arg6 harg6 arg7 harg7 arg8 harg8
    _ _ _ _ x2 x3 _ _ _ _ _ _ (256 * ((i 1).val % 1)) _ _ _ _ ?_).a0 r l) (by rw [Nat.mod_one])
  refine loop7 .none c none i arg2 harg2 arg3 harg3 arg4 harg4 arg5 harg5 arg6 harg6 arg7 harg7 arg8 harg8 _ _ _ _ x2 x3 _ _ _ _ _ hm hq0 hq1 (hr 2) _ _ _ _ ?_
  refine loop6 .none c none i arg2 harg2 arg3 harg3 arg4 harg4 arg5 harg5 arg6 harg6 arg7 harg7 arg8 harg8 _ _ _ x2 x3 _ _ _ _ _ _ _ _ _ _ _ ?_
  refine loop5 .none c none i arg2 harg2 arg3 harg3 arg4 harg4 arg5 harg5 arg6 harg6 arg7 harg7 arg8 harg8 _ _ _ x2 x3 _ _ _ _ _ hm hq0 hq1 (hr 4) _ _ _ _ ?_
  refine loop4 .none c none i arg2 harg2 arg3 harg3 arg4 harg4 arg5 harg5 arg6 harg6 arg7 harg7 arg8 harg8 _ _ _ x2 x3 _ _ _ _ _ _ _ _ _ _ ?_
  refine loop3 .none c none i arg2 harg2 arg3 harg3 arg4 harg4 arg5 harg5 arg6 harg6 arg7 harg7 arg8 harg8 _ _ _ x2 x3 _ _ _ _ hm hq0 hq1 (hr 8) _ _ _ _ ?_
  refine loop2 .none c none i arg2 harg2 arg3 harg3 arg4 harg4 arg5 harg5 arg6 harg6 arg7 harg7 arg8 harg8 _ _ _ x2 x3 _ _ _ _ _ _ _ _ _ _ _ ?_
  refine loop1 .none c none i arg2 harg2 arg3 harg3 arg4 harg4 arg5 harg5 arg6 harg6 arg7 harg7 arg8 harg8 _ _ _ x2 x3 _ _ _ _ _ hm hq0 hq1 (hr 32) _ _ _ _ ?_
  rw [Nat.mod_eq_of_lt hi]
  exact hb

/-- Head `1`'s accumulator at the end. -/
theorem final1 (hq0 : IsLogits X0 (keysAt x2) (kernelRun0_A.sl.r_4 c i arg2 harg2 arg3 harg3 x0 x1))
    (hq1 : IsLogits X1 (keysAt x2) (kernelRun0_A.sl.r_6 c i arg2 harg2 arg3 harg3 x0 x1)) (r : Fin 256) (l : Fin 128) :
    kernelRun0_A.sl.v292 c i arg2 harg2 arg3 harg3 arg4 harg4 arg5 harg5 arg6 harg6 arg7 harg7 arg8 harg8 x0 x1 x2 x3 (ix3 0 r l)
      = out (X1 r) (valsAt x3 l) 0 (256 * (i 1).val + r.val) := by
  have hi : (i 1).val < 32 := (i 1).isLt
  have hm := isSuffix
  have hb := base c i arg2 harg2 arg3 harg3 arg4 harg4 arg5 harg5 arg7 arg8 x0 x1 x2 x3 hq0 hq1
  have hr : ∀ m (r : Fin 256), 256 * ((i 1).val % m) ≤ 256 * (i 1).val + r.val := fun m r => by
    have := Nat.mod_le (i 1).val m
    omega
  unfold kernelRun0_A.sl.v292
  unfold View.readCov
  refine Eq.trans ((loop8 (X0 := X0) (X1 := X1) (row := fun r => 256 * (i 1).val + r.val) .none c none i arg2 harg2 arg3 harg3 arg4 harg4 arg5 harg5 arg6 harg6 arg7 harg7 arg8 harg8
    _ _ _ _ x2 x3 _ _ _ _ _ _ (256 * ((i 1).val % 1)) _ _ _ _ ?_).a1 r l) (by rw [Nat.mod_one])
  refine loop7 .none c none i arg2 harg2 arg3 harg3 arg4 harg4 arg5 harg5 arg6 harg6 arg7 harg7 arg8 harg8 _ _ _ _ x2 x3 _ _ _ _ _ hm hq0 hq1 (hr 2) _ _ _ _ ?_
  refine loop6 .none c none i arg2 harg2 arg3 harg3 arg4 harg4 arg5 harg5 arg6 harg6 arg7 harg7 arg8 harg8 _ _ _ x2 x3 _ _ _ _ _ _ _ _ _ _ _ ?_
  refine loop5 .none c none i arg2 harg2 arg3 harg3 arg4 harg4 arg5 harg5 arg6 harg6 arg7 harg7 arg8 harg8 _ _ _ x2 x3 _ _ _ _ _ hm hq0 hq1 (hr 4) _ _ _ _ ?_
  refine loop4 .none c none i arg2 harg2 arg3 harg3 arg4 harg4 arg5 harg5 arg6 harg6 arg7 harg7 arg8 harg8 _ _ _ x2 x3 _ _ _ _ _ _ _ _ _ _ ?_
  refine loop3 .none c none i arg2 harg2 arg3 harg3 arg4 harg4 arg5 harg5 arg6 harg6 arg7 harg7 arg8 harg8 _ _ _ x2 x3 _ _ _ _ hm hq0 hq1 (hr 8) _ _ _ _ ?_
  refine loop2 .none c none i arg2 harg2 arg3 harg3 arg4 harg4 arg5 harg5 arg6 harg6 arg7 harg7 arg8 harg8 _ _ _ x2 x3 _ _ _ _ _ _ _ _ _ _ _ ?_
  refine loop1 .none c none i arg2 harg2 arg3 harg3 arg4 harg4 arg5 harg5 arg6 harg6 arg7 harg7 arg8 harg8 _ _ _ x2 x3 _ _ _ _ _ hm hq0 hq1 (hr 32) _ _ _ _ ?_
  rw [Nat.mod_eq_of_lt hi]
  exact hb

end

end Cert.KernelIdeal.Tile
-- ==== Proof.SbOut.lean ====
module

public import proofs.«01_k».proof.Proof.SbBlock

/-! One grid point of the attention kernel: the output block as a function of the blocks it reads. -/

@[expose] public section

open Idealize.ShloMosaic Idealize.ShloMosaic.TcCoe Idealize.SL.Sem

namespace Cert.KernelIdeal.Tile

open Cert.KernelIdeal Cert.KernelIdeal.Gen Sb

set_option maxRecDepth 16384

theorem hz2 : (![0, 0] : Fin 2 → Nat) = fun _ => 0 := funext fun a => by fin_cases a <;> rfl

section
variable (c : Dev nD) (i : grid0.Coords) (arg2 : Memref sig .tc .smem S16 .f32) (harg2 : arg2.IsWhole)
  (arg3 : Memref sig .tc .vmem S256x128 .bf16) (harg3 : arg3.IsWhole) (arg4 : Memref sig .tc .vmem S8192x256 .bf16) (harg4 : arg4.IsWhole)
  (arg5 : Memref sig .tc .vmem S8192x128 .bf16) (harg5 : arg5.IsWhole) (arg6 : Memref sig .tc .vmem S256x128 .f32) (harg6 : arg6.IsWhole)
  (arg7 : Memref sig .tc .vmem S2x256x128 .f32) (harg7 : arg7.IsWhole) (arg8 : Memref sig .tc .vmem S2x256x1 .f32) (harg8 : arg8.IsWhole)
  (x0 : Vec Ideal S16 .f32) (x1 : Vec Ideal S256x128 .bf16) (x2 : Vec Ideal S8192x256 .bf16) (x3 : Vec Ideal S8192x128 .bf16)

/-- The widened query block. -/
theorem query_apply (r : Fin 256) (d : Fin 128) : kernelRun0_A.sl.r_1 c arg3 harg3 x1 (ix2 r d) = x1 (ix2 r d) := by
  unfold kernelRun0_A.sl.r_1 k0_pay328
  rw [View.readAt_eq_ld, harg3.read_unread, View.ld_unit_zero (S := S256x128) hz2]
  exact congrFun (shapeCast_self (s := ⟨2, ![256, 128]⟩) x1 _) _

/-- Head `0`'s bias. -/
theorem bias0 (h : 2 * (i 0).val < 16) : kernelRun0_A.sl.r c i arg2 harg2 x0 = x0 (ix1 ⟨2 * (i 0).val, h⟩) := by
  unfold kernelRun0_A.sl.r
  rw [View.readAt_eq_ld, harg2.read_unread]
  refine congrArg x0 (funext fun a => Fin.ext ?_)
  match a with
  | 0 =>
    show k0_off1 i 0#32 0 + 0 = 2 * (i 0).val
    rw [off1_0]
    rfl

/-- Head `1`'s bias. -/
theorem bias1 (h : 2 * (i 0).val + 1 < 16) : kernelRun0_A.sl.r_3 c i arg2 harg2 x0 = x0 (ix1 ⟨2 * (i 0).val + 1, h⟩) := by
  unfold kernelRun0_A.sl.r_3
  rw [View.readAt_eq_ld, harg2.read_unread]
  refine congrArg x0 (funext fun a => Fin.ext ?_)
  match a with
  | 0 =>
    show k0_off1 i 1#32 0 + 0 = 2 * (i 0).val + 1
    rw [off1_1]
    rfl

/-- The block a grid point stores, at real queries, keys and biases. -/
theorem block_apply {Q : Fin 256 → Fin 128 → ℝ} {K : ℕ → Fin 128 → ℝ} {B : Fin 2 → ℝ}
    (hq : ∀ r d, x1 (ix2 r d) = (Q r d : EReal))
    (hk : ∀ s, s < 8192 → ∀ d : Fin 128, keysAt x2 s ⟨d.val, by omega⟩ = (K s d : EReal))
    (ha : ∀ s, s < 8192 → ∀ d : Fin 128, keysAt x2 s ⟨128 + d.val, by omega⟩ = if d.val < 2 then 1 else 0)
    (hb : ∀ (h : Fin 2) (hh : 2 * (i 0).val + h.val < 16), x0 (ix1 ⟨2 * (i 0).val + h.val, hh⟩) = (B h : EReal))
    (r : Fin 256) (l : Fin 128) :
    out0_A_4 c i arg2 harg2 arg3 harg3 arg4 harg4 arg5 harg5 arg6 harg6 arg7 harg7 arg8 harg8 x0 x1 x2 x3 (ix2 r l)
      = out (logit Q K (B ⟨l.val / 64, by omega⟩) ⟨l.val / 64, by omega⟩ r) (valsAt x3 l) 0 (256 * (i 1).val + r.val) := by
  have h0 : (i 0).val < 8 := (i 0).isLt
  have e0 : kernelRun0_A.sl.r c i arg2 harg2 x0 = (B 0 : EReal) := (bias0 c i arg2 harg2 x0 (by omega)).trans (hb 0 (by simp; omega))
  have e1 : kernelRun0_A.sl.r_3 c i arg2 harg2 x0 = (B 1 : EReal) := (bias1 c i arg2 harg2 x0 (by omega)).trans (hb 1 (by simp; omega))
  have eq : ∀ r d, kernelRun0_A.sl.r_1 c arg3 harg3 x1 (ix2 r d) = (Q r d : EReal) := fun r d => (query_apply c arg3 harg3 x1 r d).trans (hq r d)
  have g0 : IsLogits (logit Q K (B 0) 0) (keysAt x2) (kernelRun0_A.sl.r_4 c i arg2 harg2 arg3 harg3 x0 x1) := isLogits0 hk ha eq e0
  have g1 : IsLogits (logit Q K (B 1) 1) (keysAt x2) (kernelRun0_A.sl.r_6 c i arg2 harg2 arg3 harg3 x0 x1) := isLogits1 hk ha eq e1
  unfold out0_A_4
  rw [View.read_writes_eq_canon _ _ _ (cover0_A_4 c i arg2 harg2 arg3 harg3 arg4 harg4 arg5 harg5 arg6 harg6 arg7 harg7 arg8 harg8 x0 x1 x2 x3)]
  unfold kernelRun0_A
  dsimp only
  rw [View.canon_unit_zero hz2]
  refine (pay1_apply _ _ r l).trans ?_
  have f0 := final0 c i arg2 harg2 arg3 harg3 arg4 harg4 arg5 harg5 arg6 harg6 arg7 harg7 arg8 harg8 x0 x1 x2 x3 g0 g1 r l
  have f1 := final1 c i arg2 harg2 arg3 harg3 arg4 harg4 arg5 harg5 arg6 harg6 arg7 harg7 arg8 harg8 x0 x1 x2 x3 g0 g1 r l
  split
  · rename_i hl
    have e : (⟨l.val / 64, by omega⟩ : Fin 2) = 0 := Fin.ext (by show l.val / 64 = 0; omega)
    rw [e]
    exact f0
  · rename_i hl
    have e : (⟨l.val / 64, by omega⟩ : Fin 2) = 1 := Fin.ext (by show l.val / 64 = 1; omega)
    rw [e]
    exact f1

end

end Cert.KernelIdeal.Tile
-- ==== Proof.SbHost.lean ====
module

public import proofs.«01_k».proof.Proof.Gen.KernelIdeal.Value
public import proofs.«01_k».proof.Proof.SbIndex
public import Idealize.ShloMosaic.Lib.StableHlo.ReadAt
public import Idealize.ShloMosaic.Lib.IdealHost

/-! What the kernel's host lines hand to its grid. -/

@[expose] public section

open Idealize.ShloMosaic Idealize.ShloMosaic.TcCoe Idealize.SL.Sem

namespace Cert.KernelIdeal.Tile

open Cert.KernelIdeal Cert.KernelIdeal.Gen

set_option maxRecDepth 16384

variable (m : (ℓ : Loc nD τ sig) → Buf (Elt Ideal) ℓ)

/-- The values the grid reads: the arguments, narrowed. -/
theorem V_vals (c : Dev nD) (t : Fin 8192) (j : Fin 1024) : V m c main_v20 (ix2 t j) = m ((c : Thread nD τ).loc main_arg2) (ix2 t j) := by
  unfold V
  after_reads_at
  rfl

theorem V_bias (c : Dev nD) (h : Fin 16) : V m c main_v21 (ix1 h) = m ((c : Thread nD τ).loc main_arg3) (ix2 0 h) := by
  unfold V
  after_reads_at

theorem bits_two : Ideal.ofBits .f32 0x40000000#32 = ((2 : ℝ) : EReal) := by
  simp [Ideal.ofBits, Ideal.ieee, -EReal.coe_mul]; norm_num

theorem bits_eighth : Ideal.ofBits .f32 0x3E000000#32 = (((1 : ℝ) / 8 : ℝ) : EReal) := by
  simp [Ideal.ofBits, Ideal.ieee, -EReal.coe_mul]; norm_num

/-- The queries the grid reads: scaled by the eighth of the reciprocal of `log 2`. -/
theorem V_query (c : Dev nD) (t : Fin 8192) (j : Fin 1024) (x : EReal) (hx : m ((c : Thread nD τ).loc main_arg0) (ix2 t j) = x) :
    V m c main_v4 (ix2 t j) = x * ((1 / 8 * (Real.log 2)⁻¹ : ℝ) : EReal) := by
  unfold V
  after_reads_at
  subst hx
  show (_ : EReal) * (Ideal.div (Ideal.ofBits .f32 0x3E000000#32) (Ideal.log (Ideal.ofBits .f32 0x40000000#32))) = _
  have h2 : Real.log 2 ≠ 0 := (Real.log_pos (by norm_num)).ne'
  rw [bits_two, bits_eighth, Ideal.log_coe, if_neg (by norm_num), Ideal.div_coe h2, ← EReal.coe_mul, one_div (Real.log 2)]

/-- Sixteen column blocks side by side, read in block `q`. -/
theorem joined {α : Type} (b0 b1 b2 b3 b4 b5 b6 b7 b8 b9 b10 b11 b12 b13 b14 b15 : S8192x128.Idx → α) (h) (t : Fin 8192) (q : Fin 16) (d : Fin 128) (j : Fin 2048)
    (hj : j.val = 128 * q.val + d.val) :
    concatenate S8192x2048 1 [⟨S8192x128, b0⟩, ⟨S8192x128, b1⟩, ⟨S8192x128, b2⟩, ⟨S8192x128, b3⟩, ⟨S8192x128, b4⟩, ⟨S8192x128, b5⟩, ⟨S8192x128, b6⟩, ⟨S8192x128, b7⟩, ⟨S8192x128, b8⟩, ⟨S8192x128, b9⟩, ⟨S8192x128, b10⟩, ⟨S8192x128, b11⟩, ⟨S8192x128, b12⟩, ⟨S8192x128, b13⟩, ⟨S8192x128, b14⟩, ⟨S8192x128, b15⟩] h (ix2 t j)
      = (![b0, b1, b2, b3, b4, b5, b6, b7, b8, b9, b10, b11, b12, b13, b14, b15] : Fin 16 → S8192x128.Idx → α) q (ix2 t d) := by
  refine concatenate_ofFn_apply (t := S8192x2048) (s₁ := S8192x128) 1
    ![b0, b1, b2, b3, b4, b5, b6, b7, b8, b9, b10, b11, b12, b13, b14, b15] h rfl 128 rfl (ix2 t j) q (by show j.val / 128 = q.val; omega) (ix2 t d)
    (by show d.val = j.val % 128; omega) (fun b hb => ?_)
  match b with
  | 0 => rfl
  | 1 => exact absurd rfl hb

/-- Columns `256 hp + d` of the augmented keys, `d < 128`: head pair `hp`'s keys. -/
theorem V_keys (c : Dev nD) (t : Fin 8192) (hp : Fin 8) (d : Fin 128) :
    V m c main_v19 (ix2 t ⟨256 * hp.val + d.val, by omega⟩) = m ((c : Thread nD τ).loc main_arg1) (ix2 t ⟨128 * hp.val + d.val, by omega⟩) := by
  unfold V
  simp (disch := decide) only [StableHlo.readAfter, StableHlo.nary_result']
  refine (joined _ _ _ _ _ _ _ _ _ _ _ _ _ _ _ _ _ t ⟨2 * hp.val, by omega⟩ d _ (by show 256 * hp.val + d.val = 128 * (2 * hp.val) + d.val; omega)).trans ?_
  fin_cases hp <;> simp only [Matrix.cons_val, Fin.zero_eta, Fin.mk_one, Fin.reduceFinMk] <;> after_reads_at <;> rfl

/-- Columns `256 hp + 128 + d` of the augmented keys: two columns of ones, then zeros. -/
theorem V_ones (c : Dev nD) (t : Fin 8192) (hp : Fin 8) (d : Fin 128) :
    V m c main_v19 (ix2 t ⟨256 * hp.val + (128 + d.val), by omega⟩) = if d.val < 2 then (1 : EReal) else 0 := by
  unfold V
  simp (disch := decide) only [StableHlo.readAfter, StableHlo.nary_result']
  refine (joined _ _ _ _ _ _ _ _ _ _ _ _ _ _ _ _ _ t ⟨2 * hp.val + 1, by omega⟩ d _ (by show 256 * hp.val + (128 + d.val) = 128 * (2 * hp.val + 1) + d.val; omega)).trans ?_
  have e : FloatOps.truncf (F := Ideal) FTy.bf16 bitsLt_bf16_f32
      (Scalar.select (IntOp.cmpi CmpIPredicate.slt (BitVec.ofNat 32 d.val) 2#32) (FloatOps.ofBits (F := Ideal) FTy.f32 1065353216#32)
        (FloatOps.ofBits FTy.f32 0#32)) = if d.val < 2 then (1 : EReal) else 0 := by
    show (if IntOp.cmpi .slt (BitVec.ofNat 32 d.val) 2#32 = 1#1 then Ideal.ofBits .f32 0x3F800000#32 else Ideal.ofBits .f32 0#32) = _
    rw [Ideal.ofBits_one_f32, Ideal.ofBits_zero_f32]
    have : ∀ d : Fin 128, (IntOp.cmpi .slt (BitVec.ofNat 32 d.val) 2#32 = 1#1) = (d.val < 2) := by decide
    simp only [this]
  fin_cases hp <;> simp only [Matrix.cons_val, Fin.zero_eta, Fin.mk_one, Fin.reduceFinMk] <;> after_reads_at <;> exact e

end Cert.KernelIdeal.Tile
-- ==== Proof.SbArray.lean ====
module

public import proofs.«01_k».proof.Proof.SbOut
public import proofs.«01_k».proof.Proof.SbHost

/-! The attention kernel's result array, as a function of its arguments. -/

@[expose] public section

open Idealize.ShloMosaic Idealize.ShloMosaic.TcCoe Idealize.SL.Sem
open Idealize.ShloMosaic.Pipeline (Dat)

namespace Sb

/-- A row-major table of extended reals, read as reals at natural coordinates. -/
noncomputable def reals {n w : ℕ} (x : (⟨2, ![n, w]⟩ : Shape).Idx → EReal) (t j : ℕ) : ℝ :=
  if h : t < n ∧ j < w then (x (ix2 ⟨t, h.1⟩ ⟨j, h.2⟩)).toReal else 0

theorem coe_reals {n w : ℕ} {x : (⟨2, ![n, w]⟩ : Shape).Idx → EReal} (hx : ∀ i, ((x i).toReal : EReal) = x i) (t : Fin n) (j : Fin w) :
    x (ix2 t j) = ((reals x t.val j.val : ℝ) : EReal) := by
  rw [reals, dif_pos ⟨t.isLt, j.isLt⟩]
  exact (hx _).symm

/-- The values, at natural coordinates. -/
noncomputable def column {n w : ℕ} (x : (⟨2, ![n, w]⟩ : Shape).Idx → EReal) (j : Fin w) (s : ℕ) : EReal :=
  if h : s < n then x (ix2 ⟨s, h⟩ j) else 0

/-- The logits of head `H` in base two, at query `row` and key `s`. -/
noncomputable def logits2 (q k b : ℕ → ℕ → ℝ) (H row s : ℕ) : ℝ :=
  (∑ e : Fin 64, q row (64 * H + e.val) * (1 / 8 * (Real.log 2)⁻¹) * k s (64 * H + e.val)) + b 0 H * (Real.log 2)⁻¹

end Sb

namespace Cert.KernelIdeal.Tile

open Cert.KernelIdeal Cert.KernelIdeal.Gen Sb

set_option maxRecDepth 16384

theorem at0 : ∀ i : grid0.Coords, cc0_transform_0 i = ![0] := by decide +kernel
theorem at1 : ∀ i : grid0.Coords, cc0_transform_1 i = ![(i 1).val, (i 0).val] := by decide +kernel
theorem at2 : ∀ i : grid0.Coords, cc0_transform_2 i = ![0, (i 0).val] := by decide +kernel
theorem at3 : ∀ i : grid0.Coords, cc0_transform_3 i = ![0, (i 0).val] := by decide +kernel
theorem at4 : ∀ i : grid0.Coords, cc0_transform_4 i = ![(i 1).val, (i 0).val] := by decide +kernel

variable (m : (ℓ : Loc nD τ sig) → Buf (Elt Ideal) ℓ)

/-- The arguments on core `c`. -/
abbrev argQ (c : Dev nD) : S8192x1024.Idx → EReal := m ((c : Thread nD τ).loc main_arg0)
abbrev argK (c : Dev nD) : S8192x1024.Idx → EReal := m ((c : Thread nD τ).loc main_arg1)
abbrev argV (c : Dev nD) : S8192x1024.Idx → EReal := m ((c : Thread nD τ).loc main_arg2)
abbrev argB (c : Dev nD) : S1x16.Idx → EReal := m ((c : Thread nD τ).loc main_arg3)

/-- The result array. -/
noncomputable def result (c : Dev nD) : Buf (Elt Ideal) ((c : Thread nD τ).loc main_v22) := fun i : S8192x1024.Idx =>
  (out (logits2 (reals (argQ m c)) (reals (argK m c)) (reals (argB m c)) ((i 1).val / 64) (i 0).val) (column (argV m c) (i 1)) 0 (i 0).val : EReal)

theorem coords_lt (t : Fin cfg0.N) : (grid0.coords t 0).val < 8 ∧ (grid0.coords t 1).val < 32 :=
  ⟨(grid0.coords t 0).isLt, (grid0.coords t 1).isLt⟩

/-- The block of biases: all of them. -/
theorem read0 (c : Dev nD) (t : Fin cfg0.N) (h : Fin 16) : (iblk m c 0 t : Vec Ideal S16 .f32) (ix1 h) = V m c main_v21 (ix1 h) := by
  unfold iblk
  rw [View.read_apply]
  show V m c main_v21 _ = _
  congr 1
  funext a
  apply Fin.ext
  match a with
  | 0 =>
    show cc0_transform_0 (grid0.coords t) 0 * 16 + 1 * h.val = h.val
    rw [at0]
    show 0 * 16 + 1 * h.val = h.val
    omega

/-- The block of queries. -/
theorem read1 (c : Dev nD) (t : Fin cfg0.N) (r : Fin 256) (d : Fin 128) :
    (iblk m c 1 t : Vec Ideal S256x128 .bf16) (ix2 r d)
      = V m c main_v4 (ix2 ⟨256 * (grid0.coords t 1).val + r.val, by have := coords_lt t; omega⟩ ⟨128 * (grid0.coords t 0).val + d.val, by have := coords_lt t; omega⟩) := by
  unfold iblk
  rw [View.read_apply]
  show V m c main_v4 _ = _
  congr 1
  funext a
  apply Fin.ext
  match a with
  | 0 =>
    show cc0_transform_1 (grid0.coords t) 0 * 256 + 1 * r.val = 256 * (grid0.coords t 1).val + r.val
    rw [at1]
    show (grid0.coords t 1).val * 256 + 1 * r.val = 256 * (grid0.coords t 1).val + r.val
    omega
  | 1 =>
    show cc0_transform_1 (grid0.coords t) 1 * 128 + 1 * d.val = 128 * (grid0.coords t 0).val + d.val
    rw [at1]
    show (grid0.coords t 0).val * 128 + 1 * d.val = 128 * (grid0.coords t 0).val + d.val
    omega

/-- The block of augmented keys. -/
theorem read2 (c : Dev nD) (t : Fin cfg0.N) (s : Fin 8192) (d : Fin 256) :
    (iblk m c 2 t : Vec Ideal S8192x256 .bf16) (ix2 s d)
      = V m c main_v19 (ix2 s ⟨256 * (grid0.coords t 0).val + d.val, by have := coords_lt t; omega⟩) := by
  unfold iblk
  rw [View.read_apply]
  show V m c main_v19 _ = _
  congr 1
  funext a
  apply Fin.ext
  match a with
  | 0 =>
    show cc0_transform_2 (grid0.coords t) 0 * 8192 + 1 * s.val = s.val
    rw [at2]
    show 0 * 8192 + 1 * s.val = s.val
    omega
  | 1 =>
    show cc0_transform_2 (grid0.coords t) 1 * 256 + 1 * d.val = 256 * (grid0.coords t 0).val + d.val
    rw [at2]
    show (grid0.coords t 0).val * 256 + 1 * d.val = 256 * (grid0.coords t 0).val + d.val
    omega

/-- The block of values. -/
theorem read3 (c : Dev nD) (t : Fin cfg0.N) (s : Fin 8192) (d : Fin 128) :
    (iblk m c 3 t : Vec Ideal S8192x128 .bf16) (ix2 s d)
      = V m c main_v20 (ix2 s ⟨128 * (grid0.coords t 0).val + d.val, by have := coords_lt t; omega⟩) := by
  unfold iblk
  rw [View.read_apply]
  show V m c main_v20 _ = _
  congr 1
  funext a
  apply Fin.ext
  match a with
  | 0 =>
    show cc0_transform_3 (grid0.coords t) 0 * 8192 + 1 * s.val = s.val
    rw [at3]
    show 0 * 8192 + 1 * s.val = s.val
    omega
  | 1 =>
    show cc0_transform_3 (grid0.coords t) 1 * 128 + 1 * d.val = 128 * (grid0.coords t 0).val + d.val
    rw [at3]
    show (grid0.coords t 0).val * 128 + 1 * d.val = 128 * (grid0.coords t 0).val + d.val
    omega

variable {m}

/-- What a grid point writes back. -/
theorem flushed_eq {c : Dev nD} (hq : ∀ i, ((argQ m c i).toReal : EReal) = argQ m c i) (hk : ∀ i, ((argK m c i).toReal : EReal) = argK m c i)
    (hb : ∀ i, ((argB m c i).toReal : EReal) = argB m c i) (t : Fin cfg0.N) :
    (dats m 0 c).flushed 4 t = ((cfg0.win 4).blk t).view.read (Elt Ideal) (result m c) := by
  obtain ⟨h0, h1⟩ := coords_lt t
  rw [Value.flushed4_A]
  funext i
  rw [View.read_apply]
  obtain ⟨r, l, rfl⟩ : ∃ (r : Fin 256) (l : Fin 128), i = ix2 r l := ⟨i 0, i 1, eq_ix2 _⟩
  have e : (((cfg0.win 4).blk t).view.emb (ix2 r l) : S8192x1024.Idx)
      = ix2 ⟨256 * (grid0.coords t 1).val + r.val, by omega⟩ ⟨128 * (grid0.coords t 0).val + l.val, by omega⟩ := by
    funext a
    apply Fin.ext
    match a with
    | 0 =>
      show cc0_transform_4 (grid0.coords t) 0 * 256 + 1 * r.val = 256 * (grid0.coords t 1).val + r.val
      rw [at4]
      show (grid0.coords t 1).val * 256 + 1 * r.val = 256 * (grid0.coords t 1).val + r.val
      omega
    | 1 =>
      show cc0_transform_4 (grid0.coords t) 1 * 128 + 1 * l.val = 128 * (grid0.coords t 0).val + l.val
      rw [at4]
      show (grid0.coords t 0).val * 128 + 1 * l.val = 128 * (grid0.coords t 0).val + l.val
      omega
  have key := block_apply c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) (iblk m c 0 t) (iblk m c 1 t) (iblk m c 2 t) (iblk m c 3 t)
    (Q := fun r d => reals (argQ m c) (256 * (grid0.coords t 1).val + r.val) (128 * (grid0.coords t 0).val + d.val) * (1 / 8 * (Real.log 2)⁻¹))
    (K := fun s d => reals (argK m c) s (128 * (grid0.coords t 0).val + d.val))
    (B := fun h => reals (argB m c) 0 (2 * (grid0.coords t 0).val + h.val))
    (fun r d => by
      exact (read1 m c t r d).trans ((V_query m c _ _ _ (coe_reals hq _ _)).trans (EReal.coe_mul _ _).symm))
    (fun s hs d => by
      rw [keysAt, dif_pos hs, read2]
      exact (V_keys m c ⟨s, hs⟩ ⟨(grid0.coords t 0).val, h0⟩ d).trans (coe_reals hk ⟨s, hs⟩ ⟨128 * (grid0.coords t 0).val + d.val, by omega⟩))
    (fun s hs d => by
      rw [keysAt, dif_pos hs, read2]
      exact V_ones m c ⟨s, hs⟩ ⟨(grid0.coords t 0).val, h0⟩ d)
    (fun h hh => by
      rw [read0, V_bias]
      exact coe_reals hb 0 ⟨2 * (grid0.coords t 0).val + h.val, hh⟩)
    r l
  show _ = result m c (((cfg0.win 4).blk t).view.emb (ix2 r l))
  rw [e]
  refine Eq.trans (show _ = _ from key) ?_
  unfold result
  have hH : (128 * (grid0.coords t 0).val + l.val) / 64 = 2 * (grid0.coords t 0).val + l.val / 64 := by omega
  have hX : ∀ s, logit (fun r d => reals (argQ m c) (256 * (grid0.coords t 1).val + r.val) (128 * (grid0.coords t 0).val + d.val) * (1 / 8 * (Real.log 2)⁻¹))
      (fun s d => reals (argK m c) s (128 * (grid0.coords t 0).val + d.val)) (reals (argB m c) 0 (2 * (grid0.coords t 0).val + l.val / 64)) ⟨l.val / 64, by omega⟩ r s
      = logits2 (reals (argQ m c)) (reals (argK m c)) (reals (argB m c)) ((128 * (grid0.coords t 0).val + l.val) / 64) (256 * (grid0.coords t 1).val + r.val) s := fun s => by
    rw [logit, logits2, hH]
    refine congrArg₂ _ (Finset.sum_congr rfl fun e _ => ?_) rfl
    have hl : 128 * (grid0.coords t 0).val + (lane ⟨l.val / 64, by omega⟩ e).val = 64 * (2 * (grid0.coords t 0).val + l.val / 64) + e.val := by
      show 128 * (grid0.coords t 0).val + (64 * (l.val / 64) + e.val) = _
      omega
    simp only [hl]
  have hV : ∀ s, valsAt (iblk m c 3 t : Vec Ideal S8192x128 .bf16) l s = column (argV m c) ⟨128 * (grid0.coords t 0).val + l.val, by omega⟩ s := fun s => by
    unfold valsAt column
    split
    · rename_i hs
      rw [read3, V_vals]
    · rfl
  rw [funext hV]
  exact congrArg (fun X => out X _ 0 _) (funext hX)

theorem coords_at : ∀ (a : Fin 8) (b : Fin 32), (grid0.coords ⟨32 * a.val + b.val, by have : grid0.N = 256 := N_0; omega⟩ 0).val = a.val
    ∧ (grid0.coords ⟨32 * a.val + b.val, by have : grid0.N = 256 := N_0; omega⟩ 1).val = b.val := by decide +kernel

/-- The result array after the grid. -/
theorem final {c : Dev nD} (hq : ∀ i, ((argQ m c i).toReal : EReal) = argQ m c i) (hk : ∀ i, ((argK m c i).toReal : EReal) = argK m c i)
    (hb : ∀ i, ((argB m c i).toReal : EReal) = argB m c i) : (dats m 0 c).arrAt 4 cfg0.N = result m c :=
  (dats m 0 c).arrAt_eq_of_cover 4 (result m c) (fun t _ => flushed_eq hq hk hb t) fun i => by
    have i0 : (i 0 : Nat) < 8192 := (i 0).isLt
    have i1 : (i 1 : Nat) < 1024 := (i 1).isLt
    obtain ⟨t, hc⟩ : ∃ t : Fin cfg0.N, (grid0.coords t 0).val = (i 1 : Nat) / 128 ∧ (grid0.coords t 1).val = (i 0 : Nat) / 256 :=
      ⟨_, coords_at ⟨(i 1 : Nat) / 128, by omega⟩ ⟨(i 0 : Nat) / 256, by omega⟩⟩
    refine ⟨t, flush0_4 t, ?_⟩
    show i ∈ ((View.whole main_v22).slice (win0_4.rect t)).set
    rw [View.set_slice_whole, Rect.mem_set_unit]
    intro a
    match a with
    | ⟨0, _⟩ =>
      show cc0_transform_4 (grid0.coords t) 0 * 256 ≤ (i 0 : Nat) ∧ (i 0 : Nat) < cc0_transform_4 (grid0.coords t) 0 * 256 + 256
      rw [at4]
      show (grid0.coords t 1).val * 256 ≤ (i 0 : Nat) ∧ (i 0 : Nat) < (grid0.coords t 1).val * 256 + 256
      rw [hc.2]
      show (i 0 : Nat) / 256 * 256 ≤ (i 0 : Nat) ∧ (i 0 : Nat) < (i 0 : Nat) / 256 * 256 + 256
      omega
    | ⟨1, _⟩ =>
      show cc0_transform_4 (grid0.coords t) 1 * 128 ≤ (i 1 : Nat) ∧ (i 1 : Nat) < cc0_transform_4 (grid0.coords t) 1 * 128 + 128
      rw [at4]
      show (grid0.coords t 0).val * 128 ≤ (i 1 : Nat) ∧ (i 1 : Nat) < (grid0.coords t 0).val * 128 + 128
      rw [hc.1]
      show (i 1 : Nat) / 128 * 128 ≤ (i 1 : Nat) ∧ (i 1 : Nat) < (i 1 : Nat) / 128 * 128 + 128
      omega

end Cert.KernelIdeal.Tile
-- ==== Proof.SbWindow.lean ====
module

public import proofs.«01_k».proof.Proof.SbIndex
public import Idealize.ShloMosaic.Lib.Pointwise
public import Idealize.ShloMosaic.PureOps.Ideal

/-! A suffix sum, as a windowed sum along the last axis. -/

@[expose] public section

open Idealize.ShloMosaic Finset

namespace Sb

theorem foldl_add_map {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The windows of the whole last axis, padded above: entry `s` sums the entries from `s` on. -/
theorem suffix_window {A B N Nm1 : ℕ} (hN : Nm1 + 1 = N) (x : (⟨3, ![A, B, N]⟩ : Shape).Idx → EReal)
    (h : (⟨3, ![A, B, N]⟩ : Shape).ReduceWindows (![1, 1, N] : Fin 3 → ℕ) ![1, 1, 1] ![0, 0, 0] ![0, 0, Nm1] ⟨3, ![A, B, N]⟩)
    (a : Fin A) (b : Fin B) (s : Fin N) (X : ℕ → EReal) (hX : ∀ j : Fin N, x (ix3 a b j) = X j.val) :
    Ideal.hostReduceWindowAdd (s := ⟨3, ![A, B, N]⟩) (![1, 1, N] : Fin 3 → ℕ) ![1, 1, 1] ![0, 0, 0] ![0, 0, Nm1] h x 0 (ix3 a b s)
      = ∑ j ∈ Ico s.val N, X j := by
  have hs := s.isLt
  have ha := a.isLt
  have hb := b.isLt
  unfold Ideal.hostReduceWindowAdd Host.reduceWindow
  dsimp only
  have hnum : (⟨3, ![1, 1, N]⟩ : Shape).numel = N := by simp [Shape.numel, Fin.prod_univ_succ]
  rw [foldl_add_map, zero_add, ← Fin.sum_univ_def]
  have hw : ∀ n : Fin (⟨3, ![1, 1, N]⟩ : Shape).numel, ((⟨3, ![1, 1, N]⟩ : Shape).rowMajor.symm n 0).val = 0
      ∧ ((⟨3, ![1, 1, N]⟩ : Shape).rowMajor.symm n 1).val = 0 ∧ ((⟨3, ![1, 1, N]⟩ : Shape).rowMajor.symm n 2).val = n.val := fun n => by
    have h0 : ((⟨3, ![1, 1, N]⟩ : Shape).rowMajor.symm n 0).val < 1 := ((⟨3, ![1, 1, N]⟩ : Shape).rowMajor.symm n 0).isLt
    have h1 : ((⟨3, ![1, 1, N]⟩ : Shape).rowMajor.symm n 1).val < 1 := ((⟨3, ![1, 1, N]⟩ : Shape).rowMajor.symm n 1).isLt
    have e := congrArg Fin.val ((⟨3, ![1, 1, N]⟩ : Shape).rowMajor.apply_symm_apply n)
    rw [Shape.rowMajor_val_three] at e
    have z0 : ((⟨3, ![1, 1, N]⟩ : Shape).rowMajor.symm n 0).val = 0 := by omega
    have z1 : ((⟨3, ![1, 1, N]⟩ : Shape).rowMajor.symm n 1).val = 0 := by omega
    rw [z0, z1] at e
    refine ⟨z0, z1, ?_⟩
    simpa using e
  have key : ∀ F : Fin (⟨3, ![1, 1, N]⟩ : Shape).numel → EReal, (∀ n, F n = if s.val + n.val < N then X (s.val + n.val) else 0) →
      ∑ n, F n = ∑ j ∈ Ico s.val N, X j := fun F hF => by
    rw [Finset.sum_congr rfl fun n _ => hF n, Fin.sum_univ_eq_sum_range (fun n => if s.val + n < N then X (s.val + n) else 0), hnum,
      ← Finset.sum_filter, Finset.sum_Ico_eq_sum_range]
    refine Finset.sum_congr (Finset.ext fun n => ?_) fun _ _ => rfl
    rw [Finset.mem_filter, Finset.mem_range, Finset.mem_range]
    omega
  refine key _ fun n => ?_
  obtain ⟨w0, w1, w2⟩ := hw n
  split
  · next hin =>
    have h2 := (hin 2).2
    change s.val * 1 + ((⟨3, ![1, 1, N]⟩ : Shape).rowMajor.symm n 2).val - 0 < N at h2
    rw [w2] at h2
    rw [if_pos (by omega)]
    refine (congrArg x (funext fun c => Fin.ext ?_)).trans (hX ⟨s.val + n.val, by omega⟩)
    match c with
    | ⟨0, _⟩ =>
      show a.val * 1 + ((⟨3, ![1, 1, N]⟩ : Shape).rowMajor.symm n 0).val - 0 = a.val
      omega
    | ⟨1, _⟩ =>
      show b.val * 1 + ((⟨3, ![1, 1, N]⟩ : Shape).rowMajor.symm n 1).val - 0 = b.val
      omega
    | ⟨2, _⟩ =>
      show s.val * 1 + ((⟨3, ![1, 1, N]⟩ : Shape).rowMajor.symm n 2).val - 0 = s.val + n.val
      omega
  · next hin =>
    rw [if_neg fun hlt => hin fun c => by
      match c with
      | ⟨0, _⟩ =>
        show 0 ≤ a.val * 1 + ((⟨3, ![1, 1, N]⟩ : Shape).rowMajor.symm n 0).val ∧ a.val * 1 + ((⟨3, ![1, 1, N]⟩ : Shape).rowMajor.symm n 0).val - 0 < A
        omega
      | ⟨1, _⟩ =>
        show 0 ≤ b.val * 1 + ((⟨3, ![1, 1, N]⟩ : Shape).rowMajor.symm n 1).val ∧ b.val * 1 + ((⟨3, ![1, 1, N]⟩ : Shape).rowMajor.symm n 1).val - 0 < B
        omega
      | ⟨2, _⟩ =>
        show 0 ≤ s.val * 1 + ((⟨3, ![1, 1, N]⟩ : Shape).rowMajor.symm n 2).val ∧ s.val * 1 + ((⟨3, ![1, 1, N]⟩ : Shape).rowMajor.symm n 2).val - 0 < N
        omega]

end Sb
-- ==== Proof.SbRef.lean ====
module

public import proofs.«01_k».proof.Proof.Gen.ReferenceIdeal.Read
public import proofs.«01_k».proof.Proof.SbArray
public import proofs.«01_k».proof.Proof.SbWindow
public import Idealize.ShloMosaic.Lib.IdealHost

/-! The reference's result array, as a function of its arguments. -/

@[expose] public section

open Idealize.ShloMosaic Idealize.ShloMosaic.TcCoe Idealize.SL.Sem Finset

namespace Sb

theorem read_reals {n w : ℕ} {x : (⟨2, ![n, w]⟩ : Shape).Idx → EReal} (hx : ∀ i, ((x i).toReal : EReal) = x i)
    (i : (⟨2, ![n, w]⟩ : Shape).Idx) (t j : ℕ) (h0 : (i 0).val = t) (h1 : (i 1).val = j) : x i = ((reals x t j : ℝ) : EReal) := by
  subst h0 h1
  exact (congrArg x (eq_ix2 i)).trans (coe_reals hx (i 0) (i 1))

/-- The logarithm of the sigmoid's softplus, as the host computes it. -/
theorem host_softplus (a : ℝ) :
    Scalar.select (FloatOps.cmpf (F := Ideal) (φ := .f32) .une (FloatOps.subf (φ := .f32) (a : EReal) (FloatOps.ofBits (F := Ideal) .f32 0x00000000#32)) (FloatOps.subf (φ := .f32) (a : EReal) (FloatOps.ofBits (F := Ideal) .f32 0x00000000#32)))
      (FloatOps.addf (F := Ideal) (φ := .f32) (a : EReal) (FloatOps.ofBits (F := Ideal) .f32 0x00000000#32))
      (FloatOps.addf (F := Ideal) (φ := .f32) (FloatOps.maximumf (F := Ideal) (φ := .f32) (a : EReal) (FloatOps.ofBits (F := Ideal) .f32 0x00000000#32))
        (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) (a : EReal) (FloatOps.ofBits (F := Ideal) .f32 0x00000000#32)))))))
      = ((spe a : ℝ) : EReal) := by
  have z : (FloatOps.ofBits (F := Ideal) .f32 0x00000000#32 : EReal) = ((0 : ℝ) : EReal) := Ideal.ofBits_zero_f32
  have hs : (FloatOps.subf (F := Ideal) (φ := .f32) (a : EReal) ((0 : ℝ) : EReal) : EReal) = (a : EReal) := by
    show (a : EReal) - ((0 : ℝ) : EReal) = a
    rw [← EReal.coe_sub, sub_zero]
  rw [z, hs]
  have hc : FloatOps.cmpf (F := Ideal) (φ := .f32) .une (a : EReal) (a : EReal) = 0#1 := by
    show BitVec.ofBool (decide ((a : EReal) ≠ a)) = 0#1
    simp
  have ha : (FloatOps.hostAbsf (F := Ideal) (φ := .f32) (a : EReal) : EReal) = ((|a| : ℝ) : EReal) := by
    show max (a : EReal) (-(a : EReal)) = _
    rw [← EReal.coe_neg]
    exact (EReal.coe_strictMono.monotone.map_max (a := a) (b := -a)).symm
  have hn : (FloatOps.hostNegf (F := Ideal) (φ := .f32) ((|a| : ℝ) : EReal) : EReal) = ((-|a| : ℝ) : EReal) := rfl
  have he : (FloatOps.hostUnary (F := Ideal) (φ := .f32) .exp ((-|a| : ℝ) : EReal) : EReal) = ((Real.exp (-|a|) : ℝ) : EReal) := rfl
  have hl : (FloatOps.hostUnary (F := Ideal) (φ := .f32) .log1p ((Real.exp (-|a|) : ℝ) : EReal) : EReal) = ((Real.log (1 + Real.exp (-|a|)) : ℝ) : EReal) := by
    show Ideal.log (1 + ((Real.exp (-|a|) : ℝ) : EReal)) = _
    rw [← EReal.coe_one, ← EReal.coe_add, Ideal.log_coe, if_neg]
    have := Real.exp_pos (-|a|)
    push Not
    linarith
  rw [hc, ha, hn, he, hl]
  show max (a : EReal) ((0 : ℝ) : EReal) + ((Real.log (1 + Real.exp (-|a|)) : ℝ) : EReal) = _
  rw [← (EReal.coe_strictMono.monotone.map_max (a := a) (b := (0 : ℝ))), ← EReal.coe_add]
  rfl

end Sb

namespace Cert.ReferenceIdeal.Attn

open Cert.ReferenceIdeal Cert.ReferenceIdeal.Read Sb

variable {x0 x1 : S8192x1024.Idx → EReal} {x3 : S1x16.Idx → EReal} (h0 : ∀ i, ((x0 i).toReal : EReal) = x0 i)
  (h1 : ∀ i, ((x1 i).toReal : EReal) = x1 i) (h3 : ∀ i, ((x3 i).toReal : EReal) = x3 i)

/-- The logit of head `H` at query `r` and key `s`. -/
noncomputable def logit (x0 x1 : S8192x1024.Idx → EReal) (x3 : S1x16.Idx → EReal) (H r s : ℕ) : ℝ :=
  logits2 (reals x0) (reals x1) (reals x3) H r s * Real.log 2

include h0 h1 h3 in
theorem v9_apply (H : Fin 16) (r s : Fin 8192) :
    val_main_v9 (F := Ideal) x0 x1 x3 (ix3 H r s) = ((logit x0 x1 x3 H.val r.val s.val : ℝ) : EReal) := by
  have hH := H.isLt
  rw [val_main_v9_apply, val_main_v5_apply, val_main_v3_apply, val_main_v4_apply, val_main_cst_apply, val_main_v8_apply, val_main_v7_apply, val_main_v6_apply]
  have e3 : x3 (idx_main_v6 (idx_main_v7 (idx_main_v8 (ix3 H r s)))) = ((reals x3 0 H.val : ℝ) : EReal) :=
    read_reals h3 _ _ _ rfl (by show H.val % 16 = H.val; omega)
  have e : ∀ k : Fin 64, val_main_v0 (F := Ideal) x0 (lidx_main_v3 (ix3 H r s) k) * val_main_v1 (F := Ideal) x1 (ridx_main_v3 (ix3 H r s) k)
      = ((reals x0 r.val (64 * H.val + k.val) * reals x1 s.val (64 * H.val + k.val) : ℝ) : EReal) := fun k => by
    have hk := k.isLt
    rw [val_main_v0_apply, val_main_v1_apply, EReal.coe_mul]
    refine congrArg₂ (· * ·) (read_reals h0 _ _ _ ?_ ?_) (read_reals h1 _ _ _ ?_ ?_)
    · show ((r.val * 16 + H.val) * 64 + k.val) / 1024 = r.val
      omega
    · show ((r.val * 16 + H.val) * 64 + k.val) % 1024 = 64 * H.val + k.val
      omega
    · show ((s.val * 16 + H.val) * 64 + k.val) / 1024 = s.val
      omega
    · show ((s.val * 16 + H.val) * 64 + k.val) % 1024 = 64 * H.val + k.val
      omega
  rw [e3, Finset.sum_congr rfl fun k _ => e k, ← coe_sum]
  show ((∑ k : Fin 64, _ : ℝ) : EReal) * Ideal.ofBits .f32 0x3E000000#32 + _ = _
  rw [Cert.KernelIdeal.Tile.bits_eighth, ← EReal.coe_mul, ← EReal.coe_add, logit, logits2]
  congr 1
  have := log_two_pos.ne'
  rw [add_mul, sum_mul, sum_mul, mul_assoc (reals x3 0 H.val), inv_mul_cancel₀ this, mul_one]
  congr 1
  refine sum_congr rfl fun k _ => ?_
  field_simp

/-- The strict causal mask. -/
theorem v15_apply (i : S8192x8192.Idx) : val_main_v15 (F := Ideal) i = BitVec.ofBool (decide ((i 1).val < (i 0).val)) := by
  have a : (i 0).val < 8192 := (i 0).isLt
  have b : (i 1).val < 8192 := (i 1).isLt
  rw [val_main_v15_apply, val_main_v13_apply, val_main_v11_apply, val_main_v10_apply, val_main_v14_apply, val_main_v12_apply, val_main_v10_apply]
  show BitVec.ofBool (BitVec.slt (BitVec.ofNat 32 (i 1).val) (BitVec.ofNat 32 (i 0).val)) = _
  congr 1
  rw [BitVec.slt_eq_decide, BitVec.toInt_eq_toNat_of_lt (by rw [BitVec.toNat_ofNat]; omega), BitVec.toInt_eq_toNat_of_lt (by rw [BitVec.toNat_ofNat]; omega), BitVec.toNat_ofNat, BitVec.toNat_ofNat,
    Nat.mod_eq_of_lt (by omega), Nat.mod_eq_of_lt (by omega)]
  simp

theorem select_mask (p : Prop) [Decidable p] (a b : EReal) : Scalar.select (BitVec.ofBool (decide p)) a b = if p then a else b := by
  by_cases h : p <;> simp [h, Scalar.select]

include h0 h1 h3 in
theorem v17_apply (H : Fin 16) (r s : Fin 8192) :
    val_main_v17 (F := Ideal) x0 x1 x3 (ix3 H r s) = ((-spe (logit x0 x1 x3 H.val r.val s.val) : ℝ) : EReal) := by
  rw [val_main_v17_apply]
  have e : val_main_call0_v0 (F := Ideal) x0 x1 x3 (ix3 H r s) = ((logit x0 x1 x3 H.val r.val s.val : ℝ) : EReal) := by
    rw [val_main_call0_v0_apply, val_main_v16_apply, v9_apply h0 h1 h3]
    show -(-((_ : ℝ) : EReal)) = _
    rw [neg_neg]
  rw [val_main_call0_v1_apply, val_main_call0_call0_v4_apply, val_main_call0_call0_v6_apply, val_main_call0_call0_v11_apply, val_main_call0_call0_v1_apply,
    val_main_call0_call0_v10_apply, val_main_call0_call0_v9_apply, val_main_call0_call0_v8_apply, val_main_call0_call0_v7_apply, val_main_call0_call0_v3_apply, e,
    val_main_call0_call0_v2_apply, val_main_call0_call0_v5_apply, val_main_call0_call0_v0_apply]
  exact congrArg Neg.neg (host_softplus _)

include h0 h1 h3 in
theorem v21_apply (H : Fin 16) (r s : Fin 8192) :
    val_main_v21 (F := Ideal) x0 x1 x3 (ix3 H r s) = ((-spe (-logit x0 x1 x3 H.val r.val s.val) : ℝ) : EReal) := by
  rw [val_main_v21_apply]
  have e : val_main_call3_v0 (F := Ideal) x0 x1 x3 (ix3 H r s) = ((-logit x0 x1 x3 H.val r.val s.val : ℝ) : EReal) := by
    rw [val_main_call3_v0_apply, v9_apply h0 h1 h3]
    rfl
  rw [val_main_call3_v1_apply, val_main_call3_call0_v4_apply, val_main_call3_call0_v6_apply, val_main_call3_call0_v11_apply, val_main_call3_call0_v1_apply,
    val_main_call3_call0_v10_apply, val_main_call3_call0_v9_apply, val_main_call3_call0_v8_apply, val_main_call3_call0_v7_apply, val_main_call3_call0_v3_apply, e,
    val_main_call3_call0_v2_apply, val_main_call3_call0_v5_apply, val_main_call3_call0_v0_apply]
  exact congrArg Neg.neg (host_softplus _)

include h0 h1 h3 in
theorem v18_apply (H : Fin 16) (r s : Fin 8192) :
    val_main_v18 (F := Ideal) x0 x1 x3 (ix3 H r s) = (((if s.val < r.val then -spe (logit x0 x1 x3 H.val r.val s.val) else 0) : ℝ) : EReal) := by
  rw [val_main_v18_apply, v17_apply h0 h1 h3, val_main_call1_v1_apply, v15_apply, val_main_call1_v2_apply, val_main_call1_v0_apply, val_main_cst_0_apply]
  refine (select_mask (s.val < r.val) _ _).trans ?_
  split
  · rfl
  · exact Ideal.ofBits_zero_f32

include h0 h1 h3 in
theorem v19_apply (H : Fin 16) (r s : Fin 8192) :
    val_main_v19 (F := Ideal) x0 x1 x3 (ix3 H r s) = ((∑ j ∈ Ico s.val r.val, -spe (logit x0 x1 x3 H.val r.val j) : ℝ) : EReal) := by
  have hr := r.isLt
  have hz : ∀ i, val_main_call2_v0 (F := Ideal) i = (0 : EReal) := fun i => by
    rw [val_main_call2_v0_apply, val_main_call2_cst_apply]
    exact Ideal.ofBits_zero_f32
  have e := v18_apply h0 h1 h3 H r
  unfold val_main_v19
  generalize val_main_v18 (F := Ideal) x0 x1 x3 = y at e ⊢
  unfold Host.reduceWindowAdd
  rw [hz]
  refine (suffix_window (A := 16) (B := 8192) (N := 8192) (Nm1 := 8191) rfl y _ H r s
    (fun j => (((if j < r.val then -spe (logit x0 x1 x3 H.val r.val j) else 0) : ℝ) : EReal)) e).trans ?_
  rw [← coe_sum]
  congr 1
  rw [← sum_filter]
  refine sum_congr (ext fun j => ?_) fun _ _ => rfl
  rw [mem_filter, mem_Ico, mem_Ico]
  omega

include h0 h1 h3 in
/-- The weight of a key for a query. -/
theorem v24_apply (H : Fin 16) (r s : Fin 8192) :
    val_main_v24 (F := Ideal) x0 x1 x3 (ix3 H r s)
      = if s.val < r.val then ((wt (logits2 (reals x0) (reals x1) (reals x3) H.val r.val) r.val s.val : ℝ) : EReal) else 0 := by
  rw [val_main_v24_apply, val_main_v23_apply, val_main_v22_apply, val_main_v20_apply, v21_apply h0 h1 h3, v18_apply h0 h1 h3, v19_apply h0 h1 h3,
    val_main_call4_v1_apply, v15_apply, val_main_call4_v2_apply, val_main_call4_v0_apply, val_main_cst_1_apply]
  refine (select_mask (s.val < r.val) _ _).trans ?_
  split
  · next h =>
    rw [← wt_eq_exp _ _ _ h]
    rfl
  · exact Ideal.ofBits_zero_f32

include h0 h1 h3 in
/-- The reference's result. -/
theorem v27_apply (x2 : S8192x1024.Idx → EReal) (i : S8192x1024.Idx) :
    val_main_v27 (F := Ideal) x0 x1 x2 x3 i
      = out (logits2 (reals x0) (reals x1) (reals x3) ((i 1).val / 64) (i 0).val) (column x2 (i 1)) 0 (i 0).val := by
  have hr : (i 0).val < 8192 := (i 0).isLt
  have hj : (i 1).val < 1024 := (i 1).isLt
  rw [val_main_v27_apply, val_main_v26_apply, val_main_v25_apply]
  have e : ∀ k : Fin 8192, val_main_v2 (F := Ideal) x2 (lidx_main_v25 (idx_main_v26 (idx_main_v27 i)) k)
        * val_main_v24 (F := Ideal) x0 x1 x3 (ridx_main_v25 (idx_main_v26 (idx_main_v27 i)) k)
      = (if k.val < (i 0).val then ((wt (logits2 (reals x0) (reals x1) (reals x3) ((i 1).val / 64) (i 0).val) (i 0).val (0 + k.val) : ℝ) : EReal) else 0)
        * column x2 (i 1) (0 + k.val) := fun k => by
    have hk := k.isLt
    rw [mul_comm, zero_add]
    refine congrArg₂ (· * ·) ?_ ?_
    · refine (congrArg (val_main_v24 (F := Ideal) x0 x1 x3) (a₂ := ix3 ⟨(i 1).val / 64, by omega⟩ (i 0) k) (funext fun a => Fin.ext ?_)).trans (v24_apply h0 h1 h3 _ _ _)
      match a with
      | ⟨0, _⟩ =>
        show ((i 0).val * 1024 + (i 1).val) / 64 % 16 = (i 1).val / 64
        omega
      | ⟨1, _⟩ =>
        show ((i 0).val * 1024 + (i 1).val) / 1024 = (i 0).val
        omega
      | ⟨2, _⟩ => rfl
    · unfold column
      rw [val_main_v2_apply, dif_pos hk]
      refine congrArg x2 (funext fun a => Fin.ext ?_)
      match a with
      | ⟨0, _⟩ =>
        show ((k.val * 16 + ((i 0).val * 1024 + (i 1).val) / 64 % 16) * 64 + ((i 0).val * 1024 + (i 1).val) % 64) / 1024 = k.val
        omega
      | ⟨1, _⟩ =>
        show ((k.val * 16 + ((i 0).val * 1024 + (i 1).val) / 64 % 16) * 64 + ((i 0).val * 1024 + (i 1).val) % 64) % 1024 = (i 1).val
        omega
  rw [Finset.sum_congr rfl fun k _ => e k, chunk_out _ _ 8192 0 (i 0).val (i 0).val hr.le, zero_add]
  rfl

end Cert.ReferenceIdeal.Attn
-- ==== Proof.SbClaim.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.SbRef
public import Idealize.ShloMosaic.Lib.Claim

/-! The claims of the attention call. -/

@[expose] public section

open Idealize.ShloMosaic Idealize.ShloMosaic.TcCoe Idealize.SL.Sem

namespace Cert.Proof.Attn

/-- The side conditions of the precondition. -/
theorem pre_facts : Cert.Pre_finite_logits.Facts where
  bcast_S_S8192x1024 := by decide
  bcast_S_S1x16 := by decide

/-- An extended real below infinity in absolute value is a real. -/
theorem real_of_abs_lt (x : EReal) (h : FloatOps.cmpf (F := Ideal) (φ := .f32) .olt (FloatOps.hostAbsf (F := Ideal) (φ := .f32) x) (FloatOps.ofBits (F := Ideal) .f32 0x7F800000#32) = 1#1) :
    ((x.toReal : ℝ) : EReal) = x := by
  have ht : (FloatOps.ofBits (F := Ideal) .f32 0x7F800000#32 : EReal) = ⊤ := by
    show Ideal.ofBits .f32 0x7F800000#32 = ⊤
    simp [Ideal.ofBits, Ideal.ieee]
  have h' : BitVec.ofBool (decide (max x (-x) < (⊤ : EReal))) = 1#1 := by
    rw [← ht]
    exact h
  have hlt : max x (-x) < (⊤ : EReal) := by
    by_contra hc
    rw [decide_eq_false hc] at h'
    exact absurd h' (by decide)
  refine EReal.coe_toReal (fun e => ?_) (fun e => ?_)
  · rw [e] at hlt
    simp at hlt
  · rw [e] at hlt
    simp at hlt

attribute [local instance] pre_facts in
/-- The precondition makes the queries, the keys and the biases real. -/
theorem reals_of_pre (m : (ℓ : Loc Cert.KernelIdeal.nD Cert.KernelIdeal.τ Cert.KernelIdeal.sig) → Buf (Elt Ideal) ℓ)
    (h : Cert.Pre_KernelIdeal_finite_logits m) (c : Dev Cert.KernelIdeal.nD) :
    (∀ i, (((Cert.KernelIdeal.Tile.argQ m c i).toReal : ℝ) : EReal) = Cert.KernelIdeal.Tile.argQ m c i)
      ∧ (∀ i, (((Cert.KernelIdeal.Tile.argK m c i).toReal : ℝ) : EReal) = Cert.KernelIdeal.Tile.argK m c i)
      ∧ (∀ i, (((Cert.KernelIdeal.Tile.argB m c i).toReal : ℝ) : EReal) = Cert.KernelIdeal.Tile.argB m c i) := by
  obtain ⟨hq, hk, hb⟩ := h c
  exact ⟨fun i => real_of_abs_lt _ (congrFun hq i), fun i => real_of_abs_lt _ (congrFun hk i), fun i => real_of_abs_lt _ (congrFun hb i)⟩

theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) := fun m ρ _ => Cert.KernelIdeal.Gen.frame m ρ

theorem frame_ideal_pre : Cert.quiescent_KernelIdeal_pre_finite_logits (hKernelIdeal := Cert.KernelIdeal.Gen.facts) (hPre_finite_logits := pre_facts) :=
  fun m ρ _ => Cert.KernelIdeal.Gen.frame m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite_logits (hReferenceIdeal := Cert.ReferenceIdeal.Gen.facts) (hPre_finite_logits := pre_facts) :=
  fun m ρ _ => frame_reference m ρ trivial

theorem preserves : Cert.preserves_Kernel_KernelIdeal :=
  IdealRules.named_const.statement Cert.KernelIdeal.κ "log2e" .f32 0x3FB8AA3B#32 (((Real.log 2)⁻¹ : ℝ) : EReal) rfl

/-- The kernel's attention is the reference's, over the extended reals. -/
theorem algebraic : Cert.algebraic_KernelIdeal_ReferenceIdeal_pre_finite_logits (hKernelIdeal := Cert.KernelIdeal.Gen.facts)
    (hReferenceIdeal := Cert.ReferenceIdeal.Gen.facts) (hPre_finite_logits := pre_facts) := by
  intro m ρ m' ρ' hpre hagree
  refine ⟨fun c => Cert.KernelIdeal.Tile.result m c, ?_, ?_⟩
  · refine (θ_run Cert.KernelIdeal.defs _ _).mono (fun _ h c => ⟨(h c).1.trans ?_, (h c).2⟩) (Cert.KernelIdeal.Value.run_blocks (F := Ideal) m ρ)
    obtain ⟨hq, hk, hb⟩ := reals_of_pre m hpre c
    exact Cert.KernelIdeal.Tile.final hq hk hb
  · refine (θ_run Cert.ReferenceIdeal.defs _ _).mono (fun _ h c => ⟨(h c).1.trans ?_, (h c).2⟩) (Cert.ReferenceIdeal.Value.run (F := Ideal) m' ρ')
    obtain ⟨hq, hk, hb⟩ := reals_of_pre m hpre c
    rw [Cert.ReferenceIdeal.Read.val_main_v27_eq, (hagree c).1, (hagree c).2.1, (hagree c).2.2.1, (hagree c).2.2.2]
    exact funext fun i => Cert.ReferenceIdeal.Attn.v27_apply hq hk hb _ i

end Cert.Proof.Attn
-- ==== Proof.RmsMath.lean ====
module

public import Idealize.ShloMosaic.Lib.Pointwise
public import Idealize.ShloMosaic.Lib.MatmulPlain
public import Idealize.ShloMosaic.Lib.IdealHost
public import Idealize.ShloMosaic.PureOps.Ideal.Laws

/-! The normalised row and its products, over the extended reals. -/

@[expose] public section

open Idealize.ShloMosaic

namespace Rms

/-- The factor that a row is scaled by. -/
noncomputable def factor (x : Fin 2048 → EReal) : EReal :=
  Ideal.rsqrt (Ideal.div (∑ k, x k * x k) (Ideal.ofBits .f32 0x45000000#32) + Ideal.ofBits .f32 0x358637BD#32)

/-- The normalised row, weighted. -/
noncomputable def norm (x g : Fin 2048 → EReal) (k : Fin 2048) : EReal := x k * factor x * g k

/-- The normalised row times a column. -/
noncomputable def proj (x g w : Fin 2048 → EReal) : EReal := ∑ k, norm x g k * w k

/-- The kernels' normalised rows, at an index. -/
theorem rows_apply {M : ℕ} (x : FVec Ideal ⟨2, ![M, 2048]⟩ .f32) (g : FVec Ideal ⟨2, ![1, 2048]⟩ .f32)
    (hr : (⟨2, ![M, 2048]⟩ : Shape).Reduces [1] ⟨1, ![M]⟩) (hf) (hn) (hs : (⟨1, ![M]⟩ : Shape).ShapeCasts ⟨2, ![M, 1]⟩)
    (hb : (⟨2, ![M, 1]⟩ : Shape).Broadcasts ⟨2, ![M, 2048]⟩) (hg : (⟨2, ![1, 2048]⟩ : Shape).Broadcasts ⟨2, ![M, 2048]⟩) (r : Fin M) (k : Fin 2048) :
    mulf (mulf x (broadcastTo ⟨2, ![M, 2048]⟩ (rsqrt (addf (divf (shapeCast ⟨2, ![M, 1]⟩ (multiReduction .add [1] ⟨1, ![M]⟩ (mulf x x) 0x00000000#32 hr hf hn) hs)
        (broadcast ⟨2, ![M, 1]⟩ (Scalar.ofBits .f32 0x45000000#32))) (broadcast ⟨2, ![M, 1]⟩ (Scalar.ofBits .f32 0x358637BD#32)))) hb))
        (broadcastTo ⟨2, ![M, 2048]⟩ g hg) (ix2 r k)
      = norm (fun k => x (ix2 r k)) (fun k => g (ix2 0 k)) k := by
  have e1 : ∀ y : (⟨2, ![M, 1]⟩ : Shape).Idx → EReal, broadcastTo ⟨2, ![M, 2048]⟩ y hb (ix2 r k) = y (ix2 r 0) := fun y =>
    broadcastTo_apply y hb _ (ix2 r 0) fun a => by
      match a with
      | 0 =>
        show r.val = if M = 1 then 0 else r.val
        have := r.isLt
        split <;> omega
      | 1 => rfl
  have e2 : broadcastTo ⟨2, ![M, 2048]⟩ g hg (ix2 r k) = g (ix2 0 k) :=
    broadcastTo_apply g hg _ (ix2 0 k) fun a => by
      match a with
      | 0 => rfl
      | 1 => rfl
  have e3 : ∀ y : (⟨1, ![M]⟩ : Shape).Idx → EReal, shapeCast ⟨2, ![M, 1]⟩ y hs (ix2 r 0) = y (ix1 r) := fun y => by
    refine shapeCast_apply y hs _ (ix1 r) ?_
    rw [Shape.rowMajor_val_two, Shape.rowMajor_val_one]
    show r.val = r.val * 1 + 0
    omega
  show x (ix2 r k) * broadcastTo ⟨2, ![M, 2048]⟩ _ hb (ix2 r k) * broadcastTo ⟨2, ![M, 2048]⟩ g hg (ix2 r k) = _
  rw [e1, e2]
  show x (ix2 r k) * Ideal.rsqrt (Ideal.div (shapeCast ⟨2, ![M, 1]⟩ _ hs (ix2 r 0)) _ + _) * _ = _
  rw [e3]
  show x (ix2 r k) * Ideal.rsqrt (Ideal.div (Ideal.reduceAdd hr (fun i => x i * x i) (ix1 r)) _ + _) * _ = _
  rw [Ideal.reduceAdd_r2_a1]
  rfl

/-- Normalised rows times a matrix, at an index. -/
theorem matmul_apply {M N : ℕ} (h : FVec Ideal ⟨2, ![M, 2048]⟩ .bf16) (w : FVec Ideal ⟨2, ![2048, N]⟩ .bf16) {x g : Fin 2048 → EReal} {r : Fin M}
    (hh : ∀ k, h (ix2 r k) = norm x g k) (c : Fin N) :
    FloatOps.matmul (DotDims.plain M 2048 N) none h w (constant ⟨2, ![M, N]⟩ .f32 0x00000000#32) (ix2 r c) = proj x g (fun k => w (ix2 k c)) := by
  refine (Ideal.matmul_plain_apply none h w _ r c).trans ?_
  have z : (constant ⟨2, ![M, N]⟩ .f32 0x00000000#32 : FVec Ideal ⟨2, ![M, N]⟩ .f32) (ix2 r c) = 0 := Ideal.ofBits_zero_f32
  refine (congrArg₂ (· + ·) z rfl).trans ((zero_add _).trans ?_)
  exact Finset.sum_congr rfl fun k _ => congrArg (· * w (ix2 k c)) (hh k)

end Rms
-- ==== Proof.Norm2.lean ====
module

public import proofs.«01_k».proof.Proof.Gen.Kernel2Ideal.Frame
public import proofs.«01_k».proof.Proof.RmsMath
public import Idealize.ShloMosaic.Lib.Pipeline.Value
public import Idealize.ShloMosaic.Lib.StableHlo.ReadAt
public import Idealize.ShloMosaic.Lib.Tactic

/-! The gates and the other projections of the prompt: the normalised rows are kept from column block to column block. -/

@[expose] public section

open Idealize.ShloMosaic Idealize.ShloMosaic.TcCoe Idealize.SL.Sem
open Idealize.ShloMosaic.Pipeline (Dat)

namespace Cert.Kernel2Ideal.Proj

open Cert.Kernel2Ideal Cert.Kernel2Ideal.Gen

set_option maxRecDepth 16384

theorem pay1_apply (x : Vec Ideal S2048x2048 .f32) (g : Vec Ideal S1x2048 .f32) (r k : Fin 2048) :
    k0_pay1 (F := Ideal) x g (ix2 r k) = Rms.norm (fun k => x (ix2 r k)) (fun k => g (ix2 0 k)) k := by
  unfold k0_pay1
  rw [shapeCast_self, shapeCast_self, shapeCast_self]
  exact Rms.rows_apply x g _ _ _ _ _ _ r k

theorem pay2_apply (h : Vec Ideal S2048x2048 .bf16) (w : Vec Ideal S2048x512 .bf16) (x g : Fin 2048 → EReal) (r : Fin 2048)
    (hh : ∀ k, h (ix2 r k) = Rms.norm x g k) (c : Fin 512) :
    k0_pay2 (F := Ideal) h w (ix2 r c) = Rms.proj x g (fun k => w (ix2 k c)) := by
  unfold k0_pay2
  rw [shapeCast_self]
  exact Rms.matmul_apply h w hh c

theorem hz2 : (![0, 0] : Fin 2 → ℕ) = fun _ => 0 := by
  funext a
  fin_cases a <;> rfl

section Cases

variable (c : Dev nD) (i : grid0.Coords) (a2 : Memref sig .tc .vmem S2048x2048 .f32) (h2 : a2.IsWhole) (a3 : Memref sig .tc .vmem S2048x512 .bf16) (h3 : a3.IsWhole)
  (a4 : Memref sig .tc .vmem S1x2048 .f32) (h4 : a4.IsWhole) (a5 : Memref sig .tc .vmem S2048x512 .bf16) (h5 : a5.IsWhole) (a6 : Memref sig .tc .vmem S2048x2048 .bf16) (h6 : a6.IsWhole)
  (x : Vec Ideal S2048x2048 .f32) (w : Vec Ideal S2048x512 .bf16) (g : Vec Ideal S1x2048 .f32) (h : Vec Ideal S2048x2048 .bf16)

/-- At a row block's first point the scratch gets the normalised rows. -/
theorem sout_A (hc : cond0_0 i) : sout0_A_0 (F := Ideal) c i a2 h2 a3 h3 a4 h4 a5 h5 a6 h6 hc x w g = k0_pay1 (F := Ideal) x g := by
  unfold sout0_A_0
  rw [View.read_writes_eq_canon _ _ _ (scover0_A_0 c i a2 h2 a3 h3 a4 h4 a5 h5 a6 h6 hc x w g)]
  unfold kernelRun0_A
  dsimp only
  sl_unfold_words
  rw [View.canon_unit_zero hz2]
  simp only [View.readAt_eq_ld, h2.read_unread, h4.read_unread, View.ld_unit_zero (S := S2048x2048) hz2, View.ld_unit_zero (S := S1x2048) hz2]

/-- … and the output their product with the column block. -/
theorem out_A (hc : cond0_0 i) : out0_A_3 (F := Ideal) c i a2 h2 a3 h3 a4 h4 a5 h5 a6 h6 hc x w g = k0_pay2 (F := Ideal) (k0_pay1 (F := Ideal) x g) w := by
  unfold out0_A_3
  rw [View.read_writes_eq_canon _ _ _ (cover0_A_3 c i a2 h2 a3 h3 a4 h4 a5 h5 a6 h6 hc x w g)]
  unfold kernelRun0_A
  dsimp only
  sl_unfold_words
  rw [View.canon_unit_zero hz2, View.readCov_unit_zero (S := S2048x2048) _ hz2]
  simp only [View.readAt_eq_ld, h2.read_unread, h3.read_unread, h4.read_unread, View.ld_unit_zero (S := S2048x2048) hz2, View.ld_unit_zero (S := S1x2048) hz2, View.ld_unit_zero (S := S2048x512) hz2]

/-- At the later points the output is the kept rows' product with the column block. -/
theorem out_B (hc : ¬cond0_0 i) : out0_B_3 (F := Ideal) c i a2 h2 a3 h3 a4 h4 a5 h5 a6 h6 hc x w g h = k0_pay2 (F := Ideal) h w := by
  unfold out0_B_3
  rw [View.read_writes_eq_canon _ _ _ (cover0_B_3 c i a2 h2 a3 h3 a4 h4 a5 h5 a6 h6 hc x w g h)]
  unfold kernelRun0_B
  dsimp only
  rw [View.canon_unit_zero hz2]
  simp only [View.readAt_eq_ld, h3.read_unread, h6.read_unread, View.ld_unit_zero (S := S2048x2048) hz2, View.ld_unit_zero (S := S2048x512) hz2]

end Cases

theorem at0 : ∀ i : grid0.Coords, cc0_transform_0 i = ![(i 0).val, 0] := by decide +kernel
theorem at1 : ∀ i : grid0.Coords, cc0_transform_1 i = ![0, (i 1).val + 6] := by decide +kernel
theorem at2 : ∀ i : grid0.Coords, cc0_transform_2 i = ![0, 0] := by decide +kernel
theorem at3 : ∀ i : grid0.Coords, cc0_transform_3 i = ![(i 0).val, (i 1).val] := by decide +kernel

theorem N_eq : cfg0.N = 96 := N_0

theorem coords_at : ∀ (a : Fin 4) (b : Fin 24), (grid0.coords ⟨24 * a.val + b.val, by have : grid0.N = 96 := N_0; omega⟩ 0).val = a.val
    ∧ (grid0.coords ⟨24 * a.val + b.val, by have : grid0.N = 96 := N_0; omega⟩ 1).val = b.val := by decide +kernel

theorem coords_eq (t : Fin cfg0.N) : (grid0.coords t 0).val = t.val / 24 ∧ (grid0.coords t 1).val = t.val % 24 := by
  have hN := lt_of_lt_of_eq t.isLt N_eq
  have h := coords_at ⟨t.val / 24, by omega⟩ ⟨t.val % 24, by omega⟩
  have e : (⟨24 * (t.val / 24) + t.val % 24, by have : grid0.N = 96 := N_0; omega⟩ : Fin grid0.N) = t := Fin.ext (by simp only; omega)
  simp only [e] at h
  exact h

variable (m : (ℓ : Loc nD τ sig) → Buf (Elt Ideal) ℓ)

theorem V_x (c : Dev nD) (t : Fin 8192) (k : Fin 2048) : V m c main_v0 (ix2 t k) = m ((c : Thread nD τ).loc main_arg0) (ix3 0 t k) := by
  unfold V
  after_reads_at

theorem V_g (c : Dev nD) (k : Fin 2048) : V m c main_v2 (ix2 0 k) = m ((c : Thread nD τ).loc main_arg1) (ix2 0 k) := by
  unfold V
  after_reads_at

theorem V_w (c : Dev nD) (k : Fin 2048) (j : Fin 15360) : V m c main_v4 (ix2 k j) = m ((c : Thread nD τ).loc main_arg2) (ix3 0 k j) := by
  unfold V
  after_reads_at

/-- The arguments on core `c`. -/
abbrev argX (c : Dev nD) : S1x8192x2048.Idx → EReal := m ((c : Thread nD τ).loc main_arg0)
abbrev argG (c : Dev nD) : S1x2048.Idx → EReal := m ((c : Thread nD τ).loc main_arg1)
abbrev argW (c : Dev nD) : S1x2048x15360.Idx → EReal := m ((c : Thread nD τ).loc main_arg2)

/-- Column `3072 + j` of the projection of the normalised rows. -/
noncomputable def part (x : S1x8192x2048.Idx → EReal) (g : S1x2048.Idx → EReal) (w : S1x2048x15360.Idx → EReal) (t : Fin 8192) (j : Fin 12288) : EReal :=
  Rms.proj (fun k => x (ix3 0 t k)) (fun k => g (ix2 0 k)) (fun k => w (ix3 0 k ⟨3072 + j.val, by omega⟩))

/-- The result array. -/
noncomputable def result (x : S1x8192x2048.Idx → EReal) (g : S1x2048.Idx → EReal) (w : S1x2048x15360.Idx → EReal) : S8192x12288.Idx → EReal :=
  fun i => part x g w (i 0) (i 1)

theorem row_lt (t : Fin cfg0.N) (r : Fin 2048) : 2048 * (t.val / 24) + r.val < 8192 := by
  have hN := lt_of_lt_of_eq t.isLt N_eq
  omega

/-- The block of rows. -/
theorem read0 (c : Dev nD) (t : Fin cfg0.N) (r k : Fin 2048) :
    (iblk m c 0 t : Vec Ideal S2048x2048 .f32) (ix2 r k) = argX m c (ix3 0 ⟨2048 * (t.val / 24) + r.val, row_lt t r⟩ k) := by
  refine Eq.trans ?_ (V_x m c _ k)
  unfold iblk
  rw [View.read_apply]
  show V m c main_v0 _ = _
  congr 1
  funext a
  apply Fin.ext
  match a with
  | 0 =>
    show cc0_transform_0 (grid0.coords t) 0 * 2048 + 1 * r.val = 2048 * (t.val / 24) + r.val
    rw [at0]
    show (grid0.coords t 0).val * 2048 + 1 * r.val = 2048 * (t.val / 24) + r.val
    rw [(coords_eq t).1]
    omega
  | 1 =>
    show cc0_transform_0 (grid0.coords t) 1 * 2048 + 1 * k.val = k.val
    rw [at0]
    show 0 * 2048 + 1 * k.val = k.val
    omega

theorem col_lt (t : Fin cfg0.N) (j : Fin 512) : 512 * (t.val % 24) + j.val < 12288 := by omega

/-- The block of weights. -/
theorem read1 (c : Dev nD) (t : Fin cfg0.N) (k : Fin 2048) (j : Fin 512) :
    (iblk m c 1 t : Vec Ideal S2048x512 .bf16) (ix2 k j) = argW m c (ix3 0 k ⟨3072 + (512 * (t.val % 24) + j.val), by have := col_lt t j; omega⟩) := by
  refine Eq.trans ?_ (V_w m c k _)
  unfold iblk
  rw [View.read_apply]
  show V m c main_v4 _ = _
  congr 1
  funext a
  apply Fin.ext
  match a with
  | 0 =>
    show cc0_transform_1 (grid0.coords t) 0 * 2048 + 1 * k.val = k.val
    rw [at1]
    show 0 * 2048 + 1 * k.val = k.val
    omega
  | 1 =>
    show cc0_transform_1 (grid0.coords t) 1 * 512 + 1 * j.val = 3072 + (512 * (t.val % 24) + j.val)
    rw [at1]
    show ((grid0.coords t 1).val + 6) * 512 + 1 * j.val = 3072 + (512 * (t.val % 24) + j.val)
    rw [(coords_eq t).2]
    omega

/-- The norm's weights. -/
theorem read2 (c : Dev nD) (t : Fin cfg0.N) (k : Fin 2048) : (iblk m c 2 t : Vec Ideal S1x2048 .f32) (ix2 0 k) = argG m c (ix2 0 k) := by
  refine Eq.trans ?_ (V_g m c k)
  unfold iblk
  rw [View.read_apply]
  show V m c main_v2 _ = _
  congr 1
  funext a
  apply Fin.ext
  match a with
  | 0 =>
    show cc0_transform_2 (grid0.coords t) 0 * 1 + 1 * 0 = 0
    rw [at2]
    rfl
  | 1 =>
    show cc0_transform_2 (grid0.coords t) 1 * 2048 + 1 * k.val = k.val
    rw [at2]
    show 0 * 2048 + 1 * k.val = k.val
    omega

/-- The normalised row `t`, from the arguments. -/
noncomputable def row (c : Dev nD) (t : Fin 8192) (k : Fin 2048) : EReal := Rms.norm (fun k => argX m c (ix3 0 t k)) (fun k => argG m c (ix2 0 k)) k

theorem rows_at (c : Dev nD) (t : Fin cfg0.N) (r k : Fin 2048) :
    k0_pay1 (F := Ideal) (iblk m c 0 t : Vec Ideal S2048x2048 .f32) (iblk m c 2 t : Vec Ideal S1x2048 .f32) (ix2 r k) = row m c ⟨2048 * (t.val / 24) + r.val, row_lt t r⟩ k := by
  refine (pay1_apply _ _ r k).trans ?_
  have e0 : (fun k => (iblk m c 0 t : Vec Ideal S2048x2048 .f32) (ix2 r k)) = fun k => argX m c (ix3 0 ⟨2048 * (t.val / 24) + r.val, row_lt t r⟩ k) :=
    funext fun k => read0 m c t r k
  have e2 : (fun k => (iblk m c 2 t : Vec Ideal S1x2048 .f32) (ix2 0 k)) = fun k => argG m c (ix2 0 k) := funext fun k => read2 m c t k
  rw [e0, e2]
  rfl

/-- After every point the scratch holds the normalised rows of the point's row block. -/
theorem scratch_eq (c : Dev nD) : ∀ (n : ℕ) (hn : n < cfg0.N) (r k : Fin 2048),
    (outsAt0 m c n hn).2 (ix2 r k) = row m c ⟨2048 * (n / 24) + r.val, row_lt ⟨n, hn⟩ r⟩ k := by
  intro n
  induction n with
  | zero =>
    intro hn r k
    have e := outsAt0_A m c ⟨0, hn⟩ rfl
    rw [show outsAt0 m c 0 hn = _ from e]
    dsimp only
    rw [sout_A]
    exact rows_at m c ⟨0, hn⟩ r k
  | succ n ih =>
    intro hn r k
    by_cases h0 : (n + 1) % 24 = 0
    · have e := outsAt0_A m c ⟨n + 1, hn⟩ h0
      rw [show outsAt0 m c (n + 1) hn = _ from e]
      dsimp only
      rw [sout_A]
      exact rows_at m c ⟨n + 1, hn⟩ r k
    · have e := outsAt0_B m c ⟨n + 1, hn⟩ h0
      rw [show outsAt0 m c (n + 1) hn = _ from e]
      dsimp only
      unfold sout0_B_0
      refine (ih (Nat.lt_of_succ_lt hn) r k).trans ?_
      have hd : (n + 1) / 24 = n / 24 := by omega
      congr 1
      exact Fin.ext (by show 2048 * (n / 24) + r.val = 2048 * ((n + 1) / 24) + r.val; rw [hd])

/-- What the output's block holds after a point. -/
theorem block_eq (c : Dev nD) (t : Fin cfg0.N) (r : Fin 2048) (l : Fin 512) :
    (outsAt0 m c t.val t.isLt).1 (ix2 r l)
      = part (argX m c) (argG m c) (argW m c) ⟨2048 * (t.val / 24) + r.val, row_lt t r⟩ ⟨512 * (t.val % 24) + l.val, col_lt t l⟩ := by
  have e1 : (fun k => (iblk m c 1 t : Vec Ideal S2048x512 .bf16) (ix2 k l))
      = fun k => argW m c (ix3 0 k ⟨3072 + (512 * (t.val % 24) + l.val), by have := col_lt t l; omega⟩) := funext fun k => read1 m c t k l
  by_cases h0 : t.val % 24 = 0
  · rw [outsAt0_A m c t h0]
    dsimp only
    rw [out_A]
    refine (pay2_apply _ _ _ _ r (fun k => rows_at m c t r k) l).trans ?_
    rw [e1]
    rfl
  · rw [outsAt0_B m c t h0]
    dsimp only
    rw [out_B]
    refine (pay2_apply _ _ (fun k => argX m c (ix3 0 ⟨2048 * (t.val / 24) + r.val, row_lt t r⟩ k)) (fun k => argG m c (ix2 0 k)) r (fun k => ?_) l).trans ?_
    · refine (scratch_eq m c (t.val - 1) _ r k).trans ?_
      have hd : (t.val - 1) / 24 = t.val / 24 := by omega
      refine congrArg (fun q => row m c q k) (Fin.ext ?_)
      show 2048 * ((t.val - 1) / 24) + r.val = 2048 * (t.val / 24) + r.val
      rw [hd]
    · rw [e1]
      rfl

/-- What a grid point writes back. -/
theorem flushed_eq (c : Dev nD) (t : Fin cfg0.N) :
    (dats m 0 c).flushed 3 t = ((cfg0.win 3).blk t).view.read (Elt Ideal) (result (argX m c) (argG m c) (argW m c)) := by
  show (cfg0.win 3).cut (grid0.coords t) ((dats m 0 c).after 3 t) = _
  rw [after0_3]
  funext i
  rw [View.read_apply]
  obtain ⟨r, l, rfl⟩ : ∃ (r : Fin 2048) (l : Fin 512), i = ix2 r l := ⟨i 0, i 1, eq_ix2 _⟩
  have e : (((cfg0.win 3).blk t).view.emb (ix2 r l) : S8192x12288.Idx) = ix2 ⟨2048 * (t.val / 24) + r.val, row_lt t r⟩ ⟨512 * (t.val % 24) + l.val, col_lt t l⟩ := by
    funext a
    apply Fin.ext
    match a with
    | 0 =>
      show cc0_transform_3 (grid0.coords t) 0 * 2048 + 1 * r.val = 2048 * (t.val / 24) + r.val
      rw [at3]
      show (grid0.coords t 0).val * 2048 + 1 * r.val = 2048 * (t.val / 24) + r.val
      rw [(coords_eq t).1]
      omega
    | 1 =>
      show cc0_transform_3 (grid0.coords t) 1 * 512 + 1 * l.val = 512 * (t.val % 24) + l.val
      rw [at3]
      show (grid0.coords t 1).val * 512 + 1 * l.val = 512 * (t.val % 24) + l.val
      rw [(coords_eq t).2]
      omega
  refine Eq.trans (show _ = _ from block_eq m c t r l) ?_
  show _ = result (argX m c) (argG m c) (argW m c) (((cfg0.win 3).blk t).view.emb (ix2 r l))
  rw [e]
  rfl

/-- The result array after the run. -/
theorem final (c : Dev nD) : (dats m 0 c).arrAt 3 cfg0.N = result (argX m c) (argG m c) (argW m c) :=
  (dats m 0 c).arrAt_eq_of_cover 3 (result (argX m c) (argG m c) (argW m c)) (fun t _ => flushed_eq m c t) fun i => by
    have i0 : (i 0 : Nat) < 8192 := (i 0).isLt
    have i1 : (i 1 : Nat) < 12288 := (i 1).isLt
    let t : Fin cfg0.N := ⟨24 * ((i 0 : Nat) / 2048) + (i 1 : Nat) / 512, by have := N_eq; omega⟩
    have hc := coords_at ⟨(i 0 : Nat) / 2048, by omega⟩ ⟨(i 1 : Nat) / 512, by omega⟩
    have h0 : (grid0.coords t 0).val = (i 0 : Nat) / 2048 := hc.1
    have h1 : (grid0.coords t 1).val = (i 1 : Nat) / 512 := hc.2
    refine ⟨t, flush0_3 t, ?_⟩
    show i ∈ ((View.whole main_v5).slice (win0_3.rect t)).set
    rw [View.set_slice_whole, Rect.mem_set_unit]
    intro a
    match a with
    | ⟨0, _⟩ =>
      show cc0_transform_3 (grid0.coords t) 0 * 2048 ≤ (i 0 : Nat) ∧ (i 0 : Nat) < cc0_transform_3 (grid0.coords t) 0 * 2048 + 2048
      rw [at3]
      show (grid0.coords t 0).val * 2048 ≤ (i 0 : Nat) ∧ (i 0 : Nat) < (grid0.coords t 0).val * 2048 + 2048
      rw [h0]
      omega
    | ⟨1, _⟩ =>
      show cc0_transform_3 (grid0.coords t) 1 * 512 ≤ (i 1 : Nat) ∧ (i 1 : Nat) < cc0_transform_3 (grid0.coords t) 1 * 512 + 512
      rw [at3]
      show (grid0.coords t 1).val * 512 ≤ (i 1 : Nat) ∧ (i 1 : Nat) < (grid0.coords t 1).val * 512 + 512
      rw [h1]
      omega

/-- The run ends with the array as named, and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v5) = result (argX m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel2Ideal.Proj
-- ==== Proof.NormRef2.lean ====
module

public import proofs.«01_k».proof.Proof.Gen.Reference2Ideal.Read
public import proofs.«01_k».proof.Proof.RmsMath

/-! The reference's projections of the prompt behind the values. -/

@[expose] public section

open Idealize.ShloMosaic

namespace Cert.Reference2Ideal.Proj

open Cert.Reference2Ideal Cert.Reference2Ideal.Read

theorem v13_apply' (x0 : S1x8192x2048.Idx → EReal) (x1 : S1x2048.Idx → EReal) (b : Fin 8192) (k : Fin 2048) :
    val_main_v13 (F := Ideal) x0 x1 (ix3 0 b k) = Rms.norm (fun k => x0 (ix3 0 b k)) (fun k => x1 (ix2 0 k)) k := by
  rw [val_main_v13_apply, val_main_v12_apply, val_main_v11_apply, val_main_v10_apply, val_main_v9_apply, val_main_v8_apply, val_main_v7_apply,
    val_main_v6_apply, val_main_v5_apply, val_main_v4_apply, val_main_v3_apply, val_main_v2_apply, val_main_v0_apply]
  simp only [val_main_v1_apply, val_main_cst_apply, val_main_cst_0_apply, val_main_cst_1_apply]
  have e2 : ∀ q, idx_main_v2 (idx_main_v3 (idx_main_v9 (ix3 0 b k))) q = ix3 0 b q := fun q => funext fun d => Fin.ext (by
    match d with
    | ⟨0, _⟩ => rfl
    | ⟨1, _⟩ => rfl
    | ⟨2, _⟩ => rfl)
  have e0 : idx_main_v0 (idx_main_v11 (idx_main_v12 (ix3 0 b k))) = ix2 0 k := funext fun d => Fin.ext (by
    match d with
    | ⟨0, _⟩ => rfl
    | ⟨1, _⟩ => exact Nat.mod_eq_of_lt k.isLt)
  simp only [e2, e0]
  show x0 (ix3 0 b k) * Ideal.rsqrt (Ideal.div (Ideal.ofBits .f32 0x00000000#32 + ∑ q : Fin 2048, x0 (ix3 0 b q) * x0 (ix3 0 b q)) _ + _) * _ = _
  rw [Ideal.ofBits_zero_f32, zero_add]
  rfl

theorem v15_apply' (x0 : S1x8192x2048.Idx → EReal) (x1 : S1x2048.Idx → EReal) (x2 : S1x2048x15360.Idx → EReal) (b : Fin 8192) (j : Fin 15360) :
    val_main_v15 (F := Ideal) x0 x1 x2 (ix3 0 b j) = Rms.proj (fun k => x0 (ix3 0 b k)) (fun k => x1 (ix2 0 k)) (fun k => x2 (ix3 0 k j)) := by
  rw [val_main_v15_apply]
  refine Finset.sum_congr rfl fun k _ => ?_
  rw [val_main_v14_apply]
  have e1 : lidx_main_v15 (ix3 0 b j) k = ix3 0 b k := funext fun d => Fin.ext (by
    match d with
    | ⟨0, _⟩ => rfl
    | ⟨1, _⟩ => rfl
    | ⟨2, _⟩ => rfl)
  have e2 : idx_main_v14 (ridx_main_v15 (ix3 0 b j) k) = ix3 0 k j := funext fun d => Fin.ext (by
    match d with
    | ⟨0, _⟩ => rfl
    | ⟨1, _⟩ =>
      show (k.val * 15360 + j.val) / 15360 % 2048 = k.val
      omega
    | ⟨2, _⟩ =>
      show (k.val * 15360 + j.val) % 15360 = j.val
      omega)
  rw [e1, e2, v13_apply']

theorem v18_apply' (x0 : S1x8192x2048.Idx → EReal) (x1 : S1x2048.Idx → EReal) (x2 : S1x2048x15360.Idx → EReal) (t : Fin 8192) (j : Fin 12288) :
    val_main_v18 (F := Ideal) x0 x1 x2 (ix2 t j)
      = Rms.proj (fun k => x0 (ix3 0 t k)) (fun k => x1 (ix2 0 k)) (fun k => x2 (ix3 0 k ⟨3072 + j.val, by omega⟩)) := by
  rw [val_main_v18_apply, val_main_v17_apply, val_main_v16_apply]
  have e : idx_main_v16 (idx_main_v17 (ix2 t j)) = ix3 0 t ⟨3072 + j.val, by omega⟩ := funext fun d => Fin.ext (by
    match d with
    | ⟨0, _⟩ => rfl
    | ⟨1, _⟩ =>
      show (t.val * 12288 + j.val) / 12288 % 8192 = t.val
      omega
    | ⟨2, _⟩ =>
      show 3072 + (t.val * 12288 + j.val) % 12288 = 3072 + j.val
      omega)
  rw [e, v15_apply']
  rfl

end Cert.Reference2Ideal.Proj
-- ==== Proof.Claim2.lean ====
module

public import proofs.«01_k».proof.Defs
public import proofs.«01_k».proof.Proof.Gen.Kernel2.Frame
public import proofs.«01_k».proof.Proof.Gen.Reference2Ideal.Run
public import proofs.«01_k».proof.Proof.Norm2
public import proofs.«01_k».proof.Proof.NormRef2
public import Idealize.ShloMosaic.Lib.Claim

/-! The claims of the prompt's projections behind the values. -/

@[expose] public section

open Idealize.ShloMosaic Idealize.ShloMosaic.TcCoe Idealize.SL.Sem

namespace Cert.Proof.Norm2

theorem frame_kernel : Cert.quiescent_Kernel2 (hKernel2 := Cert.Kernel2.Gen.facts) := fun m ρ _ => Cert.Kernel2.Gen.frame m ρ

theorem frame_ideal : Cert.quiescent_Kernel2Ideal (hKernel2Ideal := Cert.Kernel2Ideal.Gen.facts) := fun m ρ _ => Cert.Kernel2Ideal.Gen.frame m ρ

theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

/-- The kernel's array is the reference's, over the extended reals. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.Proj.result (Cert.Kernel2Ideal.Proj.argX m c) (Cert.Kernel2Ideal.Proj.argG m c) (Cert.Kernel2Ideal.Proj.argW m c), ?_, ?_⟩
  · exact Cert.Kernel2Ideal.Proj.run_blocks m ρ
  · refine (θ_run Cert.Reference2Ideal.defs _ _).mono (fun _ h c => ⟨(h c).1.trans ?_, (h c).2⟩)
      (Cert.Reference2Ideal.Value.run (F := Ideal) m' ρ')
    rw [Cert.Reference2Ideal.Read.val_main_v18_eq, (hagree c).1, (hagree c).2.1, (hagree c).2.2]
    refine funext fun i => ?_
    obtain ⟨t, j, rfl⟩ : ∃ (t : Fin 8192) (j : Fin 12288), i = ix2 t j := ⟨i 0, i 1, eq_ix2 _⟩
    exact Cert.Reference2Ideal.Proj.v18_apply' _ _ _ t j

end Cert.Proof.Norm2
-- ==== Proof.Qkv3.lean ====
module

public import proofs.«01_k».proof.Proof.Gen.Kernel3Ideal.Frame
public import proofs.«01_k».proof.Proof.RmsMath
public import Idealize.ShloMosaic.Lib.Pipeline.Value
public import Idealize.ShloMosaic.Lib.StableHlo.ReadAt

/-! The prompt's queries, keys and values. -/

@[expose] public section

open Idealize.ShloMosaic Idealize.ShloMosaic.TcCoe Idealize.SL.Sem
open Idealize.ShloMosaic.Pipeline (Dat)

namespace Cert.Kernel3Ideal.Qkv

open Cert.Kernel3Ideal Cert.Kernel3Ideal.Gen

set_option maxRecDepth 16384

theorem pay3_apply (x : Vec Ideal S256x2048 .f32) (g : Vec Ideal S1x2048 .f32) (r : Fin 256) (k : Fin 2048) :
    k0_pay3 (F := Ideal) x g (ix2 r k) = Rms.norm (fun k => x (ix2 r k)) (fun k => g (ix2 0 k)) k := by
  unfold k0_pay3
  rw [shapeCast_self, shapeCast_self]
  exact Rms.rows_apply x g _ _ _ _ _ _ r k

theorem pay4_apply (x : Vec Ideal S256x2048 .f32) (g : Vec Ideal S1x2048 .f32) (w : Vec Ideal S2048x1024 .bf16) (r : Fin 256) (c : Fin 1024) :
    k0_pay4 (F := Ideal) x g w (ix2 r c) = Rms.proj (fun k => x (ix2 r k)) (fun k => g (ix2 0 k)) (fun k => w (ix2 k c)) := by
  unfold k0_pay4
  rw [shapeCast_self]
  exact Rms.matmul_apply _ w (pay3_apply x g r) c

theorem pay5_eq : @k0_pay5 = @k0_pay4 := rfl

/-- The scale of the queries. -/
noncomputable def qscale : EReal := (((Real.log 256)⁻¹ : ℝ) : EReal)

theorem pay6_apply (x : Vec Ideal S256x2048 .f32) (g : Vec Ideal S1x2048 .f32) (w : Vec Ideal S2048x1024 .bf16) (r : Fin 256) (c : Fin 1024) :
    k0_pay6 (F := Ideal) x g w (ix2 r c) = Rms.proj (fun k => x (ix2 r k)) (fun k => g (ix2 0 k)) (fun k => w (ix2 k c)) * qscale := by
  have hc := IdealRules.named_const.ideal_named_scalar (φ := .f32) κ "qscale" 0x3E38AA3B#32 (((Real.log 256)⁻¹ : ℝ) : EReal) rfl
  rw [← pay4_apply]
  show k0_pay4 (F := Ideal) x g w (ix2 r c) * Named.named (F := Ideal) κ "qscale" 0x3E38AA3B#32 = _
  rw [hc]
  rfl

theorem hz2 : (![0, 0] : Fin 2 → ℕ) = fun _ => 0 := by
  funext a
  fin_cases a <;> rfl

theorem out3_apply (x : Vec Ideal S256x2048 .f32) (g : Vec Ideal S1x2048 .f32) (w : Vec Ideal S2048x3072 .bf16) (r : Fin 256) (c : Fin 1024) :
    out0_3 (F := Ideal) x g w (ix2 r c) = Rms.proj (fun k => x (ix2 r k)) (fun k => g (ix2 0 k)) (fun k => w (ix2 k ⟨c.val, by omega⟩)) * qscale := by
  unfold out0_3
  rw [View.canon_unit_zero hz2, View.ld_unit_zero hz2, View.ld_unit_zero hz2]
  refine (pay6_apply x g _ r c).trans ?_
  refine congrArg (fun w => Rms.proj _ _ w * qscale) (funext fun k => ?_)
  refine congrArg w (funext fun a => Fin.ext ?_)
  match a with
  | 0 => show 0 + 1 * k.val = k.val; omega
  | 1 => show 0 + 1 * c.val = c.val; omega

theorem out4_apply (x : Vec Ideal S256x2048 .f32) (g : Vec Ideal S1x2048 .f32) (w : Vec Ideal S2048x3072 .bf16) (r : Fin 256) (c : Fin 1024) :
    out0_4 (F := Ideal) x g w (ix2 r c) = Rms.proj (fun k => x (ix2 r k)) (fun k => g (ix2 0 k)) (fun k => w (ix2 k ⟨1024 + c.val, by omega⟩)) := by
  unfold out0_4
  rw [View.canon_unit_zero hz2, View.ld_unit_zero hz2, View.ld_unit_zero hz2]
  refine (pay4_apply x g _ r c).trans ?_
  refine congrArg (Rms.proj _ _) (funext fun k => ?_)
  refine congrArg w (funext fun a => Fin.ext ?_)
  match a with
  | 0 => show 0 + 1 * k.val = k.val; omega
  | 1 => show 1024 + 1 * c.val = 1024 + c.val; omega

theorem out5_apply (x : Vec Ideal S256x2048 .f32) (g : Vec Ideal S1x2048 .f32) (w : Vec Ideal S2048x3072 .bf16) (r : Fin 256) (c : Fin 1024) :
    out0_5 (F := Ideal) x g w (ix2 r c) = Rms.proj (fun k => x (ix2 r k)) (fun k => g (ix2 0 k)) (fun k => w (ix2 k ⟨2048 + c.val, by omega⟩)) := by
  unfold out0_5 k0_pay11
  rw [View.canon_unit_zero hz2, View.ld_unit_zero hz2, View.ld_unit_zero hz2, pay5_eq]
  refine (pay4_apply x g _ r c).trans ?_
  refine congrArg (Rms.proj _ _) (funext fun k => ?_)
  refine congrArg w (funext fun a => Fin.ext ?_)
  match a with
  | 0 => show 0 + 1 * k.val = k.val; omega
  | 1 => show 2048 + 1 * c.val = 2048 + c.val; omega

theorem at0 : ∀ i : grid0.Coords, cc0_transform_0 i = ![(i 0).val, 0] := by decide +kernel
theorem at1 : ∀ i : grid0.Coords, cc0_transform_1 i = ![0, 0] := by decide +kernel
theorem at2 : ∀ i : grid0.Coords, cc0_transform_2 i = ![0, 0] := by decide +kernel
theorem at3 : ∀ i : grid0.Coords, cc0_transform_3 i = ![(i 0).val, 0] := by decide +kernel
theorem at4 : ∀ i : grid0.Coords, cc0_transform_4 i = ![(i 0).val, 0] := by decide +kernel
theorem at5 : ∀ i : grid0.Coords, cc0_transform_5 i = ![(i 0).val, 0] := by decide +kernel

variable (m : (ℓ : Loc nD τ sig) → Buf (Elt Ideal) ℓ)

theorem coords_lt (t : Fin cfg0.N) : (grid0.coords t 0).val < 32 := (grid0.coords t 0).isLt

theorem V_x (c : Dev nD) (t : Fin 8192) (k : Fin 2048) :
    V m c main_v0 (ix2 t k) = m ((c : Thread nD τ).loc main_arg0) (ix3 0 t k) := by
  unfold V
  after_reads_at

theorem V_g (c : Dev nD) (k : Fin 2048) : V m c main_v2 (ix2 0 k) = m ((c : Thread nD τ).loc main_arg1) (ix2 0 k) := by
  unfold V
  after_reads_at

theorem V_w (c : Dev nD) (k : Fin 2048) (j : Fin 15360) : V m c main_v4 (ix2 k j) = m ((c : Thread nD τ).loc main_arg2) (ix3 0 k j) := by
  unfold V
  after_reads_at

/-- The arguments on core `c`. -/
abbrev argX (c : Dev nD) : S1x8192x2048.Idx → EReal := m ((c : Thread nD τ).loc main_arg0)
abbrev argG (c : Dev nD) : S1x2048.Idx → EReal := m ((c : Thread nD τ).loc main_arg1)
abbrev argW (c : Dev nD) : S1x2048x15360.Idx → EReal := m ((c : Thread nD τ).loc main_arg2)

/-- Columns `1024 p + j` of the projection of the normalised rows. -/
noncomputable def part (p : Fin 3) (x : S1x8192x2048.Idx → EReal) (g : S1x2048.Idx → EReal) (w : S1x2048x15360.Idx → EReal) (t : Fin 8192) (j : Fin 1024) : EReal :=
  Rms.proj (fun k => x (ix3 0 t k)) (fun k => g (ix2 0 k)) (fun k => w (ix3 0 k ⟨1024 * p.val + j.val, by omega⟩))

/-- The unscaled result arrays. -/
noncomputable def result (p : Fin 3) (x : S1x8192x2048.Idx → EReal) (g : S1x2048.Idx → EReal) (w : S1x2048x15360.Idx → EReal) : S8192x1024.Idx → EReal :=
  fun i => part p x g w (i 0) (i 1)

/-- The scaled queries. -/
noncomputable def queries (x : S1x8192x2048.Idx → EReal) (g : S1x2048.Idx → EReal) (w : S1x2048x15360.Idx → EReal) : S8192x1024.Idx → EReal :=
  fun i => part 0 x g w (i 0) (i 1) * qscale

/-- The block of rows. -/
theorem read0 (c : Dev nD) (t : Fin cfg0.N) (r : Fin 256) (k : Fin 2048) :
    (iblk m c 0 t : Vec Ideal S256x2048 .f32) (ix2 r k) = V m c main_v0 (ix2 ⟨256 * (grid0.coords t 0).val + r.val, by have := coords_lt t; omega⟩ k) := by
  unfold iblk
  rw [View.read_apply]
  show V m c main_v0 _ = _
  congr 1
  funext a
  apply Fin.ext
  match a with
  | 0 =>
    show cc0_transform_0 (grid0.coords t) 0 * 256 + 1 * r.val = 256 * (grid0.coords t 0).val + r.val
    rw [at0]
    show (grid0.coords t 0).val * 256 + 1 * r.val = 256 * (grid0.coords t 0).val + r.val
    omega
  | 1 =>
    show cc0_transform_0 (grid0.coords t) 1 * 2048 + 1 * k.val = k.val
    rw [at0]
    show 0 * 2048 + 1 * k.val = k.val
    omega

/-- The norm's weights. -/
theorem read1 (c : Dev nD) (t : Fin cfg0.N) (k : Fin 2048) : (iblk m c 1 t : Vec Ideal S1x2048 .f32) (ix2 0 k) = V m c main_v2 (ix2 0 k) := by
  unfold iblk
  rw [View.read_apply]
  show V m c main_v2 _ = _
  congr 1
  funext a
  apply Fin.ext
  match a with
  | 0 =>
    show cc0_transform_1 (grid0.coords t) 0 * 1 + 1 * 0 = 0
    rw [at1]
    rfl
  | 1 =>
    show cc0_transform_1 (grid0.coords t) 1 * 2048 + 1 * k.val = k.val
    rw [at1]
    show 0 * 2048 + 1 * k.val = k.val
    omega

/-- The block of weights. -/
theorem read2 (c : Dev nD) (t : Fin cfg0.N) (k : Fin 2048) (j : Fin 3072) :
    (iblk m c 2 t : Vec Ideal S2048x3072 .bf16) (ix2 k j) = V m c main_v4 (ix2 k ⟨j.val, by omega⟩) := by
  unfold iblk
  rw [View.read_apply]
  show V m c main_v4 _ = _
  congr 1
  funext a
  apply Fin.ext
  match a with
  | 0 =>
    show cc0_transform_2 (grid0.coords t) 0 * 2048 + 1 * k.val = k.val
    rw [at2]
    show 0 * 2048 + 1 * k.val = k.val
    omega
  | 1 =>
    show cc0_transform_2 (grid0.coords t) 1 * 3072 + 1 * j.val = j.val
    rw [at2]
    show 0 * 3072 + 1 * j.val = j.val
    omega

/-- A block's product, from the arguments. -/
theorem proj_eq (c : Dev nD) (t : Fin cfg0.N) (p : Fin 3) (r : Fin 256) (j : Fin 1024) (off : ℕ) (h : off = 1024 * p.val) (hj : off + j.val < 3072) :
    Rms.proj (fun k => (iblk m c 0 t : Vec Ideal S256x2048 .f32) (ix2 r k)) (fun k => (iblk m c 1 t : Vec Ideal S1x2048 .f32) (ix2 0 k))
      (fun k => (iblk m c 2 t : Vec Ideal S2048x3072 .bf16) (ix2 k ⟨off + j.val, hj⟩))
      = part p (argX m c) (argG m c) (argW m c) ⟨256 * (grid0.coords t 0).val + r.val, by have := coords_lt t; omega⟩ j := by
  subst h
  have e0 : (fun k => (iblk m c 0 t : Vec Ideal S256x2048 .f32) (ix2 r k)) = fun k => argX m c (ix3 0 ⟨256 * (grid0.coords t 0).val + r.val, by have := coords_lt t; omega⟩ k) :=
    funext fun k => (read0 m c t r k).trans (V_x m c _ k)
  have e1 : (fun k => (iblk m c 1 t : Vec Ideal S1x2048 .f32) (ix2 0 k)) = fun k => argG m c (ix2 0 k) :=
    funext fun k => (read1 m c t k).trans (V_g m c k)
  have e2 : (fun k => (iblk m c 2 t : Vec Ideal S2048x3072 .bf16) (ix2 k ⟨1024 * p.val + j.val, hj⟩)) = fun k => argW m c (ix3 0 k ⟨1024 * p.val + j.val, by omega⟩) :=
    funext fun k => (read2 m c t k _).trans (V_w m c k _)
  rw [e0, e1, e2]
  rfl

theorem coords_at : ∀ (a : Fin 32), (grid0.coords ⟨a.val, by have : grid0.N = 32 := N_0; omega⟩ 0).val = a.val := by decide +kernel

/-- What a grid point writes back to output 0. -/
theorem flushed3_eq (c : Dev nD) (t : Fin cfg0.N) :
    (dats m 0 c).flushed 3 t = ((cfg0.win 3).blk t).view.read (Elt Ideal) (queries (argX m c) (argG m c) (argW m c)) := by
  have h0 := coords_lt t
  show (cfg0.win 3).cut (grid0.coords t) ((dats m 0 c).after 3 t) = _
  rw [after0_3]
  funext i
  rw [View.read_apply]
  obtain ⟨r, l, rfl⟩ : ∃ (r : Fin 256) (l : Fin 1024), i = ix2 r l := ⟨i 0, i 1, eq_ix2 _⟩
  have e : (((cfg0.win 3).blk t).view.emb (ix2 r l) : S8192x1024.Idx) = ix2 ⟨256 * (grid0.coords t 0).val + r.val, by omega⟩ l := by
    funext a
    apply Fin.ext
    match a with
    | 0 =>
      show cc0_transform_3 (grid0.coords t) 0 * 256 + 1 * r.val = 256 * (grid0.coords t 0).val + r.val
      rw [at3]
      show (grid0.coords t 0).val * 256 + 1 * r.val = 256 * (grid0.coords t 0).val + r.val
      omega
    | 1 =>
      show cc0_transform_3 (grid0.coords t) 1 * 1024 + 1 * l.val = l.val
      rw [at3]
      show 0 * 1024 + 1 * l.val = l.val
      omega
  refine Eq.trans (show _ = _ from out3_apply (iblk m c 0 t) (iblk m c 1 t) (iblk m c 2 t) r l) ?_
  have key := proj_eq m c t 0 r l 0 rfl (by omega)
  simp only [Nat.zero_add] at key
  refine (congrArg (· * qscale) key).trans ?_
  show _ = queries (argX m c) (argG m c) (argW m c) (((cfg0.win 3).blk t).view.emb (ix2 r l))
  rw [e]
  rfl

theorem final3 (c : Dev nD) : (dats m 0 c).arrAt 3 cfg0.N = queries (argX m c) (argG m c) (argW m c) :=
  (dats m 0 c).arrAt_eq_of_cover 3 (queries (argX m c) (argG m c) (argW m c)) (fun t _ => flushed3_eq m c t) fun i => by
    have i0 : (i 0 : Nat) < 8192 := (i 0).isLt
    have i1 : (i 1 : Nat) < 1024 := (i 1).isLt
    obtain ⟨t, hc⟩ : ∃ t : Fin cfg0.N, (grid0.coords t 0).val = (i 0 : Nat) / 256 := ⟨_, coords_at ⟨(i 0 : Nat) / 256, by omega⟩⟩
    refine ⟨t, flush0_3 t, ?_⟩
    show i ∈ ((View.whole main_v5_0).slice (win0_3.rect t)).set
    rw [View.set_slice_whole, Rect.mem_set_unit]
    intro a
    match a with
    | ⟨0, _⟩ =>
      show cc0_transform_3 (grid0.coords t) 0 * 256 ≤ (i 0 : Nat) ∧ (i 0 : Nat) < cc0_transform_3 (grid0.coords t) 0 * 256 + 256
      rw [at3]
      show (grid0.coords t 0).val * 256 ≤ (i 0 : Nat) ∧ (i 0 : Nat) < (grid0.coords t 0).val * 256 + 256
      rw [hc]
      omega
    | ⟨1, _⟩ =>
      show cc0_transform_3 (grid0.coords t) 1 * 1024 ≤ (i 1 : Nat) ∧ (i 1 : Nat) < cc0_transform_3 (grid0.coords t) 1 * 1024 + 1024
      rw [at3]
      show 0 * 1024 ≤ (i 1 : Nat) ∧ (i 1 : Nat) < 0 * 1024 + 1024
      omega

/-- What a grid point writes back to output 1. -/
theorem flushed4_eq (c : Dev nD) (t : Fin cfg0.N) :
    (dats m 0 c).flushed 4 t = ((cfg0.win 4).blk t).view.read (Elt Ideal) (result 1 (argX m c) (argG m c) (argW m c)) := by
  have h0 := coords_lt t
  show (cfg0.win 4).cut (grid0.coords t) ((dats m 0 c).after 4 t) = _
  rw [after0_4]
  funext i
  rw [View.read_apply]
  obtain ⟨r, l, rfl⟩ : ∃ (r : Fin 256) (l : Fin 1024), i = ix2 r l := ⟨i 0, i 1, eq_ix2 _⟩
  have e : (((cfg0.win 4).blk t).view.emb (ix2 r l) : S8192x1024.Idx) = ix2 ⟨256 * (grid0.coords t 0).val + r.val, by omega⟩ l := by
    funext a
    apply Fin.ext
    match a with
    | 0 =>
      show cc0_transform_4 (grid0.coords t) 0 * 256 + 1 * r.val = 256 * (grid0.coords t 0).val + r.val
      rw [at4]
      show (grid0.coords t 0).val * 256 + 1 * r.val = 256 * (grid0.coords t 0).val + r.val
      omega
    | 1 =>
      show cc0_transform_4 (grid0.coords t) 1 * 1024 + 1 * l.val = l.val
      rw [at4]
      show 0 * 1024 + 1 * l.val = l.val
      omega
  refine Eq.trans (show _ = _ from out4_apply (iblk m c 0 t) (iblk m c 1 t) (iblk m c 2 t) r l) ?_
  have key := proj_eq m c t 1 r l 1024 rfl (by omega)
  simp only [Nat.zero_add] at key
  refine key.trans ?_
  show _ = result 1 (argX m c) (argG m c) (argW m c) (((cfg0.win 4).blk t).view.emb (ix2 r l))
  rw [e]
  rfl

theorem final4 (c : Dev nD) : (dats m 0 c).arrAt 4 cfg0.N = result 1 (argX m c) (argG m c) (argW m c) :=
  (dats m 0 c).arrAt_eq_of_cover 4 (result 1 (argX m c) (argG m c) (argW m c)) (fun t _ => flushed4_eq m c t) fun i => by
    have i0 : (i 0 : Nat) < 8192 := (i 0).isLt
    have i1 : (i 1 : Nat) < 1024 := (i 1).isLt
    obtain ⟨t, hc⟩ : ∃ t : Fin cfg0.N, (grid0.coords t 0).val = (i 0 : Nat) / 256 := ⟨_, coords_at ⟨(i 0 : Nat) / 256, by omega⟩⟩
    refine ⟨t, flush0_4 t, ?_⟩
    show i ∈ ((View.whole main_v5_1).slice (win0_4.rect t)).set
    rw [View.set_slice_whole, Rect.mem_set_unit]
    intro a
    match a with
    | ⟨0, _⟩ =>
      show cc0_transform_4 (grid0.coords t) 0 * 256 ≤ (i 0 : Nat) ∧ (i 0 : Nat) < cc0_transform_4 (grid0.coords t) 0 * 256 + 256
      rw [at4]
      show (grid0.coords t 0).val * 256 ≤ (i 0 : Nat) ∧ (i 0 : Nat) < (grid0.coords t 0).val * 256 + 256
      rw [hc]
      omega
    | ⟨1, _⟩ =>
      show cc0_transform_4 (grid0.coords t) 1 * 1024 ≤ (i 1 : Nat) ∧ (i 1 : Nat) < cc0_transform_4 (grid0.coords t) 1 * 1024 + 1024
      rw [at4]
      show 0 * 1024 ≤ (i 1 : Nat) ∧ (i 1 : Nat) < 0 * 1024 + 1024
      omega

/-- What a grid point writes back to output 2. -/
theorem flushed5_eq (c : Dev nD) (t : Fin cfg0.N) :
    (dats m 0 c).flushed 5 t = ((cfg0.win 5).blk t).view.read (Elt Ideal) (result 2 (argX m c) (argG m c) (argW m c)) := by
  have h0 := coords_lt t
  show (cfg0.win 5).cut (grid0.coords t) ((dats m 0 c).after 5 t) = _
  rw [after0_5]
  funext i
  rw [View.read_apply]
  obtain ⟨r, l, rfl⟩ : ∃ (r : Fin 256) (l : Fin 1024), i = ix2 r l := ⟨i 0, i 1, eq_ix2 _⟩
  have e : (((cfg0.win 5).blk t).view.emb (ix2 r l) : S8192x1024.Idx) = ix2 ⟨256 * (grid0.coords t 0).val + r.val, by omega⟩ l := by
    funext a
    apply Fin.ext
    match a with
    | 0 =>
      show cc0_transform_5 (grid0.coords t) 0 * 256 + 1 * r.val = 256 * (grid0.coords t 0).val + r.val
      rw [at5]
      show (grid0.coords t 0).val * 256 + 1 * r.val = 256 * (grid0.coords t 0).val + r.val
      omega
    | 1 =>
      show cc0_transform_5 (grid0.coords t) 1 * 1024 + 1 * l.val = l.val
      rw [at5]
      show 0 * 1024 + 1 * l.val = l.val
      omega
  refine Eq.trans (show _ = _ from out5_apply (iblk m c 0 t) (iblk m c 1 t) (iblk m c 2 t) r l) ?_
  have key := proj_eq m c t 2 r l 2048 rfl (by omega)
  simp only [Nat.zero_add] at key
  refine key.trans ?_
  show _ = result 2 (argX m c) (argG m c) (argW m c) (((cfg0.win 5).blk t).view.emb (ix2 r l))
  rw [e]
  rfl

theorem final5 (c : Dev nD) : (dats m 0 c).arrAt 5 cfg0.N = result 2 (argX m c) (argG m c) (argW m c) :=
  (dats m 0 c).arrAt_eq_of_cover 5 (result 2 (argX m c) (argG m c) (argW m c)) (fun t _ => flushed5_eq m c t) fun i => by
    have i0 : (i 0 : Nat) < 8192 := (i 0).isLt
    have i1 : (i 1 : Nat) < 1024 := (i 1).isLt
    obtain ⟨t, hc⟩ : ∃ t : Fin cfg0.N, (grid0.coords t 0).val = (i 0 : Nat) / 256 := ⟨_, coords_at ⟨(i 0 : Nat) / 256, by omega⟩⟩
    refine ⟨t, flush0_5 t, ?_⟩
    show i ∈ ((View.whole main_v5_2).slice (win0_5.rect t)).set
    rw [View.set_slice_whole, Rect.mem_set_unit]
    intro a
    match a with
    | ⟨0, _⟩ =>
      show cc0_transform_5 (grid0.coords t) 0 * 256 ≤ (i 0 : Nat) ∧ (i 0 : Nat) < cc0_transform_5 (grid0.coords t) 0 * 256 + 256
      rw [at5]
      show (grid0.coords t 0).val * 256 ≤ (i 0 : Nat) ∧ (i 0 : Nat) < (grid0.coords t 0).val * 256 + 256
      rw [hc]
      omega
    | ⟨1, _⟩ =>
      show cc0_transform_5 (grid0.coords t) 1 * 1024 ≤ (i 1 : Nat) ∧ (i 1 : Nat) < cc0_transform_5 (grid0.coords t) 1 * 1024 + 1024
      rw [at5]
      show 0 * 1024 ≤ (i 1 : Nat) ∧ (i 1 : Nat) < 0 * 1024 + 1024
      omega

/-- The run ends with the three arrays as named, and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v5_0) = (dats m 0 c).arrAt 3 cfg0.N
      ∧ r.2.mem ((c : Thread nD τ).loc main_v5_1) = (dats m 0 c).arrAt 4 cfg0.N
      ∧ r.2.mem ((c : Thread nD τ).loc main_v5_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4, (h c).1 5,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel3Ideal.Qkv
-- ==== Proof.QkvRef3.lean ====
module

public import proofs.«01_k».proof.Proof.Gen.Reference3Ideal.Read
public import proofs.«01_k».proof.Proof.RmsMath

/-! The reference's queries, keys and values of the prompt. -/

@[expose] public section

open Idealize.ShloMosaic

namespace Cert.Reference3Ideal.Qkv

open Cert.Reference3Ideal Cert.Reference3Ideal.Read

theorem v13_apply' (x0 : S1x8192x2048.Idx → EReal) (x1 : S1x2048.Idx → EReal) (b : Fin 8192) (k : Fin 2048) :
    val_main_v13 (F := Ideal) x0 x1 (ix3 0 b k) = Rms.norm (fun k => x0 (ix3 0 b k)) (fun k => x1 (ix2 0 k)) k := by
  rw [val_main_v13_apply, val_main_v12_apply, val_main_v11_apply, val_main_v10_apply, val_main_v9_apply, val_main_v8_apply, val_main_v7_apply,
    val_main_v6_apply, val_main_v5_apply, val_main_v4_apply, val_main_v3_apply, val_main_v2_apply, val_main_v0_apply]
  simp only [val_main_v1_apply, val_main_cst_apply, val_main_cst_0_apply, val_main_cst_1_apply]
  have e2 : ∀ q, idx_main_v2 (idx_main_v3 (idx_main_v9 (ix3 0 b k))) q = ix3 0 b q := fun q => funext fun d => Fin.ext (by
    match d with
    | ⟨0, _⟩ => rfl
    | ⟨1, _⟩ => rfl
    | ⟨2, _⟩ => rfl)
  have e0 : idx_main_v0 (idx_main_v11 (idx_main_v12 (ix3 0 b k))) = ix2 0 k := funext fun d => Fin.ext (by
    match d with
    | ⟨0, _⟩ => rfl
    | ⟨1, _⟩ => exact Nat.mod_eq_of_lt k.isLt)
  simp only [e2, e0]
  show x0 (ix3 0 b k) * Ideal.rsqrt (Ideal.div (Ideal.ofBits .f32 0x00000000#32 + ∑ q : Fin 2048, x0 (ix3 0 b q) * x0 (ix3 0 b q)) _ + _) * _ = _
  rw [Ideal.ofBits_zero_f32, zero_add]
  rfl

theorem v15_apply' (x0 : S1x8192x2048.Idx → EReal) (x1 : S1x2048.Idx → EReal) (x2 : S1x2048x15360.Idx → EReal) (b : Fin 8192) (j : Fin 15360) :
    val_main_v15 (F := Ideal) x0 x1 x2 (ix3 0 b j) = Rms.proj (fun k => x0 (ix3 0 b k)) (fun k => x1 (ix2 0 k)) (fun k => x2 (ix3 0 k j)) := by
  rw [val_main_v15_apply]
  refine Finset.sum_congr rfl fun k _ => ?_
  rw [val_main_v14_apply]
  have e1 : lidx_main_v15 (ix3 0 b j) k = ix3 0 b k := funext fun d => Fin.ext (by
    match d with
    | ⟨0, _⟩ => rfl
    | ⟨1, _⟩ => rfl
    | ⟨2, _⟩ => rfl)
  have e2 : idx_main_v14 (ridx_main_v15 (ix3 0 b j) k) = ix3 0 k j := funext fun d => Fin.ext (by
    match d with
    | ⟨0, _⟩ => rfl
    | ⟨1, _⟩ =>
      show (k.val * 15360 + j.val) / 15360 % 2048 = k.val
      omega
    | ⟨2, _⟩ =>
      show (k.val * 15360 + j.val) % 15360 = j.val
      omega)
  rw [e1, e2, v13_apply']

theorem v17_apply' (x0 : S1x8192x2048.Idx → EReal) (x1 : S1x2048.Idx → EReal) (x2 : S1x2048x15360.Idx → EReal) (t : Fin 8192) (j : Fin 1024) :
    val_main_v17 (F := Ideal) x0 x1 x2 (ix2 t j)
      = Rms.proj (fun k => x0 (ix3 0 t k)) (fun k => x1 (ix2 0 k)) (fun k => x2 (ix3 0 k ⟨0 + j.val, by omega⟩)) := by
  rw [val_main_v17_apply, val_main_v16_apply]
  have e : idx_main_v16 (idx_main_v17 (ix2 t j)) = ix3 0 t ⟨0 + j.val, by omega⟩ := funext fun d => Fin.ext (by
    match d with
    | ⟨0, _⟩ => rfl
    | ⟨1, _⟩ =>
      show (t.val * 1024 + j.val) / 1024 % 8192 = t.val
      omega
    | ⟨2, _⟩ =>
      show (t.val * 1024 + j.val) % 1024 = 0 + j.val
      omega)
  rw [e, v15_apply']

theorem v19_apply' (x0 : S1x8192x2048.Idx → EReal) (x1 : S1x2048.Idx → EReal) (x2 : S1x2048x15360.Idx → EReal) (t : Fin 8192) (j : Fin 1024) :
    val_main_v19 (F := Ideal) x0 x1 x2 (ix2 t j)
      = Rms.proj (fun k => x0 (ix3 0 t k)) (fun k => x1 (ix2 0 k)) (fun k => x2 (ix3 0 k ⟨1024 + j.val, by omega⟩)) := by
  rw [val_main_v19_apply, val_main_v18_apply]
  have e : idx_main_v18 (idx_main_v19 (ix2 t j)) = ix3 0 t ⟨1024 + j.val, by omega⟩ := funext fun d => Fin.ext (by
    match d with
    | ⟨0, _⟩ => rfl
    | ⟨1, _⟩ =>
      show (t.val * 1024 + j.val) / 1024 % 8192 = t.val
      omega
    | ⟨2, _⟩ =>
      show 1024 + (t.val * 1024 + j.val) % 1024 = 1024 + j.val
      omega)
  rw [e, v15_apply']

theorem v21_apply' (x0 : S1x8192x2048.Idx → EReal) (x1 : S1x2048.Idx → EReal) (x2 : S1x2048x15360.Idx → EReal) (t : Fin 8192) (j : Fin 1024) :
    val_main_v21 (F := Ideal) x0 x1 x2 (ix2 t j)
      = Rms.proj (fun k => x0 (ix3 0 t k)) (fun k => x1 (ix2 0 k)) (fun k => x2 (ix3 0 k ⟨2048 + j.val, by omega⟩)) := by
  rw [val_main_v21_apply, val_main_v20_apply]
  have e : idx_main_v20 (idx_main_v21 (ix2 t j)) = ix3 0 t ⟨2048 + j.val, by omega⟩ := funext fun d => Fin.ext (by
    match d with
    | ⟨0, _⟩ => rfl
    | ⟨1, _⟩ =>
      show (t.val * 1024 + j.val) / 1024 % 8192 = t.val
      omega
    | ⟨2, _⟩ =>
      show 2048 + (t.val * 1024 + j.val) % 1024 = 2048 + j.val
      omega)
  rw [e, v15_apply']

theorem bits_two : Ideal.ofBits .f32 0x40000000#32 = ((2 : ℝ) : EReal) := by
  simp [Ideal.ofBits, Ideal.ieee, -EReal.coe_mul]
  norm_num

theorem bits_eighth : Ideal.ofBits .f32 0x3E000000#32 = (((1 : ℝ) / 8 : ℝ) : EReal) := by
  simp [Ideal.ofBits, Ideal.ieee, -EReal.coe_mul]
  norm_num

/-- An eighth over the logarithm of two is one over the logarithm of 256. -/
theorem scale_eq (y : EReal) : Ideal.div (y * Ideal.ofBits .f32 0x3E000000#32) (Ideal.log (Ideal.ofBits .f32 0x40000000#32)) = y * (((Real.log 256)⁻¹ : ℝ) : EReal) := by
  have h2 : Real.log 2 ≠ 0 := (Real.log_pos (by norm_num)).ne'
  have h8 : Real.log 256 = 8 * Real.log 2 := by
    rw [show (256 : ℝ) = 2 ^ 8 by norm_num, Real.log_pow]
    norm_num
  rw [bits_two, bits_eighth, Ideal.log_coe, if_neg (by norm_num), Ideal.div_coe h2, mul_assoc, ← EReal.coe_mul, h8]
  congr 2
  field_simp

theorem v27_apply' (x0 : S1x8192x2048.Idx → EReal) (x1 : S1x2048.Idx → EReal) (x2 : S1x2048x15360.Idx → EReal) (t : Fin 8192) (j : Fin 1024) :
    val_main_v27 (F := Ideal) x0 x1 x2 (ix2 t j)
      = Rms.proj (fun k => x0 (ix3 0 t k)) (fun k => x1 (ix2 0 k)) (fun k => x2 (ix3 0 k ⟨0 + j.val, by omega⟩)) * (((Real.log 256)⁻¹ : ℝ) : EReal) := by
  rw [val_main_v27_apply, val_main_v26_apply, val_main_v23_apply, v17_apply']
  simp only [val_main_v22_apply, val_main_v25_apply, val_main_v24_apply, val_main_cst_2_apply, val_main_cst_3_apply]
  exact scale_eq _

end Cert.Reference3Ideal.Qkv
-- ==== Proof.Claim3.lean ====
module

public import proofs.«01_k».proof.Defs
public import proofs.«01_k».proof.Proof.Gen.Kernel3.Frame
public import proofs.«01_k».proof.Proof.Gen.Reference3Ideal.Run
public import proofs.«01_k».proof.Proof.Qkv3
public import proofs.«01_k».proof.Proof.QkvRef3
public import Idealize.ShloMosaic.Lib.Claim

/-! The claims of the prompt's queries, keys and values. -/

@[expose] public section

open Idealize.ShloMosaic Idealize.ShloMosaic.TcCoe Idealize.SL.Sem

namespace Cert.Proof.Qkv3

theorem frame_kernel : Cert.quiescent_Kernel3 (hKernel3 := Cert.Kernel3.Gen.facts) := fun m ρ _ => Cert.Kernel3.Gen.frame m ρ

theorem frame_ideal : Cert.quiescent_Kernel3Ideal (hKernel3Ideal := Cert.Kernel3Ideal.Gen.facts) := fun m ρ _ => Cert.Kernel3Ideal.Gen.frame m ρ

theorem frame_reference : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem preserves : Cert.preserves_Kernel3_Kernel3Ideal :=
  IdealRules.named_const.statement Cert.Kernel3Ideal.κ "qscale" .f32 0x3E38AA3B#32 (((Real.log 256)⁻¹ : ℝ) : EReal) rfl

/-- The kernel's queries, keys and values are the reference's, over the extended reals. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Kernel3Ideal.Qkv.queries (Cert.Kernel3Ideal.Qkv.argX m c) (Cert.Kernel3Ideal.Qkv.argG m c) (Cert.Kernel3Ideal.Qkv.argW m c),
    fun c => Cert.Kernel3Ideal.Qkv.result 1 (Cert.Kernel3Ideal.Qkv.argX m c) (Cert.Kernel3Ideal.Qkv.argG m c) (Cert.Kernel3Ideal.Qkv.argW m c),
    fun c => Cert.Kernel3Ideal.Qkv.result 2 (Cert.Kernel3Ideal.Qkv.argX m c) (Cert.Kernel3Ideal.Qkv.argG m c) (Cert.Kernel3Ideal.Qkv.argW m c), ?_, ?_⟩
  · exact (θ_run Cert.Kernel3Ideal.defs _ _).mono (fun _ h c => ⟨(h c).1.trans (Cert.Kernel3Ideal.Qkv.final3 m c),
      (h c).2.1.trans (Cert.Kernel3Ideal.Qkv.final4 m c), (h c).2.2.1.trans (Cert.Kernel3Ideal.Qkv.final5 m c), (h c).2.2.2⟩)
      (Cert.Kernel3Ideal.Qkv.run_blocks m ρ)
  · refine (θ_run Cert.Reference3Ideal.defs _ _).mono (fun _ h c => ⟨(h c).1.trans ?_, (h c).2.1.trans ?_, (h c).2.2.1.trans ?_, (h c).2.2.2⟩)
      (Cert.Reference3Ideal.Value.run (F := Ideal) m' ρ')
    · rw [Cert.Reference3Ideal.Read.val_main_v27_eq, (hagree c).1, (hagree c).2.1, (hagree c).2.2]
      refine funext fun i => ?_
      obtain ⟨t, j, rfl⟩ : ∃ (t : Fin 8192) (j : Fin 1024), i = ix2 t j := ⟨i 0, i 1, eq_ix2 _⟩
      exact Cert.Reference3Ideal.Qkv.v27_apply' _ _ _ t j
    · rw [Cert.Reference3Ideal.Read.val_main_v19_eq, (hagree c).1, (hagree c).2.1, (hagree c).2.2]
      refine funext fun i => ?_
      obtain ⟨t, j, rfl⟩ : ∃ (t : Fin 8192) (j : Fin 1024), i = ix2 t j := ⟨i 0, i 1, eq_ix2 _⟩
      exact Cert.Reference3Ideal.Qkv.v19_apply' _ _ _ t j
    · rw [Cert.Reference3Ideal.Read.val_main_v21_eq, (hagree c).1, (hagree c).2.1, (hagree c).2.2]
      refine funext fun i => ?_
      obtain ⟨t, j, rfl⟩ : ∃ (t : Fin 8192) (j : Fin 1024), i = ix2 t j := ⟨i 0, i 1, eq_ix2 _⟩
      exact Cert.Reference3Ideal.Qkv.v21_apply' _ _ _ t j

end Cert.Proof.Qkv3
-- ==== Proof.Qkv4.lean ====
module

public import proofs.«01_k».proof.Proof.Gen.Kernel4Ideal.Value
public import proofs.«01_k».proof.Proof.RmsMath
public import Idealize.ShloMosaic.Lib.StableHlo.ReadAt

/-! The sample group's queries, keys and values. -/

@[expose] public section

open Idealize.ShloMosaic Idealize.ShloMosaic.TcCoe Idealize.SL.Sem
open Idealize.ShloMosaic.Pipeline (Dat)

namespace Cert.Kernel4Ideal.Qkv

open Cert.Kernel4Ideal Cert.Kernel4Ideal.Gen

set_option maxRecDepth 16384

theorem pay1_apply (x : Vec Ideal S256x2048 .f32) (g : Vec Ideal S1x2048 .f32) (r : Fin 256) (k : Fin 2048) :
    k0_pay1 (F := Ideal) x g (ix2 r k) = Rms.norm (fun k => x (ix2 r k)) (fun k => g (ix2 0 k)) k := by
  unfold k0_pay1
  rw [shapeCast_self, shapeCast_self]
  exact Rms.rows_apply x g _ _ _ _ _ _ r k

theorem pay2_apply (x : Vec Ideal S256x2048 .f32) (g : Vec Ideal S1x2048 .f32) (w : Vec Ideal S2048x1024 .bf16) (r : Fin 256) (c : Fin 1024) :
    k0_pay2 (F := Ideal) x g w (ix2 r c) = Rms.proj (fun k => x (ix2 r k)) (fun k => g (ix2 0 k)) (fun k => w (ix2 k c)) := by
  unfold k0_pay2
  rw [shapeCast_self]
  exact Rms.matmul_apply _ w (pay1_apply x g r) c

theorem pay3_eq : @k0_pay3 = @k0_pay2 := rfl
theorem pay4_eq : @k0_pay4 = @k0_pay2 := rfl

theorem hz2 : (![0, 0] : Fin 2 → ℕ) = fun _ => 0 := by
  funext a
  fin_cases a <;> rfl

theorem out3_apply (x : Vec Ideal S256x2048 .f32) (g : Vec Ideal S1x2048 .f32) (w : Vec Ideal S2048x3072 .bf16) (r : Fin 256) (c : Fin 1024) :
    out0_3 (F := Ideal) x g w (ix2 r c) = Rms.proj (fun k => x (ix2 r k)) (fun k => g (ix2 0 k)) (fun k => w (ix2 k ⟨c.val, by omega⟩)) := by
  unfold out0_3
  rw [View.canon_unit_zero hz2, View.ld_unit_zero hz2, View.ld_unit_zero hz2]
  refine (pay2_apply x g _ r c).trans ?_
  refine congrArg (Rms.proj _ _) (funext fun k => ?_)
  refine congrArg w (funext fun a => Fin.ext ?_)
  match a with
  | 0 => show 0 + 1 * k.val = k.val; omega
  | 1 => show 0 + 1 * c.val = c.val; omega

theorem out4_apply (x : Vec Ideal S256x2048 .f32) (g : Vec Ideal S1x2048 .f32) (w : Vec Ideal S2048x3072 .bf16) (r : Fin 256) (c : Fin 1024) :
    out0_4 (F := Ideal) x g w (ix2 r c) = Rms.proj (fun k => x (ix2 r k)) (fun k => g (ix2 0 k)) (fun k => w (ix2 k ⟨1024 + c.val, by omega⟩)) := by
  unfold out0_4
  rw [View.canon_unit_zero hz2, View.ld_unit_zero hz2, View.ld_unit_zero hz2, pay3_eq]
  refine (pay2_apply x g _ r c).trans ?_
  refine congrArg (Rms.proj _ _) (funext fun k => ?_)
  refine congrArg w (funext fun a => Fin.ext ?_)
  match a with
  | 0 => show 0 + 1 * k.val = k.val; omega
  | 1 => show 1024 + 1 * c.val = 1024 + c.val; omega

theorem out5_apply (x : Vec Ideal S256x2048 .f32) (g : Vec Ideal S1x2048 .f32) (w : Vec Ideal S2048x3072 .bf16) (r : Fin 256) (c : Fin 1024) :
    out0_5 (F := Ideal) x g w (ix2 r c) = Rms.proj (fun k => x (ix2 r k)) (fun k => g (ix2 0 k)) (fun k => w (ix2 k ⟨2048 + c.val, by omega⟩)) := by
  unfold out0_5
  rw [View.canon_unit_zero hz2, View.ld_unit_zero hz2, View.ld_unit_zero hz2, pay4_eq]
  refine (pay2_apply x g _ r c).trans ?_
  refine congrArg (Rms.proj _ _) (funext fun k => ?_)
  refine congrArg w (funext fun a => Fin.ext ?_)
  match a with
  | 0 => show 0 + 1 * k.val = k.val; omega
  | 1 => show 2048 + 1 * c.val = 2048 + c.val; omega

theorem at0 : ∀ i : grid0.Coords, cc0_transform_0 i = ![(i 0).val, 0] := by decide +kernel
theorem at1 : ∀ i : grid0.Coords, cc0_transform_1 i = ![0, 0] := by decide +kernel
theorem at2 : ∀ i : grid0.Coords, cc0_transform_2 i = ![0, 0] := by decide +kernel
theorem at3 : ∀ i : grid0.Coords, cc0_transform_3 i = ![(i 0).val, 0] := by decide +kernel
theorem at4 : ∀ i : grid0.Coords, cc0_transform_4 i = ![(i 0).val, 0] := by decide +kernel
theorem at5 : ∀ i : grid0.Coords, cc0_transform_5 i = ![(i 0).val, 0] := by decide +kernel

variable (m : (ℓ : Loc nD τ sig) → Buf (Elt Ideal) ℓ)

theorem coords_lt (t : Fin cfg0.N) : (grid0.coords t 0).val < 4 := (grid0.coords t 0).isLt

theorem V_x (c : Dev nD) (t : Fin 1024) (k : Fin 2048) :
    V m c main_v0 (ix2 t k) = m ((c : Thread nD τ).loc main_arg0) (ix3 ⟨t.val / 8, by omega⟩ ⟨t.val % 8, by omega⟩ k) := by
  unfold V
  after_reads_at

theorem V_g (c : Dev nD) (k : Fin 2048) : V m c main_v2 (ix2 0 k) = m ((c : Thread nD τ).loc main_arg1) (ix2 0 k) := by
  unfold V
  after_reads_at

theorem V_w (c : Dev nD) (k : Fin 2048) (j : Fin 15360) : V m c main_v4 (ix2 k j) = m ((c : Thread nD τ).loc main_arg2) (ix3 0 k j) := by
  unfold V
  after_reads_at

/-- The arguments on core `c`. -/
abbrev argX (c : Dev nD) : S128x8x2048.Idx → EReal := m ((c : Thread nD τ).loc main_arg0)
abbrev argG (c : Dev nD) : S1x2048.Idx → EReal := m ((c : Thread nD τ).loc main_arg1)
abbrev argW (c : Dev nD) : S1x2048x15360.Idx → EReal := m ((c : Thread nD τ).loc main_arg2)

/-- Columns `1024 p + j` of the projection of the normalised rows. -/
noncomputable def part (p : Fin 3) (x : S128x8x2048.Idx → EReal) (g : S1x2048.Idx → EReal) (w : S1x2048x15360.Idx → EReal) (t j : Fin 1024) : EReal :=
  Rms.proj (fun k => x (ix3 ⟨t.val / 8, by omega⟩ ⟨t.val % 8, by omega⟩ k)) (fun k => g (ix2 0 k)) (fun k => w (ix3 0 k ⟨1024 * p.val + j.val, by omega⟩))

/-- The three result arrays. -/
noncomputable def result (p : Fin 3) (x : S128x8x2048.Idx → EReal) (g : S1x2048.Idx → EReal) (w : S1x2048x15360.Idx → EReal) : S1024x1024.Idx → EReal :=
  fun i => part p x g w (i 0) (i 1)

/-- The block of rows. -/
theorem read0 (c : Dev nD) (t : Fin cfg0.N) (r : Fin 256) (k : Fin 2048) :
    (iblk m c 0 t : Vec Ideal S256x2048 .f32) (ix2 r k) = V m c main_v0 (ix2 ⟨256 * (grid0.coords t 0).val + r.val, by have := coords_lt t; omega⟩ k) := by
  unfold iblk
  rw [View.read_apply]
  show V m c main_v0 _ = _
  congr 1
  funext a
  apply Fin.ext
  match a with
  | 0 =>
    show cc0_transform_0 (grid0.coords t) 0 * 256 + 1 * r.val = 256 * (grid0.coords t 0).val + r.val
    rw [at0]
    show (grid0.coords t 0).val * 256 + 1 * r.val = 256 * (grid0.coords t 0).val + r.val
    omega
  | 1 =>
    show cc0_transform_0 (grid0.coords t) 1 * 2048 + 1 * k.val = k.val
    rw [at0]
    show 0 * 2048 + 1 * k.val = k.val
    omega

/-- The norm's weights. -/
theorem read1 (c : Dev nD) (t : Fin cfg0.N) (k : Fin 2048) : (iblk m c 1 t : Vec Ideal S1x2048 .f32) (ix2 0 k) = V m c main_v2 (ix2 0 k) := by
  unfold iblk
  rw [View.read_apply]
  show V m c main_v2 _ = _
  congr 1
  funext a
  apply Fin.ext
  match a with
  | 0 =>
    show cc0_transform_1 (grid0.coords t) 0 * 1 + 1 * 0 = 0
    rw [at1]
    rfl
  | 1 =>
    show cc0_transform_1 (grid0.coords t) 1 * 2048 + 1 * k.val = k.val
    rw [at1]
    show 0 * 2048 + 1 * k.val = k.val
    omega

/-- The block of weights. -/
theorem read2 (c : Dev nD) (t : Fin cfg0.N) (k : Fin 2048) (j : Fin 3072) :
    (iblk m c 2 t : Vec Ideal S2048x3072 .bf16) (ix2 k j) = V m c main_v4 (ix2 k ⟨j.val, by omega⟩) := by
  unfold iblk
  rw [View.read_apply]
  show V m c main_v4 _ = _
  congr 1
  funext a
  apply Fin.ext
  match a with
  | 0 =>
    show cc0_transform_2 (grid0.coords t) 0 * 2048 + 1 * k.val = k.val
    rw [at2]
    show 0 * 2048 + 1 * k.val = k.val
    omega
  | 1 =>
    show cc0_transform_2 (grid0.coords t) 1 * 3072 + 1 * j.val = j.val
    rw [at2]
    show 0 * 3072 + 1 * j.val = j.val
    omega

/-- A block's product, from the arguments. -/
theorem proj_eq (c : Dev nD) (t : Fin cfg0.N) (p : Fin 3) (r : Fin 256) (j : Fin 1024) (off : ℕ) (h : off = 1024 * p.val) (hj : off + j.val < 3072) :
    Rms.proj (fun k => (iblk m c 0 t : Vec Ideal S256x2048 .f32) (ix2 r k)) (fun k => (iblk m c 1 t : Vec Ideal S1x2048 .f32) (ix2 0 k))
      (fun k => (iblk m c 2 t : Vec Ideal S2048x3072 .bf16) (ix2 k ⟨off + j.val, hj⟩))
      = part p (argX m c) (argG m c) (argW m c) ⟨256 * (grid0.coords t 0).val + r.val, by have := coords_lt t; omega⟩ j := by
  subst h
  have e0 : (fun k => (iblk m c 0 t : Vec Ideal S256x2048 .f32) (ix2 r k)) = fun k => argX m c (ix3 ⟨(256 * (grid0.coords t 0).val + r.val) / 8, by have := coords_lt t; omega⟩ ⟨(256 * (grid0.coords t 0).val + r.val) % 8, by omega⟩ k) :=
    funext fun k => (read0 m c t r k).trans (V_x m c _ k)
  have e1 : (fun k => (iblk m c 1 t : Vec Ideal S1x2048 .f32) (ix2 0 k)) = fun k => argG m c (ix2 0 k) :=
    funext fun k => (read1 m c t k).trans (V_g m c k)
  have e2 : (fun k => (iblk m c 2 t : Vec Ideal S2048x3072 .bf16) (ix2 k ⟨1024 * p.val + j.val, hj⟩)) = fun k => argW m c (ix3 0 k ⟨1024 * p.val + j.val, by omega⟩) :=
    funext fun k => (read2 m c t k _).trans (V_w m c k _)
  rw [e0, e1, e2]
  rfl

theorem coords_at : ∀ (a : Fin 4), (grid0.coords ⟨a.val, by have : grid0.N = 4 := N_0; omega⟩ 0).val = a.val := by decide +kernel

/-- What a grid point writes back to output 0. -/
theorem flushed3_eq (c : Dev nD) (t : Fin cfg0.N) :
    (dats m 0 c).flushed 3 t = ((cfg0.win 3).blk t).view.read (Elt Ideal) (result 0 (argX m c) (argG m c) (argW m c)) := by
  have h0 := coords_lt t
  rw [Value.flushed3]
  funext i
  rw [View.read_apply]
  obtain ⟨r, l, rfl⟩ : ∃ (r : Fin 256) (l : Fin 1024), i = ix2 r l := ⟨i 0, i 1, eq_ix2 _⟩
  have e : (((cfg0.win 3).blk t).view.emb (ix2 r l) : S1024x1024.Idx) = ix2 ⟨256 * (grid0.coords t 0).val + r.val, by omega⟩ l := by
    funext a
    apply Fin.ext
    match a with
    | 0 =>
      show cc0_transform_3 (grid0.coords t) 0 * 256 + 1 * r.val = 256 * (grid0.coords t 0).val + r.val
      rw [at3]
      show (grid0.coords t 0).val * 256 + 1 * r.val = 256 * (grid0.coords t 0).val + r.val
      omega
    | 1 =>
      show cc0_transform_3 (grid0.coords t) 1 * 1024 + 1 * l.val = l.val
      rw [at3]
      show 0 * 1024 + 1 * l.val = l.val
      omega
  refine Eq.trans (show _ = _ from out3_apply (iblk m c 0 t) (iblk m c 1 t) (iblk m c 2 t) r l) ?_
  have key := proj_eq m c t 0 r l 0 rfl (by omega)
  simp only [Nat.zero_add] at key
  refine key.trans ?_
  show _ = result 0 (argX m c) (argG m c) (argW m c) (((cfg0.win 3).blk t).view.emb (ix2 r l))
  rw [e]
  rfl

theorem final3 (c : Dev nD) : (dats m 0 c).arrAt 3 cfg0.N = result 0 (argX m c) (argG m c) (argW m c) :=
  (dats m 0 c).arrAt_eq_of_cover 3 (result 0 (argX m c) (argG m c) (argW m c)) (fun t _ => flushed3_eq m c t) fun i => by
    have i0 : (i 0 : Nat) < 1024 := (i 0).isLt
    have i1 : (i 1 : Nat) < 1024 := (i 1).isLt
    obtain ⟨t, hc⟩ : ∃ t : Fin cfg0.N, (grid0.coords t 0).val = (i 0 : Nat) / 256 := ⟨_, coords_at ⟨(i 0 : Nat) / 256, by omega⟩⟩
    refine ⟨t, flush0_3 t, ?_⟩
    show i ∈ ((View.whole main_v5_0).slice (win0_3.rect t)).set
    rw [View.set_slice_whole, Rect.mem_set_unit]
    intro a
    match a with
    | ⟨0, _⟩ =>
      show cc0_transform_3 (grid0.coords t) 0 * 256 ≤ (i 0 : Nat) ∧ (i 0 : Nat) < cc0_transform_3 (grid0.coords t) 0 * 256 + 256
      rw [at3]
      show (grid0.coords t 0).val * 256 ≤ (i 0 : Nat) ∧ (i 0 : Nat) < (grid0.coords t 0).val * 256 + 256
      rw [hc]
      omega
    | ⟨1, _⟩ =>
      show cc0_transform_3 (grid0.coords t) 1 * 1024 ≤ (i 1 : Nat) ∧ (i 1 : Nat) < cc0_transform_3 (grid0.coords t) 1 * 1024 + 1024
      rw [at3]
      show 0 * 1024 ≤ (i 1 : Nat) ∧ (i 1 : Nat) < 0 * 1024 + 1024
      omega

/-- What a grid point writes back to output 1. -/
theorem flushed4_eq (c : Dev nD) (t : Fin cfg0.N) :
    (dats m 0 c).flushed 4 t = ((cfg0.win 4).blk t).view.read (Elt Ideal) (result 1 (argX m c) (argG m c) (argW m c)) := by
  have h0 := coords_lt t
  rw [Value.flushed4]
  funext i
  rw [View.read_apply]
  obtain ⟨r, l, rfl⟩ : ∃ (r : Fin 256) (l : Fin 1024), i = ix2 r l := ⟨i 0, i 1, eq_ix2 _⟩
  have e : (((cfg0.win 4).blk t).view.emb (ix2 r l) : S1024x1024.Idx) = ix2 ⟨256 * (grid0.coords t 0).val + r.val, by omega⟩ l := by
    funext a
    apply Fin.ext
    match a with
    | 0 =>
      show cc0_transform_4 (grid0.coords t) 0 * 256 + 1 * r.val = 256 * (grid0.coords t 0).val + r.val
      rw [at4]
      show (grid0.coords t 0).val * 256 + 1 * r.val = 256 * (grid0.coords t 0).val + r.val
      omega
    | 1 =>
      show cc0_transform_4 (grid0.coords t) 1 * 1024 + 1 * l.val = l.val
      rw [at4]
      show 0 * 1024 + 1 * l.val = l.val
      omega
  refine Eq.trans (show _ = _ from out4_apply (iblk m c 0 t) (iblk m c 1 t) (iblk m c 2 t) r l) ?_
  have key := proj_eq m c t 1 r l 1024 rfl (by omega)
  simp only [Nat.zero_add] at key
  refine key.trans ?_
  show _ = result 1 (argX m c) (argG m c) (argW m c) (((cfg0.win 4).blk t).view.emb (ix2 r l))
  rw [e]
  rfl

theorem final4 (c : Dev nD) : (dats m 0 c).arrAt 4 cfg0.N = result 1 (argX m c) (argG m c) (argW m c) :=
  (dats m 0 c).arrAt_eq_of_cover 4 (result 1 (argX m c) (argG m c) (argW m c)) (fun t _ => flushed4_eq m c t) fun i => by
    have i0 : (i 0 : Nat) < 1024 := (i 0).isLt
    have i1 : (i 1 : Nat) < 1024 := (i 1).isLt
    obtain ⟨t, hc⟩ : ∃ t : Fin cfg0.N, (grid0.coords t 0).val = (i 0 : Nat) / 256 := ⟨_, coords_at ⟨(i 0 : Nat) / 256, by omega⟩⟩
    refine ⟨t, flush0_4 t, ?_⟩
    show i ∈ ((View.whole main_v5_1).slice (win0_4.rect t)).set
    rw [View.set_slice_whole, Rect.mem_set_unit]
    intro a
    match a with
    | ⟨0, _⟩ =>
      show cc0_transform_4 (grid0.coords t) 0 * 256 ≤ (i 0 : Nat) ∧ (i 0 : Nat) < cc0_transform_4 (grid0.coords t) 0 * 256 + 256
      rw [at4]
      show (grid0.coords t 0).val * 256 ≤ (i 0 : Nat) ∧ (i 0 : Nat) < (grid0.coords t 0).val * 256 + 256
      rw [hc]
      omega
    | ⟨1, _⟩ =>
      show cc0_transform_4 (grid0.coords t) 1 * 1024 ≤ (i 1 : Nat) ∧ (i 1 : Nat) < cc0_transform_4 (grid0.coords t) 1 * 1024 + 1024
      rw [at4]
      show 0 * 1024 ≤ (i 1 : Nat) ∧ (i 1 : Nat) < 0 * 1024 + 1024
      omega

/-- What a grid point writes back to output 2. -/
theorem flushed5_eq (c : Dev nD) (t : Fin cfg0.N) :
    (dats m 0 c).flushed 5 t = ((cfg0.win 5).blk t).view.read (Elt Ideal) (result 2 (argX m c) (argG m c) (argW m c)) := by
  have h0 := coords_lt t
  rw [Value.flushed5]
  funext i
  rw [View.read_apply]
  obtain ⟨r, l, rfl⟩ : ∃ (r : Fin 256) (l : Fin 1024), i = ix2 r l := ⟨i 0, i 1, eq_ix2 _⟩
  have e : (((cfg0.win 5).blk t).view.emb (ix2 r l) : S1024x1024.Idx) = ix2 ⟨256 * (grid0.coords t 0).val + r.val, by omega⟩ l := by
    funext a
    apply Fin.ext
    match a with
    | 0 =>
      show cc0_transform_5 (grid0.coords t) 0 * 256 + 1 * r.val = 256 * (grid0.coords t 0).val + r.val
      rw [at5]
      show (grid0.coords t 0).val * 256 + 1 * r.val = 256 * (grid0.coords t 0).val + r.val
      omega
    | 1 =>
      show cc0_transform_5 (grid0.coords t) 1 * 1024 + 1 * l.val = l.val
      rw [at5]
      show 0 * 1024 + 1 * l.val = l.val
      omega
  refine Eq.trans (show _ = _ from out5_apply (iblk m c 0 t) (iblk m c 1 t) (iblk m c 2 t) r l) ?_
  have key := proj_eq m c t 2 r l 2048 rfl (by omega)
  simp only [Nat.zero_add] at key
  refine key.trans ?_
  show _ = result 2 (argX m c) (argG m c) (argW m c) (((cfg0.win 5).blk t).view.emb (ix2 r l))
  rw [e]
  rfl

theorem final5 (c : Dev nD) : (dats m 0 c).arrAt 5 cfg0.N = result 2 (argX m c) (argG m c) (argW m c) :=
  (dats m 0 c).arrAt_eq_of_cover 5 (result 2 (argX m c) (argG m c) (argW m c)) (fun t _ => flushed5_eq m c t) fun i => by
    have i0 : (i 0 : Nat) < 1024 := (i 0).isLt
    have i1 : (i 1 : Nat) < 1024 := (i 1).isLt
    obtain ⟨t, hc⟩ : ∃ t : Fin cfg0.N, (grid0.coords t 0).val = (i 0 : Nat) / 256 := ⟨_, coords_at ⟨(i 0 : Nat) / 256, by omega⟩⟩
    refine ⟨t, flush0_5 t, ?_⟩
    show i ∈ ((View.whole main_v5_2).slice (win0_5.rect t)).set
    rw [View.set_slice_whole, Rect.mem_set_unit]
    intro a
    match a with
    | ⟨0, _⟩ =>
      show cc0_transform_5 (grid0.coords t) 0 * 256 ≤ (i 0 : Nat) ∧ (i 0 : Nat) < cc0_transform_5 (grid0.coords t) 0 * 256 + 256
      rw [at5]
      show (grid0.coords t 0).val * 256 ≤ (i 0 : Nat) ∧ (i 0 : Nat) < (grid0.coords t 0).val * 256 + 256
      rw [hc]
      omega
    | ⟨1, _⟩ =>
      show cc0_transform_5 (grid0.coords t) 1 * 1024 ≤ (i 1 : Nat) ∧ (i 1 : Nat) < cc0_transform_5 (grid0.coords t) 1 * 1024 + 1024
      rw [at5]
      show 0 * 1024 ≤ (i 1 : Nat) ∧ (i 1 : Nat) < 0 * 1024 + 1024
      omega

end Cert.Kernel4Ideal.Qkv
-- ==== Proof.QkvRef4.lean ====
module

public import proofs.«01_k».proof.Proof.Gen.Reference4Ideal.Read
public import proofs.«01_k».proof.Proof.RmsMath

/-! The reference's queries, keys and values of the sample group. -/

@[expose] public section

open Idealize.ShloMosaic

namespace Cert.Reference4Ideal.Qkv

open Cert.Reference4Ideal Cert.Reference4Ideal.Read

theorem v13_apply' (x0 : S128x8x2048.Idx → EReal) (x1 : S1x2048.Idx → EReal) (a : Fin 128) (b : Fin 8) (k : Fin 2048) :
    val_main_v13 (F := Ideal) x0 x1 (ix3 a b k) = Rms.norm (fun k => x0 (ix3 a b k)) (fun k => x1 (ix2 0 k)) k := by
  rw [val_main_v13_apply, val_main_v12_apply, val_main_v11_apply, val_main_v10_apply, val_main_v9_apply, val_main_v8_apply, val_main_v7_apply,
    val_main_v6_apply, val_main_v5_apply, val_main_v4_apply, val_main_v3_apply, val_main_v2_apply, val_main_v0_apply]
  simp only [val_main_v1_apply, val_main_cst_apply, val_main_cst_0_apply, val_main_cst_1_apply]
  have e2 : ∀ q, idx_main_v2 (idx_main_v3 (idx_main_v9 (ix3 a b k))) q = ix3 a b q := fun q => funext fun d => Fin.ext (by
    match d with
    | ⟨0, _⟩ => rfl
    | ⟨1, _⟩ => rfl
    | ⟨2, _⟩ => rfl)
  have e0 : idx_main_v0 (idx_main_v11 (idx_main_v12 (ix3 a b k))) = ix2 0 k := funext fun d => Fin.ext (by
    match d with
    | ⟨0, _⟩ => rfl
    | ⟨1, _⟩ => exact Nat.mod_eq_of_lt k.isLt)
  simp only [e2, e0]
  show x0 (ix3 a b k) * Ideal.rsqrt (Ideal.div (Ideal.ofBits .f32 0x00000000#32 + ∑ q : Fin 2048, x0 (ix3 a b q) * x0 (ix3 a b q)) _ + _) * _ = _
  rw [Ideal.ofBits_zero_f32, zero_add]
  rfl

theorem v15_apply' (x0 : S128x8x2048.Idx → EReal) (x1 : S1x2048.Idx → EReal) (x2 : S1x2048x15360.Idx → EReal) (a : Fin 128) (b : Fin 8) (j : Fin 15360) :
    val_main_v15 (F := Ideal) x0 x1 x2 (ix3 a b j) = Rms.proj (fun k => x0 (ix3 a b k)) (fun k => x1 (ix2 0 k)) (fun k => x2 (ix3 0 k j)) := by
  rw [val_main_v15_apply]
  refine Finset.sum_congr rfl fun k _ => ?_
  rw [val_main_v14_apply]
  have e1 : lidx_main_v15 (ix3 a b j) k = ix3 a b k := funext fun d => Fin.ext (by
    match d with
    | ⟨0, _⟩ => rfl
    | ⟨1, _⟩ => rfl
    | ⟨2, _⟩ => rfl)
  have e2 : idx_main_v14 (ridx_main_v15 (ix3 a b j) k) = ix3 0 k j := funext fun d => Fin.ext (by
    match d with
    | ⟨0, _⟩ => rfl
    | ⟨1, _⟩ =>
      show (k.val * 15360 + j.val) / 15360 % 2048 = k.val
      omega
    | ⟨2, _⟩ =>
      show (k.val * 15360 + j.val) % 15360 = j.val
      omega)
  rw [e1, e2, v13_apply']

theorem v19_apply' (x0 : S128x8x2048.Idx → EReal) (x1 : S1x2048.Idx → EReal) (x2 : S1x2048x15360.Idx → EReal) (t j : Fin 1024) :
    val_main_v19 (F := Ideal) x0 x1 x2 (ix2 t j)
      = Rms.proj (fun k => x0 (ix3 ⟨t.val / 8, by omega⟩ ⟨t.val % 8, by omega⟩ k)) (fun k => x1 (ix2 0 k)) (fun k => x2 (ix3 0 k ⟨0 + j.val, by omega⟩)) := by
  rw [val_main_v19_apply, val_main_v16_apply]
  have e : idx_main_v16 (idx_main_v19 (ix2 t j)) = ix3 ⟨t.val / 8, by omega⟩ ⟨t.val % 8, by omega⟩ ⟨0 + j.val, by omega⟩ := funext fun d => Fin.ext (by
    match d with
    | ⟨0, _⟩ =>
      show (t.val * 1024 + j.val) / 8192 = t.val / 8
      omega
    | ⟨1, _⟩ =>
      show (t.val * 1024 + j.val) / 1024 % 8 = t.val % 8
      omega
    | ⟨2, _⟩ =>
      show (t.val * 1024 + j.val) % 1024 = 0 + j.val
      omega)
  rw [e, v15_apply']

theorem v20_apply' (x0 : S128x8x2048.Idx → EReal) (x1 : S1x2048.Idx → EReal) (x2 : S1x2048x15360.Idx → EReal) (t j : Fin 1024) :
    val_main_v20 (F := Ideal) x0 x1 x2 (ix2 t j)
      = Rms.proj (fun k => x0 (ix3 ⟨t.val / 8, by omega⟩ ⟨t.val % 8, by omega⟩ k)) (fun k => x1 (ix2 0 k)) (fun k => x2 (ix3 0 k ⟨1024 + j.val, by omega⟩)) := by
  rw [val_main_v20_apply, val_main_v17_apply]
  have e : idx_main_v17 (idx_main_v20 (ix2 t j)) = ix3 ⟨t.val / 8, by omega⟩ ⟨t.val % 8, by omega⟩ ⟨1024 + j.val, by omega⟩ := funext fun d => Fin.ext (by
    match d with
    | ⟨0, _⟩ =>
      show (t.val * 1024 + j.val) / 8192 = t.val / 8
      omega
    | ⟨1, _⟩ =>
      show (t.val * 1024 + j.val) / 1024 % 8 = t.val % 8
      omega
    | ⟨2, _⟩ =>
      show 1024 + (t.val * 1024 + j.val) % 1024 = 1024 + j.val
      omega)
  rw [e, v15_apply']

theorem v21_apply' (x0 : S128x8x2048.Idx → EReal) (x1 : S1x2048.Idx → EReal) (x2 : S1x2048x15360.Idx → EReal) (t j : Fin 1024) :
    val_main_v21 (F := Ideal) x0 x1 x2 (ix2 t j)
      = Rms.proj (fun k => x0 (ix3 ⟨t.val / 8, by omega⟩ ⟨t.val % 8, by omega⟩ k)) (fun k => x1 (ix2 0 k)) (fun k => x2 (ix3 0 k ⟨2048 + j.val, by omega⟩)) := by
  rw [val_main_v21_apply, val_main_v18_apply]
  have e : idx_main_v18 (idx_main_v21 (ix2 t j)) = ix3 ⟨t.val / 8, by omega⟩ ⟨t.val % 8, by omega⟩ ⟨2048 + j.val, by omega⟩ := funext fun d => Fin.ext (by
    match d with
    | ⟨0, _⟩ =>
      show (t.val * 1024 + j.val) / 8192 = t.val / 8
      omega
    | ⟨1, _⟩ =>
      show (t.val * 1024 + j.val) / 1024 % 8 = t.val % 8
      omega
    | ⟨2, _⟩ =>
      show 2048 + (t.val * 1024 + j.val) % 1024 = 2048 + j.val
      omega)
  rw [e, v15_apply']

end Cert.Reference4Ideal.Qkv
-- ==== Proof.Claim4.lean ====
module

public import proofs.«01_k».proof.Defs
public import proofs.«01_k».proof.Proof.Gen.Kernel4.Frame
public import proofs.«01_k».proof.Proof.Gen.Reference4Ideal.Run
public import proofs.«01_k».proof.Proof.Qkv4
public import proofs.«01_k».proof.Proof.QkvRef4
public import Idealize.ShloMosaic.Lib.Claim

/-! The claims of the sample group's queries, keys and values. -/

@[expose] public section

open Idealize.ShloMosaic Idealize.ShloMosaic.TcCoe Idealize.SL.Sem

namespace Cert.Proof.Qkv4

theorem frame_kernel : Cert.quiescent_Kernel4 (hKernel4 := Cert.Kernel4.Gen.facts) := fun m ρ _ => Cert.Kernel4.Gen.frame m ρ

theorem frame_ideal : Cert.quiescent_Kernel4Ideal (hKernel4Ideal := Cert.Kernel4Ideal.Gen.facts) := fun m ρ _ => Cert.Kernel4Ideal.Gen.frame m ρ

theorem frame_reference : Cert.quiescent_Reference4Ideal (hReference4Ideal := Cert.Reference4Ideal.Gen.facts) := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem preserves : Cert.preserves_Kernel4_Kernel4Ideal := trivial

/-- The kernel's queries, keys and values are the reference's, over the extended reals. -/
theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Kernel4Ideal.Qkv.result 0 (Cert.Kernel4Ideal.Qkv.argX m c) (Cert.Kernel4Ideal.Qkv.argG m c) (Cert.Kernel4Ideal.Qkv.argW m c),
    fun c => Cert.Kernel4Ideal.Qkv.result 1 (Cert.Kernel4Ideal.Qkv.argX m c) (Cert.Kernel4Ideal.Qkv.argG m c) (Cert.Kernel4Ideal.Qkv.argW m c),
    fun c => Cert.Kernel4Ideal.Qkv.result 2 (Cert.Kernel4Ideal.Qkv.argX m c) (Cert.Kernel4Ideal.Qkv.argG m c) (Cert.Kernel4Ideal.Qkv.argW m c), ?_, ?_⟩
  · exact (θ_run Cert.Kernel4Ideal.defs _ _).mono (fun _ h c => ⟨(h c).1.trans (Cert.Kernel4Ideal.Qkv.final3 m c),
      (h c).2.1.trans (Cert.Kernel4Ideal.Qkv.final4 m c), (h c).2.2.1.trans (Cert.Kernel4Ideal.Qkv.final5 m c), (h c).2.2.2⟩)
      (Cert.Kernel4Ideal.Value.run_blocks (F := Ideal) m ρ)
  · refine (θ_run Cert.Reference4Ideal.defs _ _).mono (fun _ h c => ⟨(h c).1.trans ?_, (h c).2.1.trans ?_, (h c).2.2.1.trans ?_, (h c).2.2.2⟩)
      (Cert.Reference4Ideal.Value.run (F := Ideal) m' ρ')
    · rw [Cert.Reference4Ideal.Read.val_main_v19_eq, (hagree c).1, (hagree c).2.1, (hagree c).2.2]
      refine funext fun i => ?_
      obtain ⟨t, j, rfl⟩ : ∃ (t j : Fin 1024), i = ix2 t j := ⟨i 0, i 1, eq_ix2 _⟩
      exact Cert.Reference4Ideal.Qkv.v19_apply' _ _ _ t j
    · rw [Cert.Reference4Ideal.Read.val_main_v20_eq, (hagree c).1, (hagree c).2.1, (hagree c).2.2]
      refine funext fun i => ?_
      obtain ⟨t, j, rfl⟩ : ∃ (t j : Fin 1024), i = ix2 t j := ⟨i 0, i 1, eq_ix2 _⟩
      exact Cert.Reference4Ideal.Qkv.v20_apply' _ _ _ t j
    · rw [Cert.Reference4Ideal.Read.val_main_v21_eq, (hagree c).1, (hagree c).2.1, (hagree c).2.2]
      refine funext fun i => ?_
      obtain ⟨t, j, rfl⟩ : ∃ (t j : Fin 1024), i = ix2 t j := ⟨i 0, i 1, eq_ix2 _⟩
      exact Cert.Reference4Ideal.Qkv.v21_apply' _ _ _ t j

end Cert.Proof.Qkv4
-- ==== Proof.Qkv5.lean ====
module

public import proofs.«01_k».proof.Proof.Gen.Kernel5Ideal.Value
public import proofs.«01_k».proof.Proof.RmsMath
public import Idealize.ShloMosaic.Lib.StableHlo.ReadAt

/-! The memory's keys and values. -/

@[expose] public section

open Idealize.ShloMosaic Idealize.ShloMosaic.TcCoe Idealize.SL.Sem
open Idealize.ShloMosaic.Pipeline (Dat)

namespace Cert.Kernel5Ideal.Qkv

open Cert.Kernel5Ideal Cert.Kernel5Ideal.Gen

set_option maxRecDepth 16384

theorem pay1_apply (x : Vec Ideal S256x2048 .f32) (g : Vec Ideal S1x2048 .f32) (r : Fin 256) (k : Fin 2048) :
    k0_pay1 (F := Ideal) x g (ix2 r k) = Rms.norm (fun k => x (ix2 r k)) (fun k => g (ix2 0 k)) k := by
  unfold k0_pay1
  rw [shapeCast_self, shapeCast_self]
  exact Rms.rows_apply x g _ _ _ _ _ _ r k

theorem pay2_apply (x : Vec Ideal S256x2048 .f32) (g : Vec Ideal S1x2048 .f32) (w : Vec Ideal S2048x1024 .bf16) (r : Fin 256) (c : Fin 1024) :
    k0_pay2 (F := Ideal) x g w (ix2 r c) = Rms.proj (fun k => x (ix2 r k)) (fun k => g (ix2 0 k)) (fun k => w (ix2 k c)) := by
  unfold k0_pay2
  rw [shapeCast_self]
  exact Rms.matmul_apply _ w (pay1_apply x g r) c

theorem pay3_eq : @k0_pay3 = @k0_pay2 := rfl

theorem hz2 : (![0, 0] : Fin 2 → ℕ) = fun _ => 0 := by
  funext a
  fin_cases a <;> rfl

theorem out3_apply (x : Vec Ideal S256x2048 .f32) (g : Vec Ideal S1x2048 .f32) (w : Vec Ideal S2048x2048 .bf16) (r : Fin 256) (c : Fin 1024) :
    out0_3 (F := Ideal) x g w (ix2 r c) = Rms.proj (fun k => x (ix2 r k)) (fun k => g (ix2 0 k)) (fun k => w (ix2 k ⟨c.val, by omega⟩)) := by
  unfold out0_3
  rw [View.canon_unit_zero hz2, View.ld_unit_zero hz2, View.ld_unit_zero hz2]
  refine (pay2_apply x g _ r c).trans ?_
  refine congrArg (Rms.proj _ _) (funext fun k => ?_)
  refine congrArg w (funext fun a => Fin.ext ?_)
  match a with
  | 0 => show 0 + 1 * k.val = k.val; omega
  | 1 => show 0 + 1 * c.val = c.val; omega

theorem out4_apply (x : Vec Ideal S256x2048 .f32) (g : Vec Ideal S1x2048 .f32) (w : Vec Ideal S2048x2048 .bf16) (r : Fin 256) (c : Fin 1024) :
    out0_4 (F := Ideal) x g w (ix2 r c) = Rms.proj (fun k => x (ix2 r k)) (fun k => g (ix2 0 k)) (fun k => w (ix2 k ⟨1024 + c.val, by omega⟩)) := by
  unfold out0_4
  rw [View.canon_unit_zero hz2, View.ld_unit_zero hz2, View.ld_unit_zero hz2, pay3_eq]
  refine (pay2_apply x g _ r c).trans ?_
  refine congrArg (Rms.proj _ _) (funext fun k => ?_)
  refine congrArg w (funext fun a => Fin.ext ?_)
  match a with
  | 0 => show 0 + 1 * k.val = k.val; omega
  | 1 => show 1024 + 1 * c.val = 1024 + c.val; omega

theorem at0 : ∀ i : grid0.Coords, cc0_transform_0 i = ![(i 0).val, 0] := by decide +kernel
theorem at1 : ∀ i : grid0.Coords, cc0_transform_1 i = ![0, 0] := by decide +kernel
theorem at2 : ∀ i : grid0.Coords, cc0_transform_2 i = ![0, 0] := by decide +kernel
theorem at3 : ∀ i : grid0.Coords, cc0_transform_3 i = ![(i 0).val, 0] := by decide +kernel
theorem at4 : ∀ i : grid0.Coords, cc0_transform_4 i = ![(i 0).val, 0] := by decide +kernel

variable (m : (ℓ : Loc nD τ sig) → Buf (Elt Ideal) ℓ)

theorem coords_lt (t : Fin cfg0.N) : (grid0.coords t 0).val < 1 := (grid0.coords t 0).isLt

theorem V_x (c : Dev nD) (t : Fin 256) (k : Fin 2048) :
    V m c main_v0 (ix2 t k) = m ((c : Thread nD τ).loc main_arg0) (ix3 0 t k) := by
  unfold V
  after_reads_at

theorem V_g (c : Dev nD) (k : Fin 2048) : V m c main_v2 (ix2 0 k) = m ((c : Thread nD τ).loc main_arg1) (ix2 0 k) := by
  unfold V
  after_reads_at

theorem V_w (c : Dev nD) (k : Fin 2048) (j : Fin 2048) : V m c main_v4 (ix2 k j) = m ((c : Thread nD τ).loc main_arg2) (ix3 0 k j) := by
  unfold V
  after_reads_at

/-- The arguments on core `c`. -/
abbrev argX (c : Dev nD) : S1x256x2048.Idx → EReal := m ((c : Thread nD τ).loc main_arg0)
abbrev argG (c : Dev nD) : S1x2048.Idx → EReal := m ((c : Thread nD τ).loc main_arg1)
abbrev argW (c : Dev nD) : S1x2048x2048.Idx → EReal := m ((c : Thread nD τ).loc main_arg2)

/-- Columns `1024 p + j` of the projection of the normalised rows. -/
noncomputable def part (p : Fin 2) (x : S1x256x2048.Idx → EReal) (g : S1x2048.Idx → EReal) (w : S1x2048x2048.Idx → EReal) (t : Fin 256) (j : Fin 1024) : EReal :=
  Rms.proj (fun k => x (ix3 0 t k)) (fun k => g (ix2 0 k)) (fun k => w (ix3 0 k ⟨1024 * p.val + j.val, by omega⟩))

/-- The two result arrays. -/
noncomputable def result (p : Fin 2) (x : S1x256x2048.Idx → EReal) (g : S1x2048.Idx → EReal) (w : S1x2048x2048.Idx → EReal) : S256x1024.Idx → EReal :=
  fun i => part p x g w (i 0) (i 1)

/-- The block of rows. -/
theorem read0 (c : Dev nD) (t : Fin cfg0.N) (r : Fin 256) (k : Fin 2048) :
    (iblk m c 0 t : Vec Ideal S256x2048 .f32) (ix2 r k) = V m c main_v0 (ix2 ⟨256 * (grid0.coords t 0).val + r.val, by have := coords_lt t; omega⟩ k) := by
  unfold iblk
  rw [View.read_apply]
  show V m c main_v0 _ = _
  congr 1
  funext a
  apply Fin.ext
  match a with
  | 0 =>
    show cc0_transform_0 (grid0.coords t) 0 * 256 + 1 * r.val = 256 * (grid0.coords t 0).val + r.val
    rw [at0]
    show (grid0.coords t 0).val * 256 + 1 * r.val = 256 * (grid0.coords t 0).val + r.val
    omega
  | 1 =>
    show cc0_transform_0 (grid0.coords t) 1 * 2048 + 1 * k.val = k.val
    rw [at0]
    show 0 * 2048 + 1 * k.val = k.val
    omega

/-- The norm's weights. -/
theorem read1 (c : Dev nD) (t : Fin cfg0.N) (k : Fin 2048) : (iblk m c 1 t : Vec Ideal S1x2048 .f32) (ix2 0 k) = V m c main_v2 (ix2 0 k) := by
  unfold iblk
  rw [View.read_apply]
  show V m c main_v2 _ = _
  congr 1
  funext a
  apply Fin.ext
  match a with
  | 0 =>
    show cc0_transform_1 (grid0.coords t) 0 * 1 + 1 * 0 = 0
    rw [at1]
    rfl
  | 1 =>
    show cc0_transform_1 (grid0.coords t) 1 * 2048 + 1 * k.val = k.val
    rw [at1]
    show 0 * 2048 + 1 * k.val = k.val
    omega

/-- The block of weights. -/
theorem read2 (c : Dev nD) (t : Fin cfg0.N) (k : Fin 2048) (j : Fin 2048) :
    (iblk m c 2 t : Vec Ideal S2048x2048 .bf16) (ix2 k j) = V m c main_v4 (ix2 k j) := by
  unfold iblk
  rw [View.read_apply]
  show V m c main_v4 _ = _
  congr 1
  funext a
  apply Fin.ext
  match a with
  | 0 =>
    show cc0_transform_2 (grid0.coords t) 0 * 2048 + 1 * k.val = k.val
    rw [at2]
    show 0 * 2048 + 1 * k.val = k.val
    omega
  | 1 =>
    show cc0_transform_2 (grid0.coords t) 1 * 2048 + 1 * j.val = j.val
    rw [at2]
    show 0 * 2048 + 1 * j.val = j.val
    omega

/-- A block's product, from the arguments. -/
theorem proj_eq (c : Dev nD) (t : Fin cfg0.N) (p : Fin 2) (r : Fin 256) (j : Fin 1024) (off : ℕ) (h : off = 1024 * p.val) (hj : off + j.val < 2048) :
    Rms.proj (fun k => (iblk m c 0 t : Vec Ideal S256x2048 .f32) (ix2 r k)) (fun k => (iblk m c 1 t : Vec Ideal S1x2048 .f32) (ix2 0 k))
      (fun k => (iblk m c 2 t : Vec Ideal S2048x2048 .bf16) (ix2 k ⟨off + j.val, hj⟩))
      = part p (argX m c) (argG m c) (argW m c) ⟨256 * (grid0.coords t 0).val + r.val, by have := coords_lt t; omega⟩ j := by
  subst h
  have e0 : (fun k => (iblk m c 0 t : Vec Ideal S256x2048 .f32) (ix2 r k)) = fun k => argX m c (ix3 0 ⟨256 * (grid0.coords t 0).val + r.val, by have := coords_lt t; omega⟩ k) :=
    funext fun k => (read0 m c t r k).trans (V_x m c _ k)
  have e1 : (fun k => (iblk m c 1 t : Vec Ideal S1x2048 .f32) (ix2 0 k)) = fun k => argG m c (ix2 0 k) :=
    funext fun k => (read1 m c t k).trans (V_g m c k)
  have e2 : (fun k => (iblk m c 2 t : Vec Ideal S2048x2048 .bf16) (ix2 k ⟨1024 * p.val + j.val, hj⟩)) = fun k => argW m c (ix3 0 k ⟨1024 * p.val + j.val, by omega⟩) :=
    funext fun k => (read2 m c t k _).trans (V_w m c k _)
  rw [e0, e1, e2]
  rfl

theorem coords_at : ∀ (a : Fin 1), (grid0.coords ⟨a.val, by have : grid0.N = 1 := N_0; omega⟩ 0).val = a.val := by decide +kernel

/-- What a grid point writes back to output 0. -/
theorem flushed3_eq (c : Dev nD) (t : Fin cfg0.N) :
    (dats m 0 c).flushed 3 t = ((cfg0.win 3).blk t).view.read (Elt Ideal) (result 0 (argX m c) (argG m c) (argW m c)) := by
  have h0 := coords_lt t
  rw [Value.flushed3]
  funext i
  rw [View.read_apply]
  obtain ⟨r, l, rfl⟩ : ∃ (r : Fin 256) (l : Fin 1024), i = ix2 r l := ⟨i 0, i 1, eq_ix2 _⟩
  have e : (((cfg0.win 3).blk t).view.emb (ix2 r l) : S256x1024.Idx) = ix2 ⟨256 * (grid0.coords t 0).val + r.val, by omega⟩ l := by
    funext a
    apply Fin.ext
    match a with
    | 0 =>
      show cc0_transform_3 (grid0.coords t) 0 * 256 + 1 * r.val = 256 * (grid0.coords t 0).val + r.val
      rw [at3]
      show (grid0.coords t 0).val * 256 + 1 * r.val = 256 * (grid0.coords t 0).val + r.val
      omega
    | 1 =>
      show cc0_transform_3 (grid0.coords t) 1 * 1024 + 1 * l.val = l.val
      rw [at3]
      show 0 * 1024 + 1 * l.val = l.val
      omega
  refine Eq.trans (show _ = _ from out3_apply (iblk m c 0 t) (iblk m c 1 t) (iblk m c 2 t) r l) ?_
  have key := proj_eq m c t 0 r l 0 rfl (by omega)
  simp only [Nat.zero_add] at key
  refine key.trans ?_
  show _ = result 0 (argX m c) (argG m c) (argW m c) (((cfg0.win 3).blk t).view.emb (ix2 r l))
  rw [e]
  rfl

theorem final3 (c : Dev nD) : (dats m 0 c).arrAt 3 cfg0.N = result 0 (argX m c) (argG m c) (argW m c) :=
  (dats m 0 c).arrAt_eq_of_cover 3 (result 0 (argX m c) (argG m c) (argW m c)) (fun t _ => flushed3_eq m c t) fun i => by
    have i0 : (i 0 : Nat) < 256 := (i 0).isLt
    have i1 : (i 1 : Nat) < 1024 := (i 1).isLt
    obtain ⟨t, hc⟩ : ∃ t : Fin cfg0.N, (grid0.coords t 0).val = (i 0 : Nat) / 256 := ⟨_, coords_at ⟨(i 0 : Nat) / 256, by omega⟩⟩
    refine ⟨t, flush0_3 t, ?_⟩
    show i ∈ ((View.whole main_v5_0).slice (win0_3.rect t)).set
    rw [View.set_slice_whole, Rect.mem_set_unit]
    intro a
    match a with
    | ⟨0, _⟩ =>
      show cc0_transform_3 (grid0.coords t) 0 * 256 ≤ (i 0 : Nat) ∧ (i 0 : Nat) < cc0_transform_3 (grid0.coords t) 0 * 256 + 256
      rw [at3]
      show (grid0.coords t 0).val * 256 ≤ (i 0 : Nat) ∧ (i 0 : Nat) < (grid0.coords t 0).val * 256 + 256
      rw [hc]
      omega
    | ⟨1, _⟩ =>
      show cc0_transform_3 (grid0.coords t) 1 * 1024 ≤ (i 1 : Nat) ∧ (i 1 : Nat) < cc0_transform_3 (grid0.coords t) 1 * 1024 + 1024
      rw [at3]
      show 0 * 1024 ≤ (i 1 : Nat) ∧ (i 1 : Nat) < 0 * 1024 + 1024
      omega

/-- What a grid point writes back to output 1. -/
theorem flushed4_eq (c : Dev nD) (t : Fin cfg0.N) :
    (dats m 0 c).flushed 4 t = ((cfg0.win 4).blk t).view.read (Elt Ideal) (result 1 (argX m c) (argG m c) (argW m c)) := by
  have h0 := coords_lt t
  rw [Value.flushed4]
  funext i
  rw [View.read_apply]
  obtain ⟨r, l, rfl⟩ : ∃ (r : Fin 256) (l : Fin 1024), i = ix2 r l := ⟨i 0, i 1, eq_ix2 _⟩
  have e : (((cfg0.win 4).blk t).view.emb (ix2 r l) : S256x1024.Idx) = ix2 ⟨256 * (grid0.coords t 0).val + r.val, by omega⟩ l := by
    funext a
    apply Fin.ext
    match a with
    | 0 =>
      show cc0_transform_4 (grid0.coords t) 0 * 256 + 1 * r.val = 256 * (grid0.coords t 0).val + r.val
      rw [at4]
      show (grid0.coords t 0).val * 256 + 1 * r.val = 256 * (grid0.coords t 0).val + r.val
      omega
    | 1 =>
      show cc0_transform_4 (grid0.coords t) 1 * 1024 + 1 * l.val = l.val
      rw [at4]
      show 0 * 1024 + 1 * l.val = l.val
      omega
  refine Eq.trans (show _ = _ from out4_apply (iblk m c 0 t) (iblk m c 1 t) (iblk m c 2 t) r l) ?_
  have key := proj_eq m c t 1 r l 1024 rfl (by omega)
  simp only [Nat.zero_add] at key
  refine key.trans ?_
  show _ = result 1 (argX m c) (argG m c) (argW m c) (((cfg0.win 4).blk t).view.emb (ix2 r l))
  rw [e]
  rfl

theorem final4 (c : Dev nD) : (dats m 0 c).arrAt 4 cfg0.N = result 1 (argX m c) (argG m c) (argW m c) :=
  (dats m 0 c).arrAt_eq_of_cover 4 (result 1 (argX m c) (argG m c) (argW m c)) (fun t _ => flushed4_eq m c t) fun i => by
    have i0 : (i 0 : Nat) < 256 := (i 0).isLt
    have i1 : (i 1 : Nat) < 1024 := (i 1).isLt
    obtain ⟨t, hc⟩ : ∃ t : Fin cfg0.N, (grid0.coords t 0).val = (i 0 : Nat) / 256 := ⟨_, coords_at ⟨(i 0 : Nat) / 256, by omega⟩⟩
    refine ⟨t, flush0_4 t, ?_⟩
    show i ∈ ((View.whole main_v5_1).slice (win0_4.rect t)).set
    rw [View.set_slice_whole, Rect.mem_set_unit]
    intro a
    match a with
    | ⟨0, _⟩ =>
      show cc0_transform_4 (grid0.coords t) 0 * 256 ≤ (i 0 : Nat) ∧ (i 0 : Nat) < cc0_transform_4 (grid0.coords t) 0 * 256 + 256
      rw [at4]
      show (grid0.coords t 0).val * 256 ≤ (i 0 : Nat) ∧ (i 0 : Nat) < (grid0.coords t 0).val * 256 + 256
      rw [hc]
      omega
    | ⟨1, _⟩ =>
      show cc0_transform_4 (grid0.coords t) 1 * 1024 ≤ (i 1 : Nat) ∧ (i 1 : Nat) < cc0_transform_4 (grid0.coords t) 1 * 1024 + 1024
      rw [at4]
      show 0 * 1024 ≤ (i 1 : Nat) ∧ (i 1 : Nat) < 0 * 1024 + 1024
      omega

end Cert.Kernel5Ideal.Qkv
-- ==== Proof.QkvRef5.lean ====
module

public import proofs.«01_k».proof.Proof.Gen.Reference5Ideal.Read
public import proofs.«01_k».proof.Proof.RmsMath

/-! The reference's keys and values of the memory. -/

@[expose] public section

open Idealize.ShloMosaic

namespace Cert.Reference5Ideal.Qkv

open Cert.Reference5Ideal Cert.Reference5Ideal.Read

theorem v13_apply' (x0 : S1x256x2048.Idx → EReal) (x1 : S1x2048.Idx → EReal) (b : Fin 256) (k : Fin 2048) :
    val_main_v13 (F := Ideal) x0 x1 (ix3 0 b k) = Rms.norm (fun k => x0 (ix3 0 b k)) (fun k => x1 (ix2 0 k)) k := by
  rw [val_main_v13_apply, val_main_v12_apply, val_main_v11_apply, val_main_v10_apply, val_main_v9_apply, val_main_v8_apply, val_main_v7_apply,
    val_main_v6_apply, val_main_v5_apply, val_main_v4_apply, val_main_v3_apply, val_main_v2_apply, val_main_v0_apply]
  simp only [val_main_v1_apply, val_main_cst_apply, val_main_cst_0_apply, val_main_cst_1_apply]
  have e2 : ∀ q, idx_main_v2 (idx_main_v3 (idx_main_v9 (ix3 0 b k))) q = ix3 0 b q := fun q => funext fun d => Fin.ext (by
    match d with
    | ⟨0, _⟩ => rfl
    | ⟨1, _⟩ => rfl
    | ⟨2, _⟩ => rfl)
  have e0 : idx_main_v0 (idx_main_v11 (idx_main_v12 (ix3 0 b k))) = ix2 0 k := funext fun d => Fin.ext (by
    match d with
    | ⟨0, _⟩ => rfl
    | ⟨1, _⟩ => exact Nat.mod_eq_of_lt k.isLt)
  simp only [e2, e0]
  show x0 (ix3 0 b k) * Ideal.rsqrt (Ideal.div (Ideal.ofBits .f32 0x00000000#32 + ∑ q : Fin 2048, x0 (ix3 0 b q) * x0 (ix3 0 b q)) _ + _) * _ = _
  rw [Ideal.ofBits_zero_f32, zero_add]
  rfl

theorem v15_apply' (x0 : S1x256x2048.Idx → EReal) (x1 : S1x2048.Idx → EReal) (x2 : S1x2048x2048.Idx → EReal) (b : Fin 256) (j : Fin 2048) :
    val_main_v15 (F := Ideal) x0 x1 x2 (ix3 0 b j) = Rms.proj (fun k => x0 (ix3 0 b k)) (fun k => x1 (ix2 0 k)) (fun k => x2 (ix3 0 k j)) := by
  rw [val_main_v15_apply]
  refine Finset.sum_congr rfl fun k _ => ?_
  rw [val_main_v14_apply]
  have e1 : lidx_main_v15 (ix3 0 b j) k = ix3 0 b k := funext fun d => Fin.ext (by
    match d with
    | ⟨0, _⟩ => rfl
    | ⟨1, _⟩ => rfl
    | ⟨2, _⟩ => rfl)
  have e2 : idx_main_v14 (ridx_main_v15 (ix3 0 b j) k) = ix3 0 k j := funext fun d => Fin.ext (by
    match d with
    | ⟨0, _⟩ => rfl
    | ⟨1, _⟩ =>
      show (k.val * 2048 + j.val) / 2048 % 2048 = k.val
      omega
    | ⟨2, _⟩ =>
      show (k.val * 2048 + j.val) % 2048 = j.val
      omega)
  rw [e1, e2, v13_apply']

theorem v17_apply' (x0 : S1x256x2048.Idx → EReal) (x1 : S1x2048.Idx → EReal) (x2 : S1x2048x2048.Idx → EReal) (t : Fin 256) (j : Fin 1024) :
    val_main_v17 (F := Ideal) x0 x1 x2 (ix2 t j)
      = Rms.proj (fun k => x0 (ix3 0 t k)) (fun k => x1 (ix2 0 k)) (fun k => x2 (ix3 0 k ⟨0 + j.val, by omega⟩)) := by
  rw [val_main_v17_apply, val_main_v16_apply]
  have e : idx_main_v16 (idx_main_v17 (ix2 t j)) = ix3 0 t ⟨0 + j.val, by omega⟩ := funext fun d => Fin.ext (by
    match d with
    | ⟨0, _⟩ => rfl
    | ⟨1, _⟩ =>
      show (t.val * 1024 + j.val) / 1024 % 256 = t.val
      omega
    | ⟨2, _⟩ =>
      show (t.val * 1024 + j.val) % 1024 = 0 + j.val
      omega)
  rw [e, v15_apply']

theorem v19_apply' (x0 : S1x256x2048.Idx → EReal) (x1 : S1x2048.Idx → EReal) (x2 : S1x2048x2048.Idx → EReal) (t : Fin 256) (j : Fin 1024) :
    val_main_v19 (F := Ideal) x0 x1 x2 (ix2 t j)
      = Rms.proj (fun k => x0 (ix3 0 t k)) (fun k => x1 (ix2 0 k)) (fun k => x2 (ix3 0 k ⟨1024 + j.val, by omega⟩)) := by
  rw [val_main_v19_apply, val_main_v18_apply]
  have e : idx_main_v18 (idx_main_v19 (ix2 t j)) = ix3 0 t ⟨1024 + j.val, by omega⟩ := funext fun d => Fin.ext (by
    match d with
    | ⟨0, _⟩ => rfl
    | ⟨1, _⟩ =>
      show (t.val * 1024 + j.val) / 1024 % 256 = t.val
      omega
    | ⟨2, _⟩ =>
      show 1024 + (t.val * 1024 + j.val) % 1024 = 1024 + j.val
      omega)
  rw [e, v15_apply']

end Cert.Reference5Ideal.Qkv
-- ==== Proof.Claim5.lean ====
module

public import proofs.«01_k».proof.Defs
public import proofs.«01_k».proof.Proof.Gen.Kernel5.Frame
public import proofs.«01_k».proof.Proof.Gen.Reference5Ideal.Run
public import proofs.«01_k».proof.Proof.Qkv5
public import proofs.«01_k».proof.Proof.QkvRef5
public import Idealize.ShloMosaic.Lib.Claim

/-! The claims of the memory's keys and values. -/

@[expose] public section

open Idealize.ShloMosaic Idealize.ShloMosaic.TcCoe Idealize.SL.Sem

namespace Cert.Proof.Qkv5

theorem frame_kernel : Cert.quiescent_Kernel5 (hKernel5 := Cert.Kernel5.Gen.facts) := fun m ρ _ => Cert.Kernel5.Gen.frame m ρ

theorem frame_ideal : Cert.quiescent_Kernel5Ideal (hKernel5Ideal := Cert.Kernel5Ideal.Gen.facts) := fun m ρ _ => Cert.Kernel5Ideal.Gen.frame m ρ

theorem frame_reference : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem preserves : Cert.preserves_Kernel5_Kernel5Ideal := trivial

/-- The kernel's keys and values are the reference's, over the extended reals. -/
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => Cert.Kernel5Ideal.Qkv.result 0 (Cert.Kernel5Ideal.Qkv.argX m c) (Cert.Kernel5Ideal.Qkv.argG m c) (Cert.Kernel5Ideal.Qkv.argW m c),
    fun c => Cert.Kernel5Ideal.Qkv.result 1 (Cert.Kernel5Ideal.Qkv.argX m c) (Cert.Kernel5Ideal.Qkv.argG m c) (Cert.Kernel5Ideal.Qkv.argW m c), ?_, ?_⟩
  · exact (θ_run Cert.Kernel5Ideal.defs _ _).mono (fun _ h c => ⟨(h c).1.trans (Cert.Kernel5Ideal.Qkv.final3 m c),
      (h c).2.1.trans (Cert.Kernel5Ideal.Qkv.final4 m c), (h c).2.2.2.2⟩)
      (Cert.Kernel5Ideal.Value.run_blocks (F := Ideal) m ρ)
  · refine (θ_run Cert.Reference5Ideal.defs _ _).mono (fun _ h c => ⟨(h c).1.trans ?_, (h c).2.1.trans ?_, (h c).2.2⟩)
      (Cert.Reference5Ideal.Value.run (F := Ideal) m' ρ')
    · rw [Cert.Reference5Ideal.Read.val_main_v17_eq, (hagree c).1, (hagree c).2.1, (hagree c).2.2]
      refine funext fun i => ?_
      obtain ⟨t, j, rfl⟩ : ∃ (t : Fin 256) (j : Fin 1024), i = ix2 t j := ⟨i 0, i 1, eq_ix2 _⟩
      exact Cert.Reference5Ideal.Qkv.v17_apply' _ _ _ t j
    · rw [Cert.Reference5Ideal.Read.val_main_v19_eq, (hagree c).1, (hagree c).2.1, (hagree c).2.2]
      refine funext fun i => ?_
      obtain ⟨t, j, rfl⟩ : ∃ (t : Fin 256) (j : Fin 1024), i = ix2 t j := ⟨i 0, i 1, eq_ix2 _⟩
      exact Cert.Reference5Ideal.Qkv.v19_apply' _ _ _ t j

end Cert.Proof.Qkv5
-- ==== Proof.MergeMath.lean ====
module

public import proofs.«01_k».proof.Proof.RmsMath

/-! The merge of three gated branches, over the extended reals. -/

@[expose] public section

open Idealize.ShloMosaic

namespace Merge

/-- One. -/
noncomputable abbrev one : EReal := Ideal.ofBits .f32 0x3F800000#32

/-- The logistic function, as the programs write it. -/
noncomputable def sigm (e : EReal) : EReal := Ideal.div one (one + Ideal.exp (-e))

/-- One branch at one entry: the gated row times a column, weighted. -/
noncomputable def branch (o g w : Fin 1024 → EReal) (e : EReal) : EReal := sigm e * ∑ k, o k * (g k * sigm (g k)) * w k

/-- The three branches, added up. -/
noncomputable def three (o1 o2 o3 g1 g2 g3 : Fin 1024 → EReal) (e1 e2 e3 : Fin 2048 → EReal) (w1 w2 w3 : Fin 1024 → Fin 2048 → EReal) (j : Fin 2048) : EReal :=
  branch o1 g1 (fun k => w1 k j) (e1 j) + branch o2 g2 (fun k => w2 k j) (e2 j) + branch o3 g3 (fun k => w3 k j) (e3 j)

/-- The row with the projected branches added. -/
noncomputable def added (x s : Fin 2048 → EReal) (wo : Fin 2048 → Fin 2048 → EReal) (j : Fin 2048) : EReal := x j + ∑ k, s k * wo k j

/-- One row of the result, from its gates and logits `z`. -/
noncomputable def row (x : Fin 2048 → EReal) (o1 o2 o3 : Fin 1024 → EReal) (z : Fin 12288 → EReal) (b : Fin 3 → Fin 2048 → EReal)
    (w1 w2 w3 : Fin 1024 → Fin 2048 → EReal) (wo : Fin 2048 → Fin 2048 → EReal) (g : Fin 2048 → EReal) : Fin 2048 → EReal :=
  Rms.norm (added x (three o1 o2 o3 (fun k => z ⟨k.val, by omega⟩) (fun k => z ⟨3072 + k.val, by omega⟩) (fun k => z ⟨5120 + k.val, by omega⟩)
    (fun j => z ⟨6144 + j.val, by omega⟩ + b 0 j) (fun j => z ⟨8192 + j.val, by omega⟩ + b 1 j) (fun j => z ⟨10240 + j.val, by omega⟩ + b 2 j)
    w1 w2 w3) wo) g

theorem sigm_sub (e : EReal) : Ideal.div one (one + Ideal.exp (Ideal.ofBits .f32 0x00000000#32 - e)) = sigm e := by
  rw [Ideal.ofBits_zero_f32, sub_eq_add_neg, zero_add]
  rfl

/-- A product from zero, at an index. -/
theorem dot_apply {M K N : ℕ} (h : FVec Ideal ⟨2, ![M, K]⟩ .bf16) (w : FVec Ideal ⟨2, ![K, N]⟩ .bf16) (r : Fin M) (c : Fin N) :
    FloatOps.matmul (DotDims.plain M K N) none h w (constant ⟨2, ![M, N]⟩ .f32 0x00000000#32) (ix2 r c) = ∑ k, h (ix2 r k) * w (ix2 k c) := by
  refine (Ideal.matmul_plain_apply none h w _ r c).trans ?_
  have z : (constant ⟨2, ![M, N]⟩ .f32 0x00000000#32 : FVec Ideal ⟨2, ![M, N]⟩ .f32) (ix2 r c) = 0 := Ideal.ofBits_zero_f32
  exact (congrArg₂ (· + ·) z rfl).trans (zero_add _)

/-- A branch in the kernels, at an index. -/
theorem branch_of {M : ℕ} (h : FVec Ideal ⟨2, ![M, 1024]⟩ .bf16) (w : FVec Ideal ⟨2, ![1024, 2048]⟩ .bf16) (e : FVec Ideal ⟨2, ![M, 2048]⟩ .f32)
    (b : FVec Ideal ⟨2, ![1, 2048]⟩ .f32) (hb : (⟨2, ![1, 2048]⟩ : Shape).Broadcasts ⟨2, ![M, 2048]⟩) (r : Fin M) (o g : Fin 1024 → EReal)
    (hh : ∀ k, h (ix2 r k) = o k * (g k * sigm (g k))) (j : Fin 2048) :
    mulf (divf (broadcast ⟨2, ![M, 2048]⟩ (Scalar.ofBits .f32 0x3F800000#32)) (addf (broadcast ⟨2, ![M, 2048]⟩ (Scalar.ofBits .f32 0x3F800000#32))
        (exp (subf (broadcast ⟨2, ![M, 2048]⟩ (Scalar.ofBits .f32 0x00000000#32)) (addf e (broadcastTo ⟨2, ![M, 2048]⟩ b hb))))))
      (FloatOps.matmul (DotDims.plain M 1024 2048) none h w (constant ⟨2, ![M, 2048]⟩ .f32 0x00000000#32)) (ix2 r j)
      = branch o g (fun k => w (ix2 k j)) (e (ix2 r j) + b (ix2 0 j)) := by
  have e2 : broadcastTo ⟨2, ![M, 2048]⟩ b hb (ix2 r j) = b (ix2 0 j) :=
    broadcastTo_apply b hb _ (ix2 0 j) fun a => by
      match a with
      | 0 => rfl
      | 1 => rfl
  show Ideal.div one (one + Ideal.exp (Ideal.ofBits .f32 0x00000000#32 - (e (ix2 r j) + broadcastTo ⟨2, ![M, 2048]⟩ b hb (ix2 r j)))) * _ = _
  rw [e2, sigm_sub, dot_apply]
  exact congrArg (sigm _ * ·) (Finset.sum_congr rfl fun k _ => congrArg (· * w (ix2 k j)) (hh k))

theorem three_congr (o1 o2 o3 g1 g2 g3 : Fin 1024 → EReal) {e1 e2 e3 f1 f2 f3 : Fin 2048 → EReal} (w1 w2 w3 : Fin 1024 → Fin 2048 → EReal)
    (h1 : e1 = f1) (h2 : e2 = f2) (h3 : e3 = f3) : three o1 o2 o3 g1 g2 g3 e1 e2 e3 w1 w2 w3 = three o1 o2 o3 g1 g2 g3 f1 f2 f3 w1 w2 w3 := by
  rw [h1, h2, h3]

end Merge
-- ==== Proof.Merge6.lean ====
module

public import proofs.«01_k».proof.Proof.Gen.Kernel6Ideal.Value
public import proofs.«01_k».proof.Proof.MergeMath
public import Idealize.ShloMosaic.Lib.StableHlo.ReadAt

/-! The merge of the prompt. -/

@[expose] public section

open Idealize.ShloMosaic Idealize.ShloMosaic.TcCoe Idealize.SL.Sem
open Idealize.ShloMosaic.Pipeline (Dat)

namespace Cert.Kernel6Ideal.Merged

open Cert.Kernel6Ideal Cert.Kernel6Ideal.Gen

set_option maxRecDepth 16384

/-- The first branch. -/
theorem pay1_apply (g o : Vec Ideal S256x1024 .f32) (w : Vec Ideal S1024x2048 .bf16) (e : Vec Ideal S256x2048 .bf16) (b : Vec Ideal S1x2048 .f32)
    (r : Fin 256) (j : Fin 2048) :
    k0_pay1 (F := Ideal) g o w e b (ix2 r j)
      = Merge.branch (fun k => o (ix2 r k)) (fun k => g (ix2 r k)) (fun k => w (ix2 k j)) (e (ix2 r j) + b (ix2 0 j)) := by
  unfold k0_pay1
  rw [shapeCast_self, shapeCast_self]
  refine Merge.branch_of _ w e b _ r _ _ (fun k => ?_) j
  show o (ix2 r k) * (g (ix2 r k) * Ideal.div Merge.one (Merge.one + Ideal.exp (Ideal.ofBits .f32 0x00000000#32 - g (ix2 r k)))) = _
  rw [Merge.sigm_sub]

/-- The second branch, added to the first. -/
theorem pay4_apply (s : Vec Ideal S256x2048 .f32) (g o : Vec Ideal S256x1024 .f32) (w : Vec Ideal S1024x2048 .bf16) (e : Vec Ideal S256x2048 .bf16)
    (b : Vec Ideal S1x2048 .f32) (r : Fin 256) (j : Fin 2048) :
    k0_pay4 (F := Ideal) s (k0_pay2 (F := Ideal) g) (k0_pay3 (F := Ideal) g) (Scalar.ofBits .f32 0x3F800000#32) o w e b (ix2 r j)
      = s (ix2 r j) + Merge.branch (fun k => o (ix2 r k)) (fun k => g (ix2 r k)) (fun k => w (ix2 k j)) (e (ix2 r j) + b (ix2 0 j)) := by
  unfold k0_pay4
  rw [shapeCast_self, shapeCast_self]
  refine congrArg (s (ix2 r j) + ·) (Merge.branch_of _ w e b _ r _ _ (fun k => ?_) j)
  show o (ix2 r k) * (g (ix2 r k) * Ideal.div Merge.one (Merge.one + Ideal.exp (Ideal.ofBits .f32 0x00000000#32 - g (ix2 r k)))) = _
  rw [Merge.sigm_sub]

/-- The rest of the body: the third branch, the projection, the row added, the norm. -/
theorem pay7_apply (s : Vec Ideal S256x2048 .f32) (g o : Vec Ideal S256x1024 .f32) (w : Vec Ideal S1024x2048 .bf16) (e : Vec Ideal S256x2048 .bf16)
    (b : Vec Ideal S1x2048 .f32) (x : Vec Ideal S256x2048 .f32) (wo : Vec Ideal S2048x2048 .bf16) (f : Vec Ideal S1x2048 .f32) (r : Fin 256) (j : Fin 2048) :
    k0_pay7 (F := Ideal) s (k0_pay5 (F := Ideal) g o) (k0_pay6 (F := Ideal) w) e b x wo f (ix2 r j)
      = Rms.norm (Merge.added (fun k => x (ix2 r k)) (fun j => s (ix2 r j)
          + Merge.branch (fun k => o (ix2 r k)) (fun k => g (ix2 r k)) (fun k => w (ix2 k j)) (e (ix2 r j) + b (ix2 0 j))) (fun k j => wo (ix2 k j)))
        (fun k => f (ix2 0 k)) j := by
  unfold k0_pay7
  unfold k0_pay6
  rw [shapeCast_self, shapeCast_self, shapeCast_self, shapeCast_self, shapeCast_self]
  refine (Rms.rows_apply _ _ _ _ _ _ _ _ r j).trans ?_
  refine congrArg (fun y => Rms.norm y (fun k => f (ix2 0 k)) j) (funext fun k => ?_)
  refine congrArg (x (ix2 r k) + ·) ?_
  refine (Merge.dot_apply _ _ r k).trans (Finset.sum_congr rfl fun q _ => congrArg (· * wo (ix2 q k)) ?_)
  refine congrArg (s (ix2 r q) + ·) (Merge.branch_of _ w e b _ r _ _ (fun l => ?_) q)
  show o (ix2 r l) * (g (ix2 r l) * Ideal.div Merge.one (Merge.one + Ideal.exp (Ideal.ofBits .f32 0x00000000#32 - g (ix2 r l)))) = _
  rw [Merge.sigm_sub]

theorem hz2 : (![0, 0] : Fin 2 → ℕ) = fun _ => 0 := by
  funext a
  fin_cases a <;> rfl

theorem bias0_apply (b : Vec Ideal S3x2048 .f32) (j : Fin 2048) : View.ld b r0_3 (ix2 0 j) = b (ix2 0 j) := by
  refine congrArg b (funext fun a => Fin.ext ?_)
  match a with
  | 0 => rfl
  | 1 => show 0 + 1 * j.val = j.val; omega

theorem bias1_apply (b : Vec Ideal S3x2048 .f32) (j : Fin 2048) : View.ld b r0_4 (ix2 0 j) = b (ix2 1 j) := by
  refine congrArg b (funext fun a => Fin.ext ?_)
  match a with
  | 0 => rfl
  | 1 => show 0 + 1 * j.val = j.val; omega

theorem bias2_apply (b : Vec Ideal S3x2048 .f32) (j : Fin 2048) : View.ld b r0_5 (ix2 0 j) = b (ix2 2 j) := by
  refine congrArg b (funext fun a => Fin.ext ?_)
  match a with
  | 0 => rfl
  | 1 => show 0 + 1 * j.val = j.val; omega

/-- What the body stores, at an index. -/
theorem out_apply (x : Vec Ideal S256x2048 .f32) (o1 o2 o3 : Vec Ideal S256x1024 .f32) (g1 g2 g3 : Vec Ideal S256x1024 .bf16) (e1 e2 e3 : Vec Ideal S256x2048 .bf16)
    (b : Vec Ideal S3x2048 .f32) (w1 w2 w3 : Vec Ideal S1024x2048 .bf16) (wo : Vec Ideal S2048x2048 .bf16) (f : Vec Ideal S1x2048 .f32) (r : Fin 256) (j : Fin 2048) :
    out0_16 (F := Ideal) x o1 o2 o3 g1 g2 g3 e1 e2 e3 b w1 w2 w3 wo f (ix2 r j)
      = Rms.norm (Merge.added (fun k => x (ix2 r k)) (Merge.three (fun k => o1 (ix2 r k)) (fun k => o2 (ix2 r k)) (fun k => o3 (ix2 r k))
          (fun k => g1 (ix2 r k)) (fun k => g2 (ix2 r k)) (fun k => g3 (ix2 r k)) (fun j => e1 (ix2 r j) + b (ix2 0 j)) (fun j => e2 (ix2 r j) + b (ix2 1 j))
          (fun j => e3 (ix2 r j) + b (ix2 2 j)) (fun k j => w1 (ix2 k j)) (fun k j => w2 (ix2 k j)) (fun k j => w3 (ix2 k j))) (fun k j => wo (ix2 k j)))
        (fun k => f (ix2 0 k)) j := by
  unfold out0_16
  rw [View.canon_unit_zero hz2]
  repeat rw [View.ld_unit_zero hz2]
  refine (pay7_apply _ g3 o3 w3 e3 _ x wo f r j).trans ?_
  refine congrArg (fun s => Rms.norm (Merge.added (fun k => x (ix2 r k)) s (fun k j => wo (ix2 k j))) (fun k => f (ix2 0 k)) j) (funext fun q => ?_)
  rw [pay4_apply, pay1_apply, bias0_apply, bias1_apply, bias2_apply]
  rfl

theorem at0 : ∀ i : grid0.Coords, cc0_transform_0 i = ![(i 0).val, 0] := by decide +kernel
theorem at1 : ∀ i : grid0.Coords, cc0_transform_1 i = ![(i 0).val, 0] := by decide +kernel
theorem at2 : ∀ i : grid0.Coords, cc0_transform_2 i = ![(i 0).val, 0] := by decide +kernel
theorem at3 : ∀ i : grid0.Coords, cc0_transform_3 i = ![(i 0).val, 0] := by decide +kernel
theorem at4 : ∀ i : grid0.Coords, cc0_transform_4 i = ![(i 0).val, 0] := by decide +kernel
theorem at5 : ∀ i : grid0.Coords, cc0_transform_5 i = ![(i 0).val, 3] := by decide +kernel
theorem at6 : ∀ i : grid0.Coords, cc0_transform_6 i = ![(i 0).val, 5] := by decide +kernel
theorem at7 : ∀ i : grid0.Coords, cc0_transform_7 i = ![(i 0).val, 3] := by decide +kernel
theorem at8 : ∀ i : grid0.Coords, cc0_transform_8 i = ![(i 0).val, 4] := by decide +kernel
theorem at9 : ∀ i : grid0.Coords, cc0_transform_9 i = ![(i 0).val, 5] := by decide +kernel
theorem at10 : ∀ i : grid0.Coords, cc0_transform_10 i = ![0, 0] := by decide +kernel
theorem at11 : ∀ i : grid0.Coords, cc0_transform_11 i = ![0, 0] := by decide +kernel
theorem at12 : ∀ i : grid0.Coords, cc0_transform_12 i = ![0, 0] := by decide +kernel
theorem at13 : ∀ i : grid0.Coords, cc0_transform_13 i = ![0, 0] := by decide +kernel
theorem at14 : ∀ i : grid0.Coords, cc0_transform_14 i = ![0, 0] := by decide +kernel
theorem at15 : ∀ i : grid0.Coords, cc0_transform_15 i = ![0, 0] := by decide +kernel
theorem at16 : ∀ i : grid0.Coords, cc0_transform_16 i = ![(i 0).val, 0] := by decide +kernel

variable (m : (ℓ : Loc nD τ sig) → Buf (Elt Ideal) ℓ)

theorem coords_lt (t : Fin cfg0.N) : (grid0.coords t 0).val < 32 := (grid0.coords t 0).isLt

theorem coords_at : ∀ (a : Fin 32), (grid0.coords ⟨a.val, by have : grid0.N = 32 := N_0; omega⟩ 0).val = a.val := by decide +kernel

/-- Row `r` of grid point `t`'s block. -/
abbrev at_row (t : Fin cfg0.N) (r : Fin 256) : Fin 8192 := ⟨256 * (grid0.coords t 0).val + r.val, by have := coords_lt t; omega⟩

theorem V_x (c : Dev nD) (t : Fin 8192) (k : Fin 2048) : V m c main_v6 (ix2 t k) = m ((c : Thread nD τ).loc main_arg0) (ix3 0 t k) := by
  unfold V
  after_reads_at

theorem V_b (c : Dev nD) (p : Fin 3) (j : Fin 2048) : V m c main_v7 (ix2 p j) = m ((c : Thread nD τ).loc main_arg5) (ix3 0 p j) := by
  unfold V
  after_reads_at

theorem V_w1 (c : Dev nD) (k : Fin 1024) (j : Fin 2048) : V m c main_v1 (ix2 k j) = m ((c : Thread nD τ).loc main_arg6) (ix3 0 k j) := by
  unfold V
  after_reads_at

theorem V_w2 (c : Dev nD) (k : Fin 1024) (j : Fin 2048) : V m c main_v3 (ix2 k j) = m ((c : Thread nD τ).loc main_arg7) (ix3 0 k j) := by
  unfold V
  after_reads_at

theorem V_w3 (c : Dev nD) (k : Fin 1024) (j : Fin 2048) : V m c main_v5 (ix2 k j) = m ((c : Thread nD τ).loc main_arg8) (ix3 0 k j) := by
  unfold V
  after_reads_at

theorem V_wo (c : Dev nD) (k j : Fin 2048) : V m c main_v9 (ix2 k j) = m ((c : Thread nD τ).loc main_arg9) (ix3 0 k j) := by
  unfold V
  after_reads_at

theorem V_f (c : Dev nD) (k : Fin 2048) : V m c main_v10 (ix2 0 k) = m ((c : Thread nD τ).loc main_arg10) (ix1 k) := by
  unfold V
  after_reads_at

/-- The arguments on core `c`. -/
abbrev argX (c : Dev nD) : S1x8192x2048.Idx → EReal := m ((c : Thread nD τ).loc main_arg0)
abbrev argO1 (c : Dev nD) : S8192x1024.Idx → EReal := m ((c : Thread nD τ).loc main_arg1)
abbrev argO2 (c : Dev nD) : S8192x1024.Idx → EReal := m ((c : Thread nD τ).loc main_arg2)
abbrev argO3 (c : Dev nD) : S8192x1024.Idx → EReal := m ((c : Thread nD τ).loc main_arg3)
abbrev argZ (c : Dev nD) : S8192x12288.Idx → EReal := m ((c : Thread nD τ).loc main_arg4)
abbrev argB (c : Dev nD) : S1x3x2048.Idx → EReal := m ((c : Thread nD τ).loc main_arg5)
abbrev argW1 (c : Dev nD) : S1x1024x2048.Idx → EReal := m ((c : Thread nD τ).loc main_arg6)
abbrev argW2 (c : Dev nD) : S1x1024x2048.Idx → EReal := m ((c : Thread nD τ).loc main_arg7)
abbrev argW3 (c : Dev nD) : S1x1024x2048.Idx → EReal := m ((c : Thread nD τ).loc main_arg8)
abbrev argWo (c : Dev nD) : S1x2048x2048.Idx → EReal := m ((c : Thread nD τ).loc main_arg9)
abbrev argF (c : Dev nD) : S2048.Idx → EReal := m ((c : Thread nD τ).loc main_arg10)

/-- Row `t` of the result. -/
noncomputable def rows (x : S1x8192x2048.Idx → EReal) (o1 o2 o3 : S8192x1024.Idx → EReal) (z : S8192x12288.Idx → EReal) (b : S1x3x2048.Idx → EReal)
    (w1 w2 w3 : S1x1024x2048.Idx → EReal) (wo : S1x2048x2048.Idx → EReal) (f : S2048.Idx → EReal) (t : Fin 8192) : Fin 2048 → EReal :=
  Merge.row (fun k => x (ix3 0 t k)) (fun k => o1 (ix2 t k)) (fun k => o2 (ix2 t k)) (fun k => o3 (ix2 t k)) (fun j => z (ix2 t j)) (fun p j => b (ix3 0 p j))
    (fun k j => w1 (ix3 0 k j)) (fun k j => w2 (ix3 0 k j)) (fun k j => w3 (ix3 0 k j)) (fun k j => wo (ix3 0 k j)) (fun k => f (ix1 k))

/-- The result array. -/
noncomputable def result (c : Dev nD) : S8192x2048.Idx → EReal := fun i =>
  rows (argX m c) (argO1 m c) (argO2 m c) (argO3 m c) (argZ m c) (argB m c) (argW1 m c) (argW2 m c) (argW3 m c) (argWo m c) (argF m c) (i 0) (i 1)

theorem read0 (c : Dev nD) (t : Fin cfg0.N) (r : Fin 256) (k : Fin 2048) :
    (iblk m c 0 t : Vec Ideal S256x2048 .f32) (ix2 r k) = argX m c (ix3 0 (at_row t r) k) := by
  refine Eq.trans ?_ (V_x m c (at_row t r) k)
  unfold iblk
  rw [View.read_apply]
  show V m c main_v6 _ = _
  congr 1
  funext a
  apply Fin.ext
  match a with
  | 0 =>
    show cc0_transform_0 (grid0.coords t) 0 * 256 + 1 * r.val = 256 * (grid0.coords t 0).val + r.val
    rw [at0]
    show (grid0.coords t 0).val * 256 + 1 * r.val = 256 * (grid0.coords t 0).val + r.val
    omega
  | 1 =>
    show cc0_transform_0 (grid0.coords t) 1 * 2048 + 1 * k.val = k.val
    rw [at0]
    show 0 * 2048 + 1 * k.val = k.val
    omega

theorem read1 (c : Dev nD) (t : Fin cfg0.N) (r : Fin 256) (k : Fin 1024) :
    (iblk m c 1 t : Vec Ideal S256x1024 .f32) (ix2 r k) = argO1 m c (ix2 (at_row t r) k) := by
  refine Eq.trans ?_ (congrFun (V_main_arg1 m c) _)
  unfold iblk
  rw [View.read_apply]
  show V m c main_arg1 _ = _
  congr 1
  funext a
  apply Fin.ext
  match a with
  | 0 =>
    show cc0_transform_1 (grid0.coords t) 0 * 256 + 1 * r.val = 256 * (grid0.coords t 0).val + r.val
    rw [at1]
    show (grid0.coords t 0).val * 256 + 1 * r.val = 256 * (grid0.coords t 0).val + r.val
    omega
  | 1 =>
    show cc0_transform_1 (grid0.coords t) 1 * 1024 + 1 * k.val = k.val
    rw [at1]
    show 0 * 1024 + 1 * k.val = k.val
    omega

theorem read2 (c : Dev nD) (t : Fin cfg0.N) (r : Fin 256) (k : Fin 1024) :
    (iblk m c 2 t : Vec Ideal S256x1024 .f32) (ix2 r k) = argO2 m c (ix2 (at_row t r) k) := by
  refine Eq.trans ?_ (congrFun (V_main_arg2 m c) _)
  unfold iblk
  rw [View.read_apply]
  show V m c main_arg2 _ = _
  congr 1
  funext a
  apply Fin.ext
  match a with
  | 0 =>
    show cc0_transform_2 (grid0.coords t) 0 * 256 + 1 * r.val = 256 * (grid0.coords t 0).val + r.val
    rw [at2]
    show (grid0.coords t 0).val * 256 + 1 * r.val = 256 * (grid0.coords t 0).val + r.val
    omega
  | 1 =>
    show cc0_transform_2 (grid0.coords t) 1 * 1024 + 1 * k.val = k.val
    rw [at2]
    show 0 * 1024 + 1 * k.val = k.val
    omega

theorem read3 (c : Dev nD) (t : Fin cfg0.N) (r : Fin 256) (k : Fin 1024) :
    (iblk m c 3 t : Vec Ideal S256x1024 .f32) (ix2 r k) = argO3 m c (ix2 (at_row t r) k) := by
  refine Eq.trans ?_ (congrFun (V_main_arg3 m c) _)
  unfold iblk
  rw [View.read_apply]
  show V m c main_arg3 _ = _
  congr 1
  funext a
  apply Fin.ext
  match a with
  | 0 =>
    show cc0_transform_3 (grid0.coords t) 0 * 256 + 1 * r.val = 256 * (grid0.coords t 0).val + r.val
    rw [at3]
    show (grid0.coords t 0).val * 256 + 1 * r.val = 256 * (grid0.coords t 0).val + r.val
    omega
  | 1 =>
    show cc0_transform_3 (grid0.coords t) 1 * 1024 + 1 * k.val = k.val
    rw [at3]
    show 0 * 1024 + 1 * k.val = k.val
    omega

theorem read4 (c : Dev nD) (t : Fin cfg0.N) (r : Fin 256) (k : Fin 1024) :
    (iblk m c 4 t : Vec Ideal S256x1024 .bf16) (ix2 r k) = argZ m c (ix2 (at_row t r) ⟨k.val, by omega⟩) := by
  refine Eq.trans ?_ (congrFun (V_main_arg4 m c) _)
  unfold iblk
  rw [View.read_apply]
  show V m c main_arg4 _ = _
  congr 1
  funext a
  apply Fin.ext
  match a with
  | 0 =>
    show cc0_transform_4 (grid0.coords t) 0 * 256 + 1 * r.val = 256 * (grid0.coords t 0).val + r.val
    rw [at4]
    show (grid0.coords t 0).val * 256 + 1 * r.val = 256 * (grid0.coords t 0).val + r.val
    omega
  | 1 =>
    show cc0_transform_4 (grid0.coords t) 1 * 1024 + 1 * k.val = k.val
    rw [at4]
    show 0 * 1024 + 1 * k.val = k.val
    omega

theorem read5 (c : Dev nD) (t : Fin cfg0.N) (r : Fin 256) (k : Fin 1024) :
    (iblk m c 5 t : Vec Ideal S256x1024 .bf16) (ix2 r k) = argZ m c (ix2 (at_row t r) ⟨3072 + k.val, by omega⟩) := by
  refine Eq.trans ?_ (congrFun (V_main_arg4 m c) _)
  unfold iblk
  rw [View.read_apply]
  show V m c main_arg4 _ = _
  congr 1
  funext a
  apply Fin.ext
  match a with
  | 0 =>
    show cc0_transform_5 (grid0.coords t) 0 * 256 + 1 * r.val = 256 * (grid0.coords t 0).val + r.val
    rw [at5]
    show (grid0.coords t 0).val * 256 + 1 * r.val = 256 * (grid0.coords t 0).val + r.val
    omega
  | 1 =>
    show cc0_transform_5 (grid0.coords t) 1 * 1024 + 1 * k.val = 3072 + k.val
    rw [at5]
    show 3 * 1024 + 1 * k.val = 3072 + k.val
    omega

theorem read6 (c : Dev nD) (t : Fin cfg0.N) (r : Fin 256) (k : Fin 1024) :
    (iblk m c 6 t : Vec Ideal S256x1024 .bf16) (ix2 r k) = argZ m c (ix2 (at_row t r) ⟨5120 + k.val, by omega⟩) := by
  refine Eq.trans ?_ (congrFun (V_main_arg4 m c) _)
  unfold iblk
  rw [View.read_apply]
  show V m c main_arg4 _ = _
  congr 1
  funext a
  apply Fin.ext
  match a with
  | 0 =>
    show cc0_transform_6 (grid0.coords t) 0 * 256 + 1 * r.val = 256 * (grid0.coords t 0).val + r.val
    rw [at6]
    show (grid0.coords t 0).val * 256 + 1 * r.val = 256 * (grid0.coords t 0).val + r.val
    omega
  | 1 =>
    show cc0_transform_6 (grid0.coords t) 1 * 1024 + 1 * k.val = 5120 + k.val
    rw [at6]
    show 5 * 1024 + 1 * k.val = 5120 + k.val
    omega

theorem read7 (c : Dev nD) (t : Fin cfg0.N) (r : Fin 256) (k : Fin 2048) :
    (iblk m c 7 t : Vec Ideal S256x2048 .bf16) (ix2 r k) = argZ m c (ix2 (at_row t r) ⟨6144 + k.val, by omega⟩) := by
  refine Eq.trans ?_ (congrFun (V_main_arg4 m c) _)
  unfold iblk
  rw [View.read_apply]
  show V m c main_arg4 _ = _
  congr 1
  funext a
  apply Fin.ext
  match a with
  | 0 =>
    show cc0_transform_7 (grid0.coords t) 0 * 256 + 1 * r.val = 256 * (grid0.coords t 0).val + r.val
    rw [at7]
    show (grid0.coords t 0).val * 256 + 1 * r.val = 256 * (grid0.coords t 0).val + r.val
    omega
  | 1 =>
    show cc0_transform_7 (grid0.coords t) 1 * 2048 + 1 * k.val = 6144 + k.val
    rw [at7]
    show 3 * 2048 + 1 * k.val = 6144 + k.val
    omega

theorem read8 (c : Dev nD) (t : Fin cfg0.N) (r : Fin 256) (k : Fin 2048) :
    (iblk m c 8 t : Vec Ideal S256x2048 .bf16) (ix2 r k) = argZ m c (ix2 (at_row t r) ⟨8192 + k.val, by omega⟩) := by
  refine Eq.trans ?_ (congrFun (V_main_arg4 m c) _)
  unfold iblk
  rw [View.read_apply]
  show V m c main_arg4 _ = _
  congr 1
  funext a
  apply Fin.ext
  match a with
  | 0 =>
    show cc0_transform_8 (grid0.coords t) 0 * 256 + 1 * r.val = 256 * (grid0.coords t 0).val + r.val
    rw [at8]
    show (grid0.coords t 0).val * 256 + 1 * r.val = 256 * (grid0.coords t 0).val + r.val
    omega
  | 1 =>
    show cc0_transform_8 (grid0.coords t) 1 * 2048 + 1 * k.val = 8192 + k.val
    rw [at8]
    show 4 * 2048 + 1 * k.val = 8192 + k.val
    omega

theorem read9 (c : Dev nD) (t : Fin cfg0.N) (r : Fin 256) (k : Fin 2048) :
    (iblk m c 9 t : Vec Ideal S256x2048 .bf16) (ix2 r k) = argZ m c (ix2 (at_row t r) ⟨10240 + k.val, by omega⟩) := by
  refine Eq.trans ?_ (congrFun (V_main_arg4 m c) _)
  unfold iblk
  rw [View.read_apply]
  show V m c main_arg4 _ = _
  congr 1
  funext a
  apply Fin.ext
  match a with
  | 0 =>
    show cc0_transform_9 (grid0.coords t) 0 * 256 + 1 * r.val = 256 * (grid0.coords t 0).val + r.val
    rw [at9]
    show (grid0.coords t 0).val * 256 + 1 * r.val = 256 * (grid0.coords t 0).val + r.val
    omega
  | 1 =>
    show cc0_transform_9 (grid0.coords t) 1 * 2048 + 1 * k.val = 10240 + k.val
    rw [at9]
    show 5 * 2048 + 1 * k.val = 10240 + k.val
    omega

theorem read10 (c : Dev nD) (t : Fin cfg0.N) (k : Fin 3) (j : Fin 2048) : (iblk m c 10 t : Vec Ideal S3x2048 .f32) (ix2 k j) = argB m c (ix3 0 k j) := by
  refine Eq.trans ?_ (V_b m c k j)
  unfold iblk
  rw [View.read_apply]
  show V m c main_v7 _ = _
  congr 1
  funext a
  apply Fin.ext
  match a with
  | 0 =>
    show cc0_transform_10 (grid0.coords t) 0 * 3 + 1 * k.val = k.val
    rw [at10]
    show 0 * 3 + 1 * k.val = k.val
    omega
  | 1 =>
    show cc0_transform_10 (grid0.coords t) 1 * 2048 + 1 * j.val = j.val
    rw [at10]
    show 0 * 2048 + 1 * j.val = j.val
    omega

theorem read11 (c : Dev nD) (t : Fin cfg0.N) (k : Fin 1024) (j : Fin 2048) : (iblk m c 11 t : Vec Ideal S1024x2048 .bf16) (ix2 k j) = argW1 m c (ix3 0 k j) := by
  refine Eq.trans ?_ (V_w1 m c k j)
  unfold iblk
  rw [View.read_apply]
  show V m c main_v1 _ = _
  congr 1
  funext a
  apply Fin.ext
  match a with
  | 0 =>
    show cc0_transform_11 (grid0.coords t) 0 * 1024 + 1 * k.val = k.val
    rw [at11]
    show 0 * 1024 + 1 * k.val = k.val
    omega
  | 1 =>
    show cc0_transform_11 (grid0.coords t) 1 * 2048 + 1 * j.val = j.val
    rw [at11]
    show 0 * 2048 + 1 * j.val = j.val
    omega

theorem read12 (c : Dev nD) (t : Fin cfg0.N) (k : Fin 1024) (j : Fin 2048) : (iblk m c 12 t : Vec Ideal S1024x2048 .bf16) (ix2 k j) = argW2 m c (ix3 0 k j) := by
  refine Eq.trans ?_ (V_w2 m c k j)
  unfold iblk
  rw [View.read_apply]
  show V m c main_v3 _ = _
  congr 1
  funext a
  apply Fin.ext
  match a with
  | 0 =>
    show cc0_transform_12 (grid0.coords t) 0 * 1024 + 1 * k.val = k.val
    rw [at12]
    show 0 * 1024 + 1 * k.val = k.val
    omega
  | 1 =>
    show cc0_transform_12 (grid0.coords t) 1 * 2048 + 1 * j.val = j.val
    rw [at12]
    show 0 * 2048 + 1 * j.val = j.val
    omega

theorem read13 (c : Dev nD) (t : Fin cfg0.N) (k : Fin 1024) (j : Fin 2048) : (iblk m c 13 t : Vec Ideal S1024x2048 .bf16) (ix2 k j) = argW3 m c (ix3 0 k j) := by
  refine Eq.trans ?_ (V_w3 m c k j)
  unfold iblk
  rw [View.read_apply]
  show V m c main_v5 _ = _
  congr 1
  funext a
  apply Fin.ext
  match a with
  | 0 =>
    show cc0_transform_13 (grid0.coords t) 0 * 1024 + 1 * k.val = k.val
    rw [at13]
    show 0 * 1024 + 1 * k.val = k.val
    omega
  | 1 =>
    show cc0_transform_13 (grid0.coords t) 1 * 2048 + 1 * j.val = j.val
    rw [at13]
    show 0 * 2048 + 1 * j.val = j.val
    omega

theorem read14 (c : Dev nD) (t : Fin cfg0.N) (k : Fin 2048) (j : Fin 2048) : (iblk m c 14 t : Vec Ideal S2048x2048 .bf16) (ix2 k j) = argWo m c (ix3 0 k j) := by
  refine Eq.trans ?_ (V_wo m c k j)
  unfold iblk
  rw [View.read_apply]
  show V m c main_v9 _ = _
  congr 1
  funext a
  apply Fin.ext
  match a with
  | 0 =>
    show cc0_transform_14 (grid0.coords t) 0 * 2048 + 1 * k.val = k.val
    rw [at14]
    show 0 * 2048 + 1 * k.val = k.val
    omega
  | 1 =>
    show cc0_transform_14 (grid0.coords t) 1 * 2048 + 1 * j.val = j.val
    rw [at14]
    show 0 * 2048 + 1 * j.val = j.val
    omega

theorem read15 (c : Dev nD) (t : Fin cfg0.N) (j : Fin 2048) : (iblk m c 15 t : Vec Ideal S1x2048 .f32) (ix2 0 j) = argF m c (ix1 j) := by
  refine Eq.trans ?_ (V_f m c j)
  unfold iblk
  rw [View.read_apply]
  show V m c main_v10 _ = _
  congr 1
  funext a
  apply Fin.ext
  match a with
  | 0 =>
    show cc0_transform_15 (grid0.coords t) 0 * 1 + 1 * 0 = 0
    rw [at15]
    show 0 * 1 + 1 * 0 = 0
    omega
  | 1 =>
    show cc0_transform_15 (grid0.coords t) 1 * 2048 + 1 * j.val = j.val
    rw [at15]
    show 0 * 2048 + 1 * j.val = j.val
    omega

/-- What a grid point writes back. -/
theorem flushed_eq (c : Dev nD) (t : Fin cfg0.N) :
    (dats m 0 c).flushed 16 t = ((cfg0.win 16).blk t).view.read (Elt Ideal) (result m c) := by
  rw [Value.flushed16]
  funext i
  rw [View.read_apply]
  obtain ⟨r, l, rfl⟩ : ∃ (r : Fin 256) (l : Fin 2048), i = ix2 r l := ⟨i 0, i 1, eq_ix2 _⟩
  have e : (((cfg0.win 16).blk t).view.emb (ix2 r l) : S8192x2048.Idx) = ix2 (at_row t r) l := by
    funext a
    apply Fin.ext
    match a with
    | 0 =>
      show cc0_transform_16 (grid0.coords t) 0 * 256 + 1 * r.val = 256 * (grid0.coords t 0).val + r.val
      rw [at16]
      show (grid0.coords t 0).val * 256 + 1 * r.val = 256 * (grid0.coords t 0).val + r.val
      omega
    | 1 =>
      show cc0_transform_16 (grid0.coords t) 1 * 2048 + 1 * l.val = l.val
      rw [at16]
      show 0 * 2048 + 1 * l.val = l.val
      omega
  refine Eq.trans (show _ = _ from out_apply (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t) r l) ?_
  simp only [read0 m c t r, read1 m c t r, read2 m c t r, read3 m c t r, read4 m c t r, read5 m c t r, read6 m c t r, read7 m c t r, read8 m c t r, read9 m c t r,
    read10 m c t, read11 m c t, read12 m c t, read13 m c t, read14 m c t, read15 m c t]
  show _ = result m c (((cfg0.win 16).blk t).view.emb (ix2 r l))
  rw [e]
  rfl

/-- The result array after the run. -/
theorem final (c : Dev nD) : (dats m 0 c).arrAt 16 cfg0.N = result m c :=
  (dats m 0 c).arrAt_eq_of_cover 16 (result m c) (fun t _ => flushed_eq m c t) fun i => by
    have i0 : (i 0 : Nat) < 8192 := (i 0).isLt
    have i1 : (i 1 : Nat) < 2048 := (i 1).isLt
    obtain ⟨t, hc⟩ : ∃ t : Fin cfg0.N, (grid0.coords t 0).val = (i 0 : Nat) / 256 := ⟨_, coords_at ⟨(i 0 : Nat) / 256, by omega⟩⟩
    refine ⟨t, flush0_16 t, ?_⟩
    show i ∈ ((View.whole main_v11).slice (win0_16.rect t)).set
    rw [View.set_slice_whole, Rect.mem_set_unit]
    intro a
    match a with
    | ⟨0, _⟩ =>
      show cc0_transform_16 (grid0.coords t) 0 * 256 ≤ (i 0 : Nat) ∧ (i 0 : Nat) < cc0_transform_16 (grid0.coords t) 0 * 256 + 256
      rw [at16]
      show (grid0.coords t 0).val * 256 ≤ (i 0 : Nat) ∧ (i 0 : Nat) < (grid0.coords t 0).val * 256 + 256
      rw [hc]
      omega
    | ⟨1, _⟩ =>
      show cc0_transform_16 (grid0.coords t) 1 * 2048 ≤ (i 1 : Nat) ∧ (i 1 : Nat) < cc0_transform_16 (grid0.coords t) 1 * 2048 + 2048
      rw [at16]
      show 0 * 2048 ≤ (i 1 : Nat) ∧ (i 1 : Nat) < 0 * 2048 + 2048
      omega

end Cert.Kernel6Ideal.Merged
-- ==== Proof.MergeRef6.lean ====
module

public import proofs.«01_k».proof.Proof.Gen.Reference6Ideal.Read
public import proofs.«01_k».proof.Proof.MergeMath

/-! The reference's merge of the prompt. -/

@[expose] public section

open Idealize.ShloMosaic

namespace Cert.Reference6Ideal.Merged

open Cert.Reference6Ideal Cert.Reference6Ideal.Read

/-- Branch 1's gated row. -/
theorem gated1 (x1 : S8192x1024.Idx → EReal) (x4 : S8192x12288.Idx → EReal) (t : Fin 8192) (k : Fin 1024) :
    val_main_v8 (F := Ideal) x1 x4 (ix2 t k) = x1 (ix2 t k) * (x4 (ix2 t ⟨k.val, by omega⟩) * Merge.sigm (x4 (ix2 t ⟨k.val, by omega⟩))) := by
  rw [val_main_v8_apply, val_main_v7_apply, val_main_call0_v5_apply, val_main_call0_v4_apply, val_main_call0_v3_apply, val_main_call0_v2_apply,
    val_main_call0_v1_apply, val_main_call0_v0_apply, val_main_v1_apply, val_main_v0_apply, val_main_call0_cst_apply, val_main_call0_cst_0_apply]
  have e : idx_main_v1 (ix2 t k) = ix2 t ⟨k.val, by omega⟩ := funext fun d => Fin.ext (by
    match d with
    | ⟨0, _⟩ => rfl
    | ⟨1, _⟩ => rfl)
  rw [e]
  rfl

/-- Branch 1. -/
theorem branch1 (x1 : S8192x1024.Idx → EReal) (x4 : S8192x12288.Idx → EReal) (x5 : S1x3x2048.Idx → EReal) (x6 : S1x1024x2048.Idx → EReal) (t : Fin 8192) (j : Fin 2048) :
    val_main_v31 (F := Ideal) x1 x4 x5 x6 (ix2 t j)
      = Merge.branch (fun k => x1 (ix2 t k)) (fun k => x4 (ix2 t ⟨k.val, by omega⟩)) (fun k => x6 (ix3 0 k j))
          (x4 (ix2 t ⟨6144 + j.val, by omega⟩) + x5 (ix3 0 0 j)) := by
  have es : idx_main_v4 (ix2 t j) = ix2 t ⟨6144 + j.val, by omega⟩ := funext fun d => Fin.ext (by
    match d with
    | ⟨0, _⟩ => rfl
    | ⟨1, _⟩ => rfl)
  have eb : idx_main_v19 (idx_main_v20 (idx_main_v21 (idx_main_v22 (idx_main_v23 (ix2 t j))))) = ix3 0 0 j := funext fun d => Fin.ext (by
    have hj := j.isLt
    match d with
    | ⟨0, _⟩ => rfl
    | ⟨1, _⟩ =>
      show ((0) * 2048 + j.val % 2048) / 2048 % 3 = 0
      omega
    | ⟨2, _⟩ =>
      show ((0) * 2048 + j.val % 2048) % 2048 = j.val
      omega)
  have ed : val_main_v10 (F := Ideal) x1 x4 x6 (ix2 t j)
      = ∑ k : Fin 1024, x1 (ix2 t k) * (x4 (ix2 t ⟨k.val, by omega⟩) * Merge.sigm (x4 (ix2 t ⟨k.val, by omega⟩))) * x6 (ix3 0 k j) := by
    rw [val_main_v10_apply]
    refine Finset.sum_congr rfl fun k _ => ?_
    have e1 : lidx_main_v10 (ix2 t j) k = ix2 t k := funext fun d => Fin.ext (by
      match d with
      | ⟨0, _⟩ => rfl
      | ⟨1, _⟩ => rfl)
    have e2 : idx_main_v9 (ridx_main_v10 (ix2 t j) k) = ix3 0 k j := funext fun d => Fin.ext (by
      match d with
      | ⟨0, _⟩ => rfl
      | ⟨1, _⟩ =>
        show (k.val * 2048 + j.val) / 2048 % 1024 = k.val
        omega
      | ⟨2, _⟩ =>
        show (k.val * 2048 + j.val) % 2048 = j.val
        omega)
    rw [val_main_v9_apply, e1, e2, gated1]
  rw [val_main_v31_apply, val_main_v30_apply, val_main_v29_apply, val_main_v28_apply, val_main_v27_apply, val_main_v26_apply, val_main_v25_apply, val_main_v24_apply, val_main_v4_apply, val_main_v0_apply,
    val_main_v23_apply, val_main_v22_apply, val_main_v21_apply, val_main_v20_apply, val_main_v19_apply, val_main_cst_apply, val_main_cst_0_apply, es, eb, ed]
  rfl

/-- Branch 2's gated row. -/
theorem gated2 (x2 : S8192x1024.Idx → EReal) (x4 : S8192x12288.Idx → EReal) (t : Fin 8192) (k : Fin 1024) :
    val_main_v12 (F := Ideal) x2 x4 (ix2 t k) = x2 (ix2 t k) * (x4 (ix2 t ⟨3072 + k.val, by omega⟩) * Merge.sigm (x4 (ix2 t ⟨3072 + k.val, by omega⟩))) := by
  rw [val_main_v12_apply, val_main_v11_apply, val_main_call1_v5_apply, val_main_call1_v4_apply, val_main_call1_v3_apply, val_main_call1_v2_apply,
    val_main_call1_v1_apply, val_main_call1_v0_apply, val_main_v2_apply, val_main_v0_apply, val_main_call1_cst_apply, val_main_call1_cst_0_apply]
  have e : idx_main_v2 (ix2 t k) = ix2 t ⟨3072 + k.val, by omega⟩ := funext fun d => Fin.ext (by
    match d with
    | ⟨0, _⟩ => rfl
    | ⟨1, _⟩ => rfl)
  rw [e]
  rfl

/-- Branch 2. -/
theorem branch2 (x2 : S8192x1024.Idx → EReal) (x4 : S8192x12288.Idx → EReal) (x5 : S1x3x2048.Idx → EReal) (x7 : S1x1024x2048.Idx → EReal) (t : Fin 8192) (j : Fin 2048) :
    val_main_v43 (F := Ideal) x2 x4 x5 x7 (ix2 t j)
      = Merge.branch (fun k => x2 (ix2 t k)) (fun k => x4 (ix2 t ⟨3072 + k.val, by omega⟩)) (fun k => x7 (ix3 0 k j))
          (x4 (ix2 t ⟨8192 + j.val, by omega⟩) + x5 (ix3 0 1 j)) := by
  have es : idx_main_v5 (ix2 t j) = ix2 t ⟨8192 + j.val, by omega⟩ := funext fun d => Fin.ext (by
    match d with
    | ⟨0, _⟩ => rfl
    | ⟨1, _⟩ => rfl)
  have eb : idx_main_v19 (idx_main_v32 (idx_main_v33 (idx_main_v34 (idx_main_v35 (ix2 t j))))) = ix3 0 1 j := funext fun d => Fin.ext (by
    have hj := j.isLt
    match d with
    | ⟨0, _⟩ => rfl
    | ⟨1, _⟩ =>
      show ((1 + 0) * 2048 + j.val % 2048) / 2048 % 3 = 1
      omega
    | ⟨2, _⟩ =>
      show ((1 + 0) * 2048 + j.val % 2048) % 2048 = j.val
      omega)
  have ed : val_main_v14 (F := Ideal) x2 x4 x7 (ix2 t j)
      = ∑ k : Fin 1024, x2 (ix2 t k) * (x4 (ix2 t ⟨3072 + k.val, by omega⟩) * Merge.sigm (x4 (ix2 t ⟨3072 + k.val, by omega⟩))) * x7 (ix3 0 k j) := by
    rw [val_main_v14_apply]
    refine Finset.sum_congr rfl fun k _ => ?_
    have e1 : lidx_main_v14 (ix2 t j) k = ix2 t k := funext fun d => Fin.ext (by
      match d with
      | ⟨0, _⟩ => rfl
      | ⟨1, _⟩ => rfl)
    have e2 : idx_main_v13 (ridx_main_v14 (ix2 t j) k) = ix3 0 k j := funext fun d => Fin.ext (by
      match d with
      | ⟨0, _⟩ => rfl
      | ⟨1, _⟩ =>
        show (k.val * 2048 + j.val) / 2048 % 1024 = k.val
        omega
      | ⟨2, _⟩ =>
        show (k.val * 2048 + j.val) % 2048 = j.val
        omega)
    rw [val_main_v13_apply, e1, e2, gated2]
  rw [val_main_v43_apply, val_main_v42_apply, val_main_v41_apply, val_main_v40_apply, val_main_v39_apply, val_main_v38_apply, val_main_v37_apply, val_main_v36_apply, val_main_v5_apply, val_main_v0_apply,
    val_main_v35_apply, val_main_v34_apply, val_main_v33_apply, val_main_v32_apply, val_main_v19_apply, val_main_cst_1_apply, val_main_cst_2_apply, es, eb, ed]
  rfl

/-- Branch 3's gated row. -/
theorem gated3 (x3 : S8192x1024.Idx → EReal) (x4 : S8192x12288.Idx → EReal) (t : Fin 8192) (k : Fin 1024) :
    val_main_v16 (F := Ideal) x3 x4 (ix2 t k) = x3 (ix2 t k) * (x4 (ix2 t ⟨5120 + k.val, by omega⟩) * Merge.sigm (x4 (ix2 t ⟨5120 + k.val, by omega⟩))) := by
  rw [val_main_v16_apply, val_main_v15_apply, val_main_call2_v5_apply, val_main_call2_v4_apply, val_main_call2_v3_apply, val_main_call2_v2_apply,
    val_main_call2_v1_apply, val_main_call2_v0_apply, val_main_v3_apply, val_main_v0_apply, val_main_call2_cst_apply, val_main_call2_cst_0_apply]
  have e : idx_main_v3 (ix2 t k) = ix2 t ⟨5120 + k.val, by omega⟩ := funext fun d => Fin.ext (by
    match d with
    | ⟨0, _⟩ => rfl
    | ⟨1, _⟩ => rfl)
  rw [e]
  rfl

/-- Branch 3. -/
theorem branch3 (x3 : S8192x1024.Idx → EReal) (x4 : S8192x12288.Idx → EReal) (x5 : S1x3x2048.Idx → EReal) (x8 : S1x1024x2048.Idx → EReal) (t : Fin 8192) (j : Fin 2048) :
    val_main_v56 (F := Ideal) x3 x4 x5 x8 (ix2 t j)
      = Merge.branch (fun k => x3 (ix2 t k)) (fun k => x4 (ix2 t ⟨5120 + k.val, by omega⟩)) (fun k => x8 (ix3 0 k j))
          (x4 (ix2 t ⟨10240 + j.val, by omega⟩) + x5 (ix3 0 2 j)) := by
  have es : idx_main_v6 (ix2 t j) = ix2 t ⟨10240 + j.val, by omega⟩ := funext fun d => Fin.ext (by
    match d with
    | ⟨0, _⟩ => rfl
    | ⟨1, _⟩ => rfl)
  have eb : idx_main_v19 (idx_main_v45 (idx_main_v46 (idx_main_v47 (idx_main_v48 (ix2 t j))))) = ix3 0 2 j := funext fun d => Fin.ext (by
    have hj := j.isLt
    match d with
    | ⟨0, _⟩ => rfl
    | ⟨1, _⟩ =>
      show ((2 + 0) * 2048 + j.val % 2048) / 2048 % 3 = 2
      omega
    | ⟨2, _⟩ =>
      show ((2 + 0) * 2048 + j.val % 2048) % 2048 = j.val
      omega)
  have ed : val_main_v18 (F := Ideal) x3 x4 x8 (ix2 t j)
      = ∑ k : Fin 1024, x3 (ix2 t k) * (x4 (ix2 t ⟨5120 + k.val, by omega⟩) * Merge.sigm (x4 (ix2 t ⟨5120 + k.val, by omega⟩))) * x8 (ix3 0 k j) := by
    rw [val_main_v18_apply]
    refine Finset.sum_congr rfl fun k _ => ?_
    have e1 : lidx_main_v18 (ix2 t j) k = ix2 t k := funext fun d => Fin.ext (by
      match d with
      | ⟨0, _⟩ => rfl
      | ⟨1, _⟩ => rfl)
    have e2 : idx_main_v17 (ridx_main_v18 (ix2 t j) k) = ix3 0 k j := funext fun d => Fin.ext (by
      match d with
      | ⟨0, _⟩ => rfl
      | ⟨1, _⟩ =>
        show (k.val * 2048 + j.val) / 2048 % 1024 = k.val
        omega
      | ⟨2, _⟩ =>
        show (k.val * 2048 + j.val) % 2048 = j.val
        omega)
    rw [val_main_v17_apply, e1, e2, gated3]
  rw [val_main_v56_apply, val_main_v55_apply, val_main_v54_apply, val_main_v53_apply, val_main_v52_apply, val_main_v51_apply, val_main_v50_apply, val_main_v49_apply, val_main_v6_apply, val_main_v0_apply,
    val_main_v48_apply, val_main_v47_apply, val_main_v46_apply, val_main_v45_apply, val_main_v19_apply, val_main_cst_3_apply, val_main_cst_4_apply, es, eb, ed]
  rfl

/-- The row with the projected branches added. -/
theorem added_apply (x0 : S1x8192x2048.Idx → EReal) (x1 x2 x3 : S8192x1024.Idx → EReal) (x4 : S8192x12288.Idx → EReal) (x5 : S1x3x2048.Idx → EReal) (x6 x7 x8 : S1x1024x2048.Idx → EReal) (x9 : S1x2048x2048.Idx → EReal) (t : Fin 8192) (j : Fin 2048) :
    val_main_v61 (F := Ideal) x0 x1 x2 x3 x4 x5 x6 x7 x8 x9 (ix2 t j) = Merge.added (fun k => x0 (ix3 0 t k)) (Merge.three (fun k => x1 (ix2 t k)) (fun k => x2 (ix2 t k)) (fun k => x3 (ix2 t k))
          (fun k => x4 (ix2 t ⟨k.val, by omega⟩)) (fun k => x4 (ix2 t ⟨3072 + k.val, by omega⟩)) (fun k => x4 (ix2 t ⟨5120 + k.val, by omega⟩))
          (fun j => x4 (ix2 t ⟨6144 + j.val, by omega⟩) + x5 (ix3 0 0 j)) (fun j => x4 (ix2 t ⟨8192 + j.val, by omega⟩) + x5 (ix3 0 1 j))
          (fun j => x4 (ix2 t ⟨10240 + j.val, by omega⟩) + x5 (ix3 0 2 j))
          (fun k j => x6 (ix3 0 k j)) (fun k j => x7 (ix3 0 k j)) (fun k j => x8 (ix3 0 k j))) (fun k j => x9 (ix3 0 k j)) j := by
  have e0 : idx_main_v58 (ix2 t j) = ix3 0 t j := funext fun d => Fin.ext (by
    match d with
    | ⟨0, _⟩ => rfl
    | ⟨1, _⟩ =>
      show (t.val * 2048 + j.val) / 2048 % 8192 = t.val
      omega
    | ⟨2, _⟩ =>
      show (t.val * 2048 + j.val) % 2048 = j.val
      omega)
  have e2 : ∀ k, idx_main_v59 (ridx_main_v60 (ix2 t j) k) = ix3 0 k j := fun k => funext fun d => Fin.ext (by
    match d with
    | ⟨0, _⟩ => rfl
    | ⟨1, _⟩ =>
      show (k.val * 2048 + j.val) / 2048 % 2048 = k.val
      omega
    | ⟨2, _⟩ =>
      show (k.val * 2048 + j.val) % 2048 = j.val
      omega)
  have e1 : ∀ k, lidx_main_v60 (ix2 t j) k = ix2 t k := fun k => funext fun d => Fin.ext (by
    match d with
    | ⟨0, _⟩ => rfl
    | ⟨1, _⟩ => rfl)
  rw [val_main_v61_apply, val_main_v58_apply, e0, val_main_v60_apply]
  refine congrArg (x0 (ix3 0 t j) + ·) (Finset.sum_congr rfl fun k _ => ?_)
  rw [val_main_v59_apply, e1, e2, val_main_v57_apply, val_main_v44_apply, branch1, branch2, branch3]
  rfl

/-- The result's entries. -/
theorem result_apply (x0 : S1x8192x2048.Idx → EReal) (x1 x2 x3 : S8192x1024.Idx → EReal) (x4 : S8192x12288.Idx → EReal) (x5 : S1x3x2048.Idx → EReal) (x6 x7 x8 : S1x1024x2048.Idx → EReal) (x9 : S1x2048x2048.Idx → EReal) (x10 : S2048.Idx → EReal) (t : Fin 8192) (j : Fin 2048) :
    val_main_v74 (F := Ideal) x0 x1 x2 x3 x4 x5 x6 x7 x8 x9 x10 (ix2 t j) = Rms.norm (Merge.added (fun k => x0 (ix3 0 t k)) (Merge.three (fun k => x1 (ix2 t k)) (fun k => x2 (ix2 t k)) (fun k => x3 (ix2 t k))
          (fun k => x4 (ix2 t ⟨k.val, by omega⟩)) (fun k => x4 (ix2 t ⟨3072 + k.val, by omega⟩)) (fun k => x4 (ix2 t ⟨5120 + k.val, by omega⟩))
          (fun j => x4 (ix2 t ⟨6144 + j.val, by omega⟩) + x5 (ix3 0 0 j)) (fun j => x4 (ix2 t ⟨8192 + j.val, by omega⟩) + x5 (ix3 0 1 j))
          (fun j => x4 (ix2 t ⟨10240 + j.val, by omega⟩) + x5 (ix3 0 2 j))
          (fun k j => x6 (ix3 0 k j)) (fun k j => x7 (ix3 0 k j)) (fun k j => x8 (ix3 0 k j))) (fun k j => x9 (ix3 0 k j))) (fun k => x10 (ix1 k)) j := by
  rw [val_main_v74_apply, val_main_v73_apply, val_main_v72_apply, val_main_v71_apply, val_main_v70_apply, val_main_v69_apply, val_main_v68_apply, val_main_v67_apply, val_main_v66_apply, val_main_v65_apply,
    val_main_v64_apply, val_main_v63_apply]
  simp only [val_main_v62_apply, val_main_cst_5_apply, val_main_cst_6_apply, val_main_cst_7_apply]
  have e1 : ∀ q, idx_main_v63 (idx_main_v64 (idx_main_v70 (ix2 t j))) q = ix2 t q := fun q => funext fun d => Fin.ext (by
    match d with
    | ⟨0, _⟩ => rfl
    | ⟨1, _⟩ => rfl)
  have e2 : idx_main_v72 (idx_main_v73 (ix2 t j)) = ix1 j := funext fun d => Fin.ext (by
    match d with
    | ⟨0, _⟩ => rfl)
  simp only [e1, e2, added_apply]
  show _ * Ideal.rsqrt (Ideal.div (Ideal.ofBits .f32 0x00000000#32 + _) _ + _) * _ = _
  rw [Ideal.ofBits_zero_f32, zero_add]
  rfl

end Cert.Reference6Ideal.Merged
-- ==== Proof.Claim6.lean ====
module

public import proofs.«01_k».proof.Defs
public import proofs.«01_k».proof.Proof.Gen.Kernel6.Frame
public import proofs.«01_k».proof.Proof.Gen.Reference6Ideal.Run
public import proofs.«01_k».proof.Proof.Merge6
public import proofs.«01_k».proof.Proof.MergeRef6
public import Idealize.ShloMosaic.Lib.Claim

/-! The claims of the prompt's merge. -/

@[expose] public section

open Idealize.ShloMosaic Idealize.ShloMosaic.TcCoe Idealize.SL.Sem

namespace Cert.Proof.Merge6

theorem frame_kernel : Cert.quiescent_Kernel6 (hKernel6 := Cert.Kernel6.Gen.facts) := fun m ρ _ => Cert.Kernel6.Gen.frame m ρ

theorem frame_ideal : Cert.quiescent_Kernel6Ideal (hKernel6Ideal := Cert.Kernel6Ideal.Gen.facts) := fun m ρ _ => Cert.Kernel6Ideal.Gen.frame m ρ

theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves : Cert.preserves_Kernel6_Kernel6Ideal := trivial

/-- The kernel's array is the reference's, over the extended reals. -/
theorem algebraic : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => Cert.Kernel6Ideal.Merged.result m c, ?_, ?_⟩
  · exact (θ_run Cert.Kernel6Ideal.defs _ _).mono (fun _ h c => ⟨(h c).1.trans (Cert.Kernel6Ideal.Merged.final m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    obtain ⟨h0, h1, h2, h3, h4, h5, h6, h7, h8, h9, h10⟩ := hagree c
    rw [Cert.Reference6Ideal.Read.val_main_v74_eq, h0, h1, h2, h3, h4, h5, h6, h7, h8, h9, h10]
    refine funext fun i => ?_
    obtain ⟨t, j, rfl⟩ : ∃ (t : Fin 8192) (j : Fin 2048), i = ix2 t j := ⟨i 0, i 1, eq_ix2 _⟩
    exact Cert.Reference6Ideal.Merged.result_apply _ _ _ _ _ _ _ _ _ _ _ t j

end Cert.Proof.Merge6
-- ==== Proof.Merge7.lean ====
module

public import proofs.«01_k».proof.Proof.Gen.Kernel7Ideal.Value
public import proofs.«01_k».proof.Proof.MergeMath
public import Idealize.ShloMosaic.Lib.StableHlo.ReadAt

/-! The merge of the sample group. -/

@[expose] public section

open Idealize.ShloMosaic Idealize.ShloMosaic.TcCoe Idealize.SL.Sem
open Idealize.ShloMosaic.Pipeline (Dat)

namespace Cert.Kernel7Ideal.Merged

open Cert.Kernel7Ideal Cert.Kernel7Ideal.Gen

set_option maxRecDepth 16384

/-- The first branch. -/
theorem pay1_apply (g o : Vec Ideal S256x1024 .f32) (w : Vec Ideal S1024x2048 .bf16) (e : Vec Ideal S256x2048 .bf16) (b : Vec Ideal S1x2048 .f32)
    (r : Fin 256) (j : Fin 2048) :
    k0_pay1 (F := Ideal) g o w e b (ix2 r j)
      = Merge.branch (fun k => o (ix2 r k)) (fun k => g (ix2 r k)) (fun k => w (ix2 k j)) (e (ix2 r j) + b (ix2 0 j)) := by
  unfold k0_pay1
  rw [shapeCast_self, shapeCast_self]
  refine Merge.branch_of _ w e b _ r _ _ (fun k => ?_) j
  show o (ix2 r k) * (g (ix2 r k) * Ideal.div Merge.one (Merge.one + Ideal.exp (Ideal.ofBits .f32 0x00000000#32 - g (ix2 r k)))) = _
  rw [Merge.sigm_sub]

/-- The second branch, added to the first. -/
theorem pay4_apply (s : Vec Ideal S256x2048 .f32) (g o : Vec Ideal S256x1024 .f32) (w : Vec Ideal S1024x2048 .bf16) (e : Vec Ideal S256x2048 .bf16)
    (b : Vec Ideal S1x2048 .f32) (r : Fin 256) (j : Fin 2048) :
    k0_pay4 (F := Ideal) s (k0_pay2 (F := Ideal) g) (k0_pay3 (F := Ideal) g) (Scalar.ofBits .f32 0x3F800000#32) o w e b (ix2 r j)
      = s (ix2 r j) + Merge.branch (fun k => o (ix2 r k)) (fun k => g (ix2 r k)) (fun k => w (ix2 k j)) (e (ix2 r j) + b (ix2 0 j)) := by
  unfold k0_pay4
  rw [shapeCast_self, shapeCast_self]
  refine congrArg (s (ix2 r j) + ·) (Merge.branch_of _ w e b _ r _ _ (fun k => ?_) j)
  show o (ix2 r k) * (g (ix2 r k) * Ideal.div Merge.one (Merge.one + Ideal.exp (Ideal.ofBits .f32 0x00000000#32 - g (ix2 r k)))) = _
  rw [Merge.sigm_sub]

/-- The rest of the body: the third branch, the projection, the row added, the norm. -/
theorem pay7_apply (s : Vec Ideal S256x2048 .f32) (g o : Vec Ideal S256x1024 .f32) (w : Vec Ideal S1024x2048 .bf16) (e : Vec Ideal S256x2048 .bf16)
    (b : Vec Ideal S1x2048 .f32) (x : Vec Ideal S256x2048 .f32) (wo : Vec Ideal S2048x2048 .bf16) (f : Vec Ideal S1x2048 .f32) (r : Fin 256) (j : Fin 2048) :
    k0_pay7 (F := Ideal) s (k0_pay5 (F := Ideal) g o) (k0_pay6 (F := Ideal) w) e b x wo f (ix2 r j)
      = Rms.norm (Merge.added (fun k => x (ix2 r k)) (fun j => s (ix2 r j)
          + Merge.branch (fun k => o (ix2 r k)) (fun k => g (ix2 r k)) (fun k => w (ix2 k j)) (e (ix2 r j) + b (ix2 0 j))) (fun k j => wo (ix2 k j)))
        (fun k => f (ix2 0 k)) j := by
  unfold k0_pay7
  unfold k0_pay6
  rw [shapeCast_self, shapeCast_self, shapeCast_self, shapeCast_self, shapeCast_self]
  refine (Rms.rows_apply _ _ _ _ _ _ _ _ r j).trans ?_
  refine congrArg (fun y => Rms.norm y (fun k => f (ix2 0 k)) j) (funext fun k => ?_)
  refine congrArg (x (ix2 r k) + ·) ?_
  refine (Merge.dot_apply _ _ r k).trans (Finset.sum_congr rfl fun q _ => congrArg (· * wo (ix2 q k)) ?_)
  refine congrArg (s (ix2 r q) + ·) (Merge.branch_of _ w e b _ r _ _ (fun l => ?_) q)
  show o (ix2 r l) * (g (ix2 r l) * Ideal.div Merge.one (Merge.one + Ideal.exp (Ideal.ofBits .f32 0x00000000#32 - g (ix2 r l)))) = _
  rw [Merge.sigm_sub]

theorem hz2 : (![0, 0] : Fin 2 → ℕ) = fun _ => 0 := by
  funext a
  fin_cases a <;> rfl

theorem bias0_apply (b : Vec Ideal S3x2048 .f32) (j : Fin 2048) : View.ld b r0_3 (ix2 0 j) = b (ix2 0 j) := by
  refine congrArg b (funext fun a => Fin.ext ?_)
  match a with
  | 0 => rfl
  | 1 => show 0 + 1 * j.val = j.val; omega

theorem bias1_apply (b : Vec Ideal S3x2048 .f32) (j : Fin 2048) : View.ld b r0_4 (ix2 0 j) = b (ix2 1 j) := by
  refine congrArg b (funext fun a => Fin.ext ?_)
  match a with
  | 0 => rfl
  | 1 => show 0 + 1 * j.val = j.val; omega

theorem bias2_apply (b : Vec Ideal S3x2048 .f32) (j : Fin 2048) : View.ld b r0_5 (ix2 0 j) = b (ix2 2 j) := by
  refine congrArg b (funext fun a => Fin.ext ?_)
  match a with
  | 0 => rfl
  | 1 => show 0 + 1 * j.val = j.val; omega

/-- What the body stores, at an index. -/
theorem out_apply (x : Vec Ideal S256x2048 .f32) (o1 o2 o3 : Vec Ideal S256x1024 .f32) (g1 g2 g3 : Vec Ideal S256x1024 .bf16) (e1 e2 e3 : Vec Ideal S256x2048 .bf16)
    (b : Vec Ideal S3x2048 .f32) (w1 w2 w3 : Vec Ideal S1024x2048 .bf16) (wo : Vec Ideal S2048x2048 .bf16) (f : Vec Ideal S1x2048 .f32) (r : Fin 256) (j : Fin 2048) :
    out0_16 (F := Ideal) x o1 o2 o3 g1 g2 g3 e1 e2 e3 b w1 w2 w3 wo f (ix2 r j)
      = Rms.norm (Merge.added (fun k => x (ix2 r k)) (Merge.three (fun k => o1 (ix2 r k)) (fun k => o2 (ix2 r k)) (fun k => o3 (ix2 r k))
          (fun k => g1 (ix2 r k)) (fun k => g2 (ix2 r k)) (fun k => g3 (ix2 r k)) (fun j => e1 (ix2 r j) + b (ix2 0 j)) (fun j => e2 (ix2 r j) + b (ix2 1 j))
          (fun j => e3 (ix2 r j) + b (ix2 2 j)) (fun k j => w1 (ix2 k j)) (fun k j => w2 (ix2 k j)) (fun k j => w3 (ix2 k j))) (fun k j => wo (ix2 k j)))
        (fun k => f (ix2 0 k)) j := by
  unfold out0_16
  rw [View.canon_unit_zero hz2]
  repeat rw [View.ld_unit_zero hz2]
  refine (pay7_apply _ g3 o3 w3 e3 _ x wo f r j).trans ?_
  refine congrArg (fun s => Rms.norm (Merge.added (fun k => x (ix2 r k)) s (fun k j => wo (ix2 k j))) (fun k => f (ix2 0 k)) j) (funext fun q => ?_)
  rw [pay4_apply, pay1_apply, bias0_apply, bias1_apply, bias2_apply]
  rfl

theorem at0 : ∀ i : grid0.Coords, cc0_transform_0 i = ![(i 0).val, 0] := by decide +kernel
theorem at1 : ∀ i : grid0.Coords, cc0_transform_1 i = ![(i 0).val, 0] := by decide +kernel
theorem at2 : ∀ i : grid0.Coords, cc0_transform_2 i = ![(i 0).val, 0] := by decide +kernel
theorem at3 : ∀ i : grid0.Coords, cc0_transform_3 i = ![(i 0).val, 0] := by decide +kernel
theorem at4 : ∀ i : grid0.Coords, cc0_transform_4 i = ![(i 0).val, 0] := by decide +kernel
theorem at5 : ∀ i : grid0.Coords, cc0_transform_5 i = ![(i 0).val, 3] := by decide +kernel
theorem at6 : ∀ i : grid0.Coords, cc0_transform_6 i = ![(i 0).val, 5] := by decide +kernel
theorem at7 : ∀ i : grid0.Coords, cc0_transform_7 i = ![(i 0).val, 3] := by decide +kernel
theorem at8 : ∀ i : grid0.Coords, cc0_transform_8 i = ![(i 0).val, 4] := by decide +kernel
theorem at9 : ∀ i : grid0.Coords, cc0_transform_9 i = ![(i 0).val, 5] := by decide +kernel
theorem at10 : ∀ i : grid0.Coords, cc0_transform_10 i = ![0, 0] := by decide +kernel
theorem at11 : ∀ i : grid0.Coords, cc0_transform_11 i = ![0, 0] := by decide +kernel
theorem at12 : ∀ i : grid0.Coords, cc0_transform_12 i = ![0, 0] := by decide +kernel
theorem at13 : ∀ i : grid0.Coords, cc0_transform_13 i = ![0, 0] := by decide +kernel
theorem at14 : ∀ i : grid0.Coords, cc0_transform_14 i = ![0, 0] := by decide +kernel
theorem at15 : ∀ i : grid0.Coords, cc0_transform_15 i = ![0, 0] := by decide +kernel
theorem at16 : ∀ i : grid0.Coords, cc0_transform_16 i = ![(i 0).val, 0] := by decide +kernel

variable (m : (ℓ : Loc nD τ sig) → Buf (Elt Ideal) ℓ)

theorem coords_lt (t : Fin cfg0.N) : (grid0.coords t 0).val < 4 := (grid0.coords t 0).isLt

theorem coords_at : ∀ (a : Fin 4), (grid0.coords ⟨a.val, by have : grid0.N = 4 := N_0; omega⟩ 0).val = a.val := by decide +kernel

/-- Row `r` of grid point `t`'s block. -/
abbrev at_row (t : Fin cfg0.N) (r : Fin 256) : Fin 1024 := ⟨256 * (grid0.coords t 0).val + r.val, by have := coords_lt t; omega⟩

theorem V_x (c : Dev nD) (t : Fin 1024) (k : Fin 2048) : V m c main_v6 (ix2 t k) = m ((c : Thread nD τ).loc main_arg0) (ix3 ⟨(t).val / 8, by omega⟩ ⟨(t).val % 8, by omega⟩ k) := by
  unfold V
  after_reads_at

theorem V_b (c : Dev nD) (p : Fin 3) (j : Fin 2048) : V m c main_v7 (ix2 p j) = m ((c : Thread nD τ).loc main_arg5) (ix3 0 p j) := by
  unfold V
  after_reads_at

theorem V_w1 (c : Dev nD) (k : Fin 1024) (j : Fin 2048) : V m c main_v1 (ix2 k j) = m ((c : Thread nD τ).loc main_arg6) (ix3 0 k j) := by
  unfold V
  after_reads_at

theorem V_w2 (c : Dev nD) (k : Fin 1024) (j : Fin 2048) : V m c main_v3 (ix2 k j) = m ((c : Thread nD τ).loc main_arg7) (ix3 0 k j) := by
  unfold V
  after_reads_at

theorem V_w3 (c : Dev nD) (k : Fin 1024) (j : Fin 2048) : V m c main_v5 (ix2 k j) = m ((c : Thread nD τ).loc main_arg8) (ix3 0 k j) := by
  unfold V
  after_reads_at

theorem V_wo (c : Dev nD) (k j : Fin 2048) : V m c main_v9 (ix2 k j) = m ((c : Thread nD τ).loc main_arg9) (ix3 0 k j) := by
  unfold V
  after_reads_at

theorem V_f (c : Dev nD) (k : Fin 2048) : V m c main_v10 (ix2 0 k) = m ((c : Thread nD τ).loc main_arg10) (ix1 k) := by
  unfold V
  after_reads_at

/-- The arguments on core `c`. -/
abbrev argX (c : Dev nD) : S128x8x2048.Idx → EReal := m ((c : Thread nD τ).loc main_arg0)
abbrev argO1 (c : Dev nD) : S1024x1024.Idx → EReal := m ((c : Thread nD τ).loc main_arg1)
abbrev argO2 (c : Dev nD) : S1024x1024.Idx → EReal := m ((c : Thread nD τ).loc main_arg2)
abbrev argO3 (c : Dev nD) : S1024x1024.Idx → EReal := m ((c : Thread nD τ).loc main_arg3)
abbrev argZ (c : Dev nD) : S1024x12288.Idx → EReal := m ((c : Thread nD τ).loc main_arg4)
abbrev argB (c : Dev nD) : S1x3x2048.Idx → EReal := m ((c : Thread nD τ).loc main_arg5)
abbrev argW1 (c : Dev nD) : S1x1024x2048.Idx → EReal := m ((c : Thread nD τ).loc main_arg6)
abbrev argW2 (c : Dev nD) : S1x1024x2048.Idx → EReal := m ((c : Thread nD τ).loc main_arg7)
abbrev argW3 (c : Dev nD) : S1x1024x2048.Idx → EReal := m ((c : Thread nD τ).loc main_arg8)
abbrev argWo (c : Dev nD) : S1x2048x2048.Idx → EReal := m ((c : Thread nD τ).loc main_arg9)
abbrev argF (c : Dev nD) : S2048.Idx → EReal := m ((c : Thread nD τ).loc main_arg10)

/-- Row `t` of the result. -/
noncomputable def rows (x : S128x8x2048.Idx → EReal) (o1 o2 o3 : S1024x1024.Idx → EReal) (z : S1024x12288.Idx → EReal) (b : S1x3x2048.Idx → EReal)
    (w1 w2 w3 : S1x1024x2048.Idx → EReal) (wo : S1x2048x2048.Idx → EReal) (f : S2048.Idx → EReal) (t : Fin 1024) : Fin 2048 → EReal :=
  Merge.row (fun k => x (ix3 ⟨(t).val / 8, by omega⟩ ⟨(t).val % 8, by omega⟩ k)) (fun k => o1 (ix2 t k)) (fun k => o2 (ix2 t k)) (fun k => o3 (ix2 t k)) (fun j => z (ix2 t j)) (fun p j => b (ix3 0 p j))
    (fun k j => w1 (ix3 0 k j)) (fun k j => w2 (ix3 0 k j)) (fun k j => w3 (ix3 0 k j)) (fun k j => wo (ix3 0 k j)) (fun k => f (ix1 k))

/-- The result array. -/
noncomputable def result (c : Dev nD) : S1024x2048.Idx → EReal := fun i =>
  rows (argX m c) (argO1 m c) (argO2 m c) (argO3 m c) (argZ m c) (argB m c) (argW1 m c) (argW2 m c) (argW3 m c) (argWo m c) (argF m c) (i 0) (i 1)

theorem read0 (c : Dev nD) (t : Fin cfg0.N) (r : Fin 256) (k : Fin 2048) :
    (iblk m c 0 t : Vec Ideal S256x2048 .f32) (ix2 r k) = argX m c (ix3 ⟨(at_row t r).val / 8, by have := (at_row t r).isLt; omega⟩ ⟨(at_row t r).val % 8, by omega⟩ k) := by
  refine Eq.trans ?_ (V_x m c (at_row t r) k)
  unfold iblk
  rw [View.read_apply]
  show V m c main_v6 _ = _
  congr 1
  funext a
  apply Fin.ext
  match a with
  | 0 =>
    show cc0_transform_0 (grid0.coords t) 0 * 256 + 1 * r.val = 256 * (grid0.coords t 0).val + r.val
    rw [at0]
    show (grid0.coords t 0).val * 256 + 1 * r.val = 256 * (grid0.coords t 0).val + r.val
    omega
  | 1 =>
    show cc0_transform_0 (grid0.coords t) 1 * 2048 + 1 * k.val = k.val
    rw [at0]
    show 0 * 2048 + 1 * k.val = k.val
    omega

theorem read1 (c : Dev nD) (t : Fin cfg0.N) (r : Fin 256) (k : Fin 1024) :
    (iblk m c 1 t : Vec Ideal S256x1024 .f32) (ix2 r k) = argO1 m c (ix2 (at_row t r) k) := by
  refine Eq.trans ?_ (congrFun (V_main_arg1 m c) _)
  unfold iblk
  rw [View.read_apply]
  show V m c main_arg1 _ = _
  congr 1
  funext a
  apply Fin.ext
  match a with
  | 0 =>
    show cc0_transform_1 (grid0.coords t) 0 * 256 + 1 * r.val = 256 * (grid0.coords t 0).val + r.val
    rw [at1]
    show (grid0.coords t 0).val * 256 + 1 * r.val = 256 * (grid0.coords t 0).val + r.val
    omega
  | 1 =>
    show cc0_transform_1 (grid0.coords t) 1 * 1024 + 1 * k.val = k.val
    rw [at1]
    show 0 * 1024 + 1 * k.val = k.val
    omega

theorem read2 (c : Dev nD) (t : Fin cfg0.N) (r : Fin 256) (k : Fin 1024) :
    (iblk m c 2 t : Vec Ideal S256x1024 .f32) (ix2 r k) = argO2 m c (ix2 (at_row t r) k) := by
  refine Eq.trans ?_ (congrFun (V_main_arg2 m c) _)
  unfold iblk
  rw [View.read_apply]
  show V m c main_arg2 _ = _
  congr 1
  funext a
  apply Fin.ext
  match a with
  | 0 =>
    show cc0_transform_2 (grid0.coords t) 0 * 256 + 1 * r.val = 256 * (grid0.coords t 0).val + r.val
    rw [at2]
    show (grid0.coords t 0).val * 256 + 1 * r.val = 256 * (grid0.coords t 0).val + r.val
    omega
  | 1 =>
    show cc0_transform_2 (grid0.coords t) 1 * 1024 + 1 * k.val = k.val
    rw [at2]
    show 0 * 1024 + 1 * k.val = k.val
    omega

theorem read3 (c : Dev nD) (t : Fin cfg0.N) (r : Fin 256) (k : Fin 1024) :
    (iblk m c 3 t : Vec Ideal S256x1024 .f32) (ix2 r k) = argO3 m c (ix2 (at_row t r) k) := by
  refine Eq.trans ?_ (congrFun (V_main_arg3 m c) _)
  unfold iblk
  rw [View.read_apply]
  show V m c main_arg3 _ = _
  congr 1
  funext a
  apply Fin.ext
  match a with
  | 0 =>
    show cc0_transform_3 (grid0.coords t) 0 * 256 + 1 * r.val = 256 * (grid0.coords t 0).val + r.val
    rw [at3]
    show (grid0.coords t 0).val * 256 + 1 * r.val = 256 * (grid0.coords t 0).val + r.val
    omega
  | 1 =>
    show cc0_transform_3 (grid0.coords t) 1 * 1024 + 1 * k.val = k.val
    rw [at3]
    show 0 * 1024 + 1 * k.val = k.val
    omega

theorem read4 (c : Dev nD) (t : Fin cfg0.N) (r : Fin 256) (k : Fin 1024) :
    (iblk m c 4 t : Vec Ideal S256x1024 .bf16) (ix2 r k) = argZ m c (ix2 (at_row t r) ⟨k.val, by omega⟩) := by
  refine Eq.trans ?_ (congrFun (V_main_arg4 m c) _)
  unfold iblk
  rw [View.read_apply]
  show V m c main_arg4 _ = _
  congr 1
  funext a
  apply Fin.ext
  match a with
  | 0 =>
    show cc0_transform_4 (grid0.coords t) 0 * 256 + 1 * r.val = 256 * (grid0.coords t 0).val + r.val
    rw [at4]
    show (grid0.coords t 0).val * 256 + 1 * r.val = 256 * (grid0.coords t 0).val + r.val
    omega
  | 1 =>
    show cc0_transform_4 (grid0.coords t) 1 * 1024 + 1 * k.val = k.val
    rw [at4]
    show 0 * 1024 + 1 * k.val = k.val
    omega

theorem read5 (c : Dev nD) (t : Fin cfg0.N) (r : Fin 256) (k : Fin 1024) :
    (iblk m c 5 t : Vec Ideal S256x1024 .bf16) (ix2 r k) = argZ m c (ix2 (at_row t r) ⟨3072 + k.val, by omega⟩) := by
  refine Eq.trans ?_ (congrFun (V_main_arg4 m c) _)
  unfold iblk
  rw [View.read_apply]
  show V m c main_arg4 _ = _
  congr 1
  funext a
  apply Fin.ext
  match a with
  | 0 =>
    show cc0_transform_5 (grid0.coords t) 0 * 256 + 1 * r.val = 256 * (grid0.coords t 0).val + r.val
    rw [at5]
    show (grid0.coords t 0).val * 256 + 1 * r.val = 256 * (grid0.coords t 0).val + r.val
    omega
  | 1 =>
    show cc0_transform_5 (grid0.coords t) 1 * 1024 + 1 * k.val = 3072 + k.val
    rw [at5]
    show 3 * 1024 + 1 * k.val = 3072 + k.val
    omega

theorem read6 (c : Dev nD) (t : Fin cfg0.N) (r : Fin 256) (k : Fin 1024) :
    (iblk m c 6 t : Vec Ideal S256x1024 .bf16) (ix2 r k) = argZ m c (ix2 (at_row t r) ⟨5120 + k.val, by omega⟩) := by
  refine Eq.trans ?_ (congrFun (V_main_arg4 m c) _)
  unfold iblk
  rw [View.read_apply]
  show V m c main_arg4 _ = _
  congr 1
  funext a
  apply Fin.ext
  match a with
  | 0 =>
    show cc0_transform_6 (grid0.coords t) 0 * 256 + 1 * r.val = 256 * (grid0.coords t 0).val + r.val
    rw [at6]
    show (grid0.coords t 0).val * 256 + 1 * r.val = 256 * (grid0.coords t 0).val + r.val
    omega
  | 1 =>
    show cc0_transform_6 (grid0.coords t) 1 * 1024 + 1 * k.val = 5120 + k.val
    rw [at6]
    show 5 * 1024 + 1 * k.val = 5120 + k.val
    omega

theorem read7 (c : Dev nD) (t : Fin cfg0.N) (r : Fin 256) (k : Fin 2048) :
    (iblk m c 7 t : Vec Ideal S256x2048 .bf16) (ix2 r k) = argZ m c (ix2 (at_row t r) ⟨6144 + k.val, by omega⟩) := by
  refine Eq.trans ?_ (congrFun (V_main_arg4 m c) _)
  unfold iblk
  rw [View.read_apply]
  show V m c main_arg4 _ = _
  congr 1
  funext a
  apply Fin.ext
  match a with
  | 0 =>
    show cc0_transform_7 (grid0.coords t) 0 * 256 + 1 * r.val = 256 * (grid0.coords t 0).val + r.val
    rw [at7]
    show (grid0.coords t 0).val * 256 + 1 * r.val = 256 * (grid0.coords t 0).val + r.val
    omega
  | 1 =>
    show cc0_transform_7 (grid0.coords t) 1 * 2048 + 1 * k.val = 6144 + k.val
    rw [at7]
    show 3 * 2048 + 1 * k.val = 6144 + k.val
    omega

theorem read8 (c : Dev nD) (t : Fin cfg0.N) (r : Fin 256) (k : Fin 2048) :
    (iblk m c 8 t : Vec Ideal S256x2048 .bf16) (ix2 r k) = argZ m c (ix2 (at_row t r) ⟨8192 + k.val, by omega⟩) := by
  refine Eq.trans ?_ (congrFun (V_main_arg4 m c) _)
  unfold iblk
  rw [View.read_apply]
  show V m c main_arg4 _ = _
  congr 1
  funext a
  apply Fin.ext
  match a with
  | 0 =>
    show cc0_transform_8 (grid0.coords t) 0 * 256 + 1 * r.val = 256 * (grid0.coords t 0).val + r.val
    rw [at8]
    show (grid0.coords t 0).val * 256 + 1 * r.val = 256 * (grid0.coords t 0).val + r.val
    omega
  | 1 =>
    show cc0_transform_8 (grid0.coords t) 1 * 2048 + 1 * k.val = 8192 + k.val
    rw [at8]
    show 4 * 2048 + 1 * k.val = 8192 + k.val
    omega

theorem read9 (c : Dev nD) (t : Fin cfg0.N) (r : Fin 256) (k : Fin 2048) :
    (iblk m c 9 t : Vec Ideal S256x2048 .bf16) (ix2 r k) = argZ m c (ix2 (at_row t r) ⟨10240 + k.val, by omega⟩) := by
  refine Eq.trans ?_ (congrFun (V_main_arg4 m c) _)
  unfold iblk
  rw [View.read_apply]
  show V m c main_arg4 _ = _
  congr 1
  funext a
  apply Fin.ext
  match a with
  | 0 =>
    show cc0_transform_9 (grid0.coords t) 0 * 256 + 1 * r.val = 256 * (grid0.coords t 0).val + r.val
    rw [at9]
    show (grid0.coords t 0).val * 256 + 1 * r.val = 256 * (grid0.coords t 0).val + r.val
    omega
  | 1 =>
    show cc0_transform_9 (grid0.coords t) 1 * 2048 + 1 * k.val = 10240 + k.val
    rw [at9]
    show 5 * 2048 + 1 * k.val = 10240 + k.val
    omega

theorem read10 (c : Dev nD) (t : Fin cfg0.N) (k : Fin 3) (j : Fin 2048) : (iblk m c 10 t : Vec Ideal S3x2048 .f32) (ix2 k j) = argB m c (ix3 0 k j) := by
  refine Eq.trans ?_ (V_b m c k j)
  unfold iblk
  rw [View.read_apply]
  show V m c main_v7 _ = _
  congr 1
  funext a
  apply Fin.ext
  match a with
  | 0 =>
    show cc0_transform_10 (grid0.coords t) 0 * 3 + 1 * k.val = k.val
    rw [at10]
    show 0 * 3 + 1 * k.val = k.val
    omega
  | 1 =>
    show cc0_transform_10 (grid0.coords t) 1 * 2048 + 1 * j.val = j.val
    rw [at10]
    show 0 * 2048 + 1 * j.val = j.val
    omega

theorem read11 (c : Dev nD) (t : Fin cfg0.N) (k : Fin 1024) (j : Fin 2048) : (iblk m c 11 t : Vec Ideal S1024x2048 .bf16) (ix2 k j) = argW1 m c (ix3 0 k j) := by
  refine Eq.trans ?_ (V_w1 m c k j)
  unfold iblk
  rw [View.read_apply]
  show V m c main_v1 _ = _
  congr 1
  funext a
  apply Fin.ext
  match a with
  | 0 =>
    show cc0_transform_11 (grid0.coords t) 0 * 1024 + 1 * k.val = k.val
    rw [at11]
    show 0 * 1024 + 1 * k.val = k.val
    omega
  | 1 =>
    show cc0_transform_11 (grid0.coords t) 1 * 2048 + 1 * j.val = j.val
    rw [at11]
    show 0 * 2048 + 1 * j.val = j.val
    omega

theorem read12 (c : Dev nD) (t : Fin cfg0.N) (k : Fin 1024) (j : Fin 2048) : (iblk m c 12 t : Vec Ideal S1024x2048 .bf16) (ix2 k j) = argW2 m c (ix3 0 k j) := by
  refine Eq.trans ?_ (V_w2 m c k j)
  unfold iblk
  rw [View.read_apply]
  show V m c main_v3 _ = _
  congr 1
  funext a
  apply Fin.ext
  match a with
  | 0 =>
    show cc0_transform_12 (grid0.coords t) 0 * 1024 + 1 * k.val = k.val
    rw [at12]
    show 0 * 1024 + 1 * k.val = k.val
    omega
  | 1 =>
    show cc0_transform_12 (grid0.coords t) 1 * 2048 + 1 * j.val = j.val
    rw [at12]
    show 0 * 2048 + 1 * j.val = j.val
    omega

theorem read13 (c : Dev nD) (t : Fin cfg0.N) (k : Fin 1024) (j : Fin 2048) : (iblk m c 13 t : Vec Ideal S1024x2048 .bf16) (ix2 k j) = argW3 m c (ix3 0 k j) := by
  refine Eq.trans ?_ (V_w3 m c k j)
  unfold iblk
  rw [View.read_apply]
  show V m c main_v5 _ = _
  congr 1
  funext a
  apply Fin.ext
  match a with
  | 0 =>
    show cc0_transform_13 (grid0.coords t) 0 * 1024 + 1 * k.val = k.val
    rw [at13]
    show 0 * 1024 + 1 * k.val = k.val
    omega
  | 1 =>
    show cc0_transform_13 (grid0.coords t) 1 * 2048 + 1 * j.val = j.val
    rw [at13]
    show 0 * 2048 + 1 * j.val = j.val
    omega

theorem read14 (c : Dev nD) (t : Fin cfg0.N) (k : Fin 2048) (j : Fin 2048) : (iblk m c 14 t : Vec Ideal S2048x2048 .bf16) (ix2 k j) = argWo m c (ix3 0 k j) := by
  refine Eq.trans ?_ (V_wo m c k j)
  unfold iblk
  rw [View.read_apply]
  show V m c main_v9 _ = _
  congr 1
  funext a
  apply Fin.ext
  match a with
  | 0 =>
    show cc0_transform_14 (grid0.coords t) 0 * 2048 + 1 * k.val = k.val
    rw [at14]
    show 0 * 2048 + 1 * k.val = k.val
    omega
  | 1 =>
    show cc0_transform_14 (grid0.coords t) 1 * 2048 + 1 * j.val = j.val
    rw [at14]
    show 0 * 2048 + 1 * j.val = j.val
    omega

theorem read15 (c : Dev nD) (t : Fin cfg0.N) (j : Fin 2048) : (iblk m c 15 t : Vec Ideal S1x2048 .f32) (ix2 0 j) = argF m c (ix1 j) := by
  refine Eq.trans ?_ (V_f m c j)
  unfold iblk
  rw [View.read_apply]
  show V m c main_v10 _ = _
  congr 1
  funext a
  apply Fin.ext
  match a with
  | 0 =>
    show cc0_transform_15 (grid0.coords t) 0 * 1 + 1 * 0 = 0
    rw [at15]
    show 0 * 1 + 1 * 0 = 0
    omega
  | 1 =>
    show cc0_transform_15 (grid0.coords t) 1 * 2048 + 1 * j.val = j.val
    rw [at15]
    show 0 * 2048 + 1 * j.val = j.val
    omega

/-- What a grid point writes back. -/
theorem flushed_eq (c : Dev nD) (t : Fin cfg0.N) :
    (dats m 0 c).flushed 16 t = ((cfg0.win 16).blk t).view.read (Elt Ideal) (result m c) := by
  rw [Value.flushed16]
  funext i
  rw [View.read_apply]
  obtain ⟨r, l, rfl⟩ : ∃ (r : Fin 256) (l : Fin 2048), i = ix2 r l := ⟨i 0, i 1, eq_ix2 _⟩
  have e : (((cfg0.win 16).blk t).view.emb (ix2 r l) : S1024x2048.Idx) = ix2 (at_row t r) l := by
    funext a
    apply Fin.ext
    match a with
    | 0 =>
      show cc0_transform_16 (grid0.coords t) 0 * 256 + 1 * r.val = 256 * (grid0.coords t 0).val + r.val
      rw [at16]
      show (grid0.coords t 0).val * 256 + 1 * r.val = 256 * (grid0.coords t 0).val + r.val
      omega
    | 1 =>
      show cc0_transform_16 (grid0.coords t) 1 * 2048 + 1 * l.val = l.val
      rw [at16]
      show 0 * 2048 + 1 * l.val = l.val
      omega
  refine Eq.trans (show _ = _ from out_apply (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t) r l) ?_
  simp only [read0 m c t r, read1 m c t r, read2 m c t r, read3 m c t r, read4 m c t r, read5 m c t r, read6 m c t r, read7 m c t r, read8 m c t r, read9 m c t r,
    read10 m c t, read11 m c t, read12 m c t, read13 m c t, read14 m c t, read15 m c t]
  show _ = result m c (((cfg0.win 16).blk t).view.emb (ix2 r l))
  rw [e]
  rfl

/-- The result array after the run. -/
theorem final (c : Dev nD) : (dats m 0 c).arrAt 16 cfg0.N = result m c :=
  (dats m 0 c).arrAt_eq_of_cover 16 (result m c) (fun t _ => flushed_eq m c t) fun i => by
    have i0 : (i 0 : Nat) < 1024 := (i 0).isLt
    have i1 : (i 1 : Nat) < 2048 := (i 1).isLt
    obtain ⟨t, hc⟩ : ∃ t : Fin cfg0.N, (grid0.coords t 0).val = (i 0 : Nat) / 256 := ⟨_, coords_at ⟨(i 0 : Nat) / 256, by omega⟩⟩
    refine ⟨t, flush0_16 t, ?_⟩
    show i ∈ ((View.whole main_v11).slice (win0_16.rect t)).set
    rw [View.set_slice_whole, Rect.mem_set_unit]
    intro a
    match a with
    | ⟨0, _⟩ =>
      show cc0_transform_16 (grid0.coords t) 0 * 256 ≤ (i 0 : Nat) ∧ (i 0 : Nat) < cc0_transform_16 (grid0.coords t) 0 * 256 + 256
      rw [at16]
      show (grid0.coords t 0).val * 256 ≤ (i 0 : Nat) ∧ (i 0 : Nat) < (grid0.coords t 0).val * 256 + 256
      rw [hc]
      omega
    | ⟨1, _⟩ =>
      show cc0_transform_16 (grid0.coords t) 1 * 2048 ≤ (i 1 : Nat) ∧ (i 1 : Nat) < cc0_transform_16 (grid0.coords t) 1 * 2048 + 2048
      rw [at16]
      show 0 * 2048 ≤ (i 1 : Nat) ∧ (i 1 : Nat) < 0 * 2048 + 2048
      omega

end Cert.Kernel7Ideal.Merged
-- ==== Proof.MergeRef7.lean ====
module

public import proofs.«01_k».proof.Proof.Gen.Reference7Ideal.Read
public import proofs.«01_k».proof.Proof.MergeMath

/-! The reference's merge of the sample group. -/

@[expose] public section

open Idealize.ShloMosaic

namespace Cert.Reference7Ideal.Merged

open Cert.Reference7Ideal Cert.Reference7Ideal.Read

/-- Branch 1's gated row. -/
theorem gated1 (x1 : S1024x1024.Idx → EReal) (x4 : S1024x12288.Idx → EReal) (t : Fin 1024) (k : Fin 1024) :
    val_main_v9 (F := Ideal) x1 x4 (ix2 t k) = x1 (ix2 t k) * (x4 (ix2 t ⟨k.val, by omega⟩) * Merge.sigm (x4 (ix2 t ⟨k.val, by omega⟩))) := by
  rw [val_main_v9_apply, val_main_v8_apply, val_main_call0_v5_apply, val_main_call0_v4_apply, val_main_call0_v3_apply, val_main_call0_v2_apply,
    val_main_call0_v1_apply, val_main_call0_v0_apply, val_main_v2_apply, val_main_v1_apply, val_main_call0_cst_apply, val_main_call0_cst_0_apply]
  have e : idx_main_v2 (ix2 t k) = ix2 t ⟨k.val, by omega⟩ := funext fun d => Fin.ext (by
    match d with
    | ⟨0, _⟩ => rfl
    | ⟨1, _⟩ => rfl)
  rw [e]
  rfl

/-- Branch 1. -/
theorem branch1 (x1 : S1024x1024.Idx → EReal) (x4 : S1024x12288.Idx → EReal) (x5 : S1x3x2048.Idx → EReal) (x6 : S1x1024x2048.Idx → EReal) (t : Fin 1024) (j : Fin 2048) :
    val_main_v32 (F := Ideal) x1 x4 x5 x6 (ix2 t j)
      = Merge.branch (fun k => x1 (ix2 t k)) (fun k => x4 (ix2 t ⟨k.val, by omega⟩)) (fun k => x6 (ix3 0 k j))
          (x4 (ix2 t ⟨6144 + j.val, by omega⟩) + x5 (ix3 0 0 j)) := by
  have es : idx_main_v5 (ix2 t j) = ix2 t ⟨6144 + j.val, by omega⟩ := funext fun d => Fin.ext (by
    match d with
    | ⟨0, _⟩ => rfl
    | ⟨1, _⟩ => rfl)
  have eb : idx_main_v20 (idx_main_v21 (idx_main_v22 (idx_main_v23 (idx_main_v24 (ix2 t j))))) = ix3 0 0 j := funext fun d => Fin.ext (by
    have hj := j.isLt
    match d with
    | ⟨0, _⟩ => rfl
    | ⟨1, _⟩ =>
      show ((0) * 2048 + j.val % 2048) / 2048 % 3 = 0
      omega
    | ⟨2, _⟩ =>
      show ((0) * 2048 + j.val % 2048) % 2048 = j.val
      omega)
  have ed : val_main_v11 (F := Ideal) x1 x4 x6 (ix2 t j)
      = ∑ k : Fin 1024, x1 (ix2 t k) * (x4 (ix2 t ⟨k.val, by omega⟩) * Merge.sigm (x4 (ix2 t ⟨k.val, by omega⟩))) * x6 (ix3 0 k j) := by
    rw [val_main_v11_apply]
    refine Finset.sum_congr rfl fun k _ => ?_
    have e1 : lidx_main_v11 (ix2 t j) k = ix2 t k := funext fun d => Fin.ext (by
      match d with
      | ⟨0, _⟩ => rfl
      | ⟨1, _⟩ => rfl)
    have e2 : idx_main_v10 (ridx_main_v11 (ix2 t j) k) = ix3 0 k j := funext fun d => Fin.ext (by
      match d with
      | ⟨0, _⟩ => rfl
      | ⟨1, _⟩ =>
        show (k.val * 2048 + j.val) / 2048 % 1024 = k.val
        omega
      | ⟨2, _⟩ =>
        show (k.val * 2048 + j.val) % 2048 = j.val
        omega)
    rw [val_main_v10_apply, e1, e2, gated1]
  rw [val_main_v32_apply, val_main_v31_apply, val_main_v30_apply, val_main_v29_apply, val_main_v28_apply, val_main_v27_apply, val_main_v26_apply, val_main_v25_apply, val_main_v5_apply, val_main_v1_apply,
    val_main_v24_apply, val_main_v23_apply, val_main_v22_apply, val_main_v21_apply, val_main_v20_apply, val_main_cst_apply, val_main_cst_0_apply, es, eb, ed]
  rfl

/-- Branch 2's gated row. -/
theorem gated2 (x2 : S1024x1024.Idx → EReal) (x4 : S1024x12288.Idx → EReal) (t : Fin 1024) (k : Fin 1024) :
    val_main_v13 (F := Ideal) x2 x4 (ix2 t k) = x2 (ix2 t k) * (x4 (ix2 t ⟨3072 + k.val, by omega⟩) * Merge.sigm (x4 (ix2 t ⟨3072 + k.val, by omega⟩))) := by
  rw [val_main_v13_apply, val_main_v12_apply, val_main_call1_v5_apply, val_main_call1_v4_apply, val_main_call1_v3_apply, val_main_call1_v2_apply,
    val_main_call1_v1_apply, val_main_call1_v0_apply, val_main_v3_apply, val_main_v1_apply, val_main_call1_cst_apply, val_main_call1_cst_0_apply]
  have e : idx_main_v3 (ix2 t k) = ix2 t ⟨3072 + k.val, by omega⟩ := funext fun d => Fin.ext (by
    match d with
    | ⟨0, _⟩ => rfl
    | ⟨1, _⟩ => rfl)
  rw [e]
  rfl

/-- Branch 2. -/
theorem branch2 (x2 : S1024x1024.Idx → EReal) (x4 : S1024x12288.Idx → EReal) (x5 : S1x3x2048.Idx → EReal) (x7 : S1x1024x2048.Idx → EReal) (t : Fin 1024) (j : Fin 2048) :
    val_main_v44 (F := Ideal) x2 x4 x5 x7 (ix2 t j)
      = Merge.branch (fun k => x2 (ix2 t k)) (fun k => x4 (ix2 t ⟨3072 + k.val, by omega⟩)) (fun k => x7 (ix3 0 k j))
          (x4 (ix2 t ⟨8192 + j.val, by omega⟩) + x5 (ix3 0 1 j)) := by
  have es : idx_main_v6 (ix2 t j) = ix2 t ⟨8192 + j.val, by omega⟩ := funext fun d => Fin.ext (by
    match d with
    | ⟨0, _⟩ => rfl
    | ⟨1, _⟩ => rfl)
  have eb : idx_main_v20 (idx_main_v33 (idx_main_v34 (idx_main_v35 (idx_main_v36 (ix2 t j))))) = ix3 0 1 j := funext fun d => Fin.ext (by
    have hj := j.isLt
    match d with
    | ⟨0, _⟩ => rfl
    | ⟨1, _⟩ =>
      show ((1 + 0) * 2048 + j.val % 2048) / 2048 % 3 = 1
      omega
    | ⟨2, _⟩ =>
      show ((1 + 0) * 2048 + j.val % 2048) % 2048 = j.val
      omega)
  have ed : val_main_v15 (F := Ideal) x2 x4 x7 (ix2 t j)
      = ∑ k : Fin 1024, x2 (ix2 t k) * (x4 (ix2 t ⟨3072 + k.val, by omega⟩) * Merge.sigm (x4 (ix2 t ⟨3072 + k.val, by omega⟩))) * x7 (ix3 0 k j) := by
    rw [val_main_v15_apply]
    refine Finset.sum_congr rfl fun k _ => ?_
    have e1 : lidx_main_v15 (ix2 t j) k = ix2 t k := funext fun d => Fin.ext (by
      match d with
      | ⟨0, _⟩ => rfl
      | ⟨1, _⟩ => rfl)
    have e2 : idx_main_v14 (ridx_main_v15 (ix2 t j) k) = ix3 0 k j := funext fun d => Fin.ext (by
      match d with
      | ⟨0, _⟩ => rfl
      | ⟨1, _⟩ =>
        show (k.val * 2048 + j.val) / 2048 % 1024 = k.val
        omega
      | ⟨2, _⟩ =>
        show (k.val * 2048 + j.val) % 2048 = j.val
        omega)
    rw [val_main_v14_apply, e1, e2, gated2]
  rw [val_main_v44_apply, val_main_v43_apply, val_main_v42_apply, val_main_v41_apply, val_main_v40_apply, val_main_v39_apply, val_main_v38_apply, val_main_v37_apply, val_main_v6_apply, val_main_v1_apply,
    val_main_v36_apply, val_main_v35_apply, val_main_v34_apply, val_main_v33_apply, val_main_v20_apply, val_main_cst_1_apply, val_main_cst_2_apply, es, eb, ed]
  rfl

/-- Branch 3's gated row. -/
theorem gated3 (x3 : S1024x1024.Idx → EReal) (x4 : S1024x12288.Idx → EReal) (t : Fin 1024) (k : Fin 1024) :
    val_main_v17 (F := Ideal) x3 x4 (ix2 t k) = x3 (ix2 t k) * (x4 (ix2 t ⟨5120 + k.val, by omega⟩) * Merge.sigm (x4 (ix2 t ⟨5120 + k.val, by omega⟩))) := by
  rw [val_main_v17_apply, val_main_v16_apply, val_main_call2_v5_apply, val_main_call2_v4_apply, val_main_call2_v3_apply, val_main_call2_v2_apply,
    val_main_call2_v1_apply, val_main_call2_v0_apply, val_main_v4_apply, val_main_v1_apply, val_main_call2_cst_apply, val_main_call2_cst_0_apply]
  have e : idx_main_v4 (ix2 t k) = ix2 t ⟨5120 + k.val, by omega⟩ := funext fun d => Fin.ext (by
    match d with
    | ⟨0, _⟩ => rfl
    | ⟨1, _⟩ => rfl)
  rw [e]
  rfl

/-- Branch 3. -/
theorem branch3 (x3 : S1024x1024.Idx → EReal) (x4 : S1024x12288.Idx → EReal) (x5 : S1x3x2048.Idx → EReal) (x8 : S1x1024x2048.Idx → EReal) (t : Fin 1024) (j : Fin 2048) :
    val_main_v57 (F := Ideal) x3 x4 x5 x8 (ix2 t j)
      = Merge.branch (fun k => x3 (ix2 t k)) (fun k => x4 (ix2 t ⟨5120 + k.val, by omega⟩)) (fun k => x8 (ix3 0 k j))
          (x4 (ix2 t ⟨10240 + j.val, by omega⟩) + x5 (ix3 0 2 j)) := by
  have es : idx_main_v7 (ix2 t j) = ix2 t ⟨10240 + j.val, by omega⟩ := funext fun d => Fin.ext (by
    match d with
    | ⟨0, _⟩ => rfl
    | ⟨1, _⟩ => rfl)
  have eb : idx_main_v20 (idx_main_v46 (idx_main_v47 (idx_main_v48 (idx_main_v49 (ix2 t j))))) = ix3 0 2 j := funext fun d => Fin.ext (by
    have hj := j.isLt
    match d with
    | ⟨0, _⟩ => rfl
    | ⟨1, _⟩ =>
      show ((2 + 0) * 2048 + j.val % 2048) / 2048 % 3 = 2
      omega
    | ⟨2, _⟩ =>
      show ((2 + 0) * 2048 + j.val % 2048) % 2048 = j.val
      omega)
  have ed : val_main_v19 (F := Ideal) x3 x4 x8 (ix2 t j)
      = ∑ k : Fin 1024, x3 (ix2 t k) * (x4 (ix2 t ⟨5120 + k.val, by omega⟩) * Merge.sigm (x4 (ix2 t ⟨5120 + k.val, by omega⟩))) * x8 (ix3 0 k j) := by
    rw [val_main_v19_apply]
    refine Finset.sum_congr rfl fun k _ => ?_
    have e1 : lidx_main_v19 (ix2 t j) k = ix2 t k := funext fun d => Fin.ext (by
      match d with
      | ⟨0, _⟩ => rfl
      | ⟨1, _⟩ => rfl)
    have e2 : idx_main_v18 (ridx_main_v19 (ix2 t j) k) = ix3 0 k j := funext fun d => Fin.ext (by
      match d with
      | ⟨0, _⟩ => rfl
      | ⟨1, _⟩ =>
        show (k.val * 2048 + j.val) / 2048 % 1024 = k.val
        omega
      | ⟨2, _⟩ =>
        show (k.val * 2048 + j.val) % 2048 = j.val
        omega)
    rw [val_main_v18_apply, e1, e2, gated3]
  rw [val_main_v57_apply, val_main_v56_apply, val_main_v55_apply, val_main_v54_apply, val_main_v53_apply, val_main_v52_apply, val_main_v51_apply, val_main_v50_apply, val_main_v7_apply, val_main_v1_apply,
    val_main_v49_apply, val_main_v48_apply, val_main_v47_apply, val_main_v46_apply, val_main_v20_apply, val_main_cst_3_apply, val_main_cst_4_apply, es, eb, ed]
  rfl

/-- The row with the projected branches added. -/
theorem added_apply (x0 : S128x8x2048.Idx → EReal) (x1 x2 x3 : S1024x1024.Idx → EReal) (x4 : S1024x12288.Idx → EReal) (x5 : S1x3x2048.Idx → EReal) (x6 x7 x8 : S1x1024x2048.Idx → EReal) (x9 : S1x2048x2048.Idx → EReal) (t : Fin 1024) (j : Fin 2048) :
    val_main_v62 (F := Ideal) x0 x1 x2 x3 x4 x5 x6 x7 x8 x9 (ix2 t j) = Merge.added (fun k => x0 (ix3 ⟨(t).val / 8, by omega⟩ ⟨(t).val % 8, by omega⟩ k)) (Merge.three (fun k => x1 (ix2 t k)) (fun k => x2 (ix2 t k)) (fun k => x3 (ix2 t k))
          (fun k => x4 (ix2 t ⟨k.val, by omega⟩)) (fun k => x4 (ix2 t ⟨3072 + k.val, by omega⟩)) (fun k => x4 (ix2 t ⟨5120 + k.val, by omega⟩))
          (fun j => x4 (ix2 t ⟨6144 + j.val, by omega⟩) + x5 (ix3 0 0 j)) (fun j => x4 (ix2 t ⟨8192 + j.val, by omega⟩) + x5 (ix3 0 1 j))
          (fun j => x4 (ix2 t ⟨10240 + j.val, by omega⟩) + x5 (ix3 0 2 j))
          (fun k j => x6 (ix3 0 k j)) (fun k j => x7 (ix3 0 k j)) (fun k j => x8 (ix3 0 k j))) (fun k j => x9 (ix3 0 k j)) j := by
  have e0 : idx_main_v0 (idx_main_v59 (ix2 t j)) = ix3 ⟨t.val / 8, by omega⟩ ⟨t.val % 8, by omega⟩ j := funext fun d => Fin.ext (by
    have ht := t.isLt
    have hj := j.isLt
    match d with
    | ⟨0, _⟩ =>
      show ((0 * 1024 + (t.val * 2048 + j.val) / 2048 % 1024) * 2048 + (t.val * 2048 + j.val) % 2048) / 16384 = t.val / 8
      omega
    | ⟨1, _⟩ =>
      show ((0 * 1024 + (t.val * 2048 + j.val) / 2048 % 1024) * 2048 + (t.val * 2048 + j.val) % 2048) / 2048 % 8 = t.val % 8
      omega
    | ⟨2, _⟩ =>
      show ((0 * 1024 + (t.val * 2048 + j.val) / 2048 % 1024) * 2048 + (t.val * 2048 + j.val) % 2048) % 2048 = j.val
      omega)
  have e2 : ∀ k, idx_main_v60 (ridx_main_v61 (ix2 t j) k) = ix3 0 k j := fun k => funext fun d => Fin.ext (by
    match d with
    | ⟨0, _⟩ => rfl
    | ⟨1, _⟩ =>
      show (k.val * 2048 + j.val) / 2048 % 2048 = k.val
      omega
    | ⟨2, _⟩ =>
      show (k.val * 2048 + j.val) % 2048 = j.val
      omega)
  have e1 : ∀ k, lidx_main_v61 (ix2 t j) k = ix2 t k := fun k => funext fun d => Fin.ext (by
    match d with
    | ⟨0, _⟩ => rfl
    | ⟨1, _⟩ => rfl)
  rw [val_main_v62_apply, val_main_v59_apply, val_main_v0_apply, e0, val_main_v61_apply]
  refine congrArg (x0 (ix3 ⟨(t).val / 8, by omega⟩ ⟨(t).val % 8, by omega⟩ j) + ·) (Finset.sum_congr rfl fun k _ => ?_)
  rw [val_main_v60_apply, e1, e2, val_main_v58_apply, val_main_v45_apply, branch1, branch2, branch3]
  rfl

/-- The result's entries. -/
theorem result_apply (x0 : S128x8x2048.Idx → EReal) (x1 x2 x3 : S1024x1024.Idx → EReal) (x4 : S1024x12288.Idx → EReal) (x5 : S1x3x2048.Idx → EReal) (x6 x7 x8 : S1x1024x2048.Idx → EReal) (x9 : S1x2048x2048.Idx → EReal) (x10 : S2048.Idx → EReal) (t : Fin 1024) (j : Fin 2048) :
    val_main_v75 (F := Ideal) x0 x1 x2 x3 x4 x5 x6 x7 x8 x9 x10 (ix2 t j) = Rms.norm (Merge.added (fun k => x0 (ix3 ⟨(t).val / 8, by omega⟩ ⟨(t).val % 8, by omega⟩ k)) (Merge.three (fun k => x1 (ix2 t k)) (fun k => x2 (ix2 t k)) (fun k => x3 (ix2 t k))
          (fun k => x4 (ix2 t ⟨k.val, by omega⟩)) (fun k => x4 (ix2 t ⟨3072 + k.val, by omega⟩)) (fun k => x4 (ix2 t ⟨5120 + k.val, by omega⟩))
          (fun j => x4 (ix2 t ⟨6144 + j.val, by omega⟩) + x5 (ix3 0 0 j)) (fun j => x4 (ix2 t ⟨8192 + j.val, by omega⟩) + x5 (ix3 0 1 j))
          (fun j => x4 (ix2 t ⟨10240 + j.val, by omega⟩) + x5 (ix3 0 2 j))
          (fun k j => x6 (ix3 0 k j)) (fun k j => x7 (ix3 0 k j)) (fun k j => x8 (ix3 0 k j))) (fun k j => x9 (ix3 0 k j))) (fun k => x10 (ix1 k)) j := by
  rw [val_main_v75_apply, val_main_v74_apply, val_main_v73_apply, val_main_v72_apply, val_main_v71_apply, val_main_v70_apply, val_main_v69_apply, val_main_v68_apply, val_main_v67_apply, val_main_v66_apply,
    val_main_v65_apply, val_main_v64_apply]
  simp only [val_main_v63_apply, val_main_cst_5_apply, val_main_cst_6_apply, val_main_cst_7_apply]
  have e1 : ∀ q, idx_main_v64 (idx_main_v65 (idx_main_v71 (ix2 t j))) q = ix2 t q := fun q => funext fun d => Fin.ext (by
    match d with
    | ⟨0, _⟩ => rfl
    | ⟨1, _⟩ => rfl)
  have e2 : idx_main_v73 (idx_main_v74 (ix2 t j)) = ix1 j := funext fun d => Fin.ext (by
    match d with
    | ⟨0, _⟩ => rfl)
  simp only [e1, e2, added_apply]
  show _ * Ideal.rsqrt (Ideal.div (Ideal.ofBits .f32 0x00000000#32 + _) _ + _) * _ = _
  rw [Ideal.ofBits_zero_f32, zero_add]
  rfl

end Cert.Reference7Ideal.Merged
-- ==== Proof.Claim7.lean ====
module

public import proofs.«01_k».proof.Defs
public import proofs.«01_k».proof.Proof.Gen.Kernel7.Frame
public import proofs.«01_k».proof.Proof.Gen.Reference7Ideal.Run
public import proofs.«01_k».proof.Proof.Merge7
public import proofs.«01_k».proof.Proof.MergeRef7
public import Idealize.ShloMosaic.Lib.Claim

/-! The claims of the sample group's merge. -/

@[expose] public section

open Idealize.ShloMosaic Idealize.ShloMosaic.TcCoe Idealize.SL.Sem

namespace Cert.Proof.Merge7

theorem frame_kernel : Cert.quiescent_Kernel7 (hKernel7 := Cert.Kernel7.Gen.facts) := fun m ρ _ => Cert.Kernel7.Gen.frame m ρ

theorem frame_ideal : Cert.quiescent_Kernel7Ideal (hKernel7Ideal := Cert.Kernel7Ideal.Gen.facts) := fun m ρ _ => Cert.Kernel7Ideal.Gen.frame m ρ

theorem frame_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem preserves : Cert.preserves_Kernel7_Kernel7Ideal := trivial

/-- The kernel's array is the reference's, over the extended reals. -/
theorem algebraic : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => Cert.Kernel7Ideal.Merged.result m c, ?_, ?_⟩
  · exact (θ_run Cert.Kernel7Ideal.defs _ _).mono (fun _ h c => ⟨(h c).1.trans (Cert.Kernel7Ideal.Merged.final m c), (h c).2⟩)
      (Cert.Kernel7Ideal.Value.run_blocks (F := Ideal) m ρ)
  · refine (θ_run Cert.Reference7Ideal.defs _ _).mono (fun _ h c => ⟨(h c).1.trans ?_, (h c).2⟩)
      (Cert.Reference7Ideal.Value.run (F := Ideal) m' ρ')
    obtain ⟨h0, h1, h2, h3, h4, h5, h6, h7, h8, h9, h10⟩ := hagree c
    rw [Cert.Reference7Ideal.Read.val_main_v75_eq, h0, h1, h2, h3, h4, h5, h6, h7, h8, h9, h10]
    refine funext fun i => ?_
    obtain ⟨t, j, rfl⟩ : ∃ (t : Fin 1024) (j : Fin 2048), i = ix2 t j := ⟨i 0, i 1, eq_ix2 _⟩
    exact Cert.Reference7Ideal.Merged.result_apply _ _ _ _ _ _ _ _ _ _ _ t j

end Cert.Proof.Merge7
-- ==== Proof.MemMath.lean ====
module

public import Idealize.ShloMosaic.Lib.IdealHost
public import Idealize.ShloMosaic.Lib.ValueIdx
public import Idealize.ShloMosaic.Lib.MatmulPlain
public import Idealize.ShloMosaic.Lib.Pointwise
public import Idealize.ShloMosaic.PureOps.Ideal.Laws

/-! A softmax over the memory tokens: dividing the weighted sum of the values by the sum of the weights is weighting the values by the
divided weights. -/

@[expose] public section

open Idealize.ShloMosaic

namespace Mem

/-- The scale of the queries, `256 ** -0.5`. -/
noncomputable def scale : EReal := Ideal.ofBits .f32 0x3D800000#32

theorem scale_eq : scale = ((1 / 16 : ℝ) : EReal) := by
  unfold scale
  simp [Ideal.ofBits, Ideal.ieee, -EReal.coe_mul]
  norm_num

/-- The largest score of a row. -/
noncomputable def top (s : Fin 256 → EReal) : EReal := Finset.univ.fold max (Ideal.ofBits .f32 0xFF800000#32) s

/-- The weight of a memory token, before the division. -/
noncomputable def weight (s : Fin 256 → EReal) (n : Fin 256) : EReal := Ideal.exp (s n - top s)

/-- The scores of a query against the memory keys. -/
noncomputable def scores (q : Fin 256 → EReal) (k : Fin 256 → Fin 256 → EReal) (n : Fin 256) : EReal := ∑ d, q d * scale * k n d

/-- One element of a head's output. -/
noncomputable def attend (q : Fin 256 → EReal) (k : Fin 256 → Fin 256 → EReal) (v : Fin 256 → EReal) : EReal :=
  Ideal.div (∑ n, weight (scores q k) n * v n) (∑ n, weight (scores q k) n)

theorem bits_low : Ideal.ofBits .f32 0xFF800000#32 = ⊥ := by
  simp [Ideal.ofBits, Ideal.ieee]

/-- A real factor that is not negative goes into a sum. -/
theorem sum_mul_coe (f : Fin 256 → EReal) (r : ℝ) (h : 0 ≤ r) : (∑ n, f n) * (r : EReal) = ∑ n, f n * (r : EReal) := by
  have key : ∀ s : Finset (Fin 256), (∑ n ∈ s, f n) * (r : EReal) = ∑ n ∈ s, f n * (r : EReal) := fun s => by
    induction s using Finset.induction_on with
    | empty => simp
    | insert a s ha ih =>
      rw [Finset.sum_insert ha, Finset.sum_insert ha, EReal.right_distrib_of_nonneg_of_ne_top (EReal.coe_nonneg.mpr h) (EReal.coe_ne_top r), ih]
  exact key _

/-- Scaling the queries is scaling the scores. -/
theorem scores_eq (q : Fin 256 → EReal) (k : Fin 256 → Fin 256 → EReal) (n : Fin 256) : (∑ d, q d * k n d) * scale = scores q k n := by
  rw [scale_eq, sum_mul_coe _ _ (by norm_num)]
  unfold scores
  rw [scale_eq]
  exact Finset.sum_congr rfl fun d _ => mul_right_comm _ _ _

theorem scores_real (q : Fin 256 → EReal) (k : Fin 256 → Fin 256 → EReal) (hq : ∀ d, (((q d).toReal : ℝ) : EReal) = q d)
    (hk : ∀ n d, (((k n d).toReal : ℝ) : EReal) = k n d) (n : Fin 256) : ∃ r : ℝ, (r : EReal) = scores q k n := by
  unfold scores
  refine Finset.sum_induction _ (fun x : EReal => ∃ r : ℝ, (r : EReal) = x) ?_ ⟨0, rfl⟩ ?_
  · rintro _ _ ⟨a, rfl⟩ ⟨b, rfl⟩
    exact ⟨a + b, EReal.coe_add a b⟩
  · intro d _
    refine ⟨(q d).toReal * (1 / 16) * (k n d).toReal, ?_⟩
    rw [EReal.coe_mul, EReal.coe_mul, hq, hk, scale_eq]

/-- The largest of real scores is real. -/
theorem top_real (s : Fin 256 → EReal) (hs : ∀ n, ∃ r : ℝ, (r : EReal) = s n) : ∃ r : ℝ, (r : EReal) = top s := by
  unfold top
  rw [bits_low]
  refine ⟨_, EReal.coe_toReal (ne_of_lt ((Finset.fold_max_lt _).mpr ⟨bot_lt_top, fun n _ => ?_⟩)) (ne_of_gt ((Finset.lt_fold_max _).mpr (.inr ⟨0, Finset.mem_univ _, ?_⟩)))⟩
  · obtain ⟨r, hr⟩ := hs n
    exact hr ▸ EReal.coe_lt_top r
  · obtain ⟨r, hr⟩ := hs 0
    exact hr ▸ EReal.bot_lt_coe r

/-- The sum of the weights is a positive real. -/
theorem total_real (s : Fin 256 → EReal) (hs : ∀ n, ∃ r : ℝ, (r : EReal) = s n) : ∃ r : ℝ, 0 < r ∧ (r : EReal) = ∑ n, weight s n := by
  obtain ⟨t, ht⟩ := top_real s hs
  refine Finset.sum_induction_nonempty _ (fun x : EReal => ∃ r : ℝ, 0 < r ∧ (r : EReal) = x) ?_ Finset.univ_nonempty ?_
  · rintro _ _ ⟨a, ha, rfl⟩ ⟨b, hb, rfl⟩
    exact ⟨a + b, add_pos ha hb, EReal.coe_add a b⟩
  · intro n _
    obtain ⟨r, hr⟩ := hs n
    refine ⟨Real.exp (r - t), Real.exp_pos _, ?_⟩
    unfold weight
    rw [← hr, ← ht, ← EReal.coe_sub, Ideal.exp_coe]

/-- Dividing the weights is dividing the sum. -/
theorem attend_eq (q : Fin 256 → EReal) (k : Fin 256 → Fin 256 → EReal) (v : Fin 256 → EReal) (hq : ∀ d, (((q d).toReal : ℝ) : EReal) = q d)
    (hk : ∀ n d, (((k n d).toReal : ℝ) : EReal) = k n d) :
    ∑ n, v n * Ideal.div (weight (scores q k) n) (∑ n, weight (scores q k) n) = attend q k v := by
  unfold attend
  obtain ⟨r, hr, e⟩ := total_real (scores q k) (scores_real q k hq hk)
  rw [← e, Ideal.div_coe hr.ne', sum_mul_coe _ _ (by positivity)]
  refine Finset.sum_congr rfl fun n _ => ?_
  rw [Ideal.div_coe hr.ne', mul_comm (v n), mul_right_comm]

end Mem
-- ==== Proof.Mem8.lean ====
module

public import proofs.«01_k».proof.Proof.Gen.Kernel8Ideal.Value
public import proofs.«01_k».proof.Proof.MemMath

/-! One block of the memory attention: four heads, side by side. -/

@[expose] public section

set_option maxRecDepth 65536

open Cert.Kernel8Ideal Cert.Kernel8Ideal.Gen Idealize.ShloMosaic Idealize.ShloMosaic.TcCoe Idealize.SL.Sem

namespace Mem8

/-- The scores of the head whose columns begin at `off`. -/
noncomputable def scored (off : ℕ) (hq : S512x1024.Slices ![0, off] S512x256) (hk : S256x1024.Slices ![0, off] S256x256)
    (z : Vec Ideal S512x1024 .bf16) (mk : Vec Ideal S256x1024 .bf16) : FVec Ideal S512x256 .f32 :=
  matmul dot_S512x256_S256x256_S512x256_1_1_0_0_n_n none
    (truncf .bf16 (mulf (extractStridedSlice S512x256 ![0, off] (k0_pay2 z) hq) (broadcast S512x256 (Scalar.ofBits .f32 0x3D800000#32))) bitsLt_bf16_f32 : FVec Ideal S512x256 .bf16)
    (extractStridedSlice S256x256 ![0, off] mk hk : FVec Ideal S256x256 .bf16) (constant S512x256 .f32 0x00000000#32)

/-- A row's value in every column. -/
noncomputable def spread (x : FVec Ideal S512 .f32) : FVec Ideal S512x256 .f32 :=
  broadcastTo S512x256 (shapeCast S512x1 x shapeCasts_S512_S512x1) broadcasts_S512x1_S512x256

/-- The weights before the division. -/
noncomputable def weighed (s : FVec Ideal S512x256 .f32) : FVec Ideal S512x256 .f32 :=
  exp (subf s (spread (multiReduction .maximumf [1] S512 s 0xFF800000#32 reduces_S512x256_S512 (.inl rfl) rfl)))

/-- A head's output from its weights. -/
noncomputable def mixed (off : ℕ) (hk : S256x1024.Slices ![0, off] S256x256) (w : FVec Ideal S512x256 .f32) (mv : Vec Ideal S256x1024 .bf16) : FVec Ideal S512x256 .f32 :=
  divf (matmul dot_S512x256_S256x256_S512x256_1_0_0_1_n_n none (truncf .bf16 w bitsLt_bf16_f32 : FVec Ideal S512x256 .bf16)
    (extractStridedSlice S256x256 ![0, off] mv hk : FVec Ideal S256x256 .bf16) (constant S512x256 .f32 0x00000000#32))
    (spread (multiReduction .add [1] S512 w 0x00000000#32 reduces_S512x256_S512 (.inl rfl) rfl))

/-- The head whose columns begin at `off`. -/
noncomputable def head (off : ℕ) (hq : S512x1024.Slices ![0, off] S512x256) (hk : S256x1024.Slices ![0, off] S256x256)
    (z : Vec Ideal S512x1024 .bf16) (mk mv : Vec Ideal S256x1024 .bf16) : FVec Ideal S512x256 .f32 :=
  mixed off hk (weighed (scored off hq hk z mk)) mv

theorem spread_apply (x : FVec Ideal S512 .f32) (r : Fin 512) (k : Fin 256) : spread x (ix2 r k) = x (ix1 r) := by
  unfold spread
  refine (broadcastTo_apply _ broadcasts_S512x1_S512x256 _ (ix2 r (0 : Fin 1)) fun a => ?_).trans ?_
  · match a with
    | 0 => rfl
    | 1 => rfl
  · refine shapeCast_apply x shapeCasts_S512_S512x1 _ (ix1 r) ?_
    rw [Shape.rowMajor_val_two, Shape.rowMajor_val_one]
    show r.val = r.val * 1 + 0
    omega

/-- A block's slice of columns, at an index. -/
theorem slice_apply {M : ℕ} (off : ℕ) (y : (⟨2, ![M, 1024]⟩ : Shape).Idx → EReal) (h : (⟨2, ![M, 1024]⟩ : Shape).Slices ![0, off] ⟨2, ![M, 256]⟩) (r : Fin M) (d : Fin 256)
    (lt : off + d.val < 1024) : extractStridedSlice ⟨2, ![M, 256]⟩ ![0, off] y h (ix2 r d) = y (ix2 r ⟨off + d.val, lt⟩) := by
  refine extractStridedSlice_apply _ y h _ _ fun a => ?_
  match a with
  | 0 => show r.val = 0 + r.val; omega
  | 1 => rfl

theorem scored_apply (off : ℕ) (hq : S512x1024.Slices ![0, off] S512x256) (hk : S256x1024.Slices ![0, off] S256x256)
    (z : Vec Ideal S512x1024 .bf16) (mk : Vec Ideal S256x1024 .bf16) (ho : off ≤ 768) (r : Fin 512) (n : Fin 256) :
    scored off hq hk z mk (ix2 r n) = Mem.scores (fun d => z (ix2 r ⟨off + d.val, by omega⟩)) (fun n d => mk (ix2 n ⟨off + d.val, by omega⟩)) n := by
  unfold scored
  refine (Ideal.matmul_transposedRhs_apply none _ _ _ r n).trans ?_
  refine (congrArg₂ (· + ·) (show _ = (0 : EReal) from Ideal.ofBits_zero_f32) rfl).trans ((zero_add _).trans ?_)
  refine Finset.sum_congr rfl fun d _ => ?_
  exact congrArg₂ (· * ·) (congrArg (· * Mem.scale) (slice_apply off (k0_pay2 z) hq r d (by omega))) (slice_apply off mk hk n d (by omega))

theorem weighed_apply (s : FVec Ideal S512x256 .f32) (r : Fin 512) (n : Fin 256) : weighed s (ix2 r n) = Mem.weight (fun n => s (ix2 r n)) n := by
  have e : multiReduction .maximumf [1] S512 s 0xFF800000#32 reduces_S512x256_S512 (.inl rfl) rfl (ix1 r) = Mem.top (fun n => s (ix2 r n)) := by
    refine (Ideal.multiReduction_maximumf_single s _ reduces_S512x256_S512 (.inl rfl) rfl (ix1 r)).trans ?_
    refine congrArg (Finset.fold max _ · Finset.univ) (funext fun n => congrArg s (funext fun a => Fin.ext ?_))
    match a with
    | 0 => rfl
    | 1 => rfl
  show Ideal.exp (s (ix2 r n) - spread _ (ix2 r n)) = _
  rw [spread_apply, e]
  rfl

theorem mixed_apply (off : ℕ) (hk : S256x1024.Slices ![0, off] S256x256) (w : FVec Ideal S512x256 .f32) (mv : Vec Ideal S256x1024 .bf16) (ho : off ≤ 768) (r : Fin 512) (k : Fin 256) :
    mixed off hk w mv (ix2 r k) = Ideal.div (∑ n : Fin 256, w (ix2 r n) * mv (ix2 n ⟨off + k.val, by omega⟩)) (∑ n : Fin 256, w (ix2 r n)) := by
  unfold mixed
  refine congrArg₂ Ideal.div ?_ ?_
  · refine (Ideal.matmul_plain_apply none _ _ _ r k).trans ?_
    refine (congrArg₂ (· + ·) (show _ = (0 : EReal) from Ideal.ofBits_zero_f32) rfl).trans ((zero_add _).trans ?_)
    exact Finset.sum_congr rfl fun n _ => congrArg (w (ix2 r n) * ·) (slice_apply off mv hk n k (by omega))
  · refine (spread_apply _ r k).trans ?_
    exact Ideal.reduceAdd_r2_a1 reduces_S512x256_S512 w (ix1 r)

theorem head_apply (off : ℕ) (hq : S512x1024.Slices ![0, off] S512x256) (hk : S256x1024.Slices ![0, off] S256x256)
    (z : Vec Ideal S512x1024 .bf16) (mk mv : Vec Ideal S256x1024 .bf16) (ho : off ≤ 768) (r : Fin 512) (k : Fin 256) :
    head off hq hk z mk mv (ix2 r k)
      = Mem.attend (fun d => z (ix2 r ⟨off + d.val, by omega⟩)) (fun n d => mk (ix2 n ⟨off + d.val, by omega⟩)) (fun n => mv (ix2 n ⟨off + k.val, by omega⟩)) := by
  have e : ∀ n, weighed (scored off hq hk z mk) (ix2 r n)
      = Mem.weight (Mem.scores (fun d => z (ix2 r ⟨off + d.val, by omega⟩)) (fun n d => mk (ix2 n ⟨off + d.val, by omega⟩))) n := fun n =>
    (weighed_apply _ r n).trans (congrArg (Mem.weight · n) (funext fun n => scored_apply off hq hk z mk ho r n))
  unfold head
  refine (mixed_apply off hk _ mv ho r k).trans ?_
  unfold Mem.attend
  simp only [e]

theorem hz2 : (![0, 0] : Fin 2 → ℕ) = fun _ => 0 := by decide

/-- The body's result: the four heads. -/
theorem out_eq (z : Vec Ideal S512x1024 .bf16) (mk mv : Vec Ideal S256x1024 .bf16) :
    out0_3 (F := Ideal) z mk mv = concatenate S512x1024 1 [⟨S512x256, head 0 slices_S512x1024_o0_0_S512x256 slices_S256x1024_o0_0_S256x256 z mk mv⟩,
      ⟨S512x256, head 256 slices_S512x1024_o0_256_S512x256 slices_S256x1024_o0_256_S256x256 z mk mv⟩,
      ⟨S512x256, head 512 slices_S512x1024_o0_512_S512x256 slices_S256x1024_o0_512_S256x256 z mk mv⟩,
      ⟨S512x256, head 768 slices_S512x1024_o0_768_S512x256 slices_S256x1024_o0_768_S256x256 z mk mv⟩] concatenates_S512x256_S512x256_S512x256_S512x256_S512x1024_d1 := by
  unfold out0_3
  rw [View.canon_unit_zero hz2, View.ld_unit_zero hz2, View.ld_unit_zero hz2, View.ld_unit_zero hz2]
  rfl

/-- One element of the body's result: head `p`, column `k`. -/
theorem out_apply (z : Vec Ideal S512x1024 .bf16) (mk mv : Vec Ideal S256x1024 .bf16) (r : Fin 512) (p : Fin 4) (k : Fin 256) :
    out0_3 (F := Ideal) z mk mv (ix2 r ⟨256 * p.val + k.val, by omega⟩)
      = Mem.attend (fun d => z (ix2 r ⟨256 * p.val + d.val, by omega⟩)) (fun n d => mk (ix2 n ⟨256 * p.val + d.val, by omega⟩))
        (fun n => mv (ix2 n ⟨256 * p.val + k.val, by omega⟩)) := by
  rw [out_eq]
  refine (concatenate_ofFn_apply (t := S512x1024) (s₁ := S512x256) 1
    ![head 0 slices_S512x1024_o0_0_S512x256 slices_S256x1024_o0_0_S256x256 z mk mv, head 256 slices_S512x1024_o0_256_S512x256 slices_S256x1024_o0_256_S256x256 z mk mv,
      head 512 slices_S512x1024_o0_512_S512x256 slices_S256x1024_o0_512_S256x256 z mk mv, head 768 slices_S512x1024_o0_768_S512x256 slices_S256x1024_o0_768_S256x256 z mk mv]
    concatenates_S512x256_S512x256_S512x256_S512x256_S512x1024_d1 rfl 256 rfl (ix2 r ⟨256 * p.val + k.val, by omega⟩) p
    (by show (256 * p.val + k.val) / 256 = p.val; omega) (ix2 r k) (by show k.val = (256 * p.val + k.val) % 256; omega) (fun b hb => ?_)).trans ?_
  · match b with
    | 0 => rfl
    | 1 => exact absurd rfl hb
  · match p with
    | 0 => exact head_apply 0 _ _ z mk mv (by decide) r k
    | 1 => exact head_apply 256 _ _ z mk mv (by decide) r k
    | 2 => exact head_apply 512 _ _ z mk mv (by decide) r k
    | 3 => exact head_apply 768 _ _ z mk mv (by decide) r k

end Mem8
-- ==== Proof.MemArray8.lean ====
module

public import proofs.«01_k».proof.Proof.Mem8

/-! The array that holds the memory attention after the run. -/

@[expose] public section

set_option maxRecDepth 65536

open Cert.Kernel8Ideal Cert.Kernel8Ideal.Gen Idealize.ShloMosaic Idealize.ShloMosaic.TcCoe Idealize.SL.Sem

namespace Mem8

theorem at0 : ∀ i : grid0.Coords, cc0_transform_0 i = ![(i 0).val, 4] := by decide +kernel
theorem at1 : ∀ i : grid0.Coords, cc0_transform_1 i = ![0, 0] := by decide +kernel
theorem at2 : ∀ i : grid0.Coords, cc0_transform_2 i = ![0, 0] := by decide +kernel
theorem at3 : ∀ i : grid0.Coords, cc0_transform_3 i = ![(i 0).val, 0] := by decide +kernel

variable (m : (ℓ : Loc nD τ sig) → Buf (Elt Ideal) ℓ)

theorem coords_lt (t : Fin cfg0.N) : (grid0.coords t 0).val < 16 := (grid0.coords t 0).isLt

theorem coords_at : ∀ (a : Fin 16), (grid0.coords ⟨a.val, by have : grid0.N = 16 := N_0; omega⟩ 0).val = a.val := by decide +kernel

/-- The arguments on core `c`. -/
abbrev argZ (c : Dev nD) : S8192x12288.Idx → EReal := m ((c : Thread nD τ).loc main_arg0)
abbrev argK (c : Dev nD) : S256x1024.Idx → EReal := m ((c : Thread nD τ).loc main_arg1)
abbrev argV (c : Dev nD) : S256x1024.Idx → EReal := m ((c : Thread nD τ).loc main_arg2)

/-- Row `t`, head `p`, column `k` of the memory attention. -/
noncomputable def element (z : S8192x12288.Idx → EReal) (mk mv : S256x1024.Idx → EReal) (t : Fin 8192) (p : Fin 4) (k : Fin 256) : EReal :=
  Mem.attend (fun d => z (ix2 t ⟨4096 + (256 * p.val + d.val), by omega⟩)) (fun n d => mk (ix2 n ⟨256 * p.val + d.val, by omega⟩))
    (fun n => mv (ix2 n ⟨256 * p.val + k.val, by omega⟩))

/-- The memory attention of the prompt. -/
noncomputable def result (z : S8192x12288.Idx → EReal) (mk mv : S256x1024.Idx → EReal) : S8192x1024.Idx → EReal := fun i =>
  have h : (i 1).val < 1024 := (i 1).isLt
  element z mk mv (i 0) ⟨(i 1).val / 256, by omega⟩ ⟨(i 1).val % 256, Nat.mod_lt _ (by decide)⟩

theorem result_at (z : S8192x12288.Idx → EReal) (mk mv : S256x1024.Idx → EReal) (t : Fin 8192) (p : Fin 4) (k : Fin 256) :
    result z mk mv (ix2 t ⟨256 * p.val + k.val, by omega⟩) = element z mk mv t p k := by
  show element z mk mv t ⟨(256 * p.val + k.val) / 256, _⟩ ⟨(256 * p.val + k.val) % 256, _⟩ = _
  congr 1
  · exact Fin.ext (by show (256 * p.val + k.val) / 256 = p.val; omega)
  · exact Fin.ext (by show (256 * p.val + k.val) % 256 = k.val; omega)

/-- The block of queries. -/
theorem read0 (c : Dev nD) (t : Fin cfg0.N) (r : Fin 512) (k : Fin 1024) :
    (iblk m c 0 t : Vec Ideal S512x1024 .bf16) (ix2 r k) = argZ m c (ix2 ⟨512 * (grid0.coords t 0).val + r.val, by have := coords_lt t; omega⟩ ⟨4096 + k.val, by omega⟩) := by
  unfold iblk
  rw [View.read_apply]
  refine Eq.trans (show _ = V m c main_arg0 _ from ?_) (congrFun (V_main_arg0 m c) _)
  show V m c main_arg0 _ = _
  congr 1
  funext a
  apply Fin.ext
  match a with
  | 0 =>
    show cc0_transform_0 (grid0.coords t) 0 * 512 + 1 * r.val = 512 * (grid0.coords t 0).val + r.val
    rw [at0]
    show (grid0.coords t 0).val * 512 + 1 * r.val = 512 * (grid0.coords t 0).val + r.val
    omega
  | 1 =>
    show cc0_transform_0 (grid0.coords t) 1 * 1024 + 1 * k.val = 4096 + k.val
    rw [at0]
    show 4 * 1024 + 1 * k.val = 4096 + k.val
    omega

/-- The memory keys. -/
theorem read1 (c : Dev nD) (t : Fin cfg0.N) (r : Fin 256) (k : Fin 1024) : (iblk m c 1 t : Vec Ideal S256x1024 .bf16) (ix2 r k) = argK m c (ix2 r k) := by
  unfold iblk
  rw [View.read_apply]
  refine Eq.trans (show _ = V m c main_arg1 _ from ?_) (congrFun (V_main_arg1 m c) _)
  show V m c main_arg1 _ = _
  congr 1
  funext a
  apply Fin.ext
  match a with
  | 0 =>
    show cc0_transform_1 (grid0.coords t) 0 * 256 + 1 * r.val = r.val
    rw [at1]
    show 0 * 256 + 1 * r.val = r.val
    omega
  | 1 =>
    show cc0_transform_1 (grid0.coords t) 1 * 1024 + 1 * k.val = k.val
    rw [at1]
    show 0 * 1024 + 1 * k.val = k.val
    omega

/-- The memory values. -/
theorem read2 (c : Dev nD) (t : Fin cfg0.N) (r : Fin 256) (k : Fin 1024) : (iblk m c 2 t : Vec Ideal S256x1024 .bf16) (ix2 r k) = argV m c (ix2 r k) := by
  unfold iblk
  rw [View.read_apply]
  refine Eq.trans (show _ = V m c main_arg2 _ from ?_) (congrFun (V_main_arg2 m c) _)
  show V m c main_arg2 _ = _
  congr 1
  funext a
  apply Fin.ext
  match a with
  | 0 =>
    show cc0_transform_2 (grid0.coords t) 0 * 256 + 1 * r.val = r.val
    rw [at2]
    show 0 * 256 + 1 * r.val = r.val
    omega
  | 1 =>
    show cc0_transform_2 (grid0.coords t) 1 * 1024 + 1 * k.val = k.val
    rw [at2]
    show 0 * 1024 + 1 * k.val = k.val
    omega

/-- What a grid point writes back. -/
theorem flushed3_eq (c : Dev nD) (t : Fin cfg0.N) :
    (dats m 0 c).flushed 3 t = ((cfg0.win 3).blk t).view.read (Elt Ideal) (result (argZ m c) (argK m c) (argV m c)) := by
  have h0 := coords_lt t
  rw [Value.flushed3]
  funext i
  rw [View.read_apply]
  obtain ⟨r, j, rfl⟩ : ∃ (r : Fin 512) (j : Fin 1024), i = ix2 r j := ⟨i 0, i 1, eq_ix2 _⟩
  obtain ⟨p, k, hj⟩ : ∃ (p : Fin 4) (k : Fin 256), j = ⟨256 * p.val + k.val, by omega⟩ :=
    ⟨⟨j.val / 256, by omega⟩, ⟨j.val % 256, Nat.mod_lt _ (by decide)⟩, Fin.ext (by show j.val = 256 * (j.val / 256) + j.val % 256; omega)⟩
  have e : (((cfg0.win 3).blk t).view.emb (ix2 r j) : S8192x1024.Idx) = ix2 ⟨512 * (grid0.coords t 0).val + r.val, by omega⟩ j := by
    funext a
    apply Fin.ext
    match a with
    | 0 =>
      show cc0_transform_3 (grid0.coords t) 0 * 512 + 1 * r.val = 512 * (grid0.coords t 0).val + r.val
      rw [at3]
      show (grid0.coords t 0).val * 512 + 1 * r.val = 512 * (grid0.coords t 0).val + r.val
      omega
    | 1 =>
      show cc0_transform_3 (grid0.coords t) 1 * 1024 + 1 * j.val = j.val
      rw [at3]
      show 0 * 1024 + 1 * j.val = j.val
      omega
  refine Eq.trans (show _ = out0_3 (F := Ideal) (iblk m c 0 t) (iblk m c 1 t) (iblk m c 2 t) (ix2 r j) from rfl) ?_
  refine Eq.trans ?_ (show result (argZ m c) (argK m c) (argV m c) (ix2 ⟨512 * (grid0.coords t 0).val + r.val, by omega⟩ j)
    = result (argZ m c) (argK m c) (argV m c) (((cfg0.win 3).blk t).view.emb (ix2 r j)) from congrArg _ e.symm)
  subst hj
  refine (out_apply (iblk m c 0 t) (iblk m c 1 t) (iblk m c 2 t) r p k).trans (Eq.trans ?_ (result_at _ _ _ _ p k).symm)
  unfold element
  congr 1
  · exact funext fun d => read0 m c t r ⟨256 * p.val + d.val, by omega⟩
  · exact funext fun n => funext fun d => read1 m c t n ⟨256 * p.val + d.val, by omega⟩
  · exact funext fun n => read2 m c t n ⟨256 * p.val + k.val, by omega⟩

theorem final3 (c : Dev nD) : (dats m 0 c).arrAt 3 cfg0.N = result (argZ m c) (argK m c) (argV m c) :=
  (dats m 0 c).arrAt_eq_of_cover 3 (result (argZ m c) (argK m c) (argV m c)) (fun t _ => flushed3_eq m c t) fun i => by
    have i0 : (i 0 : Nat) < 8192 := (i 0).isLt
    have i1 : (i 1 : Nat) < 1024 := (i 1).isLt
    obtain ⟨t, hc⟩ : ∃ t : Fin cfg0.N, (grid0.coords t 0).val = (i 0 : Nat) / 512 := ⟨_, coords_at ⟨(i 0 : Nat) / 512, by omega⟩⟩
    refine ⟨t, flush0_3 t, ?_⟩
    show i ∈ ((View.whole main_v0).slice (win0_3.rect t)).set
    rw [View.set_slice_whole, Rect.mem_set_unit]
    intro a
    match a with
    | ⟨0, _⟩ =>
      show cc0_transform_3 (grid0.coords t) 0 * 512 ≤ (i 0 : Nat) ∧ (i 0 : Nat) < cc0_transform_3 (grid0.coords t) 0 * 512 + 512
      rw [at3]
      show (grid0.coords t 0).val * 512 ≤ (i 0 : Nat) ∧ (i 0 : Nat) < (grid0.coords t 0).val * 512 + 512
      rw [hc]
      omega
    | ⟨1, _⟩ =>
      show cc0_transform_3 (grid0.coords t) 1 * 1024 ≤ (i 1 : Nat) ∧ (i 1 : Nat) < cc0_transform_3 (grid0.coords t) 1 * 1024 + 1024
      rw [at3]
      show 0 * 1024 ≤ (i 1 : Nat) ∧ (i 1 : Nat) < 0 * 1024 + 1024
      omega

end Mem8
-- ==== Proof.MemRef8.lean ====
module

public import proofs.«01_k».proof.Proof.Gen.Reference8Ideal.Read
public import proofs.«01_k».proof.Proof.MemArray8
public import Idealize.ShloMosaic.Lib.KernelVsHost

/-! The reference's memory attention. -/

@[expose] public section

open Idealize.ShloMosaic

namespace MemRef8

open Cert.Reference8Ideal Cert.Reference8Ideal.Read

/-- A head's columns of one query. -/
noncomputable abbrev query (z : S8192x12288.Idx → EReal) (t : Fin 8192) (p : Fin 4) : Fin 256 → EReal := fun d => z (ix2 t ⟨4096 + (256 * p.val + d.val), by omega⟩)

/-- A head's columns of the memory keys. -/
noncomputable abbrev keys (mk : S256x1024.Idx → EReal) (p : Fin 4) : Fin 256 → Fin 256 → EReal := fun n d => mk (ix2 n ⟨256 * p.val + d.val, by omega⟩)

theorem v2_at (z : S8192x12288.Idx → EReal) (b : Fin 1) (t : Fin 8192) (p : Fin 4) (d : Fin 256) : val_main_v2 (F := Ideal) z (ix4 b t p d) = query z t p d := by
  rw [val_main_v2_apply, val_main_v1_apply, val_main_v0_apply]
  refine congrArg z (funext fun a => Fin.ext ?_)
  have hb : b.val = 0 := by omega
  match a with
  | ⟨0, _⟩ => show (((b.val * 8192 + t.val) * 4 + p.val) * 256 + d.val) / 1024 = t.val; omega
  | ⟨1, _⟩ => show 4096 + (((b.val * 8192 + t.val) * 4 + p.val) * 256 + d.val) % 1024 = 4096 + (256 * p.val + d.val); omega

theorem v4_at (mk : S256x1024.Idx → EReal) (b : Fin 1) (n : Fin 256) (p : Fin 4) (d : Fin 256) : val_main_v4 (F := Ideal) mk (ix4 b n p d) = keys mk p n d := by
  rw [val_main_v4_apply, val_main_v3_apply]
  refine congrArg mk (funext fun a => Fin.ext ?_)
  have hb : b.val = 0 := by omega
  match a with
  | ⟨0, _⟩ => show (((b.val * 256 + n.val) * 4 + p.val) * 256 + d.val) / 1024 = n.val; omega
  | ⟨1, _⟩ => show (((b.val * 256 + n.val) * 4 + p.val) * 256 + d.val) % 1024 = 256 * p.val + d.val; omega

theorem v6_at (mv : S256x1024.Idx → EReal) (b : Fin 1) (n : Fin 256) (p : Fin 4) (d : Fin 256) : val_main_v6 (F := Ideal) mv (ix4 b n p d) = mv (ix2 n ⟨256 * p.val + d.val, by omega⟩) := by
  rw [val_main_v6_apply, val_main_v5_apply]
  refine congrArg mv (funext fun a => Fin.ext ?_)
  have hb : b.val = 0 := by omega
  match a with
  | ⟨0, _⟩ => show (((b.val * 256 + n.val) * 4 + p.val) * 256 + d.val) / 1024 = n.val; omega
  | ⟨1, _⟩ => show (((b.val * 256 + n.val) * 4 + p.val) * 256 + d.val) % 1024 = 256 * p.val + d.val; omega

/-- The scores. -/
theorem v9_at (z : S8192x12288.Idx → EReal) (mk : S256x1024.Idx → EReal) (b : Fin 1) (p : Fin 4) (t : Fin 8192) (n : Fin 256) :
    val_main_v9 (F := Ideal) z mk (ix4 b p t n) = Mem.scores (query z t p) (keys mk p) n := by
  rw [val_main_v9_apply, val_main_v7_apply, val_main_v8_apply, val_main_cst_apply]
  refine Eq.trans ?_ (Mem.scores_eq (query z t p) (keys mk p) n)
  refine congrArg (· * Mem.scale) (Finset.sum_congr rfl fun d _ => ?_)
  have el : lidx_main_v7 (ix4 b p t n) d = ix4 b t p d := funext fun a => by
    match a with
    | ⟨0, _⟩ => rfl
    | ⟨1, _⟩ => rfl
    | ⟨2, _⟩ => rfl
    | ⟨3, _⟩ => rfl
  have er : ridx_main_v7 (ix4 b p t n) d = ix4 b n p d := funext fun a => by
    match a with
    | ⟨0, _⟩ => rfl
    | ⟨1, _⟩ => rfl
    | ⟨2, _⟩ => rfl
    | ⟨3, _⟩ => rfl
  rw [el, er, v2_at, v4_at]

theorem reduces : S1x4x8192x256.Reduces [3] S1x4x8192 := by decide

/-- The row's largest score. -/
theorem v12_at (z : S8192x12288.Idx → EReal) (mk : S256x1024.Idx → EReal) (b : Fin 1) (p : Fin 4) (t : Fin 8192) :
    val_main_v12 (F := Ideal) z mk (ix3 b p t) = Mem.top (Mem.scores (query z t p) (keys mk p)) := by
  have e : val_main_v10 (F := Ideal) z mk (ix3 b p t) = Mem.top (Mem.scores (query z t p) (keys mk p)) := by
    unfold val_main_v10 val_main_cst_0
    refine (congrFun (hostReduce_maximumf_eq_multiReduction (F := Ideal) (φ := .f32) (val_main_v9 (F := Ideal) z mk) 0xFF800000#32 Gen.reducesTo_S1x4x8192x256_S1x4x8192_d3 Gen.h_S_
      reduces (.inl rfl) rfl) (ix3 b p t)).trans ?_
    refine (Ideal.multiReduction_maximumf_single (val_main_v9 (F := Ideal) z mk) _ reduces (.inl rfl) rfl (ix3 b p t)).trans ?_
    refine congrArg (Finset.fold max _ · Finset.univ) (funext fun n => ?_)
    refine Eq.trans (congrArg (val_main_v9 (F := Ideal) z mk) (funext fun a => Fin.ext ?_)) (v9_at z mk b p t n)
    match a with
    | ⟨0, _⟩ => rfl
    | ⟨1, _⟩ => rfl
    | ⟨2, _⟩ => rfl
    | ⟨3, _⟩ => rfl
  rw [val_main_v12_apply, val_main_v11_apply, val_main_cst_1_apply, e]
  show max (Ideal.ofBits .f32 0xFF800000#32) _ = _
  rw [Mem.bits_low]
  exact max_eq_right bot_le

/-- The weights before the division. -/
theorem v16_at (z : S8192x12288.Idx → EReal) (mk : S256x1024.Idx → EReal) (b : Fin 1) (p : Fin 4) (t : Fin 8192) (n : Fin 256) :
    val_main_v16 (F := Ideal) z mk (ix4 b p t n) = Mem.weight (Mem.scores (query z t p) (keys mk p)) n := by
  have e : idx_main_v13 (idx_main_v14 (ix4 b p t n)) = ix3 0 p t := funext fun a => by
    match a with
    | ⟨0, _⟩ => rfl
    | ⟨1, _⟩ => rfl
    | ⟨2, _⟩ => rfl
  rw [val_main_v16_apply, val_main_v15_apply, val_main_v14_apply, val_main_v13_apply, v9_at, e, v12_at]
  rfl

/-- The weights' sum. -/
theorem v17_at (z : S8192x12288.Idx → EReal) (mk : S256x1024.Idx → EReal) (b : Fin 1) (p : Fin 4) (t : Fin 8192) :
    val_main_v17 (F := Ideal) z mk (ix3 b p t) = ∑ n, Mem.weight (Mem.scores (query z t p) (keys mk p)) n := by
  rw [val_main_v17_apply, val_main_cst_2_apply]
  refine (congrArg₂ (· + ·) (show _ = (0 : EReal) from Ideal.ofBits_zero_f32) rfl).trans ((zero_add _).trans ?_)
  refine Finset.sum_congr rfl fun n _ => ?_
  refine Eq.trans (congrArg (val_main_v16 (F := Ideal) z mk) (funext fun a => ?_)) (v16_at z mk b p t n)
  match a with
  | ⟨0, _⟩ => rfl
  | ⟨1, _⟩ => rfl
  | ⟨2, _⟩ => rfl
  | ⟨3, _⟩ => rfl

/-- The weights. -/
theorem v20_at (z : S8192x12288.Idx → EReal) (mk : S256x1024.Idx → EReal) (b : Fin 1) (p : Fin 4) (t : Fin 8192) (n : Fin 256) :
    val_main_v20 (F := Ideal) z mk (ix4 b p t n)
      = Ideal.div (Mem.weight (Mem.scores (query z t p) (keys mk p)) n) (∑ n, Mem.weight (Mem.scores (query z t p) (keys mk p)) n) := by
  have e : idx_main_v18 (idx_main_v19 (ix4 b p t n)) = ix3 0 p t := funext fun a => by
    match a with
    | ⟨0, _⟩ => rfl
    | ⟨1, _⟩ => rfl
    | ⟨2, _⟩ => rfl
  rw [val_main_v20_apply, val_main_v19_apply, val_main_v18_apply, v16_at, e, v17_at]
  rfl

/-- The reference's memory attention is the kernel's, where the queries and the memory keys are finite. -/
theorem v23_eq (z : S8192x12288.Idx → EReal) (mk mv : S256x1024.Idx → EReal)
    (hz : ∀ (t : Fin 8192) (j : Fin 1024), (((z (ix2 t ⟨4096 + j.val, by omega⟩)).toReal : ℝ) : EReal) = z (ix2 t ⟨4096 + j.val, by omega⟩))
    (hk : ∀ i, (((mk i).toReal : ℝ) : EReal) = mk i) : val_main_v23 (F := Ideal) z mk mv = Mem8.result z mk mv := by
  funext i
  obtain ⟨t, j, rfl⟩ : ∃ (t : Fin 8192) (j : Fin 1024), i = ix2 t j := ⟨i 0, i 1, eq_ix2 _⟩
  obtain ⟨p, k, rfl⟩ : ∃ (p : Fin 4) (k : Fin 256), j = ⟨256 * p.val + k.val, by omega⟩ :=
    ⟨⟨j.val / 256, by omega⟩, ⟨j.val % 256, Nat.mod_lt _ (by decide)⟩, Fin.ext (by show j.val = 256 * (j.val / 256) + j.val % 256; omega)⟩
  have e : idx_main_v22 (idx_main_v23 (ix2 t ⟨256 * p.val + k.val, by omega⟩)) = ix4 0 p k t := funext fun a => Fin.ext (by
    match a with
    | ⟨0, _⟩ => rfl
    | ⟨1, _⟩ => show (t.val * 1024 + (256 * p.val + k.val)) / 256 % 4 = p.val; omega
    | ⟨2, _⟩ => show (t.val * 1024 + (256 * p.val + k.val)) % 256 = k.val; omega
    | ⟨3, _⟩ => show (t.val * 1024 + (256 * p.val + k.val)) / 1024 % 8192 = t.val; omega)
  rw [val_main_v23_apply, val_main_v22_apply, e, val_main_v21_apply]
  refine Eq.trans ?_ (Mem8.result_at z mk mv t p k).symm
  refine Eq.trans (Finset.sum_congr rfl fun n _ => ?_)
    (Mem.attend_eq (query z t p) (keys mk p) (fun n => mv (ix2 n ⟨256 * p.val + k.val, by omega⟩)) (fun d => hz t ⟨256 * p.val + d.val, by omega⟩) (fun n d => hk _))
  have el : lidx_main_v21 (ix4 0 p k t) n = ix4 0 n p k := funext fun a => by
    match a with
    | ⟨0, _⟩ => rfl
    | ⟨1, _⟩ => rfl
    | ⟨2, _⟩ => rfl
    | ⟨3, _⟩ => rfl
  have er : ridx_main_v21 (ix4 0 p k t) n = ix4 0 p t n := funext fun a => by
    match a with
    | ⟨0, _⟩ => rfl
    | ⟨1, _⟩ => rfl
    | ⟨2, _⟩ => rfl
    | ⟨3, _⟩ => rfl
  rw [el, er, v6_at, v20_at]

end MemRef8
-- ==== Proof.Claim8.lean ====
module

public import proofs.«01_k».proof.Defs
public import proofs.«01_k».proof.Proof.Gen.Kernel8.Frame
public import proofs.«01_k».proof.Proof.Gen.Reference8Ideal.Run
public import proofs.«01_k».proof.Proof.MemArray8
public import proofs.«01_k».proof.Proof.MemRef8
public import proofs.«01_k».proof.Proof.SbClaim
public import Idealize.ShloMosaic.Lib.Claim

/-! The claims of the memory attention. -/

@[expose] public section

open Idealize.ShloMosaic Idealize.ShloMosaic.TcCoe Idealize.SL.Sem

namespace Cert.Proof.Mem8

/-- The side conditions of the precondition. -/
theorem pre_facts : Cert.Pre_finite_scores.Facts where
  slices_S8192x12288_S8192x1024_0_4096 := by decide
  bitsLt_bf16_f32 := by decide
  bcast_S_S8192x1024 := by decide
  bcast_S_S256x1024 := by decide

attribute [local instance] pre_facts in
/-- The precondition makes the queries and the memory keys real. -/
theorem reals_of_pre (m : (ℓ : Loc Cert.Kernel8Ideal.nD Cert.Kernel8Ideal.τ Cert.Kernel8Ideal.sig) → Buf (Elt Ideal) ℓ)
    (h : Cert.Pre_Kernel8Ideal_finite_scores m) (c : Dev Cert.Kernel8Ideal.nD) :
    (∀ (t : Fin 8192) (j : Fin 1024), (((_root_.Mem8.argZ m c (ix2 t ⟨4096 + j.val, by omega⟩)).toReal : ℝ) : EReal) = _root_.Mem8.argZ m c (ix2 t ⟨4096 + j.val, by omega⟩))
      ∧ (∀ i, (((_root_.Mem8.argK m c i).toReal : ℝ) : EReal) = _root_.Mem8.argK m c i) := by
  obtain ⟨hz, hk⟩ := h c
  refine ⟨fun t j => ?_, fun i => Attn.real_of_abs_lt _ (congrFun hk i)⟩
  refine Eq.trans (congrArg (fun x : EReal => ((x.toReal : ℝ) : EReal)) ?_) ((Attn.real_of_abs_lt _ (congrFun hz (ix2 t j))).trans ?_)
  · refine (extractStridedSlice_apply ![0, 4096] (_root_.Mem8.argZ m c) pre_facts.slices_S8192x12288_S8192x1024_0_4096 (ix2 t j) _ fun a => ?_).symm
    match a with
    | 0 => show t.val = 0 + t.val; omega
    | 1 => rfl
  · refine extractStridedSlice_apply ![0, 4096] (_root_.Mem8.argZ m c) pre_facts.slices_S8192x12288_S8192x1024_0_4096 (ix2 t j) _ fun a => ?_
    match a with
    | 0 => show t.val = 0 + t.val; omega
    | 1 => rfl

theorem frame_kernel : Cert.quiescent_Kernel8 (hKernel8 := Cert.Kernel8.Gen.facts) := fun m ρ _ => Cert.Kernel8.Gen.frame m ρ

theorem frame_ideal : Cert.quiescent_Kernel8Ideal (hKernel8Ideal := Cert.Kernel8Ideal.Gen.facts) := fun m ρ _ => Cert.Kernel8Ideal.Gen.frame m ρ

theorem frame_ideal_pre : Cert.quiescent_Kernel8Ideal_pre_finite_scores (hKernel8Ideal := Cert.Kernel8Ideal.Gen.facts) (hPre_finite_scores := pre_facts) :=
  fun m ρ _ => Cert.Kernel8Ideal.Gen.frame m ρ

theorem frame_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_reference_pre : Cert.quiescent_Reference8Ideal_pre_finite_scores (hReference8Ideal := Cert.Reference8Ideal.Gen.facts) (hPre_finite_scores := pre_facts) :=
  fun m ρ _ => frame_reference m ρ trivial

theorem preserves : Cert.preserves_Kernel8_Kernel8Ideal := trivial

/-- The kernel's memory attention is the reference's, over the extended reals. -/
theorem algebraic : Cert.algebraic_Kernel8Ideal_Reference8Ideal_pre_finite_scores (hKernel8Ideal := Cert.Kernel8Ideal.Gen.facts)
    (hReference8Ideal := Cert.Reference8Ideal.Gen.facts) (hPre_finite_scores := pre_facts) := by
  intro m ρ m' ρ' hpre hagree
  refine ⟨fun c => _root_.Mem8.result (_root_.Mem8.argZ m c) (_root_.Mem8.argK m c) (_root_.Mem8.argV m c), ?_, ?_⟩
  · exact (θ_run Cert.Kernel8Ideal.defs _ _).mono (fun _ h c => ⟨(h c).1.trans (_root_.Mem8.final3 m c), (h c).2⟩)
      (Cert.Kernel8Ideal.Value.run_blocks (F := Ideal) m ρ)
  · refine (θ_run Cert.Reference8Ideal.defs _ _).mono (fun _ h c => ⟨(h c).1.trans ?_, (h c).2⟩)
      (Cert.Reference8Ideal.Value.run (F := Ideal) m' ρ')
    obtain ⟨hz, hk⟩ := reals_of_pre m hpre c
    rw [Cert.Reference8Ideal.Read.val_main_v23_eq, (hagree c).1, (hagree c).2.1, (hagree c).2.2]
    exact MemRef8.v23_eq _ _ _ hz hk

end Cert.Proof.Mem8
-- ==== Proof.HistMath.lean ====
module

public import Idealize.ShloMosaic.Lib.Pointwise
public import Idealize.ShloMosaic.Lib.KernelVsHost
public import Idealize.ShloMosaic.Lib.Pipeline.ValueKit
public import Idealize.ShloMosaic.PureOps.Ideal.Laws

/-! Shifted rows of a sequence's history, as the convolution's calls store them. -/

@[expose] public section

open Idealize.ShloMosaic

namespace Hist

/-- The gate of the convolution's input. -/
noncomputable def glu (a b : EReal) : EReal := a * Ideal.div 1 (1 + Ideal.exp (-b))

/-- An index of three coordinates is their triple. -/
theorem idx3 {p q s : ℕ} (x : (⟨3, ![p, q, s]⟩ : Shape).Idx) : x = ix3 (x 0) (x 1) (x 2) :=
  funext fun a => match a with
    | 0 => rfl
    | 1 => rfl
    | 2 => rfl

/-- Eight rows turned by six: row `r` is row `r + 2`, around the end. -/
theorem turn_apply (y : (⟨2, ![8, 1024]⟩ : Shape).Idx → EReal) (h : (⟨2, ![8, 1024]⟩ : Shape).Rotates 0 none) (r : Fin 8) (c : Fin 1024) :
    dynamicRotate 0 6#32 none y h (ix2 r c) = y (ix2 ⟨(r.val + 2) % 8, Nat.mod_lt _ (by decide)⟩ c) := by
  refine dynamicRotate_apply 0 6#32 y h _ _ fun b => ?_
  match b with
  | 0 =>
    show (r.val + 2) % 8 = (r.val + 8 - 6 % 8) % 8
    have := r.isLt
    omega
  | 1 => rfl

/-- The test for the first two of eight rows. -/
theorem first_two (h : (⟨2, ![8, 1024]⟩ : Shape).Iotas .tc 32 [0]) (u v : (⟨2, ![8, 1024]⟩ : Shape).Idx → EReal) (r : Fin 8) (c : Fin 1024) :
    select (cmpi .slt (iota .tc ⟨2, ![8, 1024]⟩ 32 [0] h) (broadcast ⟨2, ![8, 1024]⟩ 2#32)) u v (ix2 r c)
      = if r.val < 2 then u (ix2 r c) else v (ix2 r c) := by
  have e : ∀ r : Fin 8, IntOp.cmpi .slt (BitVec.ofNat 32 (0 * 8 + r.val)) 2#32 = if r.val < 2 then 1#1 else 0#1 := by decide
  show Scalar.select (IntOp.cmpi .slt (BitVec.ofNat 32 (0 * 8 + r.val)) 2#32) _ _ = _
  rw [e r]
  split <;> rfl

/-- A row of one slab, without the slab's axis. -/
theorem slab_apply {n : ℕ} (y : (⟨3, ![1, n, 1024]⟩ : Shape).Idx → EReal) (h : (⟨3, ![1, n, 1024]⟩ : Shape).ShapeCasts ⟨2, ![n, 1024]⟩) (r : Fin n) (c : Fin 1024) :
    shapeCast ⟨2, ![n, 1024]⟩ y h (ix2 r c) = y (ix3 0 r c) := by
  refine shapeCast_apply y h _ _ ?_
  rw [Shape.rowMajor_val_two, Shape.rowMajor_val_three]
  show (0 * n + r.val) * 1024 + c.val = r.val * 1024 + c.val
  omega

/-- Rows with a slab's axis put before them. -/
theorem as_slab_apply {n : ℕ} (y : (⟨2, ![n, 1024]⟩ : Shape).Idx → EReal) (h : (⟨2, ![n, 1024]⟩ : Shape).ShapeCasts ⟨3, ![1, n, 1024]⟩) (p : Fin 1) (r : Fin n) (c : Fin 1024) :
    shapeCast ⟨3, ![1, n, 1024]⟩ y h (ix3 p r c) = y (ix2 r c) := by
  refine shapeCast_apply y h _ _ ?_
  rw [Shape.rowMajor_val_two, Shape.rowMajor_val_three]
  have := p.isLt
  show r.val * 1024 + c.val = (p.val * n + r.val) * 1024 + c.val
  have e : p.val = 0 := by omega
  rw [e, Nat.zero_mul, Nat.zero_add]

/-- The history that a block of eight sequences leaves, from the history before it and the eight new rows of each. -/
noncomputable def next (h : (⟨3, ![8, 30, 1024]⟩ : Shape).Idx → EReal) (u : (⟨2, ![64, 1024]⟩ : Shape).Idx → EReal) :
    (⟨3, ![8, 30, 1024]⟩ : Shape).Idx → EReal := fun i =>
  if lt : (i 1).val < 22 then h (ix3 (i 0) ⟨(i 1).val + 8, by omega⟩ (i 2))
  else u (ix2 ⟨8 * (i 0).val + ((i 1).val - 22), by
    have h0 : (i 0).val < 8 := (i 0).isLt
    have h1 : (i 1).val < 30 := (i 1).isLt
    omega⟩ (i 2))

variable (h : (⟨3, ![8, 30, 1024]⟩ : Shape).Idx → EReal) (u : (⟨2, ![64, 1024]⟩ : Shape).Idx → EReal) (b : ℕ)

/-- The first sixteen rows: the old rows from the eighth on. -/
theorem piece_old (i1) (i2) (c1 : (⟨3, ![1, 16, 1024]⟩ : Shape).ShapeCasts ⟨2, ![16, 1024]⟩) (c2) (x : (⟨3, ![1, 16, 1024]⟩ : Shape).Idx) :
    shapeCast ⟨3, ![1, 16, 1024]⟩ (shapeCast ⟨2, ![16, 1024]⟩ (View.ld (Val := Elt Ideal) (e' := .f32) h (Rect.unit (s := ⟨3, ![8, 30, 1024]⟩) ![b, 8, 0] ![1, 16, 1024] i1)) c1) c2 x
      = next h u ((Rect.unit (s := ⟨3, ![8, 30, 1024]⟩) ![b, 0, 0] ![1, 16, 1024] i2).emb x) := by
  have h1 : (x 1).val < 16 := (x 1).isLt
  have e1 : (((Rect.unit (s := ⟨3, ![8, 30, 1024]⟩) ![b, 0, 0] ![1, 16, 1024] i2).emb x) 1).val = (x 1).val := by
    show 0 + 1 * (x 1).val = (x 1).val
    omega
  rw [shapeCast_shapeCast]
  unfold next
  rw [dif_pos (by rw [e1]; omega)]
  refine View.ld_unit_apply_of _ _ _ _ _ _ fun a => ?_
  match a with
  | 0 => show b + 1 * (x 0).val = b + (x 0).val; omega
  | 1 => show 0 + 1 * (x 1).val + 8 = 8 + (x 1).val; omega
  | 2 => show 0 + 1 * (x 2).val = 0 + (x 2).val; omega

/-- The next eight rows: six old rows, then the first two new ones. -/
theorem piece_mixed {n : ℕ} (hn : n = 8 * b) (i1) (i2) (it) (sl) (rt) (c1 : (⟨3, ![1, 8, 1024]⟩ : Shape).ShapeCasts ⟨2, ![8, 1024]⟩) (c2) (x : (⟨3, ![1, 8, 1024]⟩ : Shape).Idx) :
    shapeCast ⟨3, ![1, 8, 1024]⟩ (dynamicRotate 0 6#32 none (select (cmpi .slt (iota .tc ⟨2, ![8, 1024]⟩ 32 [0] it) (broadcast ⟨2, ![8, 1024]⟩ 2#32))
        (extractStridedSlice ⟨2, ![8, 1024]⟩ ![n, 0] u sl)
        (shapeCast ⟨2, ![8, 1024]⟩ (View.ld (Val := Elt Ideal) (e' := .f32) h (Rect.unit (s := ⟨3, ![8, 30, 1024]⟩) ![b, 22, 0] ![1, 8, 1024] i1)) c1)) rt) c2 x
      = next h u ((Rect.unit (s := ⟨3, ![8, 30, 1024]⟩) ![b, 16, 0] ![1, 8, 1024] i2).emb x) := by
  have h1 : (x 1).val < 8 := (x 1).isLt
  have h0 : (x 0).val < 1 := (x 0).isLt
  have e1 : (((Rect.unit (s := ⟨3, ![8, 30, 1024]⟩) ![b, 16, 0] ![1, 8, 1024] i2).emb x) 1).val = 16 + (x 1).val := by
    show 16 + 1 * (x 1).val = 16 + (x 1).val
    omega
  refine (congrArg _ (idx3 x)).trans ((as_slab_apply (n := 8) _ c2 (x 0) (x 1) (x 2)).trans ((turn_apply _ rt (x 1) (x 2)).trans ((first_two it _ _ _ (x 2)).trans ?_)))
  unfold next
  by_cases hr : (x 1).val < 6
  · rw [dif_pos (by rw [e1]; omega), if_neg (by show ¬ ((x 1).val + 2) % 8 < 2; omega)]
    refine (slab_apply (n := 8) _ c1 _ (x 2)).trans ?_
    refine View.ld_unit_apply_of _ _ _ _ _ _ fun a => ?_
    match a with
    | 0 => show b + 1 * (x 0).val = b + 0; omega
    | 1 => show 16 + 1 * (x 1).val + 8 = 22 + ((x 1).val + 2) % 8; omega
    | 2 => show 0 + 1 * (x 2).val = 0 + (x 2).val; omega
  · rw [dif_neg (by rw [e1]; omega), if_pos (by show ((x 1).val + 2) % 8 < 2; omega)]
    refine extractStridedSlice_apply _ u sl _ _ fun a => ?_
    match a with
    | 0 => show 8 * (b + 1 * (x 0).val) + (16 + 1 * (x 1).val - 22) = n + ((x 1).val + 2) % 8; omega
    | 1 => show 0 + 1 * (x 2).val = 0 + (x 2).val; omega

/-- The last six rows: the new rows from the second on. -/
theorem piece_new {n : ℕ} (hn : n = 8 * b) (i2) (sl) (rt) (sl2) (c2) (x : (⟨3, ![1, 6, 1024]⟩ : Shape).Idx) :
    shapeCast ⟨3, ![1, 6, 1024]⟩ (extractStridedSlice ⟨2, ![6, 1024]⟩ ![0, 0] (dynamicRotate 0 6#32 none (extractStridedSlice ⟨2, ![8, 1024]⟩ ![n, 0] u sl) rt) sl2) c2 x
      = next h u ((Rect.unit (s := ⟨3, ![8, 30, 1024]⟩) ![b, 24, 0] ![1, 6, 1024] i2).emb x) := by
  have h1 : (x 1).val < 6 := (x 1).isLt
  have h0 : (x 0).val < 1 := (x 0).isLt
  have e1 : (((Rect.unit (s := ⟨3, ![8, 30, 1024]⟩) ![b, 24, 0] ![1, 6, 1024] i2).emb x) 1).val = 24 + (x 1).val := by
    show 24 + 1 * (x 1).val = 24 + (x 1).val
    omega
  refine (congrArg _ (idx3 x)).trans ((as_slab_apply (n := 6) _ c2 (x 0) (x 1) (x 2)).trans ?_)
  unfold next
  rw [dif_neg (by rw [e1]; omega)]
  refine (extractStridedSlice_apply _ _ sl2 _ (ix2 ⟨(x 1).val, by omega⟩ (x 2)) fun a => ?_).trans ?_
  · match a with
    | 0 => show (x 1).val = 0 + (x 1).val; omega
    | 1 => show (x 2).val = 0 + (x 2).val; omega
  refine (turn_apply _ rt _ (x 2)).trans ?_
  refine extractStridedSlice_apply _ u sl _ _ fun a => ?_
  match a with
  | 0 => show 8 * (b + 1 * (x 0).val) + (24 + 1 * (x 1).val - 22) = n + ((x 1).val + 2) % 8; omega
  | 1 => show 0 + 1 * (x 2).val = 0 + (x 2).val; omega

end Hist
-- ==== Proof.Hist9.lean ====
module

public import proofs.«01_k».proof.Proof.Gen.Kernel9Ideal.Value
public import proofs.«01_k».proof.Proof.HistMath
public import Idealize.ShloMosaic.Lib.Pointwise
public import Idealize.ShloMosaic.Lib.Writes
public import Idealize.ShloMosaic.Lib.StableHlo.ReadAt

/-! The history that the convolution's call leaves for the sample group. -/

@[expose] public section

set_option maxRecDepth 65536

open Cert.Kernel9Ideal Cert.Kernel9Ideal.Gen Idealize.ShloMosaic Idealize.ShloMosaic.TcCoe Idealize.SL.Sem

namespace Hist9

theorem hz2 : (![0, 0] : Fin 2 → ℕ) = fun _ => 0 := by decide

/-- What the body stores into its second result. -/
theorem out_eq (c : Dev nD) (i : grid0.Coords) (arg1 : Memref sig .tc .vmem S64x1024 .bf16) (h1 : arg1.IsWhole) (arg2 : Memref sig .tc .vmem S64x1024 .bf16) (h2 : arg2.IsWhole) (arg3 : Memref sig .tc .vmem S8x30x1024 .f32) (h3 : arg3.IsWhole) (arg4 : Memref sig .tc .vmem S31x1024 .f32) (h4 : arg4.IsWhole) (arg5 : Memref sig .tc .vmem S1x1024 .f32) (h5 : arg5.IsWhole) (arg6 : Memref sig .tc .vmem S1x1024 .f32) (h6 : arg6.IsWhole) (arg7 : Memref sig .tc .vmem S1x1024 .f32) (h7 : arg7.IsWhole) (arg8 : Memref sig .tc .vmem S64x1024 .f32) (h8 : arg8.IsWhole) (arg9 : Memref sig .tc .vmem S8x30x1024 .f32) (h9 : arg9.IsWhole) (arg10 : Memref sig .tc .vmem S64x1024 .f32) (h10 : arg10.IsWhole)
    (x0 x1 : Vec Ideal S64x1024 .bf16) (x2 : Vec Ideal S8x30x1024 .f32) (x3 : Vec Ideal S31x1024 .f32) (x4 x5 x6 : Vec Ideal S1x1024 .f32) :
    out0_A_8 c i arg1 h1 arg2 h2 arg3 h3 arg4 h4 arg5 h5 arg6 h6 arg7 h7 arg8 h8 arg9 h9 arg10 h10 x0 x1 x2 x3 x4 x5 x6
      = Hist.next x2 (k0_pay2 x0 x1) := by
  funext y
  unfold out0_A_8
  refine View.read_writes_apply_of_pieces _ _ _ _ ?_ y (cover0_A_8 c i arg1 h1 arg2 h2 arg3 h3 arg4 h4 arg5 h5 arg6 h6 arg7 h7 arg8 h8 arg9 h9 arg10 h10 x0 x1 x2 x3 x4 x5 x6 y)
  unfold kernelRun0_A
  dsimp only
  sl_unfold_words
  simp only [View.readAt_eq_ld, h1.read_unread, h2.read_unread, h3.read_unread]
  repeat rw [View.ld_unit_zero hz2]
  simp only [List.forall_mem_cons]
  refine ⟨?_, ?_, ?_, ?_, ?_, ?_, ?_, ?_, ?_, ?_, ?_, ?_, ?_, ?_, ?_, ?_, ?_, ?_, ?_, ?_, ?_, ?_, ?_, ?_, fun p hp => absurd hp List.not_mem_nil⟩ <;> intro x
  all_goals first
    | exact Hist.piece_old x2 (k0_pay2 x0 x1) _ _ _ _ _ x
    | exact Hist.piece_mixed x2 (k0_pay2 x0 x1) _ (by rfl) _ _ _ (by decide) rotates_S8x1024_d0 _ _ x
    | exact Hist.piece_new x2 (k0_pay2 x0 x1) _ (by rfl) _ (by decide) rotates_S8x1024_d0 (by decide) _ x

/-- The gated rows. -/
theorem pay2_apply (a b : Vec Ideal S64x1024 .bf16) (i : S64x1024.Idx) : k0_pay2 (F := Ideal) a b i = Hist.glu (a i) (b i) := by
  show a i * Ideal.div (Ideal.ofBits .f32 0x3F800000#32) (Ideal.ofBits .f32 0x3F800000#32 + Ideal.exp (Ideal.ofBits .f32 0x00000000#32 - b i)) = _
  rw [Ideal.ofBits_one_f32, Ideal.ofBits_zero_f32, sub_eq_add_neg, zero_add]
  rfl

theorem at0 : ∀ i : grid0.Coords, cc0_transform_0 i = ![(i 0).val, 1] := by decide +kernel
theorem at1 : ∀ i : grid0.Coords, cc0_transform_1 i = ![(i 0).val, 2] := by decide +kernel
theorem at2 : ∀ i : grid0.Coords, cc0_transform_2 i = ![(i 0).val, 0, 0] := by decide +kernel
theorem at8 : ∀ i : grid0.Coords, cc0_transform_8 i = ![(i 0).val, 0, 0] := by decide +kernel

variable (m : (ℓ : Loc nD τ sig) → Buf (Elt Ideal) ℓ)

theorem coords_lt (t : Fin cfg0.N) : (grid0.coords t 0).val < 16 := (grid0.coords t 0).isLt

theorem coords_at : ∀ (a : Fin 16), (grid0.coords ⟨a.val, by have : grid0.N = 16 := N_0; omega⟩ 0).val = a.val := by decide +kernel

/-- The arguments on core `c` that the history depends on. -/
abbrev argZ (c : Dev nD) : S1024x12288.Idx → EReal := m ((c : Thread nD τ).loc main_arg0)
abbrev argH (c : Dev nD) : S1x128x30x1024.Idx → EReal := m ((c : Thread nD τ).loc main_arg1)

theorem V_h (c : Dev nD) (s : Fin 128) (r : Fin 30) (k : Fin 1024) : V m c main_v0 (ix3 s r k) = argH m c (ix4 0 s r k) := by
  unfold V
  after_reads_at

/-- The history of every sequence: its old rows from the eighth on, then its eight gated rows. -/
noncomputable def result (z : S1024x12288.Idx → EReal) (h : S1x128x30x1024.Idx → EReal) : S128x30x1024.Idx → EReal := fun i =>
  if lt : (i 1).val < 22 then h (ix4 0 (i 0) ⟨(i 1).val + 8, by omega⟩ (i 2))
  else
    have h0 : (i 0).val < 128 := (i 0).isLt
    have h1 : (i 1).val < 30 := (i 1).isLt
    have h2 : (i 2).val < 1024 := (i 2).isLt
    Hist.glu (z (ix2 ⟨8 * (i 0).val + ((i 1).val - 22), by omega⟩ ⟨1024 + (i 2).val, by omega⟩))
      (z (ix2 ⟨8 * (i 0).val + ((i 1).val - 22), by omega⟩ ⟨2048 + (i 2).val, by omega⟩))

/-- The block of the first factor. -/
theorem read0 (c : Dev nD) (t : Fin cfg0.N) (r : Fin 64) (k : Fin 1024) :
    (iblk m c 0 t : Vec Ideal S64x1024 .bf16) (ix2 r k) = argZ m c (ix2 ⟨64 * (grid0.coords t 0).val + r.val, by have := coords_lt t; omega⟩ ⟨1024 + k.val, by omega⟩) := by
  unfold iblk
  rw [View.read_apply]
  refine Eq.trans (show _ = V m c main_arg0 _ from ?_) (congrFun (V_main_arg0 m c) _)
  show V m c main_arg0 _ = _
  congr 1
  funext a
  apply Fin.ext
  match a with
  | 0 =>
    show cc0_transform_0 (grid0.coords t) 0 * 64 + 1 * r.val = 64 * (grid0.coords t 0).val + r.val
    rw [at0]
    show (grid0.coords t 0).val * 64 + 1 * r.val = 64 * (grid0.coords t 0).val + r.val
    omega
  | 1 =>
    show cc0_transform_0 (grid0.coords t) 1 * 1024 + 1 * k.val = 1024 + k.val
    rw [at0]
    show 1 * 1024 + 1 * k.val = 1024 + k.val
    omega

/-- The block of the gate. -/
theorem read1 (c : Dev nD) (t : Fin cfg0.N) (r : Fin 64) (k : Fin 1024) :
    (iblk m c 1 t : Vec Ideal S64x1024 .bf16) (ix2 r k) = argZ m c (ix2 ⟨64 * (grid0.coords t 0).val + r.val, by have := coords_lt t; omega⟩ ⟨2048 + k.val, by omega⟩) := by
  unfold iblk
  rw [View.read_apply]
  refine Eq.trans (show _ = V m c main_arg0 _ from ?_) (congrFun (V_main_arg0 m c) _)
  show V m c main_arg0 _ = _
  congr 1
  funext a
  apply Fin.ext
  match a with
  | 0 =>
    show cc0_transform_1 (grid0.coords t) 0 * 64 + 1 * r.val = 64 * (grid0.coords t 0).val + r.val
    rw [at1]
    show (grid0.coords t 0).val * 64 + 1 * r.val = 64 * (grid0.coords t 0).val + r.val
    omega
  | 1 =>
    show cc0_transform_1 (grid0.coords t) 1 * 1024 + 1 * k.val = 2048 + k.val
    rw [at1]
    show 2 * 1024 + 1 * k.val = 2048 + k.val
    omega

/-- The block of the old history. -/
theorem read2 (c : Dev nD) (t : Fin cfg0.N) (s : Fin 8) (r : Fin 30) (k : Fin 1024) :
    (iblk m c 2 t : Vec Ideal S8x30x1024 .f32) (ix3 s r k) = argH m c (ix4 0 ⟨8 * (grid0.coords t 0).val + s.val, by have := coords_lt t; omega⟩ r k) := by
  unfold iblk
  rw [View.read_apply]
  refine Eq.trans ?_ (V_h m c _ _ _)
  show V m c main_v0 _ = _
  congr 1
  funext a
  apply Fin.ext
  match a with
  | 0 =>
    show cc0_transform_2 (grid0.coords t) 0 * 8 + 1 * s.val = 8 * (grid0.coords t 0).val + s.val
    rw [at2]
    show (grid0.coords t 0).val * 8 + 1 * s.val = 8 * (grid0.coords t 0).val + s.val
    omega
  | 1 =>
    show cc0_transform_2 (grid0.coords t) 1 * 30 + 1 * r.val = r.val
    rw [at2]
    show 0 * 30 + 1 * r.val = r.val
    omega
  | 2 =>
    show cc0_transform_2 (grid0.coords t) 2 * 1024 + 1 * k.val = k.val
    rw [at2]
    show 0 * 1024 + 1 * k.val = k.val
    omega

/-- A block's new history is the block of the result. -/
theorem block_eq (c : Dev nD) (t : Fin cfg0.N) (s : Fin 8) (r : Fin 30) (k : Fin 1024) :
    Hist.next (iblk m c 2 t) (k0_pay2 (F := Ideal) (iblk m c 0 t) (iblk m c 1 t)) (ix3 s r k)
      = result (argZ m c) (argH m c) (ix3 ⟨8 * (grid0.coords t 0).val + s.val, by have := coords_lt t; omega⟩ r k) := by
  have hc := coords_lt t
  unfold Hist.next result
  by_cases lt : r.val < 22
  · refine (dif_pos (c := ((ix3 s r k : S8x30x1024.Idx) 1).val < 22) lt).trans (Eq.trans ?_ (dif_pos (c := r.val < 22) lt).symm)
    exact read2 m c t s ⟨r.val + 8, by omega⟩ k
  · refine (dif_neg (c := ((ix3 s r k : S8x30x1024.Idx) 1).val < 22) lt).trans (Eq.trans ?_ (dif_neg (c := r.val < 22) lt).symm)
    refine (pay2_apply _ _ _).trans ?_
    have e : ∀ (o : ℕ) (p : 64 * (grid0.coords t 0).val + (8 * s.val + (r.val - 22)) < 1024) (q : 8 * (8 * (grid0.coords t 0).val + s.val) + (r.val - 22) < 1024) (w : o + k.val < 12288),
        (ix2 ⟨64 * (grid0.coords t 0).val + (8 * s.val + (r.val - 22)), p⟩ ⟨o + k.val, w⟩ : S1024x12288.Idx)
          = ix2 ⟨8 * (8 * (grid0.coords t 0).val + s.val) + (r.val - 22), q⟩ ⟨o + k.val, w⟩ := fun o p q w => by
      congr 1
      exact Fin.ext (by show 64 * (grid0.coords t 0).val + (8 * s.val + (r.val - 22)) = 8 * (8 * (grid0.coords t 0).val + s.val) + (r.val - 22); omega)
    refine congrArg₂ Hist.glu ((read0 m c t ⟨8 * s.val + (r.val - 22), by omega⟩ k).trans (congrArg _ (e 1024 _ _ _)))
      ((read1 m c t ⟨8 * s.val + (r.val - 22), by omega⟩ k).trans (congrArg _ (e 2048 _ _ _)))

/-- What a grid point writes back. -/
theorem flushed8_eq (c : Dev nD) (t : Fin cfg0.N) :
    (dats m 0 c).flushed 8 t = ((cfg0.win 8).blk t).view.read (Elt Ideal) (result (argZ m c) (argH m c)) := by
  have h0 := coords_lt t
  rw [Value.flushed8_A, out_eq]
  funext i
  rw [View.read_apply]
  obtain ⟨s, r, k, rfl⟩ : ∃ (s : Fin 8) (r : Fin 30) (k : Fin 1024), i = ix3 s r k := ⟨i 0, i 1, i 2, Hist.idx3 i⟩
  have e : (((cfg0.win 8).blk t).view.emb (ix3 s r k) : S128x30x1024.Idx) = ix3 ⟨8 * (grid0.coords t 0).val + s.val, by omega⟩ r k := by
    funext a
    apply Fin.ext
    match a with
    | 0 =>
      show cc0_transform_8 (grid0.coords t) 0 * 8 + 1 * s.val = 8 * (grid0.coords t 0).val + s.val
      rw [at8]
      show (grid0.coords t 0).val * 8 + 1 * s.val = 8 * (grid0.coords t 0).val + s.val
      omega
    | 1 =>
      show cc0_transform_8 (grid0.coords t) 1 * 30 + 1 * r.val = r.val
      rw [at8]
      show 0 * 30 + 1 * r.val = r.val
      omega
    | 2 =>
      show cc0_transform_8 (grid0.coords t) 2 * 1024 + 1 * k.val = k.val
      rw [at8]
      show 0 * 1024 + 1 * k.val = k.val
      omega
  refine Eq.trans (show _ = _ from block_eq m c t s r k) ?_
  show _ = result (argZ m c) (argH m c) (((cfg0.win 8).blk t).view.emb (ix3 s r k))
  rw [e]

theorem final8 (c : Dev nD) : (dats m 0 c).arrAt 8 cfg0.N = result (argZ m c) (argH m c) :=
  (dats m 0 c).arrAt_eq_of_cover 8 (result (argZ m c) (argH m c)) (fun t _ => flushed8_eq m c t) fun i => by
    have i0 : (i 0 : Nat) < 128 := (i 0).isLt
    have i1 : (i 1 : Nat) < 30 := (i 1).isLt
    have i2 : (i 2 : Nat) < 1024 := (i 2).isLt
    obtain ⟨t, hc⟩ : ∃ t : Fin cfg0.N, (grid0.coords t 0).val = (i 0 : Nat) / 8 := ⟨_, coords_at ⟨(i 0 : Nat) / 8, by omega⟩⟩
    refine ⟨t, flush0_8 t, ?_⟩
    show i ∈ ((View.whole main_v8_1).slice (win0_8.rect t)).set
    rw [View.set_slice_whole, Rect.mem_set_unit]
    intro a
    match a with
    | ⟨0, _⟩ =>
      show cc0_transform_8 (grid0.coords t) 0 * 8 ≤ (i 0 : Nat) ∧ (i 0 : Nat) < cc0_transform_8 (grid0.coords t) 0 * 8 + 8
      rw [at8]
      show (grid0.coords t 0).val * 8 ≤ (i 0 : Nat) ∧ (i 0 : Nat) < (grid0.coords t 0).val * 8 + 8
      rw [hc]
      omega
    | ⟨1, _⟩ =>
      show cc0_transform_8 (grid0.coords t) 1 * 30 ≤ (i 1 : Nat) ∧ (i 1 : Nat) < cc0_transform_8 (grid0.coords t) 1 * 30 + 30
      rw [at8]
      show 0 * 30 ≤ (i 1 : Nat) ∧ (i 1 : Nat) < 0 * 30 + 30
      omega
    | ⟨2, _⟩ =>
      show cc0_transform_8 (grid0.coords t) 2 * 1024 ≤ (i 2 : Nat) ∧ (i 2 : Nat) < cc0_transform_8 (grid0.coords t) 2 * 1024 + 1024
      rw [at8]
      show 0 * 1024 ≤ (i 2 : Nat) ∧ (i 2 : Nat) < 0 * 1024 + 1024
      omega

end Hist9
-- ==== Proof.HistRef9.lean ====
module

public import proofs.«01_k».proof.Proof.Gen.Reference9Ideal.Read
public import proofs.«01_k».proof.Proof.Hist9

/-! The reference's history of the sample group. -/

@[expose] public section

open Idealize.ShloMosaic

namespace HistRef9

open Cert.Reference9Ideal Cert.Reference9Ideal.Read

/-- A gated row of the reference. -/
theorem v15_at (z : S1024x12288.Idx → EReal) (s : Fin 128) (r : Fin 8) (k : Fin 1024) :
    val_main_v15 (F := Ideal) z (ix3 s r k)
      = Hist.glu (z (ix2 ⟨8 * s.val + r.val, by omega⟩ ⟨1024 + k.val, by omega⟩)) (z (ix2 ⟨8 * s.val + r.val, by omega⟩ ⟨2048 + k.val, by omega⟩)) := by
  rw [val_main_v15_apply, val_main_v14_apply, val_main_v13_apply, val_main_v12_apply, val_main_v11_apply, val_main_v10_apply, val_main_v9_apply,
    val_main_v8_apply, val_main_v7_apply, val_main_v6_apply, val_main_v6_apply, val_main_v0_apply, val_main_v0_apply]
  simp only [val_main_cst_apply, val_main_cst_0_apply]
  have e3 : idx_main_v0 (idx_main_v7 (ix3 s r k)) = ix2 ⟨8 * s.val + r.val, by omega⟩ ⟨1024 + k.val, by omega⟩ := funext fun d => Fin.ext (by
    match d with
    | ⟨0, _⟩ => show ((s.val * 8 + r.val) * 12288 + (1024 + k.val)) / 12288 = 8 * s.val + r.val; omega
    | ⟨1, _⟩ => show ((s.val * 8 + r.val) * 12288 + (1024 + k.val)) % 12288 = 1024 + k.val; omega)
  have e4 : idx_main_v0 (idx_main_v8 (ix3 s r k)) = ix2 ⟨8 * s.val + r.val, by omega⟩ ⟨2048 + k.val, by omega⟩ := funext fun d => Fin.ext (by
    match d with
    | ⟨0, _⟩ => show ((s.val * 8 + r.val) * 12288 + (2048 + k.val)) / 12288 = 8 * s.val + r.val; omega
    | ⟨1, _⟩ => show ((s.val * 8 + r.val) * 12288 + (2048 + k.val)) % 12288 = 2048 + k.val; omega)
  rw [e3, e4]
  show _ * Ideal.div (Ideal.ofBits .f32 0x3F800000#32) (Ideal.ofBits .f32 0x3F800000#32 + Ideal.exp (- _)) = _
  rw [Ideal.ofBits_one_f32]
  rfl

/-- An old row of the reference. -/
theorem v1_at (h : S1x128x30x1024.Idx → EReal) (s : Fin 128) (r : Fin 30) (k : Fin 1024) :
    val_main_v1 (F := Ideal) h (ix3 s r k) = h (ix4 0 s r k) := by
  rw [val_main_v1_apply]
  congr 1
  exact funext fun d => Fin.ext (by
    match d with
    | ⟨0, _⟩ => rfl
    | ⟨1, _⟩ => show ((s.val * 30 + r.val) * 1024 + k.val) / 30720 % 128 = s.val; omega
    | ⟨2, _⟩ => show ((s.val * 30 + r.val) * 1024 + k.val) / 1024 % 30 = r.val; omega
    | ⟨3, _⟩ => show ((s.val * 30 + r.val) * 1024 + k.val) % 1024 = k.val; omega)

/-- The reference's history is the kernel's. -/
theorem v263_eq (z : S1024x12288.Idx → EReal) (h : S1x128x30x1024.Idx → EReal) : val_main_v263 (F := Ideal) z h = Hist9.result z h := by
  funext i
  obtain ⟨s, r, k, rfl⟩ : ∃ (s : Fin 128) (r : Fin 30) (k : Fin 1024), i = ix3 s r k := ⟨i 0, i 1, i 2, Hist.idx3 i⟩
  rw [val_main_v263_apply]
  unfold val_main_v16 Hist9.result
  by_cases lt : r.val < 22
  · refine Eq.trans ?_ (dif_pos (c := ((ix3 s r k : S128x30x1024.Idx) 1).val < 22) lt).symm
    refine (concatenate_pair_apply_left (t := S128x38x1024) (s₁ := S128x30x1024) (s₂ := S128x8x1024) 1 (val_main_v1 (F := Ideal) h) (val_main_v15 (F := Ideal) z) Gen.concatenates_S128x30x1024_S128x8x1024_S128x38x1024_d1 (idx_main_v263 (ix3 s r k)) rfl (ix3 s ⟨r.val + 8, by omega⟩ k) fun b => ?_).trans (v1_at h _ _ _)
    match b with
    | ⟨0, _⟩ => rfl
    | ⟨1, _⟩ => exact Nat.add_comm _ _
    | ⟨2, _⟩ => rfl
  · refine Eq.trans ?_ (dif_neg (c := ((ix3 s r k : S128x30x1024.Idx) 1).val < 22) lt).symm
    refine (concatenate_pair_apply_right (t := S128x38x1024) (s₁ := S128x30x1024) (s₂ := S128x8x1024) 1 (val_main_v1 (F := Ideal) h) (val_main_v15 (F := Ideal) z) Gen.concatenates_S128x30x1024_S128x8x1024_S128x38x1024_d1 (idx_main_v263 (ix3 s r k)) rfl rfl (ix3 s ⟨r.val - 22, by omega⟩ k) (fun b hb => ?_) ?_).trans (v15_at z _ _ _)
    · match b with
      | ⟨0, _⟩ => rfl
      | ⟨1, _⟩ => exact absurd rfl hb
      | ⟨2, _⟩ => rfl
    · show r.val - 22 + 30 = 8 + r.val
      omega

end HistRef9
-- ==== Proof.ConvMath.lean ====
module

public import proofs.«01_k».proof.Proof.HistMath
public import Idealize.ShloMosaic.Lib.IdealHost

/-! The depthwise convolution of a sequence's rows, and the norm that follows it. -/

@[expose] public section

open Idealize.ShloMosaic

namespace Conv

/-- A bias and the first terms of a sequence, added one after the other. -/
noncomputable def acc (b : EReal) (f : ℕ → EReal) : ℕ → EReal
  | 0 => b
  | n + 1 => acc b f n + f n

/-- The bias may be added last. -/
theorem acc_zero_add (b : EReal) (f : ℕ → EReal) (n : ℕ) : acc 0 f n + b = acc b f n := by
  induction n with
  | zero => exact zero_add b
  | succ n ih =>
    show acc 0 f n + f n + b = acc b f n + f n
    rw [← ih, add_assoc, add_comm (f n) b, ← add_assoc]

/-- Sums of equal terms are equal. -/
theorem acc_congr {b b' : EReal} {f g : ℕ → EReal} (n : ℕ) (hb : b = b') (h : ∀ j, j < n → f j = g j) : acc b f n = acc b' g n := by
  induction n with
  | zero => exact hb
  | succ n ih => exact congrArg₂ (· + ·) (ih fun j hj => h j (Nat.lt_succ_of_lt hj)) (h n (Nat.lt_succ_self n))

/-- A row's mean. -/
noncomputable def mean (x : Fin 1024 → EReal) : EReal := Ideal.div (∑ k, x k) (Ideal.ofBits .f32 0x44800000#32)

/-- The normalised row, weighted and shifted. -/
noncomputable def norm (x g b : Fin 1024 → EReal) (k : Fin 1024) : EReal :=
  (x k - mean x) * Ideal.rsqrt (mean (fun k => (x k - mean x) * (x k - mean x)) + Ideal.ofBits .f32 0x358637BD#32) * g k + b k

/-- A value times its logistic. -/
noncomputable def silu (y : EReal) : EReal := y * Ideal.div 1 (1 + Ideal.exp (-y))

variable (h : (⟨3, ![8, 30, 1024]⟩ : Shape).Idx → EReal) (u : (⟨2, ![64, 1024]⟩ : Shape).Idx → EReal) (w : (⟨2, ![31, 1024]⟩ : Shape).Idx → EReal)

/-- Row `n` of a sequence: thirty rows of history, then its eight new rows. -/
noncomputable def row (b : Fin 8) (k : Fin 1024) (n : ℕ) : EReal :=
  if n < 30 then h (ix3 b ⟨n % 30, Nat.mod_lt _ (by decide)⟩ k) else u (ix2 ⟨(8 * b.val + (n - 30)) % 64, Nat.mod_lt _ (by decide)⟩ k)

/-- The weighted row `j` of the window that starts at row `r`. -/
noncomputable def tap (b : Fin 8) (r : Fin 8) (k : Fin 1024) (j : ℕ) : EReal :=
  w (ix2 ⟨j % 31, Nat.mod_lt _ (by decide)⟩ k) * row h u b k (j + r.val)

/-- A row of weights over eight rows. -/
theorem weights_apply (y : (⟨2, ![1, 1024]⟩ : Shape).Idx → EReal) (hb : (⟨2, ![1, 1024]⟩ : Shape).Broadcasts ⟨2, ![8, 1024]⟩) (r : Fin 8) (k : Fin 1024) :
    broadcastTo ⟨2, ![8, 1024]⟩ y hb (ix2 r k) = y (ix2 0 k) :=
  broadcastTo_apply y hb _ (ix2 0 k) fun a => by
    match a with
    | 0 => rfl
    | 1 => rfl

/-- The same behind a cast to the row's own shape. -/
theorem weights_cast (y : (⟨2, ![1, 1024]⟩ : Shape).Idx → EReal) (c1 : (⟨2, ![1, 1024]⟩ : Shape).ShapeCasts ⟨2, ![1, 1024]⟩)
    (hb : (⟨2, ![1, 1024]⟩ : Shape).Broadcasts ⟨2, ![8, 1024]⟩) (r : Fin 8) (k : Fin 1024) :
    broadcastTo ⟨2, ![8, 1024]⟩ (shapeCast ⟨2, ![1, 1024]⟩ y c1) hb (ix2 r k) = y (ix2 0 k) := by
  rw [shapeCast_self]
  exact weights_apply y hb r k

/-- One more term, whose window's row is known. -/
theorem step {n : ℕ} (lt : n < 31) (B : EReal) (b r : Fin 8) (k : Fin 1024) (A X : (⟨2, ![8, 1024]⟩ : Shape).Idx → EReal) (i1) (c1) (hb)
    (hX : X (ix2 r k) = row h u b k (n + r.val)) (hA : A (ix2 r k) = acc B (tap h u w b r k) n) :
    addf (F := Ideal) (φ := .f32) A (mulf (F := Ideal) (φ := .f32) (broadcastTo ⟨2, ![8, 1024]⟩ (shapeCast ⟨2, ![1, 1024]⟩
        (View.ld (Val := Elt Ideal) (e' := .f32) w (Rect.unit (s := ⟨2, ![31, 1024]⟩) ![n, 0] ![1, 1024] i1)) c1) hb) X) (ix2 r k)
      = acc B (tap h u w b r k) (n + 1) := by
  refine congrArg₂ (· + ·) hA (congrArg₂ (· * ·) ?_ hX)
  refine (weights_cast _ c1 hb r k).trans (View.ld_unit_apply_of _ _ _ _ _ _ fun a => ?_)
  match a with
  | 0 => show n % 31 = n + 0; omega
  | 1 => show k.val = 0 + k.val; omega

/-- A window's row from the history. -/
theorem old_apply {n b : ℕ} (hn : n + 8 ≤ 30) (hb : b < 8) (r : Fin 8) (k : Fin 1024) (i2) (c2) :
    shapeCast ⟨2, ![8, 1024]⟩ (View.ld (Val := Elt Ideal) (e' := .f32) h (Rect.unit (s := ⟨3, ![8, 30, 1024]⟩) ![b, n, 0] ![1, 8, 1024] i2)) c2 (ix2 r k)
      = row h u ⟨b, hb⟩ k (n + r.val) := by
  unfold row
  rw [if_pos (by omega)]
  refine (Hist.slab_apply (n := 8) _ c2 r k).trans (View.ld_unit_apply_of _ _ _ _ _ _ fun a => ?_)
  match a with
  | 0 => show b = b + 0; omega
  | 1 => show (n + r.val) % 30 = n + r.val; omega
  | 2 => show k.val = 0 + k.val; omega

/-- A new row. -/
theorem new_apply {m b : ℕ} (hm : m = 8 * b) (hb : b < 8) (r : Fin 8) (k : Fin 1024) (sl) :
    extractStridedSlice ⟨2, ![8, 1024]⟩ ![m, 0] u sl (ix2 r k) = row h u ⟨b, hb⟩ k (30 + r.val) := by
  unfold row
  rw [if_neg (by omega)]
  refine extractStridedSlice_apply _ u sl _ _ fun a => ?_
  match a with
  | 0 => show (8 * b + (30 + r.val - 30)) % 64 = m + r.val; omega
  | 1 => show k.val = 0 + k.val; omega

/-- Eight rows turned by `s`. -/
theorem turn_apply {s : ℕ} (lt : s < 8) (y : (⟨2, ![8, 1024]⟩ : Shape).Idx → EReal) (rt : (⟨2, ![8, 1024]⟩ : Shape).Rotates 0 none) (r : Fin 8) (k : Fin 1024) :
    dynamicRotate 0 (BitVec.ofNat 32 s) none y rt (ix2 r k) = y (ix2 ⟨(r.val + 8 - s) % 8, Nat.mod_lt _ (by decide)⟩ k) := by
  refine dynamicRotate_apply 0 (BitVec.ofNat 32 s) y rt _ _ fun b => ?_
  match b with
  | 0 =>
    show (r.val + 8 - s) % 8 = (r.val + 8 - (BitVec.ofNat 32 s).toNat % 8) % 8
    have e : (BitVec.ofNat 32 s).toNat = s := by
      rw [BitVec.toNat_ofNat]
      exact Nat.mod_eq_of_lt (by omega)
    rw [e]
    omega
  | 1 => rfl

/-- The test for the first `p` of eight rows. -/
theorem first_rows {p : ℕ} (lt : p < 8) (it : (⟨2, ![8, 1024]⟩ : Shape).Iotas .tc 32 [0]) (y z : (⟨2, ![8, 1024]⟩ : Shape).Idx → EReal) (r : Fin 8) (k : Fin 1024) :
    select (cmpi .slt (iota .tc ⟨2, ![8, 1024]⟩ 32 [0] it) (broadcast ⟨2, ![8, 1024]⟩ (BitVec.ofNat 32 p))) y z (ix2 r k)
      = if r.val < p then y (ix2 r k) else z (ix2 r k) := by
  have e : ∀ p r : Fin 8, IntOp.cmpi .slt (BitVec.ofNat 32 (0 * 8 + r.val)) (BitVec.ofNat 32 p.val) = if r.val < p.val then 1#1 else 0#1 := by decide
  show Scalar.select (IntOp.cmpi .slt (BitVec.ofNat 32 (0 * 8 + r.val)) (BitVec.ofNat 32 p)) _ _ = _
  rw [e ⟨p, lt⟩ r]
  by_cases c : r.val < p
  · rw [if_pos c, if_pos c]; rfl
  · rw [if_neg c, if_neg c]; rfl

/-- A window's row where history and new rows meet: the last rows of both, chosen and turned. -/
theorem mixed_apply {n s p m b : ℕ} (hs : n + s = 30) (hp : p + s = 8) (h0 : 0 < s) (h1 : 0 < p) (hm : m = 8 * b) (hb : b < 8) (r : Fin 8) (k : Fin 1024)
    (it) (sl) (i2) (c2) (rt) :
    dynamicRotate 0 (BitVec.ofNat 32 s) none (select (cmpi .slt (iota .tc ⟨2, ![8, 1024]⟩ 32 [0] it) (broadcast ⟨2, ![8, 1024]⟩ (BitVec.ofNat 32 p)))
        (extractStridedSlice ⟨2, ![8, 1024]⟩ ![m, 0] u sl)
        (shapeCast ⟨2, ![8, 1024]⟩ (View.ld (Val := Elt Ideal) (e' := .f32) h (Rect.unit (s := ⟨3, ![8, 30, 1024]⟩) ![b, 22, 0] ![1, 8, 1024] i2)) c2)) rt (ix2 r k)
      = row h u ⟨b, hb⟩ k (n + r.val) := by
  refine (turn_apply (by omega) _ rt r k).trans ((first_rows (by omega) it _ _ _ k).trans ?_)
  have hr := r.isLt
  by_cases c : r.val < s
  · rw [if_neg (by show ¬ (r.val + 8 - s) % 8 < p; omega)]
    refine (old_apply h u (n := 22) (by omega) hb _ k i2 c2).trans (congrArg (row h u ⟨b, hb⟩ k) ?_)
    show 22 + (r.val + 8 - s) % 8 = n + r.val
    omega
  · rw [if_pos (by show (r.val + 8 - s) % 8 < p; omega)]
    refine (new_apply h u hm hb _ k sl).trans (congrArg (row h u ⟨b, hb⟩ k) ?_)
    show 30 + (r.val + 8 - s) % 8 = n + r.val
    omega

/-- The sum's start: the bias, over eight rows. -/
theorem bias_apply (cb : (⟨2, ![1, 1024]⟩ : Shape).Idx → EReal) (f : ℕ → EReal) (r : Fin 8) (k : Fin 1024) (c1 c2) (hb) :
    broadcastTo ⟨2, ![8, 1024]⟩ (shapeCast ⟨2, ![1, 1024]⟩ (shapeCast ⟨2, ![1, 1024]⟩ cb c1) c2) hb (ix2 r k) = acc (cb (ix2 0 k)) f 0 := by
  rw [shapeCast_self, shapeCast_self]
  exact weights_apply _ hb r k

/-- The convolved rows of eight sequences. -/
noncomputable def rows (cb : (⟨2, ![1, 1024]⟩ : Shape).Idx → EReal) : (⟨2, ![64, 1024]⟩ : Shape).Idx → EReal := fun i =>
  acc (cb (ix2 0 (i 1))) (tap h u w ⟨(i 0).val / 8, by have : (i 0).val < 64 := (i 0).isLt; omega⟩ ⟨(i 0).val % 8, Nat.mod_lt _ (by decide)⟩ (i 1)) 31

/-- The convolved rows of one sequence. -/
theorem rows_emb (cb : (⟨2, ![1, 1024]⟩ : Shape).Idx → EReal) {m b : ℕ} (hm : m = 8 * b) (hb : b < 8) (i2) (x : (⟨2, ![8, 1024]⟩ : Shape).Idx) :
    rows h u w cb ((Rect.unit (s := ⟨2, ![64, 1024]⟩) ![m, 0] ![8, 1024] i2).emb x)
      = acc (cb (ix2 0 (x 1))) (tap h u w ⟨b, hb⟩ (x 0) (x 1)) 31 := by
  have lt : (x 0).val < 8 := (x 0).isLt
  have e0 : (((Rect.unit (s := ⟨2, ![64, 1024]⟩) ![m, 0] ![8, 1024] i2).emb x) 0).val = 8 * b + (x 0).val := by
    show m + 1 * (x 0).val = _
    omega
  have e1 : ((Rect.unit (s := ⟨2, ![64, 1024]⟩) ![m, 0] ![8, 1024] i2).emb x) 1 = x 1 := Fin.ext (by
    show 0 + 1 * (x 1).val = (x 1).val
    omega)
  have eb : ∀ q, (⟨(((Rect.unit (s := ⟨2, ![64, 1024]⟩) ![m, 0] ![8, 1024] i2).emb x) 0).val / 8, q⟩ : Fin 8) = ⟨b, hb⟩ := fun q => Fin.ext (by
    show (((Rect.unit (s := ⟨2, ![64, 1024]⟩) ![m, 0] ![8, 1024] i2).emb x) 0).val / 8 = b
    omega)
  have er : ∀ q, (⟨(((Rect.unit (s := ⟨2, ![64, 1024]⟩) ![m, 0] ![8, 1024] i2).emb x) 0).val % 8, q⟩ : Fin 8) = x 0 := fun q => Fin.ext (by
    show (((Rect.unit (s := ⟨2, ![64, 1024]⟩) ![m, 0] ![8, 1024] i2).emb x) 0).val % 8 = (x 0).val
    omega)
  unfold rows
  rw [eb, er, e1]

/-- The kernels' normalised rows, at an index. -/
theorem norm_apply {M : ℕ} (x : FVec Ideal ⟨2, ![M, 1024]⟩ .f32) (g b : FVec Ideal ⟨2, ![1, 1024]⟩ .f32)
    (hr : (⟨2, ![M, 1024]⟩ : Shape).Reduces [1] ⟨1, ![M]⟩) (hf hn hf' hn') (hs : (⟨1, ![M]⟩ : Shape).ShapeCasts ⟨2, ![M, 1]⟩)
    (hb : (⟨2, ![M, 1]⟩ : Shape).Broadcasts ⟨2, ![M, 1024]⟩) (hg : (⟨2, ![1, 1024]⟩ : Shape).Broadcasts ⟨2, ![M, 1024]⟩) (r : Fin M) (k : Fin 1024)
    (d : FVec Ideal ⟨2, ![M, 1024]⟩ .f32)
    (hd : d = subf x (broadcastTo ⟨2, ![M, 1024]⟩ (divf (shapeCast ⟨2, ![M, 1]⟩ (multiReduction .add [1] ⟨1, ![M]⟩ x 0x00000000#32 hr hf hn) hs)
        (broadcast ⟨2, ![M, 1]⟩ (Scalar.ofBits .f32 0x44800000#32))) hb)) :
    addf (mulf (mulf d (broadcastTo ⟨2, ![M, 1024]⟩ (rsqrt (addf (divf (shapeCast ⟨2, ![M, 1]⟩ (multiReduction .add [1] ⟨1, ![M]⟩ (mulf d d) 0x00000000#32 hr hf' hn') hs)
        (broadcast ⟨2, ![M, 1]⟩ (Scalar.ofBits .f32 0x44800000#32))) (broadcast ⟨2, ![M, 1]⟩ (Scalar.ofBits .f32 0x358637BD#32)))) hb))
        (broadcastTo ⟨2, ![M, 1024]⟩ g hg)) (broadcastTo ⟨2, ![M, 1024]⟩ b hg) (ix2 r k)
      = norm (fun k => x (ix2 r k)) (fun k => g (ix2 0 k)) (fun k => b (ix2 0 k)) k := by
  have e1 : ∀ (y : (⟨2, ![M, 1]⟩ : Shape).Idx → EReal) (k : Fin 1024), broadcastTo ⟨2, ![M, 1024]⟩ y hb (ix2 r k) = y (ix2 r 0) := fun y k =>
    broadcastTo_apply y hb _ (ix2 r 0) fun a => by
      match a with
      | 0 =>
        show r.val = if M = 1 then 0 else r.val
        have := r.isLt
        split <;> omega
      | 1 => rfl
  have e2 : ∀ y : (⟨2, ![1, 1024]⟩ : Shape).Idx → EReal, broadcastTo ⟨2, ![M, 1024]⟩ y hg (ix2 r k) = y (ix2 0 k) := fun y =>
    broadcastTo_apply y hg _ (ix2 0 k) fun a => by
      match a with
      | 0 => rfl
      | 1 => rfl
  have e3 : ∀ y : (⟨1, ![M]⟩ : Shape).Idx → EReal, shapeCast ⟨2, ![M, 1]⟩ y hs (ix2 r 0) = y (ix1 r) := fun y => by
    refine shapeCast_apply y hs _ (ix1 r) ?_
    rw [Shape.rowMajor_val_two, Shape.rowMajor_val_one]
    show r.val = r.val * 1 + 0
    omega
  have ed : ∀ k, d (ix2 r k) = x (ix2 r k) - mean (fun k => x (ix2 r k)) := fun k => by
    rw [hd]
    show x (ix2 r k) - broadcastTo ⟨2, ![M, 1024]⟩ _ hb (ix2 r k) = _
    rw [e1]
    show x (ix2 r k) - Ideal.div (shapeCast ⟨2, ![M, 1]⟩ _ hs (ix2 r 0)) _ = _
    rw [e3]
    show x (ix2 r k) - Ideal.div (Ideal.reduceAdd hr x (ix1 r)) _ = _
    rw [Ideal.reduceAdd_r2_a1]
    rfl
  show d (ix2 r k) * broadcastTo ⟨2, ![M, 1024]⟩ _ hb (ix2 r k) * broadcastTo ⟨2, ![M, 1024]⟩ g hg (ix2 r k) + broadcastTo ⟨2, ![M, 1024]⟩ b hg (ix2 r k) = _
  rw [e1, e2, e2]
  show d (ix2 r k) * Ideal.rsqrt (Ideal.div (shapeCast ⟨2, ![M, 1]⟩ _ hs (ix2 r 0)) _ + _) * _ + _ = _
  rw [e3]
  show d (ix2 r k) * Ideal.rsqrt (Ideal.div (Ideal.reduceAdd hr (fun i => d i * d i) (ix1 r)) _ + _) * _ + _ = _
  rw [Ideal.reduceAdd_r2_a1]
  show d (ix2 r k) * Ideal.rsqrt (Ideal.div (∑ q : Fin 1024, d (ix2 r q) * d (ix2 r q)) _ + _) * _ + _ = _
  simp only [ed]
  rfl

end Conv
-- ==== Proof.Conv9.lean ====
module

public import proofs.«01_k».proof.Proof.Hist9
public import proofs.«01_k».proof.Proof.ConvMath

/-! The convolved rows that the convolution's call keeps in its scratch, for the sample group. -/

@[expose] public section

set_option maxRecDepth 65536
set_option maxHeartbeats 4000000

open Cert.Kernel9Ideal Cert.Kernel9Ideal.Gen Idealize.ShloMosaic Idealize.ShloMosaic.TcCoe Idealize.SL.Sem

namespace Conv9
open Hist9 (hz2)

/-- An index of two coordinates is their pair. -/
theorem idx2 {p q : ℕ} (x : (⟨2, ![p, q]⟩ : Shape).Idx) : x = ix2 (x 0) (x 1) :=
  funext fun a => match a with
    | 0 => rfl
    | 1 => rfl

/-- Every store into the scratch puts convolved rows there. -/
theorem pieces (c : Dev nD) (arg1 : Memref sig .tc .vmem S64x1024 .bf16) (h1 : arg1.IsWhole) (arg2 : Memref sig .tc .vmem S64x1024 .bf16) (h2 : arg2.IsWhole) (arg3 : Memref sig .tc .vmem S8x30x1024 .f32) (h3 : arg3.IsWhole) (arg4 : Memref sig .tc .vmem S31x1024 .f32) (h4 : arg4.IsWhole) (arg5 : Memref sig .tc .vmem S1x1024 .f32) (h5 : arg5.IsWhole)
    (x0 x1 : Vec Ideal S64x1024 .bf16) (x2 : Vec Ideal S8x30x1024 .f32) (x3 : Vec Ideal S31x1024 .f32) (x4 : Vec Ideal S1x1024 .f32) :
    ∀ p ∈ kernelRun0_A.sl.HS0_8 c arg1 h1 arg2 h2 arg3 h3 arg4 h4 arg5 h5 x0 x1 x2 x3 x4, ∀ x : p.1.shape.Idx,
      p.2 x = Conv.rows x2 (k0_pay2 x0 x1) x3 x4 (p.1.emb x) := by
  sl_unfold_words
  simp only [View.readAt_eq_ld, h1.read_unread, h2.read_unread, h3.read_unread, h4.read_unread, h5.read_unread]
  repeat rw [View.ld_unit_zero hz2]
  simp only [List.forall_mem_cons]
  refine ⟨?_, ?_, ?_, ?_, ?_, ?_, ?_, ?_, fun p hp => absurd hp List.not_mem_nil⟩
  · intro x
    obtain ⟨r, k, rfl⟩ : ∃ (r : Fin 8) (k : Fin 1024), x = ix2 r k := ⟨x 0, x 1, idx2 x⟩
    refine Eq.trans ?_ (Conv.rows_emb x2 (k0_pay2 x0 x1) x3 x4 (b := 7) rfl (by decide) _ (ix2 r k)).symm
    show _ = Conv.acc (x4 (ix2 0 k)) (Conv.tap x2 (k0_pay2 x0 x1) x3 ⟨7, by decide⟩ r k) 31
    dsimp only [k0_pay129, k0_pay130, k0_pay131, k0_pay132, k0_pay133, k0_pay134, k0_pay135, k0_pay137, k0_pay138, k0_pay139, k0_pay140, k0_pay142]
    refine (congrFun (shapeCast_self (s := ⟨2, ![8, 1024]⟩) _ _) (ix2 r k)).trans ?_
    refine Conv.step x2 (k0_pay2 x0 x1) x3 (n := 30) (by decide) _ _ _ _ _ _ _ _ _ (Conv.new_apply x2 (k0_pay2 x0 x1) (by decide) _ r k _) ?_
    iterate 7 refine Conv.step x2 (k0_pay2 x0 x1) x3 (by decide) _ _ _ _ _ _ _ _ _ (Conv.mixed_apply x2 (k0_pay2 x0 x1) (by decide) (by decide) (by decide) (by decide) (by decide) _ r k _ _ _ _ _) ?_
    iterate 23 refine Conv.step x2 (k0_pay2 x0 x1) x3 (by decide) _ _ _ _ _ _ _ _ _ (Conv.old_apply x2 (k0_pay2 x0 x1) (by decide) _ r k _ _) ?_
    exact Conv.bias_apply x4 _ r k _ _ _
  · intro x
    obtain ⟨r, k, rfl⟩ : ∃ (r : Fin 8) (k : Fin 1024), x = ix2 r k := ⟨x 0, x 1, idx2 x⟩
    refine Eq.trans ?_ (Conv.rows_emb x2 (k0_pay2 x0 x1) x3 x4 (b := 6) rfl (by decide) _ (ix2 r k)).symm
    show _ = Conv.acc (x4 (ix2 0 k)) (Conv.tap x2 (k0_pay2 x0 x1) x3 ⟨6, by decide⟩ r k) 31
    dsimp only [k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125]
    refine (congrFun (shapeCast_self (s := ⟨2, ![8, 1024]⟩) _ _) (ix2 r k)).trans ?_
    refine Conv.step x2 (k0_pay2 x0 x1) x3 (n := 30) (by decide) _ _ _ _ _ _ _ _ _ (Conv.new_apply x2 (k0_pay2 x0 x1) (by decide) _ r k _) ?_
    iterate 7 refine Conv.step x2 (k0_pay2 x0 x1) x3 (by decide) _ _ _ _ _ _ _ _ _ (Conv.mixed_apply x2 (k0_pay2 x0 x1) (by decide) (by decide) (by decide) (by decide) (by decide) _ r k _ _ _ _ _) ?_
    iterate 23 refine Conv.step x2 (k0_pay2 x0 x1) x3 (by decide) _ _ _ _ _ _ _ _ _ (Conv.old_apply x2 (k0_pay2 x0 x1) (by decide) _ r k _ _) ?_
    exact Conv.bias_apply x4 _ r k _ _ _
  · intro x
    obtain ⟨r, k, rfl⟩ : ∃ (r : Fin 8) (k : Fin 1024), x = ix2 r k := ⟨x 0, x 1, idx2 x⟩
    refine Eq.trans ?_ (Conv.rows_emb x2 (k0_pay2 x0 x1) x3 x4 (b := 5) rfl (by decide) _ (ix2 r k)).symm
    show _ = Conv.acc (x4 (ix2 0 k)) (Conv.tap x2 (k0_pay2 x0 x1) x3 ⟨5, by decide⟩ r k) 31
    dsimp only [k0_pay91, k0_pay92, k0_pay93, k0_pay94, k0_pay95, k0_pay96, k0_pay97, k0_pay99, k0_pay100, k0_pay101, k0_pay102]
    refine (congrFun (shapeCast_self (s := ⟨2, ![8, 1024]⟩) _ _) (ix2 r k)).trans ?_
    refine Conv.step x2 (k0_pay2 x0 x1) x3 (n := 30) (by decide) _ _ _ _ _ _ _ _ _ (Conv.new_apply x2 (k0_pay2 x0 x1) (by decide) _ r k _) ?_
    iterate 7 refine Conv.step x2 (k0_pay2 x0 x1) x3 (by decide) _ _ _ _ _ _ _ _ _ (Conv.mixed_apply x2 (k0_pay2 x0 x1) (by decide) (by decide) (by decide) (by decide) (by decide) _ r k _ _ _ _ _) ?_
    iterate 23 refine Conv.step x2 (k0_pay2 x0 x1) x3 (by decide) _ _ _ _ _ _ _ _ _ (Conv.old_apply x2 (k0_pay2 x0 x1) (by decide) _ r k _ _) ?_
    exact Conv.bias_apply x4 _ r k _ _ _
  · intro x
    obtain ⟨r, k, rfl⟩ : ∃ (r : Fin 8) (k : Fin 1024), x = ix2 r k := ⟨x 0, x 1, idx2 x⟩
    refine Eq.trans ?_ (Conv.rows_emb x2 (k0_pay2 x0 x1) x3 x4 (b := 4) rfl (by decide) _ (ix2 r k)).symm
    show _ = Conv.acc (x4 (ix2 0 k)) (Conv.tap x2 (k0_pay2 x0 x1) x3 ⟨4, by decide⟩ r k) 31
    dsimp only [k0_pay71, k0_pay72, k0_pay73, k0_pay74, k0_pay75, k0_pay76, k0_pay77, k0_pay78, k0_pay79, k0_pay80, k0_pay81, k0_pay82, k0_pay83, k0_pay84, k0_pay85, k0_pay86, k0_pay87]
    refine (congrFun (shapeCast_self (s := ⟨2, ![8, 1024]⟩) _ _) (ix2 r k)).trans ?_
    refine Conv.step x2 (k0_pay2 x0 x1) x3 (n := 30) (by decide) _ _ _ _ _ _ _ _ _ (Conv.new_apply x2 (k0_pay2 x0 x1) (by decide) _ r k _) ?_
    iterate 7 refine Conv.step x2 (k0_pay2 x0 x1) x3 (by decide) _ _ _ _ _ _ _ _ _ (Conv.mixed_apply x2 (k0_pay2 x0 x1) (by decide) (by decide) (by decide) (by decide) (by decide) _ r k _ _ _ _ _) ?_
    iterate 23 refine Conv.step x2 (k0_pay2 x0 x1) x3 (by decide) _ _ _ _ _ _ _ _ _ (Conv.old_apply x2 (k0_pay2 x0 x1) (by decide) _ r k _ _) ?_
    exact Conv.bias_apply x4 _ r k _ _ _
  · intro x
    obtain ⟨r, k, rfl⟩ : ∃ (r : Fin 8) (k : Fin 1024), x = ix2 r k := ⟨x 0, x 1, idx2 x⟩
    refine Eq.trans ?_ (Conv.rows_emb x2 (k0_pay2 x0 x1) x3 x4 (b := 3) rfl (by decide) _ (ix2 r k)).symm
    show _ = Conv.acc (x4 (ix2 0 k)) (Conv.tap x2 (k0_pay2 x0 x1) x3 ⟨3, by decide⟩ r k) 31
    dsimp only [k0_pay51, k0_pay52, k0_pay53, k0_pay54, k0_pay55, k0_pay56, k0_pay57, k0_pay58, k0_pay59, k0_pay60, k0_pay61, k0_pay62, k0_pay63, k0_pay64, k0_pay65, k0_pay66, k0_pay67]
    refine (congrFun (shapeCast_self (s := ⟨2, ![8, 1024]⟩) _ _) (ix2 r k)).trans ?_
    refine Conv.step x2 (k0_pay2 x0 x1) x3 (n := 30) (by decide) _ _ _ _ _ _ _ _ _ (Conv.new_apply x2 (k0_pay2 x0 x1) (by decide) _ r k _) ?_
    iterate 7 refine Conv.step x2 (k0_pay2 x0 x1) x3 (by decide) _ _ _ _ _ _ _ _ _ (Conv.mixed_apply x2 (k0_pay2 x0 x1) (by decide) (by decide) (by decide) (by decide) (by decide) _ r k _ _ _ _ _) ?_
    iterate 23 refine Conv.step x2 (k0_pay2 x0 x1) x3 (by decide) _ _ _ _ _ _ _ _ _ (Conv.old_apply x2 (k0_pay2 x0 x1) (by decide) _ r k _ _) ?_
    exact Conv.bias_apply x4 _ r k _ _ _
  · intro x
    obtain ⟨r, k, rfl⟩ : ∃ (r : Fin 8) (k : Fin 1024), x = ix2 r k := ⟨x 0, x 1, idx2 x⟩
    refine Eq.trans ?_ (Conv.rows_emb x2 (k0_pay2 x0 x1) x3 x4 (b := 2) rfl (by decide) _ (ix2 r k)).symm
    show _ = Conv.acc (x4 (ix2 0 k)) (Conv.tap x2 (k0_pay2 x0 x1) x3 ⟨2, by decide⟩ r k) 31
    dsimp only [k0_pay35, k0_pay36, k0_pay37, k0_pay38, k0_pay39, k0_pay40, k0_pay41, k0_pay42, k0_pay43, k0_pay44, k0_pay45, k0_pay46, k0_pay47]
    refine (congrFun (shapeCast_self (s := ⟨2, ![8, 1024]⟩) _ _) (ix2 r k)).trans ?_
    refine Conv.step x2 (k0_pay2 x0 x1) x3 (n := 30) (by decide) _ _ _ _ _ _ _ _ _ (Conv.new_apply x2 (k0_pay2 x0 x1) (by decide) _ r k _) ?_
    iterate 7 refine Conv.step x2 (k0_pay2 x0 x1) x3 (by decide) _ _ _ _ _ _ _ _ _ (Conv.mixed_apply x2 (k0_pay2 x0 x1) (by decide) (by decide) (by decide) (by decide) (by decide) _ r k _ _ _ _ _) ?_
    iterate 23 refine Conv.step x2 (k0_pay2 x0 x1) x3 (by decide) _ _ _ _ _ _ _ _ _ (Conv.old_apply x2 (k0_pay2 x0 x1) (by decide) _ r k _ _) ?_
    exact Conv.bias_apply x4 _ r k _ _ _
  · intro x
    obtain ⟨r, k, rfl⟩ : ∃ (r : Fin 8) (k : Fin 1024), x = ix2 r k := ⟨x 0, x 1, idx2 x⟩
    refine Eq.trans ?_ (Conv.rows_emb x2 (k0_pay2 x0 x1) x3 x4 (b := 1) rfl (by decide) _ (ix2 r k)).symm
    show _ = Conv.acc (x4 (ix2 0 k)) (Conv.tap x2 (k0_pay2 x0 x1) x3 ⟨1, by decide⟩ r k) 31
    dsimp only [k0_pay17, k0_pay18, k0_pay19, k0_pay20, k0_pay21, k0_pay22, k0_pay23, k0_pay24, k0_pay25, k0_pay26, k0_pay27, k0_pay28, k0_pay29, k0_pay30, k0_pay31]
    refine (congrFun (shapeCast_self (s := ⟨2, ![8, 1024]⟩) _ _) (ix2 r k)).trans ?_
    refine Conv.step x2 (k0_pay2 x0 x1) x3 (n := 30) (by decide) _ _ _ _ _ _ _ _ _ (Conv.new_apply x2 (k0_pay2 x0 x1) (by decide) _ r k _) ?_
    iterate 7 refine Conv.step x2 (k0_pay2 x0 x1) x3 (by decide) _ _ _ _ _ _ _ _ _ (Conv.mixed_apply x2 (k0_pay2 x0 x1) (by decide) (by decide) (by decide) (by decide) (by decide) _ r k _ _ _ _ _) ?_
    iterate 23 refine Conv.step x2 (k0_pay2 x0 x1) x3 (by decide) _ _ _ _ _ _ _ _ _ (Conv.old_apply x2 (k0_pay2 x0 x1) (by decide) _ r k _ _) ?_
    exact Conv.bias_apply x4 _ r k _ _ _
  · intro x
    obtain ⟨r, k, rfl⟩ : ∃ (r : Fin 8) (k : Fin 1024), x = ix2 r k := ⟨x 0, x 1, idx2 x⟩
    refine Eq.trans ?_ (Conv.rows_emb x2 (k0_pay2 x0 x1) x3 x4 (b := 0) rfl (by decide) _ (ix2 r k)).symm
    show _ = Conv.acc (x4 (ix2 0 k)) (Conv.tap x2 (k0_pay2 x0 x1) x3 ⟨0, by decide⟩ r k) 31
    dsimp only [k0_pay3, k0_pay4, k0_pay5, k0_pay6, k0_pay7, k0_pay8, k0_pay9, k0_pay10, k0_pay11, k0_pay12]
    refine (congrFun (shapeCast_self (s := ⟨2, ![8, 1024]⟩) _ _) (ix2 r k)).trans ?_
    refine Conv.step x2 (k0_pay2 x0 x1) x3 (n := 30) (by decide) _ _ _ _ _ _ _ _ _ (Conv.new_apply x2 (k0_pay2 x0 x1) (by decide) _ r k _) ?_
    iterate 7 refine Conv.step x2 (k0_pay2 x0 x1) x3 (by decide) _ _ _ _ _ _ _ _ _ (Conv.mixed_apply x2 (k0_pay2 x0 x1) (by decide) (by decide) (by decide) (by decide) (by decide) _ r k _ _ _ _ _) ?_
    iterate 23 refine Conv.step x2 (k0_pay2 x0 x1) x3 (by decide) _ _ _ _ _ _ _ _ _ (Conv.old_apply x2 (k0_pay2 x0 x1) (by decide) _ r k _ _) ?_
    exact Conv.bias_apply x4 _ r k _ _ _

end Conv9
-- ==== Proof.ConvOut9.lean ====
module

public import proofs.«01_k».proof.Proof.Conv9

/-! The convolution branch's output of the sample group. -/

@[expose] public section

set_option maxRecDepth 65536

open Cert.Kernel9Ideal Cert.Kernel9Ideal.Gen Idealize.ShloMosaic Idealize.ShloMosaic.TcCoe Idealize.SL.Sem

namespace Conv9
open Hist9 (hz2)

/-- The scratch, read back, holds the convolved rows. -/
theorem scratch_eq (c : Dev nD) (arg1 : Memref sig .tc .vmem S64x1024 .bf16) (h1 : arg1.IsWhole) (arg2 : Memref sig .tc .vmem S64x1024 .bf16) (h2 : arg2.IsWhole) (arg3 : Memref sig .tc .vmem S8x30x1024 .f32) (h3 : arg3.IsWhole) (arg4 : Memref sig .tc .vmem S31x1024 .f32) (h4 : arg4.IsWhole) (arg5 : Memref sig .tc .vmem S1x1024 .f32) (h5 : arg5.IsWhole) (arg10 : Memref sig .tc .vmem S64x1024 .f32)
    (x0 x1 : Vec Ideal S64x1024 .bf16) (x2 : Vec Ideal S8x30x1024 .f32) (x3 : Vec Ideal S31x1024 .f32) (x4 : Vec Ideal S1x1024 .f32) :
    kernelRun0_A.sl.v2061 c arg1 h1 arg2 h2 arg3 h3 arg4 h4 arg5 h5 arg10 x0 x1 x2 x3 x4 = Conv.rows x2 (k0_pay2 x0 x1) x3 x4 := by
  unfold kernelRun0_A.sl.v2061 View.readCov
  rw [View.readAt_eq_ld, View.ld_unit_zero hz2]
  funext y
  exact View.read_writes_apply_of_pieces _ _ _ _ (pieces c arg1 h1 arg2 h2 arg3 h3 arg4 h4 arg5 h5 x0 x1 x2 x3 x4) y
    (View.cover_of_tiledL (kernelRun0_A.sl.HS0_8 c arg1 h1 arg2 h2 arg3 h3 arg4 h4 arg5 h5 x0 x1 x2 x3 x4) S8x1024.size (by sl_kernel_rfl) y)

/-- The branch's output, row by row: the convolved row, normalised, times its logistic. -/
noncomputable def out (c : S64x1024.Idx → EReal) (g b : S1x1024.Idx → EReal) : S64x1024.Idx → EReal := fun i =>
  Conv.silu (Conv.norm (fun k => c (ix2 (i 0) k)) (fun k => g (ix2 0 k)) (fun k => b (ix2 0 k)) (i 1))

/-- The normalised rows. -/
theorem pay145_apply (x : Vec Ideal S64x1024 .f32) (g b : Vec Ideal S1x1024 .f32) (r : Fin 64) (k : Fin 1024) :
    k0_pay145 (F := Ideal) x g b (ix2 r k) = Conv.norm (fun k => x (ix2 r k)) (fun k => g (ix2 0 k)) (fun k => b (ix2 0 k)) k := by
  unfold k0_pay145
  dsimp only
  rw [shapeCast_self, shapeCast_self]
  exact Conv.norm_apply x g b _ _ _ _ _ _ _ _ r k _ rfl

/-- What the body stores into its first result. -/
theorem out_eq (c : Dev nD) (i : grid0.Coords) (arg1 : Memref sig .tc .vmem S64x1024 .bf16) (h1 : arg1.IsWhole) (arg2 : Memref sig .tc .vmem S64x1024 .bf16) (h2 : arg2.IsWhole) (arg3 : Memref sig .tc .vmem S8x30x1024 .f32) (h3 : arg3.IsWhole) (arg4 : Memref sig .tc .vmem S31x1024 .f32) (h4 : arg4.IsWhole) (arg5 : Memref sig .tc .vmem S1x1024 .f32) (h5 : arg5.IsWhole) (arg6 : Memref sig .tc .vmem S1x1024 .f32) (h6 : arg6.IsWhole) (arg7 : Memref sig .tc .vmem S1x1024 .f32) (h7 : arg7.IsWhole) (arg8 : Memref sig .tc .vmem S64x1024 .f32) (h8 : arg8.IsWhole) (arg9 : Memref sig .tc .vmem S8x30x1024 .f32) (h9 : arg9.IsWhole) (arg10 : Memref sig .tc .vmem S64x1024 .f32) (h10 : arg10.IsWhole)
    (x0 x1 : Vec Ideal S64x1024 .bf16) (x2 : Vec Ideal S8x30x1024 .f32) (x3 : Vec Ideal S31x1024 .f32) (x4 x5 x6 : Vec Ideal S1x1024 .f32) :
    out0_A_7 c i arg1 h1 arg2 h2 arg3 h3 arg4 h4 arg5 h5 arg6 h6 arg7 h7 arg8 h8 arg9 h9 arg10 h10 x0 x1 x2 x3 x4 x5 x6
      = out (Conv.rows x2 (k0_pay2 x0 x1) x3 x4) x5 x6 := by
  funext y
  unfold out0_A_7
  refine View.read_writes_apply_of_pieces _ _ _ _ ?_ y (cover0_A_7 c i arg1 h1 arg2 h2 arg3 h3 arg4 h4 arg5 h5 arg6 h6 arg7 h7 arg8 h8 arg9 h9 arg10 h10 x0 x1 x2 x3 x4 x5 x6 y)
  unfold kernelRun0_A
  dsimp only
  simp only [List.forall_mem_cons]
  refine ⟨?_, fun p hp => absurd hp List.not_mem_nil⟩
  intro x
  unfold kernelRun0_A.sl.r_119 kernelRun0_A.sl.r_120
  simp only [scratch_eq, View.readAt_eq_ld, h6.read_unread, h7.read_unread]
  repeat rw [View.ld_unit_zero hz2]
  obtain ⟨r, k, rfl⟩ : ∃ (r : Fin 64) (k : Fin 1024), x = ix2 r k := ⟨x 0, x 1, idx2 x⟩
  have e : (Rect.unit (s := S64x1024) ![0, 0] ![64, 1024] inb_S64x1024_S64x1024_0_0).emb (ix2 r k) = ix2 r k := funext fun a => Fin.ext (by
    match a with
    | 0 => show 0 + 1 * r.val = r.val; omega
    | 1 => show 0 + 1 * k.val = k.val; omega)
  refine Eq.trans ?_ (congrArg (out (Conv.rows x2 (k0_pay2 x0 x1) x3 x4) x5 x6) e.symm)
  show k0_pay145 (F := Ideal) (Conv.rows x2 (k0_pay2 x0 x1) x3 x4) x5 x6 (ix2 r k) * Ideal.div (Ideal.ofBits .f32 0x3F800000#32) (Ideal.ofBits .f32 0x3F800000#32
    + Ideal.exp (Ideal.ofBits .f32 0x00000000#32 - k0_pay145 (F := Ideal) (Conv.rows x2 (k0_pay2 x0 x1) x3 x4) x5 x6 (ix2 r k))) = _
  rw [pay145_apply, Ideal.ofBits_one_f32, Ideal.ofBits_zero_f32, sub_eq_add_neg, zero_add]
  rfl

end Conv9
-- ==== Proof.ConvArray9.lean ====
module

public import proofs.«01_k».proof.Proof.ConvOut9

/-! The array that holds the sample group's convolved, normalised rows after the run. -/

@[expose] public section

set_option maxRecDepth 65536

open Cert.Kernel9Ideal Cert.Kernel9Ideal.Gen Idealize.ShloMosaic Idealize.ShloMosaic.TcCoe Idealize.SL.Sem

namespace Conv9

open Hist9 (argZ argH coords_lt coords_at)

/-- Row `n` of sequence `s`: thirty rows of history, then its eight gated rows. -/
noncomputable def seqRow (z : S1024x12288.Idx → EReal) (h : S1x128x30x1024.Idx → EReal) (s : Fin 128) (k : Fin 1024) (n : ℕ) : EReal :=
  if n < 30 then h (ix4 0 s ⟨n % 30, Nat.mod_lt _ (by decide)⟩ k)
  else Hist.glu (z (ix2 ⟨(8 * s.val + (n - 30)) % 1024, Nat.mod_lt _ (by decide)⟩ ⟨1024 + k.val, by omega⟩))
    (z (ix2 ⟨(8 * s.val + (n - 30)) % 1024, Nat.mod_lt _ (by decide)⟩ ⟨2048 + k.val, by omega⟩))

/-- The weighted row `j` of the window that starts at row `r` of sequence `s`. -/
noncomputable def term (z : S1024x12288.Idx → EReal) (h : S1x128x30x1024.Idx → EReal) (w : S1x31x1024.Idx → EReal) (s : Fin 128) (r : ℕ) (k : Fin 1024)
    (j : ℕ) : EReal :=
  w (ix3 0 ⟨j % 31, Nat.mod_lt _ (by decide)⟩ k) * seqRow z h s k (j + r)

/-- The convolved row `r` of sequence `s`. -/
noncomputable def conv (z : S1024x12288.Idx → EReal) (h : S1x128x30x1024.Idx → EReal) (w : S1x31x1024.Idx → EReal) (cb : S1x1024.Idx → EReal)
    (s : Fin 128) (r : ℕ) (k : Fin 1024) : EReal :=
  Conv.acc (cb (ix2 0 k)) (term z h w s r k) 31

/-- The branch's output, one row for each row of every sequence. -/
noncomputable def result (z : S1024x12288.Idx → EReal) (h : S1x128x30x1024.Idx → EReal) (w : S1x31x1024.Idx → EReal) (cb g lb : S1x1024.Idx → EReal) :
    S1024x1024.Idx → EReal := fun i =>
  Conv.silu (Conv.norm (conv z h w cb ⟨(i 0).val / 8, by have : (i 0).val < 1024 := (i 0).isLt; omega⟩ ((i 0).val % 8)) (fun k => g (ix2 0 k)) (fun k => lb (ix2 0 k)) (i 1))

theorem at3 : ∀ i : grid0.Coords, cc0_transform_3 i = ![0, 0] := by decide +kernel
theorem at4 : ∀ i : grid0.Coords, cc0_transform_4 i = ![0, 0] := by decide +kernel
theorem at5 : ∀ i : grid0.Coords, cc0_transform_5 i = ![0, 0] := by decide +kernel
theorem at6 : ∀ i : grid0.Coords, cc0_transform_6 i = ![0, 0] := by decide +kernel
theorem at7 : ∀ i : grid0.Coords, cc0_transform_7 i = ![(i 0).val, 0] := by decide +kernel

variable (m : (ℓ : Loc nD τ sig) → Buf (Elt Ideal) ℓ)

/-- The weights, the bias and the norm's weight and shift on core `c`. -/
abbrev argW (c : Dev nD) : S1x31x1024.Idx → EReal := m ((c : Thread nD τ).loc main_arg2)
abbrev argC (c : Dev nD) : S1x1024.Idx → EReal := m ((c : Thread nD τ).loc main_arg3)
abbrev argG (c : Dev nD) : S1x1024.Idx → EReal := m ((c : Thread nD τ).loc main_arg4)
abbrev argB (c : Dev nD) : S1x1024.Idx → EReal := m ((c : Thread nD τ).loc main_arg5)

theorem V_w (c : Dev nD) (j : Fin 31) (k : Fin 1024) : V m c main_v1 (ix2 j k) = argW m c (ix3 0 j k) := by
  unfold V
  after_reads_at

theorem V_c (c : Dev nD) (k : Fin 1024) : V m c main_v3 (ix2 0 k) = argC m c (ix2 0 k) := by
  unfold V
  after_reads_at

theorem V_g (c : Dev nD) (k : Fin 1024) : V m c main_v5 (ix2 0 k) = argG m c (ix2 0 k) := by
  unfold V
  after_reads_at

theorem V_b (c : Dev nD) (k : Fin 1024) : V m c main_v7 (ix2 0 k) = argB m c (ix2 0 k) := by
  unfold V
  after_reads_at

/-- The block of the weights. -/
theorem read3 (c : Dev nD) (t : Fin cfg0.N) (j : Fin 31) (k : Fin 1024) :
    (iblk m c 3 t : Vec Ideal S31x1024 .f32) (ix2 j k) = argW m c (ix3 0 j k) := by
  unfold iblk
  rw [View.read_apply]
  refine Eq.trans ?_ (V_w m c j k)
  show V m c main_v1 _ = _
  congr 1
  funext a
  apply Fin.ext
  match a with
  | 0 =>
    show cc0_transform_3 (grid0.coords t) 0 * 31 + 1 * j.val = j.val
    rw [at3]
    show 0 * 31 + 1 * j.val = j.val
    omega
  | 1 =>
    show cc0_transform_3 (grid0.coords t) 1 * 1024 + 1 * k.val = k.val
    rw [at3]
    show 0 * 1024 + 1 * k.val = k.val
    omega

/-- The block of the bias. -/
theorem read4 (c : Dev nD) (t : Fin cfg0.N) (k : Fin 1024) :
    (iblk m c 4 t : Vec Ideal S1x1024 .f32) (ix2 0 k) = argC m c (ix2 0 k) := by
  unfold iblk
  rw [View.read_apply]
  refine Eq.trans ?_ (V_c m c k)
  show V m c main_v3 _ = _
  congr 1
  funext a
  apply Fin.ext
  match a with
  | 0 =>
    show cc0_transform_4 (grid0.coords t) 0 * 1 + 1 * 0 = 0
    rw [at4]
    rfl
  | 1 =>
    show cc0_transform_4 (grid0.coords t) 1 * 1024 + 1 * k.val = k.val
    rw [at4]
    show 0 * 1024 + 1 * k.val = k.val
    omega

/-- The block of the norm's weight. -/
theorem read5 (c : Dev nD) (t : Fin cfg0.N) (k : Fin 1024) :
    (iblk m c 5 t : Vec Ideal S1x1024 .f32) (ix2 0 k) = argG m c (ix2 0 k) := by
  unfold iblk
  rw [View.read_apply]
  refine Eq.trans ?_ (V_g m c k)
  show V m c main_v5 _ = _
  congr 1
  funext a
  apply Fin.ext
  match a with
  | 0 =>
    show cc0_transform_5 (grid0.coords t) 0 * 1 + 1 * 0 = 0
    rw [at5]
    rfl
  | 1 =>
    show cc0_transform_5 (grid0.coords t) 1 * 1024 + 1 * k.val = k.val
    rw [at5]
    show 0 * 1024 + 1 * k.val = k.val
    omega

/-- The block of the norm's shift. -/
theorem read6 (c : Dev nD) (t : Fin cfg0.N) (k : Fin 1024) :
    (iblk m c 6 t : Vec Ideal S1x1024 .f32) (ix2 0 k) = argB m c (ix2 0 k) := by
  unfold iblk
  rw [View.read_apply]
  refine Eq.trans ?_ (V_b m c k)
  show V m c main_v7 _ = _
  congr 1
  funext a
  apply Fin.ext
  match a with
  | 0 =>
    show cc0_transform_6 (grid0.coords t) 0 * 1 + 1 * 0 = 0
    rw [at6]
    rfl
  | 1 =>
    show cc0_transform_6 (grid0.coords t) 1 * 1024 + 1 * k.val = k.val
    rw [at6]
    show 0 * 1024 + 1 * k.val = k.val
    omega

/-- A block's row of a sequence. -/
theorem row_eq (c : Dev nD) (t : Fin cfg0.N) (b : Fin 8) (k : Fin 1024) {n : ℕ} (hn : n < 38) :
    Conv.row (iblk m c 2 t : Vec Ideal S8x30x1024 .f32) (k0_pay2 (F := Ideal) (iblk m c 0 t) (iblk m c 1 t)) b k n
      = seqRow (argZ m c) (argH m c) ⟨8 * (grid0.coords t 0).val + b.val, by have := coords_lt t; omega⟩ k n := by
  have hc := coords_lt t
  unfold Conv.row seqRow
  by_cases lt : n < 30
  · rw [if_pos lt, if_pos lt]
    exact Hist9.read2 m c t b _ k
  · rw [if_neg lt, if_neg lt]
    refine (Hist9.pay2_apply _ _ _).trans ?_
    have e : ∀ (o : ℕ) (p) (q) (w : o + k.val < 12288),
        (ix2 ⟨64 * (grid0.coords t 0).val + (8 * b.val + (n - 30)) % 64, p⟩ ⟨o + k.val, w⟩ : S1024x12288.Idx)
          = ix2 ⟨(8 * (8 * (grid0.coords t 0).val + b.val) + (n - 30)) % 1024, q⟩ ⟨o + k.val, w⟩ := fun o p q w => by
      congr 1
      exact Fin.ext (by show 64 * (grid0.coords t 0).val + (8 * b.val + (n - 30)) % 64 = (8 * (8 * (grid0.coords t 0).val + b.val) + (n - 30)) % 1024; omega)
    exact congrArg₂ Hist.glu ((Hist9.read0 m c t _ k).trans (congrArg _ (e 1024 _ _ _))) ((Hist9.read1 m c t _ k).trans (congrArg _ (e 2048 _ _ _)))

/-- A block of convolved rows. -/
theorem rows_eq (c : Dev nD) (t : Fin cfg0.N) (r : Fin 64) (k : Fin 1024) (p q) :
    Conv.rows (iblk m c 2 t : Vec Ideal S8x30x1024 .f32) (k0_pay2 (F := Ideal) (iblk m c 0 t) (iblk m c 1 t)) (iblk m c 3 t : Vec Ideal S31x1024 .f32)
        (iblk m c 4 t : Vec Ideal S1x1024 .f32) (ix2 r k)
      = conv (argZ m c) (argH m c) (argW m c) (argC m c) ⟨(⟨64 * (grid0.coords t 0).val + r.val, p⟩ : Fin 1024).val / 8, q⟩
          ((⟨64 * (grid0.coords t 0).val + r.val, p⟩ : Fin 1024).val % 8) k := by
  have hc := coords_lt t
  have hr := r.isLt
  unfold Conv.rows conv
  refine Conv.acc_congr 31 (read4 m c t k) fun j hj => ?_
  refine congrArg₂ (· * ·) (read3 m c t _ k) ?_
  have es : ∀ x y, (⟨8 * (grid0.coords t 0).val + r.val / 8, x⟩ : Fin 128) = ⟨(64 * (grid0.coords t 0).val + r.val) / 8, y⟩ := fun x y => Fin.ext (by
    show 8 * (grid0.coords t 0).val + r.val / 8 = (64 * (grid0.coords t 0).val + r.val) / 8
    omega)
  refine (row_eq m c t ⟨r.val / 8, by omega⟩ k (n := j + r.val % 8) (by omega)).trans ?_
  refine congrArg₂ (fun s n => seqRow (argZ m c) (argH m c) s k n) (es _ _) ?_
  show j + r.val % 8 = j + (64 * (grid0.coords t 0).val + r.val) % 8
  omega

/-- What a grid point writes back. -/
theorem flushed7_eq (c : Dev nD) (t : Fin cfg0.N) :
    (dats m 0 c).flushed 7 t
      = ((cfg0.win 7).blk t).view.read (Elt Ideal) (result (argZ m c) (argH m c) (argW m c) (argC m c) (argG m c) (argB m c)) := by
  have h0 := coords_lt t
  rw [Value.flushed7_A, out_eq]
  funext i
  rw [View.read_apply]
  obtain ⟨r, k, rfl⟩ : ∃ (r : Fin 64) (k : Fin 1024), i = ix2 r k := ⟨i 0, i 1, idx2 i⟩
  have e : (((cfg0.win 7).blk t).view.emb (ix2 r k) : S1024x1024.Idx) = ix2 ⟨64 * (grid0.coords t 0).val + r.val, by omega⟩ k := by
    funext a
    apply Fin.ext
    match a with
    | 0 =>
      show cc0_transform_7 (grid0.coords t) 0 * 64 + 1 * r.val = 64 * (grid0.coords t 0).val + r.val
      rw [at7]
      show (grid0.coords t 0).val * 64 + 1 * r.val = 64 * (grid0.coords t 0).val + r.val
      omega
    | 1 =>
      show cc0_transform_7 (grid0.coords t) 1 * 1024 + 1 * k.val = k.val
      rw [at7]
      show 0 * 1024 + 1 * k.val = k.val
      omega
  refine Eq.trans ?_ (congrArg (result (argZ m c) (argH m c) (argW m c) (argC m c) (argG m c) (argB m c)) e.symm)
  show Conv.silu (Conv.norm _ _ _ k) = Conv.silu (Conv.norm _ _ _ k)
  refine congrArg Conv.silu (congr (congr (congrArg₂ Conv.norm ?_ ?_) ?_) rfl)
  · exact funext fun k => rows_eq m c t r k _ _
  · exact funext fun k => read5 m c t k
  · exact funext fun k => read6 m c t k

theorem final7 (c : Dev nD) :
    (dats m 0 c).arrAt 7 cfg0.N = result (argZ m c) (argH m c) (argW m c) (argC m c) (argG m c) (argB m c) :=
  (dats m 0 c).arrAt_eq_of_cover 7 (result (argZ m c) (argH m c) (argW m c) (argC m c) (argG m c) (argB m c)) (fun t _ => flushed7_eq m c t) fun i => by
    have i0 : (i 0 : Nat) < 1024 := (i 0).isLt
    have i1 : (i 1 : Nat) < 1024 := (i 1).isLt
    obtain ⟨t, hc⟩ : ∃ t : Fin cfg0.N, (grid0.coords t 0).val = (i 0 : Nat) / 64 := ⟨_, coords_at ⟨(i 0 : Nat) / 64, by omega⟩⟩
    refine ⟨t, flush0_7 t, ?_⟩
    show i ∈ ((View.whole main_v8_0).slice (win0_7.rect t)).set
    rw [View.set_slice_whole, Rect.mem_set_unit]
    intro a
    match a with
    | ⟨0, _⟩ =>
      show cc0_transform_7 (grid0.coords t) 0 * 64 ≤ (i 0 : Nat) ∧ (i 0 : Nat) < cc0_transform_7 (grid0.coords t) 0 * 64 + 64
      rw [at7]
      show (grid0.coords t 0).val * 64 ≤ (i 0 : Nat) ∧ (i 0 : Nat) < (grid0.coords t 0).val * 64 + 64
      rw [hc]
      omega
    | ⟨1, _⟩ =>
      show cc0_transform_7 (grid0.coords t) 1 * 1024 ≤ (i 1 : Nat) ∧ (i 1 : Nat) < cc0_transform_7 (grid0.coords t) 1 * 1024 + 1024
      rw [at7]
      show 0 * 1024 ≤ (i 1 : Nat) ∧ (i 1 : Nat) < 0 * 1024 + 1024
      omega

end Conv9
-- ==== Proof.ConvRef9.lean ====
module

public import proofs.«01_k».proof.Proof.HistRef9
public import proofs.«01_k».proof.Proof.ConvArray9

/-! The reference's convolved, normalised rows of the sample group. -/

@[expose] public section

open Idealize.ShloMosaic

namespace ConvRef9

open Cert.Reference9Ideal Cert.Reference9Ideal.Read

/-- A row of a sequence, old or new. -/
theorem v16_at (z : S1024x12288.Idx → EReal) (h : S1x128x30x1024.Idx → EReal) (s : Fin 128) (n : Fin 38) (k : Fin 1024) :
    val_main_v16 (F := Ideal) z h (ix3 s n k) = Conv9.seqRow z h s k n.val := by
  unfold val_main_v16 Conv9.seqRow
  by_cases lt : n.val < 30
  · rw [if_pos lt]
    refine (concatenate_pair_apply_left (t := S128x38x1024) (s₁ := S128x30x1024) (s₂ := S128x8x1024) 1 (val_main_v1 (F := Ideal) h) (val_main_v15 (F := Ideal) z) Gen.concatenates_S128x30x1024_S128x8x1024_S128x38x1024_d1 (ix3 s n k) rfl (ix3 s ⟨n.val % 30, Nat.mod_lt _ (by decide)⟩ k) fun b => ?_).trans (HistRef9.v1_at h s _ k)
    match b with
    | ⟨0, _⟩ => rfl
    | ⟨1, _⟩ => show n.val % 30 = n.val; omega
    | ⟨2, _⟩ => rfl
  · rw [if_neg lt]
    refine (concatenate_pair_apply_right (t := S128x38x1024) (s₁ := S128x30x1024) (s₂ := S128x8x1024) 1 (val_main_v1 (F := Ideal) h) (val_main_v15 (F := Ideal) z) Gen.concatenates_S128x30x1024_S128x8x1024_S128x38x1024_d1 (ix3 s n k) rfl rfl (ix3 s ⟨n.val - 30, by omega⟩ k) (fun b hb => ?_) ?_).trans ((HistRef9.v15_at z s ⟨n.val - 30, by omega⟩ k).trans ?_)
    · match b with
      | ⟨0, _⟩ => rfl
      | ⟨1, _⟩ => exact absurd rfl hb
      | ⟨2, _⟩ => rfl
    · show n.val - 30 + 30 = n.val
      omega
    · have e : ∀ (o : ℕ) (p) (q) (w : o + k.val < 12288), (ix2 ⟨8 * s.val + (n.val - 30), p⟩ ⟨o + k.val, w⟩ : S1024x12288.Idx)
          = ix2 ⟨(8 * s.val + (n.val - 30)) % 1024, q⟩ ⟨o + k.val, w⟩ := fun o p q w => by
        congr 1
        exact Fin.ext (by show 8 * s.val + (n.val - 30) = (8 * s.val + (n.val - 30)) % 1024; omega)
      exact congrArg₂ Hist.glu (congrArg z (e 1024 _ _ _)) (congrArg z (e 2048 _ _ _))

variable (z : S1024x12288.Idx → EReal) (h : S1x128x30x1024.Idx → EReal) (w : S1x31x1024.Idx → EReal) (cb g lb : S1x1024.Idx → EReal)

/-- The window's row `j`. -/
theorem window (s : Fin 128) (r : Fin 8) (k : Fin 1024) (j : ℕ) (hj : j < 31) (i : S128x38x1024.Idx) (e0 : (i 0).val = s.val) (e1 : (i 1).val = j + r.val)
    (e2 : (i 2).val = k.val) : val_main_v16 (F := Ideal) z h i = Conv9.seqRow z h s k (j + r.val) := by
  have e : i = ix3 s ⟨j + r.val, by omega⟩ k := funext fun d => Fin.ext (by
    match d with
    | ⟨0, _⟩ => exact e0
    | ⟨1, _⟩ => exact e1
    | ⟨2, _⟩ => exact e2)
  rw [e]
  exact v16_at z h s ⟨j + r.val, by omega⟩ k

/-- The weight `j`. -/
theorem weight (k : Fin 1024) (j : ℕ) (hj : j < 31) (i : S31x1024.Idx) (e0 : (i 0).val = j) (e1 : (i 1).val = k.val) :
    val_main_v2 (F := Ideal) w i = w (ix3 0 ⟨j % 31, Nat.mod_lt _ (by decide)⟩ k) := by
  rw [val_main_v2_apply]
  congr 1
  exact funext fun d => Fin.ext (by
    match d with
    | ⟨0, _⟩ => rfl
    | ⟨1, _⟩ =>
      show ((i 0).val * 1024 + (i 1).val) / 1024 % 31 = j % 31
      omega
    | ⟨2, _⟩ =>
      show ((i 0).val * 1024 + (i 1).val) % 1024 = k.val
      omega)

theorem tap0 (s : Fin 128) (r : Fin 8) (k : Fin 1024) : val_main_v23 (F := Ideal) z h w (ix3 s r k) = Conv9.term z h w s r.val k 0 := by
  rw [val_main_v23_apply, val_main_v22_apply, val_main_v21_apply, val_main_v19_apply, val_main_v18_apply, val_main_v20_apply]
  exact congrArg₂ (· * ·) (weight w k 0 (by decide) _ rfl (Nat.mod_eq_of_lt k.isLt)) (window z h s r k 0 (by decide) _ rfl (Nat.zero_add _).symm rfl)

theorem tap1 (s : Fin 128) (r : Fin 8) (k : Fin 1024) : val_main_v30 (F := Ideal) z h w (ix3 s r k) = Conv9.term z h w s r.val k 1 := by
  rw [val_main_v30_apply, val_main_v29_apply, val_main_v28_apply, val_main_v26_apply, val_main_v25_apply, val_main_v27_apply]
  exact congrArg₂ (· * ·) (weight w k 1 (by decide) _ rfl (Nat.mod_eq_of_lt k.isLt)) (window z h s r k 1 (by decide) _ rfl rfl rfl)

theorem tap2 (s : Fin 128) (r : Fin 8) (k : Fin 1024) : val_main_v37 (F := Ideal) z h w (ix3 s r k) = Conv9.term z h w s r.val k 2 := by
  rw [val_main_v37_apply, val_main_v36_apply, val_main_v35_apply, val_main_v33_apply, val_main_v32_apply, val_main_v34_apply]
  exact congrArg₂ (· * ·) (weight w k 2 (by decide) _ rfl (Nat.mod_eq_of_lt k.isLt)) (window z h s r k 2 (by decide) _ rfl rfl rfl)

theorem tap3 (s : Fin 128) (r : Fin 8) (k : Fin 1024) : val_main_v44 (F := Ideal) z h w (ix3 s r k) = Conv9.term z h w s r.val k 3 := by
  rw [val_main_v44_apply, val_main_v43_apply, val_main_v42_apply, val_main_v40_apply, val_main_v39_apply, val_main_v41_apply]
  exact congrArg₂ (· * ·) (weight w k 3 (by decide) _ rfl (Nat.mod_eq_of_lt k.isLt)) (window z h s r k 3 (by decide) _ rfl rfl rfl)

theorem tap4 (s : Fin 128) (r : Fin 8) (k : Fin 1024) : val_main_v51 (F := Ideal) z h w (ix3 s r k) = Conv9.term z h w s r.val k 4 := by
  rw [val_main_v51_apply, val_main_v50_apply, val_main_v49_apply, val_main_v47_apply, val_main_v46_apply, val_main_v48_apply]
  exact congrArg₂ (· * ·) (weight w k 4 (by decide) _ rfl (Nat.mod_eq_of_lt k.isLt)) (window z h s r k 4 (by decide) _ rfl rfl rfl)

theorem tap5 (s : Fin 128) (r : Fin 8) (k : Fin 1024) : val_main_v58 (F := Ideal) z h w (ix3 s r k) = Conv9.term z h w s r.val k 5 := by
  rw [val_main_v58_apply, val_main_v57_apply, val_main_v56_apply, val_main_v54_apply, val_main_v53_apply, val_main_v55_apply]
  exact congrArg₂ (· * ·) (weight w k 5 (by decide) _ rfl (Nat.mod_eq_of_lt k.isLt)) (window z h s r k 5 (by decide) _ rfl rfl rfl)

theorem tap6 (s : Fin 128) (r : Fin 8) (k : Fin 1024) : val_main_v65 (F := Ideal) z h w (ix3 s r k) = Conv9.term z h w s r.val k 6 := by
  rw [val_main_v65_apply, val_main_v64_apply, val_main_v63_apply, val_main_v61_apply, val_main_v60_apply, val_main_v62_apply]
  exact congrArg₂ (· * ·) (weight w k 6 (by decide) _ rfl (Nat.mod_eq_of_lt k.isLt)) (window z h s r k 6 (by decide) _ rfl rfl rfl)

theorem tap7 (s : Fin 128) (r : Fin 8) (k : Fin 1024) : val_main_v72 (F := Ideal) z h w (ix3 s r k) = Conv9.term z h w s r.val k 7 := by
  rw [val_main_v72_apply, val_main_v71_apply, val_main_v70_apply, val_main_v68_apply, val_main_v67_apply, val_main_v69_apply]
  exact congrArg₂ (· * ·) (weight w k 7 (by decide) _ rfl (Nat.mod_eq_of_lt k.isLt)) (window z h s r k 7 (by decide) _ rfl rfl rfl)

theorem tap8 (s : Fin 128) (r : Fin 8) (k : Fin 1024) : val_main_v79 (F := Ideal) z h w (ix3 s r k) = Conv9.term z h w s r.val k 8 := by
  rw [val_main_v79_apply, val_main_v78_apply, val_main_v77_apply, val_main_v75_apply, val_main_v74_apply, val_main_v76_apply]
  exact congrArg₂ (· * ·) (weight w k 8 (by decide) _ rfl (Nat.mod_eq_of_lt k.isLt)) (window z h s r k 8 (by decide) _ rfl rfl rfl)

theorem tap9 (s : Fin 128) (r : Fin 8) (k : Fin 1024) : val_main_v86 (F := Ideal) z h w (ix3 s r k) = Conv9.term z h w s r.val k 9 := by
  rw [val_main_v86_apply, val_main_v85_apply, val_main_v84_apply, val_main_v82_apply, val_main_v81_apply, val_main_v83_apply]
  exact congrArg₂ (· * ·) (weight w k 9 (by decide) _ rfl (Nat.mod_eq_of_lt k.isLt)) (window z h s r k 9 (by decide) _ rfl rfl rfl)

theorem tap10 (s : Fin 128) (r : Fin 8) (k : Fin 1024) : val_main_v93 (F := Ideal) z h w (ix3 s r k) = Conv9.term z h w s r.val k 10 := by
  rw [val_main_v93_apply, val_main_v92_apply, val_main_v91_apply, val_main_v89_apply, val_main_v88_apply, val_main_v90_apply]
  exact congrArg₂ (· * ·) (weight w k 10 (by decide) _ rfl (Nat.mod_eq_of_lt k.isLt)) (window z h s r k 10 (by decide) _ rfl rfl rfl)

theorem tap11 (s : Fin 128) (r : Fin 8) (k : Fin 1024) : val_main_v100 (F := Ideal) z h w (ix3 s r k) = Conv9.term z h w s r.val k 11 := by
  rw [val_main_v100_apply, val_main_v99_apply, val_main_v98_apply, val_main_v96_apply, val_main_v95_apply, val_main_v97_apply]
  exact congrArg₂ (· * ·) (weight w k 11 (by decide) _ rfl (Nat.mod_eq_of_lt k.isLt)) (window z h s r k 11 (by decide) _ rfl rfl rfl)

theorem tap12 (s : Fin 128) (r : Fin 8) (k : Fin 1024) : val_main_v107 (F := Ideal) z h w (ix3 s r k) = Conv9.term z h w s r.val k 12 := by
  rw [val_main_v107_apply, val_main_v106_apply, val_main_v105_apply, val_main_v103_apply, val_main_v102_apply, val_main_v104_apply]
  exact congrArg₂ (· * ·) (weight w k 12 (by decide) _ rfl (Nat.mod_eq_of_lt k.isLt)) (window z h s r k 12 (by decide) _ rfl rfl rfl)

theorem tap13 (s : Fin 128) (r : Fin 8) (k : Fin 1024) : val_main_v114 (F := Ideal) z h w (ix3 s r k) = Conv9.term z h w s r.val k 13 := by
  rw [val_main_v114_apply, val_main_v113_apply, val_main_v112_apply, val_main_v110_apply, val_main_v109_apply, val_main_v111_apply]
  exact congrArg₂ (· * ·) (weight w k 13 (by decide) _ rfl (Nat.mod_eq_of_lt k.isLt)) (window z h s r k 13 (by decide) _ rfl rfl rfl)

theorem tap14 (s : Fin 128) (r : Fin 8) (k : Fin 1024) : val_main_v121 (F := Ideal) z h w (ix3 s r k) = Conv9.term z h w s r.val k 14 := by
  rw [val_main_v121_apply, val_main_v120_apply, val_main_v119_apply, val_main_v117_apply, val_main_v116_apply, val_main_v118_apply]
  exact congrArg₂ (· * ·) (weight w k 14 (by decide) _ rfl (Nat.mod_eq_of_lt k.isLt)) (window z h s r k 14 (by decide) _ rfl rfl rfl)

theorem tap15 (s : Fin 128) (r : Fin 8) (k : Fin 1024) : val_main_v128 (F := Ideal) z h w (ix3 s r k) = Conv9.term z h w s r.val k 15 := by
  rw [val_main_v128_apply, val_main_v127_apply, val_main_v126_apply, val_main_v124_apply, val_main_v123_apply, val_main_v125_apply]
  exact congrArg₂ (· * ·) (weight w k 15 (by decide) _ rfl (Nat.mod_eq_of_lt k.isLt)) (window z h s r k 15 (by decide) _ rfl rfl rfl)

theorem tap16 (s : Fin 128) (r : Fin 8) (k : Fin 1024) : val_main_v135 (F := Ideal) z h w (ix3 s r k) = Conv9.term z h w s r.val k 16 := by
  rw [val_main_v135_apply, val_main_v134_apply, val_main_v133_apply, val_main_v131_apply, val_main_v130_apply, val_main_v132_apply]
  exact congrArg₂ (· * ·) (weight w k 16 (by decide) _ rfl (Nat.mod_eq_of_lt k.isLt)) (window z h s r k 16 (by decide) _ rfl rfl rfl)

theorem tap17 (s : Fin 128) (r : Fin 8) (k : Fin 1024) : val_main_v142 (F := Ideal) z h w (ix3 s r k) = Conv9.term z h w s r.val k 17 := by
  rw [val_main_v142_apply, val_main_v141_apply, val_main_v140_apply, val_main_v138_apply, val_main_v137_apply, val_main_v139_apply]
  exact congrArg₂ (· * ·) (weight w k 17 (by decide) _ rfl (Nat.mod_eq_of_lt k.isLt)) (window z h s r k 17 (by decide) _ rfl rfl rfl)

theorem tap18 (s : Fin 128) (r : Fin 8) (k : Fin 1024) : val_main_v149 (F := Ideal) z h w (ix3 s r k) = Conv9.term z h w s r.val k 18 := by
  rw [val_main_v149_apply, val_main_v148_apply, val_main_v147_apply, val_main_v145_apply, val_main_v144_apply, val_main_v146_apply]
  exact congrArg₂ (· * ·) (weight w k 18 (by decide) _ rfl (Nat.mod_eq_of_lt k.isLt)) (window z h s r k 18 (by decide) _ rfl rfl rfl)

theorem tap19 (s : Fin 128) (r : Fin 8) (k : Fin 1024) : val_main_v156 (F := Ideal) z h w (ix3 s r k) = Conv9.term z h w s r.val k 19 := by
  rw [val_main_v156_apply, val_main_v155_apply, val_main_v154_apply, val_main_v152_apply, val_main_v151_apply, val_main_v153_apply]
  exact congrArg₂ (· * ·) (weight w k 19 (by decide) _ rfl (Nat.mod_eq_of_lt k.isLt)) (window z h s r k 19 (by decide) _ rfl rfl rfl)

theorem tap20 (s : Fin 128) (r : Fin 8) (k : Fin 1024) : val_main_v163 (F := Ideal) z h w (ix3 s r k) = Conv9.term z h w s r.val k 20 := by
  rw [val_main_v163_apply, val_main_v162_apply, val_main_v161_apply, val_main_v159_apply, val_main_v158_apply, val_main_v160_apply]
  exact congrArg₂ (· * ·) (weight w k 20 (by decide) _ rfl (Nat.mod_eq_of_lt k.isLt)) (window z h s r k 20 (by decide) _ rfl rfl rfl)

theorem tap21 (s : Fin 128) (r : Fin 8) (k : Fin 1024) : val_main_v170 (F := Ideal) z h w (ix3 s r k) = Conv9.term z h w s r.val k 21 := by
  rw [val_main_v170_apply, val_main_v169_apply, val_main_v168_apply, val_main_v166_apply, val_main_v165_apply, val_main_v167_apply]
  exact congrArg₂ (· * ·) (weight w k 21 (by decide) _ rfl (Nat.mod_eq_of_lt k.isLt)) (window z h s r k 21 (by decide) _ rfl rfl rfl)

theorem tap22 (s : Fin 128) (r : Fin 8) (k : Fin 1024) : val_main_v177 (F := Ideal) z h w (ix3 s r k) = Conv9.term z h w s r.val k 22 := by
  rw [val_main_v177_apply, val_main_v176_apply, val_main_v175_apply, val_main_v173_apply, val_main_v172_apply, val_main_v174_apply]
  exact congrArg₂ (· * ·) (weight w k 22 (by decide) _ rfl (Nat.mod_eq_of_lt k.isLt)) (window z h s r k 22 (by decide) _ rfl rfl rfl)

theorem tap23 (s : Fin 128) (r : Fin 8) (k : Fin 1024) : val_main_v184 (F := Ideal) z h w (ix3 s r k) = Conv9.term z h w s r.val k 23 := by
  rw [val_main_v184_apply, val_main_v183_apply, val_main_v182_apply, val_main_v180_apply, val_main_v179_apply, val_main_v181_apply]
  exact congrArg₂ (· * ·) (weight w k 23 (by decide) _ rfl (Nat.mod_eq_of_lt k.isLt)) (window z h s r k 23 (by decide) _ rfl rfl rfl)

theorem tap24 (s : Fin 128) (r : Fin 8) (k : Fin 1024) : val_main_v191 (F := Ideal) z h w (ix3 s r k) = Conv9.term z h w s r.val k 24 := by
  rw [val_main_v191_apply, val_main_v190_apply, val_main_v189_apply, val_main_v187_apply, val_main_v186_apply, val_main_v188_apply]
  exact congrArg₂ (· * ·) (weight w k 24 (by decide) _ rfl (Nat.mod_eq_of_lt k.isLt)) (window z h s r k 24 (by decide) _ rfl rfl rfl)

theorem tap25 (s : Fin 128) (r : Fin 8) (k : Fin 1024) : val_main_v198 (F := Ideal) z h w (ix3 s r k) = Conv9.term z h w s r.val k 25 := by
  rw [val_main_v198_apply, val_main_v197_apply, val_main_v196_apply, val_main_v194_apply, val_main_v193_apply, val_main_v195_apply]
  exact congrArg₂ (· * ·) (weight w k 25 (by decide) _ rfl (Nat.mod_eq_of_lt k.isLt)) (window z h s r k 25 (by decide) _ rfl rfl rfl)

theorem tap26 (s : Fin 128) (r : Fin 8) (k : Fin 1024) : val_main_v205 (F := Ideal) z h w (ix3 s r k) = Conv9.term z h w s r.val k 26 := by
  rw [val_main_v205_apply, val_main_v204_apply, val_main_v203_apply, val_main_v201_apply, val_main_v200_apply, val_main_v202_apply]
  exact congrArg₂ (· * ·) (weight w k 26 (by decide) _ rfl (Nat.mod_eq_of_lt k.isLt)) (window z h s r k 26 (by decide) _ rfl rfl rfl)

theorem tap27 (s : Fin 128) (r : Fin 8) (k : Fin 1024) : val_main_v212 (F := Ideal) z h w (ix3 s r k) = Conv9.term z h w s r.val k 27 := by
  rw [val_main_v212_apply, val_main_v211_apply, val_main_v210_apply, val_main_v208_apply, val_main_v207_apply, val_main_v209_apply]
  exact congrArg₂ (· * ·) (weight w k 27 (by decide) _ rfl (Nat.mod_eq_of_lt k.isLt)) (window z h s r k 27 (by decide) _ rfl rfl rfl)

theorem tap28 (s : Fin 128) (r : Fin 8) (k : Fin 1024) : val_main_v219 (F := Ideal) z h w (ix3 s r k) = Conv9.term z h w s r.val k 28 := by
  rw [val_main_v219_apply, val_main_v218_apply, val_main_v217_apply, val_main_v215_apply, val_main_v214_apply, val_main_v216_apply]
  exact congrArg₂ (· * ·) (weight w k 28 (by decide) _ rfl (Nat.mod_eq_of_lt k.isLt)) (window z h s r k 28 (by decide) _ rfl rfl rfl)

theorem tap29 (s : Fin 128) (r : Fin 8) (k : Fin 1024) : val_main_v226 (F := Ideal) z h w (ix3 s r k) = Conv9.term z h w s r.val k 29 := by
  rw [val_main_v226_apply, val_main_v225_apply, val_main_v224_apply, val_main_v222_apply, val_main_v221_apply, val_main_v223_apply]
  exact congrArg₂ (· * ·) (weight w k 29 (by decide) _ rfl (Nat.mod_eq_of_lt k.isLt)) (window z h s r k 29 (by decide) _ rfl rfl rfl)

theorem tap30 (s : Fin 128) (r : Fin 8) (k : Fin 1024) : val_main_v233 (F := Ideal) z h w (ix3 s r k) = Conv9.term z h w s r.val k 30 := by
  rw [val_main_v233_apply, val_main_v232_apply, val_main_v231_apply, val_main_v229_apply, val_main_v228_apply, val_main_v230_apply]
  exact congrArg₂ (· * ·) (weight w k 30 (by decide) _ rfl (Nat.mod_eq_of_lt k.isLt)) (window z h s r k 30 (by decide) _ rfl rfl rfl)

/-- The thirty-one weighted rows, added up. -/
theorem v234_at (s : Fin 128) (r : Fin 8) (k : Fin 1024) : val_main_v234 (F := Ideal) z h w (ix3 s r k) = Conv.acc 0 (Conv9.term z h w s r.val k) 31 := by
  have e0 : val_main_v17 (F := Ideal) (ix3 s r k) = 0 := by
    rw [val_main_v17_apply, val_main_cst_1_apply]
    exact Ideal.ofBits_zero_f32
  rw [val_main_v234_apply, val_main_v227_apply, val_main_v220_apply, val_main_v213_apply, val_main_v206_apply, val_main_v199_apply, val_main_v192_apply, val_main_v185_apply, val_main_v178_apply, val_main_v171_apply, val_main_v164_apply, val_main_v157_apply, val_main_v150_apply, val_main_v143_apply, val_main_v136_apply, val_main_v129_apply, val_main_v122_apply, val_main_v115_apply, val_main_v108_apply, val_main_v101_apply, val_main_v94_apply, val_main_v87_apply, val_main_v80_apply, val_main_v73_apply, val_main_v66_apply, val_main_v59_apply, val_main_v52_apply, val_main_v45_apply, val_main_v38_apply, val_main_v31_apply, val_main_v24_apply]
  rw [tap0, tap1, tap2, tap3, tap4, tap5, tap6, tap7, tap8, tap9, tap10, tap11, tap12, tap13, tap14, tap15, tap16, tap17, tap18, tap19, tap20, tap21, tap22, tap23, tap24, tap25, tap26, tap27, tap28, tap29, tap30, e0]
  rfl

/-- The convolved rows. -/
theorem v237_at (s : Fin 128) (r : Fin 8) (k : Fin 1024) : val_main_v237 (F := Ideal) z h w cb (ix3 s r k) = Conv9.conv z h w cb s r.val k := by
  rw [val_main_v237_apply, v234_at, val_main_v236_apply, val_main_v235_apply, val_main_v3_apply]
  refine Eq.trans ?_ (Conv.acc_zero_add _ _ 31)
  refine congrArg (fun y => Conv.acc 0 (Conv9.term z h w s r.val k) 31 + cb y) ?_
  exact funext fun d => Fin.ext (by
    match d with
    | ⟨0, _⟩ => rfl
    | ⟨1, _⟩ => exact Nat.mod_eq_of_lt k.isLt)

/-- The rows' means. -/
theorem v241_at (s : Fin 128) (r : Fin 8) (i : S128x8x1.Idx) (e0 : (i 0).val = s.val) (e1 : (i 1).val = r.val) :
    val_main_v241 (F := Ideal) z h w cb i = Conv.mean (Conv9.conv z h w cb s r.val) := by
  rw [val_main_v241_apply, val_main_v240_apply, val_main_cst_3_apply, val_main_v239_apply, val_main_v238_apply, val_main_cst_2_apply]
  have e : ∀ q, idx_main_v238 (idx_main_v239 i) q = ix3 s r q := fun q => funext fun d => Fin.ext (by
    match d with
    | ⟨0, _⟩ => exact e0
    | ⟨1, _⟩ => exact e1
    | ⟨2, _⟩ => rfl)
  simp only [e, v237_at]
  show Ideal.div (Ideal.ofBits .f32 0x00000000#32 + _) _ = _
  rw [Ideal.ofBits_zero_f32, zero_add]
  rfl

/-- The rows less their means. -/
theorem v243_at (s : Fin 128) (r : Fin 8) (k : Fin 1024) : val_main_v243 (F := Ideal) z h w cb (ix3 s r k)
    = Conv9.conv z h w cb s r.val k - Conv.mean (Conv9.conv z h w cb s r.val) := by
  rw [val_main_v243_apply, val_main_v242_apply, v241_at z h w cb s r _ rfl rfl, v237_at]
  rfl

theorem v250_at (s : Fin 128) (r : Fin 8) (k : Fin 1024) : val_main_v250 (F := Ideal) z h w cb (ix3 s r k)
    = Conv9.conv z h w cb s r.val k - Conv.mean (Conv9.conv z h w cb s r.val) := by
  rw [val_main_v250_apply, val_main_v249_apply, v241_at z h w cb s r _ rfl rfl, v237_at]
  rfl

/-- The rows' variances. -/
theorem v248_at (s : Fin 128) (r : Fin 8) (i : S128x8x1.Idx) (e0 : (i 0).val = s.val) (e1 : (i 1).val = r.val) :
    val_main_v248 (F := Ideal) z h w cb i = Conv.mean (fun k => (Conv9.conv z h w cb s r.val k - Conv.mean (Conv9.conv z h w cb s r.val))
      * (Conv9.conv z h w cb s r.val k - Conv.mean (Conv9.conv z h w cb s r.val))) := by
  rw [val_main_v248_apply, val_main_v247_apply, val_main_cst_5_apply, val_main_v246_apply, val_main_v245_apply, val_main_cst_4_apply]
  have e : ∀ q, idx_main_v245 (idx_main_v246 i) q = ix3 s r q := fun q => funext fun d => Fin.ext (by
    match d with
    | ⟨0, _⟩ => exact e0
    | ⟨1, _⟩ => exact e1
    | ⟨2, _⟩ => rfl)
  simp only [e, val_main_v244_apply, v243_at]
  show Ideal.div (Ideal.ofBits .f32 0x00000000#32 + _) _ = _
  rw [Ideal.ofBits_zero_f32, zero_add]
  rfl

/-- The normalised rows. -/
theorem v261_at (s : Fin 128) (r : Fin 8) (k : Fin 1024) : val_main_v261 (F := Ideal) z h w cb g lb (ix3 s r k)
    = Conv.norm (Conv9.conv z h w cb s r.val) (fun k => g (ix2 0 k)) (fun k => lb (ix2 0 k)) k := by
  rw [val_main_v261_apply, val_main_v260_apply, val_main_v259_apply, val_main_v5_apply, val_main_v258_apply, val_main_v257_apply, val_main_v256_apply,
    val_main_v4_apply, val_main_v255_apply, v250_at, val_main_v254_apply, val_main_v253_apply, val_main_v252_apply, val_main_v251_apply, val_main_cst_6_apply,
    v248_at z h w cb s r _ rfl rfl]
  have eg : idx_main_v4 (idx_main_v256 (idx_main_v257 (ix3 s r k))) = ix2 0 k := funext fun d => Fin.ext (by
    match d with
    | ⟨0, _⟩ => rfl
    | ⟨1, _⟩ => exact Nat.mod_eq_of_lt k.isLt)
  have eb : idx_main_v5 (idx_main_v259 (idx_main_v260 (ix3 s r k))) = ix2 0 k := funext fun d => Fin.ext (by
    match d with
    | ⟨0, _⟩ => rfl
    | ⟨1, _⟩ => exact Nat.mod_eq_of_lt k.isLt)
  rw [eg, eb]
  rfl

/-- The reference's output is the kernel's. -/
theorem v264_eq : val_main_v264 (F := Ideal) z h w cb g lb = Conv9.result z h w cb g lb := by
  funext i
  obtain ⟨n, k, rfl⟩ : ∃ (n k : Fin 1024), i = ix2 n k := ⟨i 0, i 1, Conv9.idx2 i⟩
  rw [val_main_v264_apply]
  have e : idx_main_v264 (ix2 n k) = ix3 ⟨n.val / 8, by omega⟩ ⟨n.val % 8, Nat.mod_lt _ (by decide)⟩ k := funext fun d => Fin.ext (by
    match d with
    | ⟨0, _⟩ => show (n.val * 1024 + k.val) / 8192 = n.val / 8; omega
    | ⟨1, _⟩ => show (n.val * 1024 + k.val) / 1024 % 8 = n.val % 8; omega
    | ⟨2, _⟩ => show (n.val * 1024 + k.val) % 1024 = k.val; omega)
  rw [e, val_main_v262_apply, val_main_call0_v5_apply, val_main_call0_v4_apply, val_main_call0_cst_0_apply, val_main_call0_v3_apply, val_main_call0_v2_apply,
    val_main_call0_cst_apply, val_main_call0_v1_apply, val_main_call0_v0_apply, v261_at]
  show _ * Ideal.div (Ideal.ofBits .f32 0x3F800000#32) (Ideal.ofBits .f32 0x3F800000#32 + Ideal.exp (- _)) = _
  rw [Ideal.ofBits_one_f32]
  rfl

end ConvRef9
-- ==== Proof.Claim9.lean ====
module

public import proofs.«01_k».proof.Defs
public import proofs.«01_k».proof.Proof.Gen.Kernel9.Frame
public import proofs.«01_k».proof.Proof.Gen.Reference9Ideal.Run
public import proofs.«01_k».proof.Proof.Hist9
public import proofs.«01_k».proof.Proof.HistRef9
public import proofs.«01_k».proof.Proof.ConvArray9
public import proofs.«01_k».proof.Proof.ConvRef9
public import Idealize.ShloMosaic.Lib.Claim

/-! The claims of the sample group's convolution branch and its history. -/

@[expose] public section

open Idealize.ShloMosaic Idealize.ShloMosaic.TcCoe Idealize.SL.Sem

namespace Cert.Proof.Hist9

theorem frame_kernel : Cert.quiescent_Kernel9 (hKernel9 := Cert.Kernel9.Gen.facts) := fun m ρ _ => Cert.Kernel9.Gen.frame m ρ

theorem frame_ideal : Cert.quiescent_Kernel9Ideal (hKernel9Ideal := Cert.Kernel9Ideal.Gen.facts) := fun m ρ _ => Cert.Kernel9Ideal.Gen.frame m ρ

theorem frame_reference : Cert.quiescent_Reference9Ideal (hReference9Ideal := Cert.Reference9Ideal.Gen.facts) := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem preserves : Cert.preserves_Kernel9_Kernel9Ideal := trivial

/-- The kernel's output and history are the reference's, over the extended reals. -/
theorem algebraic : Cert.algebraic_Kernel9Ideal_Reference9Ideal (hKernel9Ideal := Cert.Kernel9Ideal.Gen.facts)
    (hReference9Ideal := Cert.Reference9Ideal.Gen.facts) := by
  intro m ρ m' ρ' _ hagree
  refine ⟨fun c => Conv9.result (_root_.Hist9.argZ m c) (_root_.Hist9.argH m c) (Conv9.argW m c) (Conv9.argC m c) (Conv9.argG m c) (Conv9.argB m c),
    fun c => _root_.Hist9.result (_root_.Hist9.argZ m c) (_root_.Hist9.argH m c), ?_, ?_⟩
  · exact (θ_run Cert.Kernel9Ideal.defs _ _).mono (fun _ h c => ⟨(h c).1.trans (Conv9.final7 m c), (h c).2.1.trans (_root_.Hist9.final8 m c), (h c).2.2⟩)
      (Cert.Kernel9Ideal.Value.run_blocks (F := Ideal) m ρ)
  · refine (θ_run Cert.Reference9Ideal.defs _ _).mono (fun _ h c => ⟨(h c).1.trans ?_, (h c).2.1.trans ?_, (h c).2.2⟩)
      (Cert.Reference9Ideal.Value.run (F := Ideal) m' ρ')
    · rw [Cert.Reference9Ideal.Read.val_main_v264_eq]
      refine (ConvRef9.v264_eq _ _ _ _ _ _).trans ?_
      show Conv9.result (m' ((c : Thread Cert.Reference9Ideal.nD Cert.Reference9Ideal.τ).loc Cert.Reference9Ideal.main_arg0)) (m' ((c : Thread Cert.Reference9Ideal.nD Cert.Reference9Ideal.τ).loc Cert.Reference9Ideal.main_arg1))
        (m' ((c : Thread Cert.Reference9Ideal.nD Cert.Reference9Ideal.τ).loc Cert.Reference9Ideal.main_arg2)) (m' ((c : Thread Cert.Reference9Ideal.nD Cert.Reference9Ideal.τ).loc Cert.Reference9Ideal.main_arg3))
        (m' ((c : Thread Cert.Reference9Ideal.nD Cert.Reference9Ideal.τ).loc Cert.Reference9Ideal.main_arg4)) (m' ((c : Thread Cert.Reference9Ideal.nD Cert.Reference9Ideal.τ).loc Cert.Reference9Ideal.main_arg5)) = _
      rw [(hagree c).1, (hagree c).2.1, (hagree c).2.2.1, (hagree c).2.2.2.1, (hagree c).2.2.2.2.1, (hagree c).2.2.2.2.2]
    · rw [Cert.Reference9Ideal.Read.val_main_v263_eq]
      refine (HistRef9.v263_eq _ _).trans ?_
      show _root_.Hist9.result (m' ((c : Thread Cert.Reference9Ideal.nD Cert.Reference9Ideal.τ).loc Cert.Reference9Ideal.main_arg0)) (m' ((c : Thread Cert.Reference9Ideal.nD Cert.Reference9Ideal.τ).loc Cert.Reference9Ideal.main_arg1)) = _
      rw [(hagree c).1, (hagree c).2.1]

end Cert.Proof.Hist9
-- ==== Proof.Hist10.lean ====
module

public import proofs.«01_k».proof.Proof.Gen.Kernel10Ideal.Value
public import proofs.«01_k».proof.Proof.HistMath
public import Idealize.ShloMosaic.Lib.Pointwise
public import Idealize.ShloMosaic.Lib.Writes
public import Idealize.ShloMosaic.Lib.StableHlo.ReadAt

/-! The history that the convolution's call leaves for the prompt. -/

@[expose] public section

set_option maxRecDepth 65536

open Cert.Kernel10Ideal Cert.Kernel10Ideal.Gen Idealize.ShloMosaic Idealize.ShloMosaic.TcCoe Idealize.SL.Sem

namespace Hist10

theorem hz2 : (![0, 0] : Fin 2 → ℕ) = fun _ => 0 := by decide

/-- The gated rows. -/
theorem pay3_apply (a b : Vec Ideal S256x1024 .bf16) (p : Fin 1) (r : Fin 256) (k : Fin 1024) :
    k0_pay3 (F := Ideal) a b (ix3 p r k) = Hist.glu (a (ix2 r k)) (b (ix2 r k)) := by
  unfold k0_pay3
  refine Eq.trans (Hist.as_slab_apply (n := 256) (mulf (F := Ideal) _ _) shapeCasts_S256x1024_S1x256x1024 p r k) ?_
  show a (ix2 r k) * Ideal.div (Ideal.ofBits .f32 0x3F800000#32) (Ideal.ofBits .f32 0x3F800000#32 + Ideal.exp (Ideal.ofBits .f32 0x00000000#32 - b (ix2 r k))) = _
  rw [Ideal.ofBits_one_f32, Ideal.ofBits_zero_f32, sub_eq_add_neg, zero_add]
  rfl

/-- The last thirty gated rows of a block. -/
noncomputable def tail (a b : Vec Ideal S256x1024 .bf16) : Vec Ideal S30x1024 .f32 := fun i =>
  have h0 : (i 0).val < 30 := (i 0).isLt
  Hist.glu (a (ix2 ⟨226 + (i 0).val, by omega⟩ (i 1))) (b (ix2 ⟨226 + (i 0).val, by omega⟩ (i 1)))

/-- A sequence's rows turned by two less than their number, half the columns at a time: row `256 + r` is row `258 + r`. -/
theorem turned (X : (⟨3, ![1, 288, 512]⟩ : Shape).Idx → EReal) (c1) (rt) (c2) (r : Fin 30) (k : Fin 512) :
    shapeCast ⟨3, ![1, 288, 512]⟩ (dynamicRotate 0 286#32 none (shapeCast ⟨2, ![288, 512]⟩ X c1) rt) c2 (ix3 0 ⟨256 + r.val, by omega⟩ k)
      = X (ix3 0 ⟨258 + r.val, by omega⟩ k) := by
  refine (shapeCast_apply _ c2 _ (ix2 ⟨256 + r.val, by omega⟩ k) ?_).trans ?_
  · rw [Shape.rowMajor_val_two, Shape.rowMajor_val_three]
    show (256 + r.val) * 512 + k.val = (0 * 288 + (256 + r.val)) * 512 + k.val
    omega
  refine (dynamicRotate_apply 0 286#32 _ rt _ (ix2 ⟨258 + r.val, by omega⟩ k) fun b => ?_).trans ?_
  · match b with
    | 0 =>
      show 258 + r.val = (256 + r.val + 288 - 286 % 288) % 288
      have := r.isLt
      omega
    | 1 => rfl
  refine shapeCast_apply X c1 _ _ ?_
  rw [Shape.rowMajor_val_two, Shape.rowMajor_val_three]
  show (0 * 288 + (258 + r.val)) * 512 + k.val = (258 + r.val) * 512 + k.val
  omega

set_option maxHeartbeats 2000000 in
/-- What the body stores into its second result. -/
theorem out_eq (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S31x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S30x1024 .f32) (harg8 : arg8.IsWhole) (arg9 : Memref sig .tc .vmem S8x288x1024 .f32) (harg9 : arg9.IsWhole) (arg10 : Memref sig .tc .vmem S256x1024 .f32) (harg10 : arg10.IsWhole) (hc0 : ¬cond0_0 i)
    (x0 : Vec Ideal S256x1024 .bf16) (x1 : Vec Ideal S256x1024 .bf16) (x2 : Vec Ideal S31x1024 .f32) (x3 : Vec Ideal S1x1024 .f32) (x4 : Vec Ideal S1x1024 .f32) (x5 : Vec Ideal S1x1024 .f32) (xs0 : Vec Ideal S8x288x1024 .f32) :
    out0_B_7 c i arg1 harg1 arg2 harg2 arg3 harg3 arg4 harg4 arg5 harg5 arg6 harg6 arg7 harg7 arg8 harg8 arg9 harg9 arg10 harg10 hc0 x0 x1 x2 x3 x4 x5 xs0 = tail x0 x1 := by
  funext y
  unfold out0_B_7
  refine View.read_writes_apply_of_pieces _ _ _ _ ?_ y (cover0_B_7 c i arg1 harg1 arg2 harg2 arg3 harg3 arg4 harg4 arg5 harg5 arg6 harg6 arg7 harg7 arg8 harg8 arg9 harg9 arg10 harg10 hc0 x0 x1 x2 x3 x4 x5 xs0 y)
  unfold kernelRun0_B
  dsimp only
  sl_unfold_words
  rw [List.forall_mem_cons]
  refine ⟨fun x => ?_, fun p hp => absurd hp List.not_mem_nil⟩
  have h0 : (x 0).val < 30 := (x 0).isLt
  have h1 : (x 1).val < 1024 := (x 1).isLt
  refine (congrArg _ (eq_ix2 x)).trans ?_
  unfold k0_pay239
  show shapeCast S30x1024 (View.readAt (Elt Ideal) arg9.view (Rect.unit (s := S8x288x1024) ![2, 256, 0] S1x30x1024.size inb_S8x288x1024_S1x30x1024_2_256_0).toLoadRect _) shapeCasts_S1x30x1024_S30x1024 (ix2 (x 0) (x 1)) = _
  refine Eq.trans (Hist.slab_apply (n := 30) (View.readAt (Elt Ideal) arg9.view (Rect.unit (s := S8x288x1024) ![2, 256, 0] S1x30x1024.size inb_S8x288x1024_S1x30x1024_2_256_0).toLoadRect _) shapeCasts_S1x30x1024_S30x1024 (x 0) (x 1)) ?_
  rw [View.readAt_apply, show ((Rect.unit (s := S8x288x1024) ![2, 256, 0] S1x30x1024.size inb_S8x288x1024_S1x30x1024_2_256_0).toLoadRect.idx (ix3 0 (x 0) (x 1)))
    = (ix3 2 ⟨256 + (x 0).val, by omega⟩ (x 1) : S8x288x1024.Idx) from funext fun a => Fin.ext (by
      match a with
      | 0 => rfl
      | 1 => show 256 + 1 * (x 0).val = 256 + (x 0).val; omega
      | 2 => show 0 + 1 * (x 1).val = (x 1).val; omega)]
  have rest : k0_pay3 (F := Ideal) (View.readAt (Elt Ideal) arg1.view (Rect.unit ![0, 0] S256x1024.size inb_S256x1024_S256x1024_0_0).toLoadRect (harg1.unread x0))
      (View.readAt (Elt Ideal) arg2.view (Rect.unit ![0, 0] S256x1024.size inb_S256x1024_S256x1024_0_0).toLoadRect (harg2.unread x1)) (ix3 0 ⟨226 + (x 0).val, by omega⟩ (x 1))
      = tail x0 x1 ((Rect.unit (s := S30x1024) ![0, 0] S30x1024.size inb_S30x1024_S30x1024_0_0).emb x) := by
    rw [View.readAt_eq_ld, View.readAt_eq_ld, harg1.read_unread, harg2.read_unread, View.ld_unit_zero hz2, View.ld_unit_zero hz2]
    refine (pay3_apply x0 x1 0 _ (x 1)).trans ?_
    have e : (Rect.unit (s := S30x1024) ![0, 0] S30x1024.size inb_S30x1024_S30x1024_0_0).emb x = x := funext fun a => Fin.ext (by
      match a with
      | 0 => show 0 + 1 * (x 0).val = (x 0).val; omega
      | 1 => show 0 + 1 * (x 1).val = (x 1).val; omega)
    rw [e]
    rfl
  by_cases hk : (x 1).val < 512
  · refine (View.read_writes_cons_miss_of_axis _ _ _ _ _ 0 7 1 rfl rfl rfl (Or.inl (by show 2 < 7; decide))).trans ?_
    refine (View.read_writes_cons_miss_of_axis _ _ _ _ _ 0 6 1 rfl rfl rfl (Or.inl (by show 2 < 6; decide))).trans ?_
    refine (View.read_writes_cons_miss_of_axis _ _ _ _ _ 0 5 1 rfl rfl rfl (Or.inl (by show 2 < 5; decide))).trans ?_
    refine (View.read_writes_cons_miss_of_axis _ _ _ _ _ 0 4 1 rfl rfl rfl (Or.inl (by show 2 < 4; decide))).trans ?_
    refine (View.read_writes_cons_miss_of_axis _ _ _ _ _ 0 3 1 rfl rfl rfl (Or.inl (by show 2 < 3; decide))).trans ?_
    refine (View.read_writes_cons_miss_of_axis _ _ _ _ _ 2 512 512 rfl rfl rfl (Or.inl hk)).trans ?_
    refine (View.read_writes_cons_miss_of_axis _ _ _ _ _ 0 1 1 rfl rfl rfl (Or.inr (by show 1 + 1 ≤ 2; decide))).trans ?_
    refine (View.read_writes_cons_miss_of_axis _ _ _ _ _ 0 7 1 rfl rfl rfl (Or.inl (by show 2 < 7; decide))).trans ?_
    refine (View.read_writes_cons_miss_of_axis _ _ _ _ _ 0 6 1 rfl rfl rfl (Or.inl (by show 2 < 6; decide))).trans ?_
    refine (View.read_writes_cons_miss_of_axis _ _ _ _ _ 0 5 1 rfl rfl rfl (Or.inl (by show 2 < 5; decide))).trans ?_
    refine (View.read_writes_cons_miss_of_axis _ _ _ _ _ 0 4 1 rfl rfl rfl (Or.inl (by show 2 < 4; decide))).trans ?_
    refine (View.read_writes_cons_miss_of_axis _ _ _ _ _ 0 3 1 rfl rfl rfl (Or.inl (by show 2 < 3; decide))).trans ?_
    refine (View.read_writes_cons_hit_of_coords _ _ _ _ _ (ix3 0 ⟨256 + (x 0).val, by omega⟩ ⟨(x 1).val, by omega⟩) _ fun a => ?_).trans ?_
    · match a with
      | 0 => rfl
      | 1 => show 256 + (x 0).val = 0 + 1 * (256 + (x 0).val); omega
      | 2 => show (x 1).val = 0 + 1 * ((x 1).val); omega
    refine Eq.trans (turned (View.readAt (Elt Ideal) arg9.view (Rect.unit (s := S8x288x1024) ![0, 0, 0] S1x288x512.size (by decide)).toLoadRect _) shapeCasts_S1x288x512_S288x512 rotates_S288x512_d0 shapeCasts_S288x512_S1x288x512 (x 0) ⟨(x 1).val, by omega⟩) ?_
    rw [View.readAt_apply, show ((Rect.unit (s := S8x288x1024) ![0, 0, 0] S1x288x512.size (by decide)).toLoadRect.idx (ix3 0 ⟨258 + (x 0).val, by omega⟩ ⟨(x 1).val, by omega⟩))
      = (ix3 0 ⟨258 + (x 0).val, by omega⟩ (x 1) : S8x288x1024.Idx) from funext fun a => Fin.ext (by
        match a with
        | 0 => rfl
        | 1 => show 0 + 1 * (258 + (x 0).val) = 258 + (x 0).val; omega
        | 2 => show 0 + 1 * ((x 1).val) = (x 1).val; omega)]
    refine (View.read_writes_cons_hit_of_coords _ _ _ _ _ (ix3 0 ⟨226 + (x 0).val, by omega⟩ (x 1)) _ fun a => ?_).trans ?_
    · match a with
      | 0 => rfl
      | 1 => show 258 + (x 0).val = 32 + 1 * (226 + (x 0).val); omega
      | 2 => show (x 1).val = 0 + 1 * (x 1).val; omega
    exact rest
  · refine (View.read_writes_cons_miss_of_axis _ _ _ _ _ 0 7 1 rfl rfl rfl (Or.inl (by show 2 < 7; decide))).trans ?_
    refine (View.read_writes_cons_miss_of_axis _ _ _ _ _ 0 6 1 rfl rfl rfl (Or.inl (by show 2 < 6; decide))).trans ?_
    refine (View.read_writes_cons_miss_of_axis _ _ _ _ _ 0 5 1 rfl rfl rfl (Or.inl (by show 2 < 5; decide))).trans ?_
    refine (View.read_writes_cons_miss_of_axis _ _ _ _ _ 0 4 1 rfl rfl rfl (Or.inl (by show 2 < 4; decide))).trans ?_
    refine (View.read_writes_cons_miss_of_axis _ _ _ _ _ 0 3 1 rfl rfl rfl (Or.inl (by show 2 < 3; decide))).trans ?_
    refine (View.read_writes_cons_hit_of_coords _ _ _ _ _ (ix3 0 ⟨256 + (x 0).val, by omega⟩ ⟨(x 1).val - 512, by omega⟩) _ fun a => ?_).trans ?_
    · match a with
      | 0 => rfl
      | 1 => show 256 + (x 0).val = 0 + 1 * (256 + (x 0).val); omega
      | 2 => show (x 1).val = 512 + 1 * ((x 1).val - 512); omega
    refine Eq.trans (turned (View.readAt (Elt Ideal) arg9.view (Rect.unit (s := S8x288x1024) ![0, 0, 512] S1x288x512.size (by decide)).toLoadRect _) shapeCasts_S1x288x512_S288x512 rotates_S288x512_d0 shapeCasts_S288x512_S1x288x512 (x 0) ⟨(x 1).val - 512, by omega⟩) ?_
    rw [View.readAt_apply, show ((Rect.unit (s := S8x288x1024) ![0, 0, 512] S1x288x512.size (by decide)).toLoadRect.idx (ix3 0 ⟨258 + (x 0).val, by omega⟩ ⟨(x 1).val - 512, by omega⟩))
      = (ix3 0 ⟨258 + (x 0).val, by omega⟩ (x 1) : S8x288x1024.Idx) from funext fun a => Fin.ext (by
        match a with
        | 0 => rfl
        | 1 => show 0 + 1 * (258 + (x 0).val) = 258 + (x 0).val; omega
        | 2 => show 512 + 1 * ((x 1).val - 512) = (x 1).val; omega)]
    refine (View.read_writes_cons_miss_of_axis _ _ _ _ _ 0 7 1 rfl rfl rfl (Or.inl (by show 0 < 7; decide))).trans ?_
    refine (View.read_writes_cons_miss_of_axis _ _ _ _ _ 0 6 1 rfl rfl rfl (Or.inl (by show 0 < 6; decide))).trans ?_
    refine (View.read_writes_cons_miss_of_axis _ _ _ _ _ 0 5 1 rfl rfl rfl (Or.inl (by show 0 < 5; decide))).trans ?_
    refine (View.read_writes_cons_miss_of_axis _ _ _ _ _ 0 4 1 rfl rfl rfl (Or.inl (by show 0 < 4; decide))).trans ?_
    refine (View.read_writes_cons_miss_of_axis _ _ _ _ _ 0 3 1 rfl rfl rfl (Or.inl (by show 0 < 3; decide))).trans ?_
    refine (View.read_writes_cons_miss_of_axis _ _ _ _ _ 0 2 1 rfl rfl rfl (Or.inl (by show 0 < 2; decide))).trans ?_
    refine (View.read_writes_cons_miss_of_axis _ _ _ _ _ 0 1 1 rfl rfl rfl (Or.inl (by show 0 < 1; decide))).trans ?_
    refine (View.read_writes_cons_hit_of_coords _ _ _ _ _ (ix3 0 ⟨226 + (x 0).val, by omega⟩ (x 1)) _ fun a => ?_).trans ?_
    · match a with
      | 0 => rfl
      | 1 => show 258 + (x 0).val = 32 + 1 * (226 + (x 0).val); omega
      | 2 => show (x 1).val = 0 + 1 * (x 1).val; omega
    exact rest

end Hist10
-- ==== Proof.HistArray10.lean ====
module

public import proofs.«01_k».proof.Proof.Hist10

/-! The array that holds the prompt's history after the run. -/

@[expose] public section

set_option maxRecDepth 65536

open Cert.Kernel10Ideal Cert.Kernel10Ideal.Gen Idealize.ShloMosaic Idealize.ShloMosaic.TcCoe Idealize.SL.Sem

namespace Hist10

theorem at0 : ∀ i : grid0.Coords, cc0_transform_0 i = ![(i 0).val, 1] := by decide +kernel
theorem at1 : ∀ i : grid0.Coords, cc0_transform_1 i = ![(i 0).val, 2] := by decide +kernel
theorem at7 : ∀ i : grid0.Coords, cc0_transform_7 i = ![0, 0] := by decide +kernel

variable (m : (ℓ : Loc nD τ sig) → Buf (Elt Ideal) ℓ)

theorem coords_lt (t : Fin cfg0.N) : (grid0.coords t 0).val < 32 := (grid0.coords t 0).isLt

/-- The grid's coordinate is the point's number. -/
theorem coords_val : ∀ t : Fin cfg0.N, (grid0.coords t 0).val = t.val := (by decide +kernel : ∀ t : Fin grid0.N, (grid0.coords t 0).val = t.val)

/-- The argument on core `c` that the history depends on. -/
abbrev argZ (c : Dev nD) : S8192x12288.Idx → EReal := m ((c : Thread nD τ).loc main_arg0)

/-- The history that the prompt leaves: its last thirty gated rows. -/
noncomputable def result (z : S8192x12288.Idx → EReal) : S30x1024.Idx → EReal := fun i =>
  have h0 : (i 0).val < 30 := (i 0).isLt
  have h1 : (i 1).val < 1024 := (i 1).isLt
  Hist.glu (z (ix2 ⟨8162 + (i 0).val, by omega⟩ ⟨1024 + (i 1).val, by omega⟩)) (z (ix2 ⟨8162 + (i 0).val, by omega⟩ ⟨2048 + (i 1).val, by omega⟩))

/-- The block of the first factor. -/
theorem read0 (c : Dev nD) (t : Fin cfg0.N) (r : Fin 256) (k : Fin 1024) :
    (iblk m c 0 t : Vec Ideal S256x1024 .bf16) (ix2 r k) = argZ m c (ix2 ⟨256 * (grid0.coords t 0).val + r.val, by have := coords_lt t; omega⟩ ⟨1024 + k.val, by omega⟩) := by
  unfold iblk
  rw [View.read_apply]
  refine Eq.trans (show _ = V m c main_arg0 _ from ?_) (congrFun (V_main_arg0 m c) _)
  show V m c main_arg0 _ = _
  congr 1
  funext a
  apply Fin.ext
  match a with
  | 0 =>
    show cc0_transform_0 (grid0.coords t) 0 * 256 + 1 * r.val = 256 * (grid0.coords t 0).val + r.val
    rw [at0]
    show (grid0.coords t 0).val * 256 + 1 * r.val = 256 * (grid0.coords t 0).val + r.val
    omega
  | 1 =>
    show cc0_transform_0 (grid0.coords t) 1 * 1024 + 1 * k.val = 1024 + k.val
    rw [at0]
    show 1 * 1024 + 1 * k.val = 1024 + k.val
    omega

/-- The block of the gate. -/
theorem read1 (c : Dev nD) (t : Fin cfg0.N) (r : Fin 256) (k : Fin 1024) :
    (iblk m c 1 t : Vec Ideal S256x1024 .bf16) (ix2 r k) = argZ m c (ix2 ⟨256 * (grid0.coords t 0).val + r.val, by have := coords_lt t; omega⟩ ⟨2048 + k.val, by omega⟩) := by
  unfold iblk
  rw [View.read_apply]
  refine Eq.trans (show _ = V m c main_arg0 _ from ?_) (congrFun (V_main_arg0 m c) _)
  show V m c main_arg0 _ = _
  congr 1
  funext a
  apply Fin.ext
  match a with
  | 0 =>
    show cc0_transform_1 (grid0.coords t) 0 * 256 + 1 * r.val = 256 * (grid0.coords t 0).val + r.val
    rw [at1]
    show (grid0.coords t 0).val * 256 + 1 * r.val = 256 * (grid0.coords t 0).val + r.val
    omega
  | 1 =>
    show cc0_transform_1 (grid0.coords t) 1 * 1024 + 1 * k.val = 2048 + k.val
    rw [at1]
    show 2 * 1024 + 1 * k.val = 2048 + k.val
    omega

/-- The last block's last rows are the prompt's. -/
theorem block_eq (c : Dev nD) (t : Fin cfg0.N) (h31 : t.val = 31) (r : Fin 30) (k : Fin 1024) :
    tail (iblk m c 0 t) (iblk m c 1 t) (ix2 r k) = result (argZ m c) (ix2 r k) := by
  have hc : (grid0.coords t 0).val = 31 := (coords_val t).trans h31
  have e : ∀ (o : ℕ) (p : 256 * (grid0.coords t 0).val + (226 + r.val) < 8192) (q : 8162 + r.val < 8192) (w : o + k.val < 12288),
      (ix2 ⟨256 * (grid0.coords t 0).val + (226 + r.val), p⟩ ⟨o + k.val, w⟩ : S8192x12288.Idx) = ix2 ⟨8162 + r.val, q⟩ ⟨o + k.val, w⟩ := fun o p q w => by
    congr 1
    exact Fin.ext (by show 256 * (grid0.coords t 0).val + (226 + r.val) = 8162 + r.val; omega)
  exact congrArg₂ Hist.glu ((read0 m c t ⟨226 + r.val, by omega⟩ k).trans (congrArg _ (e 1024 _ _ _)))
    ((read1 m c t ⟨226 + r.val, by omega⟩ k).trans (congrArg _ (e 2048 _ _ _)))

/-- What the last grid point writes back. -/
theorem flushed7_eq (c : Dev nD) (t : Fin cfg0.N) (h31 : t.val = 31) :
    (dats m 0 c).flushed 7 t = ((cfg0.win 7).blk t).view.read (Elt Ideal) (result (argZ m c)) := by
  rw [Value.flushed7_B m c t (by omega), out_eq]
  funext i
  rw [View.read_apply]
  obtain ⟨r, k, rfl⟩ : ∃ (r : Fin 30) (k : Fin 1024), i = ix2 r k := ⟨i 0, i 1, eq_ix2 _⟩
  have e : (((cfg0.win 7).blk t).view.emb (ix2 r k) : S30x1024.Idx) = ix2 r k := by
    funext a
    apply Fin.ext
    match a with
    | 0 =>
      show cc0_transform_7 (grid0.coords t) 0 * 30 + 1 * r.val = r.val
      rw [at7]
      show 0 * 30 + 1 * r.val = r.val
      omega
    | 1 =>
      show cc0_transform_7 (grid0.coords t) 1 * 1024 + 1 * k.val = k.val
      rw [at7]
      show 0 * 1024 + 1 * k.val = k.val
      omega
  refine Eq.trans (show _ = _ from block_eq m c t h31 r k) ?_
  show _ = result (argZ m c) (((cfg0.win 7).blk t).view.emb (ix2 r k))
  rw [e]

theorem final7 (c : Dev nD) : (dats m 0 c).arrAt 7 cfg0.N = result (argZ m c) :=
  (dats m 0 c).arrAt_eq_of_cover 7 (result (argZ m c))
    (fun t hf => flushed7_eq m c t (by
      have h := (flush0_7 t).mp hf
      have hN : t.val < 32 := lt_of_lt_of_eq t.isLt (show cfg0.N = 32 from N_0)
      omega)) fun i => by
    have i0 : (i 0 : Nat) < 30 := (i 0).isLt
    have i1 : (i 1 : Nat) < 1024 := (i 1).isLt
    let t31 : Fin cfg0.N := ⟨31, lt_of_lt_of_eq (by decide) (show cfg0.N = 32 from N_0).symm⟩
    refine ⟨t31, (flush0_7 t31).mpr rfl, ?_⟩
    show i ∈ ((View.whole main_v7_1).slice (win0_7.rect t31)).set
    rw [View.set_slice_whole, Rect.mem_set_unit]
    intro a
    match a with
    | ⟨0, _⟩ =>
      show cc0_transform_7 (grid0.coords t31) 0 * 30 ≤ (i 0 : Nat) ∧ (i 0 : Nat) < cc0_transform_7 (grid0.coords t31) 0 * 30 + 30
      rw [at7]
      show 0 * 30 ≤ (i 0 : Nat) ∧ (i 0 : Nat) < 0 * 30 + 30
      omega
    | ⟨1, _⟩ =>
      show cc0_transform_7 (grid0.coords t31) 1 * 1024 ≤ (i 1 : Nat) ∧ (i 1 : Nat) < cc0_transform_7 (grid0.coords t31) 1 * 1024 + 1024
      rw [at7]
      show 0 * 1024 ≤ (i 1 : Nat) ∧ (i 1 : Nat) < 0 * 1024 + 1024
      omega

end Hist10
-- ==== Proof.HistRef10.lean ====
module

public import proofs.«01_k».proof.Proof.Gen.Reference10Ideal.Read
public import proofs.«01_k».proof.Proof.HistArray10

/-! The reference's history of the prompt. -/

@[expose] public section

open Idealize.ShloMosaic

namespace HistRef10

open Cert.Reference10Ideal Cert.Reference10Ideal.Read

/-- A gated row of the reference. -/
theorem v11_at (z : S8192x12288.Idx → EReal) (s : Fin 1) (r : Fin 8192) (k : Fin 1024) :
    val_main_v11 (F := Ideal) z (ix3 s r k) = Hist.glu (z (ix2 r ⟨1024 + k.val, by omega⟩)) (z (ix2 r ⟨2048 + k.val, by omega⟩)) := by
  rw [val_main_v11_apply, val_main_v10_apply, val_main_v9_apply, val_main_v8_apply, val_main_v7_apply, val_main_v6_apply, val_main_v5_apply,
    val_main_v4_apply, val_main_v3_apply, val_main_v2_apply, val_main_v2_apply, val_main_v0_apply, val_main_v0_apply]
  simp only [val_main_cst_0_apply, val_main_cst_1_apply]
  have hs : s.val = 0 := by omega
  have e3 : idx_main_v0 (idx_main_v3 (ix3 s r k)) = ix2 r ⟨1024 + k.val, by omega⟩ := funext fun d => Fin.ext (by
    match d with
    | ⟨0, _⟩ => show ((s.val * 8192 + r.val) * 12288 + (1024 + k.val)) / 12288 = r.val; omega
    | ⟨1, _⟩ => show ((s.val * 8192 + r.val) * 12288 + (1024 + k.val)) % 12288 = 1024 + k.val; omega)
  have e4 : idx_main_v0 (idx_main_v4 (ix3 s r k)) = ix2 r ⟨2048 + k.val, by omega⟩ := funext fun d => Fin.ext (by
    match d with
    | ⟨0, _⟩ => show ((s.val * 8192 + r.val) * 12288 + (2048 + k.val)) / 12288 = r.val; omega
    | ⟨1, _⟩ => show ((s.val * 8192 + r.val) * 12288 + (2048 + k.val)) % 12288 = 2048 + k.val; omega)
  rw [e3, e4]
  show _ * Ideal.div (Ideal.ofBits .f32 0x3F800000#32) (Ideal.ofBits .f32 0x3F800000#32 + Ideal.exp (- _)) = _
  rw [Ideal.ofBits_one_f32]
  rfl

/-- The reference's history is the kernel's. -/
theorem v14_eq (z : S8192x12288.Idx → EReal) : val_main_v14 (F := Ideal) z = Hist10.result z := by
  funext i
  obtain ⟨r, k, rfl⟩ : ∃ (r : Fin 30) (k : Fin 1024), i = ix2 r k := ⟨i 0, i 1, eq_ix2 _⟩
  rw [val_main_v14_apply, val_main_v13_apply]
  unfold val_main_v12
  refine (concatenate_pair_apply_right (t := S1x8222x1024) (s₁ := S1x30x1024) (s₂ := S1x8192x1024) 1 (val_main_v1 (F := Ideal)) (val_main_v11 (F := Ideal) z)
    Gen.concatenates_S1x30x1024_S1x8192x1024_S1x8222x1024_d1 (idx_main_v13 (idx_main_v14 (ix2 r k))) rfl rfl (ix3 0 ⟨8162 + r.val, by omega⟩ k) (fun b hb => ?_) ?_).trans ?_
  · match b with
    | ⟨0, _⟩ => rfl
    | ⟨1, _⟩ => exact absurd rfl hb
    | ⟨2, _⟩ => show k.val = (r.val * 1024 + k.val) % 1024; omega
  · show 8162 + r.val + 30 = 8192 + (r.val * 1024 + k.val) / 1024 % 30
    omega
  exact v11_at z 0 _ k

end HistRef10
-- ==== Proof.Claim10.lean ====
module

public import proofs.«01_k».proof.Defs
public import proofs.«01_k».proof.Proof.Gen.Kernel10.Frame
public import proofs.«01_k».proof.Proof.Gen.Reference10Ideal.Run
public import proofs.«01_k».proof.Proof.HistArray10
public import proofs.«01_k».proof.Proof.HistRef10
public import Idealize.ShloMosaic.Lib.Claim

/-! The claims of the prompt's history. -/

@[expose] public section

open Idealize.ShloMosaic Idealize.ShloMosaic.TcCoe Idealize.SL.Sem

namespace Cert.Proof.Hist10

theorem frame_kernel : Cert.quiescent_Kernel10 (hKernel10 := Cert.Kernel10.Gen.facts) := fun m ρ _ => Cert.Kernel10.Gen.frame m ρ

theorem frame_ideal : Cert.quiescent_Kernel10Ideal (hKernel10Ideal := Cert.Kernel10Ideal.Gen.facts) := fun m ρ _ => Cert.Kernel10Ideal.Gen.frame m ρ

theorem frame_reference : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

theorem preserves : Cert.preserves_Kernel10_Kernel10Ideal := trivial

/-- The kernel's history is the reference's, over the extended reals. -/
theorem algebraic : Cert.algebraic_Kernel10Ideal_Reference10Ideal (hKernel10Ideal := Cert.Kernel10Ideal.Gen.facts)
    (hReference10Ideal := Cert.Reference10Ideal.Gen.facts) := by
  intro m ρ m' ρ' _ hagree
  refine ⟨fun c => _root_.Hist10.result (_root_.Hist10.argZ m c), ?_, ?_⟩
  · exact (θ_run Cert.Kernel10Ideal.defs _ _).mono (fun _ h c => ⟨(h c).2.1.trans (_root_.Hist10.final7 m c), (h c).2.2⟩)
      (Cert.Kernel10Ideal.Value.run_blocks (F := Ideal) m ρ)
  · refine (θ_run Cert.Reference10Ideal.defs _ _).mono (fun _ h c => ⟨(h c).1.trans ?_, (h c).2⟩)
      (Cert.Reference10Ideal.Value.run (F := Ideal) m' ρ')
    rw [Cert.Reference10Ideal.Read.val_main_v14_eq, (hagree c).1]
    exact HistRef10.v14_eq _

end Cert.Proof.Hist10
-- ==== Proof.lean ====
module

public import proofs.«01_k».proof.Defs
public import proofs.«01_k».proof.Proof.SbClaim
public import proofs.«01_k».proof.Proof.Claim2
public import proofs.«01_k».proof.Proof.Claim3
public import proofs.«01_k».proof.Proof.Claim4
public import proofs.«01_k».proof.Proof.Claim5
public import proofs.«01_k».proof.Proof.Claim6
public import proofs.«01_k».proof.Proof.Claim7
public import proofs.«01_k».proof.Proof.Claim8
public import proofs.«01_k».proof.Proof.Claim9
public import proofs.«01_k».proof.Proof.Claim10

/-! The proof of `Cert.Claim`. -/

@[expose] public section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Attn.pre_facts, Mem8.pre_facts,
    Attn.frame_kernel, Attn.frame_ideal, Attn.frame_ideal_pre, Attn.frame_reference, Attn.frame_reference_pre,
    Norm2.frame_kernel, Norm2.frame_ideal, Norm2.frame_reference,
    Qkv3.frame_kernel, Qkv3.frame_ideal, Qkv3.frame_reference,
    Qkv4.frame_kernel, Qkv4.frame_ideal, Qkv4.frame_reference,
    Qkv5.frame_kernel, Qkv5.frame_ideal, Qkv5.frame_reference,
    Merge6.frame_kernel, Merge6.frame_ideal, Merge6.frame_reference,
    Merge7.frame_kernel, Merge7.frame_ideal, Merge7.frame_reference,
    Mem8.frame_kernel, Mem8.frame_ideal, Mem8.frame_ideal_pre, Mem8.frame_reference, Mem8.frame_reference_pre,
    Hist9.frame_kernel, Hist9.frame_ideal, Hist9.frame_reference,
    Hist10.frame_kernel, Hist10.frame_ideal, Hist10.frame_reference,
    Attn.preserves, Attn.algebraic,
    Norm2.preserves, Norm2.algebraic,
    Qkv3.preserves, Qkv3.algebraic,
    Qkv4.preserves, Qkv4.algebraic,
    Qkv5.preserves, Qkv5.algebraic,
    Merge6.preserves, Merge6.algebraic,
    Merge7.preserves, Merge7.algebraic,
    Mem8.preserves, Mem8.algebraic,
    Hist9.preserves, Hist9.algebraic,
    Hist10.preserves, Hist10.algebraic⟩

end Cert.Proof
